-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 [hPre_expert_numbers : Cert.Pre_expert_numbers.Facts] (m : (ℓ : Loc Cert.Kernel4.nD Cert.Kernel4.τ Cert.Kernel4.sig) → Buf (Elt Bits) ℓ) : Prop :=
  ∀ c : Dev Cert.Kernel4.nD,
    (Cert.Pre_expert_numbers.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3)) (m ((c.tc : Thread Cert.Kernel4.nD Cert.Kernel4.τ).loc Cert.Kernel4.main_arg4)) (m ((c.tc : Thread Cert.Kernel4.nD Cert.Kernel4.τ).loc Cert.Kernel4.main_arg5))) = (fun _ => 1#1)

def Pre_Kernel4Ideal [hPre_expert_numbers : Cert.Pre_expert_numbers.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_expert_numbers.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_expert_numbers [hPre_expert_numbers : Cert.Pre_expert_numbers.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_expert_numbers.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_routed [hPre_routed : Cert.Pre_routed.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_routed.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4))) = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_routed [hPre_routed : Cert.Pre_routed.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_routed.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] [hPre_expert_numbers : Cert.Pre_expert_numbers.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] [hPre_expert_numbers : Cert.Pre_expert_numbers.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Reference4Ideal_pre_expert_numbers [hReference4Ideal : Cert.Reference4Ideal.Facts] [hPre_expert_numbers : Cert.Pre_expert_numbers.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_expert_numbers m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Kernel11Ideal_pre_routed [hKernel11Ideal : Cert.Kernel11Ideal.Facts] [hPre_routed : Cert.Pre_routed.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_routed m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Reference11Ideal_pre_routed [hReference11Ideal : Cert.Reference11Ideal.Facts] [hPre_routed : Cert.Pre_routed.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_routed m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v148) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v16) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v48) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] [hPre_expert_numbers : Cert.Pre_expert_numbers.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v39) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v2_0)) (v1 : (c : Dev Cert.Kernel5Ideal.nD) → Buf (Elt Ideal) ((c.tc : Thread Cert.Kernel5Ideal.nD Cert.Kernel5Ideal.τ).loc Cert.Kernel5Ideal.main_v2_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2_0) = v0 c
          ∧ r.2.mem ((c.tc : Thread Cert.Kernel5Ideal.nD Cert.Kernel5Ideal.τ).loc Cert.Kernel5Ideal.main_v2_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v69) = v0 c
          ∧ r.2.mem ((c.tc : Thread Cert.Reference5Ideal.nD Cert.Reference5Ideal.τ).loc Cert.Reference5Ideal.main_v70) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v10_0)) (v1 : (c : Dev Cert.Kernel6Ideal.nD) → Buf (Elt Ideal) ((c.tc : Thread Cert.Kernel6Ideal.nD Cert.Kernel6Ideal.τ).loc Cert.Kernel6Ideal.main_v10_1)) (v2 : (c : Dev Cert.Kernel6Ideal.nD) → Buf (Elt Ideal) ((c.tc : Thread Cert.Kernel6Ideal.nD Cert.Kernel6Ideal.τ).loc Cert.Kernel6Ideal.main_v10_2)) (v3 : (c : Dev Cert.Kernel6Ideal.nD) → Buf (Elt Ideal) ((c.tc : Thread Cert.Kernel6Ideal.nD Cert.Kernel6Ideal.τ).loc Cert.Kernel6Ideal.main_v10_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v10_0) = v0 c
          ∧ r.2.mem ((c.tc : Thread Cert.Kernel6Ideal.nD Cert.Kernel6Ideal.τ).loc Cert.Kernel6Ideal.main_v10_1) = v1 c
          ∧ r.2.mem ((c.tc : Thread Cert.Kernel6Ideal.nD Cert.Kernel6Ideal.τ).loc Cert.Kernel6Ideal.main_v10_2) = v2 c
          ∧ r.2.mem ((c.tc : Thread Cert.Kernel6Ideal.nD Cert.Kernel6Ideal.τ).loc Cert.Kernel6Ideal.main_v10_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v71) = v0 c
          ∧ r.2.mem ((c.tc : Thread Cert.Reference6Ideal.nD Cert.Reference6Ideal.τ).loc Cert.Reference6Ideal.main_v73) = v1 c
          ∧ r.2.mem ((c.tc : Thread Cert.Reference6Ideal.nD Cert.Reference6Ideal.τ).loc Cert.Reference6Ideal.main_v74) = v2 c
          ∧ r.2.mem ((c.tc : Thread Cert.Reference6Ideal.nD Cert.Reference6Ideal.τ).loc Cert.Reference6Ideal.main_v75) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v12) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v3_0)) (v1 : (c : Dev Cert.Kernel8Ideal.nD) → Buf (Elt Ideal) ((c.tc : Thread Cert.Kernel8Ideal.nD Cert.Kernel8Ideal.τ).loc Cert.Kernel8Ideal.main_v3_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3_0) = v0 c
          ∧ r.2.mem ((c.tc : Thread Cert.Kernel8Ideal.nD Cert.Kernel8Ideal.τ).loc Cert.Kernel8Ideal.main_v3_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v33) = v0 c
          ∧ r.2.mem ((c.tc : Thread Cert.Reference8Ideal.nD Cert.Reference8Ideal.τ).loc Cert.Reference8Ideal.main_v37) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v4)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v4) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v9) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v24)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v24) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v29) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal_pre_routed [hKernel11Ideal : Cert.Kernel11Ideal.Facts] [hReference11Ideal : Cert.Reference11Ideal.Facts] [hPre_routed : Cert.Pre_routed.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_routed m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v14) = v0 c
          ∧ r.2.mem ((c.tc : Thread Cert.Reference11Ideal.nD Cert.Reference11Ideal.τ).loc Cert.Reference11Ideal.main_v22) = v1 c
          ∧ r.2.mem ((c.tc : Thread Cert.Reference11Ideal.nD Cert.Reference11Ideal.τ).loc Cert.Reference11Ideal.main_v49) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_expert_numbers : Cert.Pre_expert_numbers.Facts) (hPre_routed : Cert.Pre_routed.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4) (hPre_expert_numbers := hPre_expert_numbers)
    ∧ quiescent_Kernel4Ideal (hKernel4Ideal := hKernel4Ideal) (hPre_expert_numbers := hPre_expert_numbers)
    ∧ quiescent_Reference4Ideal (hReference4Ideal := hReference4Ideal)
    ∧ quiescent_Reference4Ideal_pre_expert_numbers (hReference4Ideal := hReference4Ideal) (hPre_expert_numbers := hPre_expert_numbers)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Kernel11Ideal_pre_routed (hKernel11Ideal := hKernel11Ideal) (hPre_routed := hPre_routed)
    ∧ quiescent_Reference11Ideal (hReference11Ideal := hReference11Ideal)
    ∧ quiescent_Reference11Ideal_pre_routed (hReference11Ideal := hReference11Ideal) (hPre_routed := hPre_routed)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal) (hPre_expert_numbers := hPre_expert_numbers)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal_pre_routed (hKernel11Ideal := hKernel11Ideal) (hReference11Ideal := hReference11Ideal) (hPre_routed := hPre_routed)
-- ==== Pre_expert_numbers.lean ====
abbrev S162 : Shape := ⟨1, ![162]⟩
abbrev S1 : Shape := ⟨1, ![1]⟩
abbrev S41472x1024 : Shape := ⟨2, ![41472, 1024]⟩
abbrev S4x32x1024x512 : Shape := ⟨4, ![4, 32, 1024, 512]⟩
abbrev S4x32x512x1024 : Shape := ⟨4, ![4, 32, 512, 1024]⟩
abbrev S_ : Shape := ⟨0, ![]⟩

class Facts : Prop where
  bcast_S_S162 : S_.BroadcastsInDim S162 (![] : Fin 0 → Fin S162.rank)

variable [Facts]

def fn {F : FTy → Type} [FloatOps F] (main_arg0 : IVec S162 32) (main_arg1 : IVec S1 32) (main_arg2 : FVec F S41472x1024 .f32) (main_arg3 : FVec F S4x32x1024x512 .f32) (main_arg4 : FVec F S4x32x1024x512 .f32) (main_arg5 : FVec F S4x32x512x1024 .f32) : IVec S162 1 :=
  let main_c : IVec S_ 32 := constantI S_ 32 0#32
  let main_v0 : IVec S162 32 := broadcastInDim S162 ![] bcast_S_S162 main_c
  let main_v1 : IVec S162 1 := cmpi .sge main_arg0 main_v0
  let main_c_0 : IVec S_ 32 := constantI S_ 32 32#32
  let main_v2 : IVec S162 32 := broadcastInDim S162 ![] bcast_S_S162 main_c_0
  let main_v3 : IVec S162 1 := cmpi .slt main_arg0 main_v2
  let main_v4 : IVec S162 1 := andi main_v1 main_v3
  main_v4
-- ==== Pre_routed.lean ====
abbrev S32 : Shape := ⟨1, ![32]⟩
abbrev S65x1x256 : Shape := ⟨3, ![65, 1, 256]⟩
abbrev S_ : Shape := ⟨0, ![]⟩
abbrev S32x1 : Shape := ⟨2, ![32, 1]⟩
abbrev S1x32x1 : Shape := ⟨3, ![1, 32, 1]⟩
abbrev S65x32x256 : Shape := ⟨3, ![65, 32, 256]⟩

class Facts : Prop where
  bcast_S_S65x1x256 : S_.BroadcastsInDim S65x1x256 (![] : Fin 0 → Fin S65x1x256.rank)
  bcast_S_S32 : S_.BroadcastsInDim S32 (![] : Fin 0 → Fin S32.rank)
  bcast_S32_S32x1_0 : S32.BroadcastsInDim S32x1 (![0] : Fin 1 → Fin S32x1.rank)
  bcast_S32x1_S1x32x1_1_2 : S32x1.BroadcastsInDim S1x32x1 (![1, 2] : Fin 2 → Fin S1x32x1.rank)
  bcast_S65x1x256_S65x32x256_0_1_2 : S65x1x256.BroadcastsInDim S65x32x256 (![0, 1, 2] : Fin 3 → Fin S65x32x256.rank)
  bcast_S1x32x1_S65x32x256_0_1_2 : S1x32x1.BroadcastsInDim S65x32x256 (![0, 1, 2] : Fin 3 → Fin S65x32x256.rank)

variable [Facts]

def fn_part1 {F : FTy → Type} [FloatOps F] (main_v10 : IVec S65x1x256 1) (main_v17 : IVec S1x32x1 1) : IVec S65x32x256 1 :=
  let main_v18 : IVec S65x32x256 1 := broadcastInDim S65x32x256 ![0, 1, 2] bcast_S65x1x256_S65x32x256_0_1_2 main_v10
  let main_v19 : IVec S65x32x256 1 := broadcastInDim S65x32x256 ![0, 1, 2] bcast_S1x32x1_S65x32x256_0_1_2 main_v17
  let main_v20 : IVec S65x32x256 1 := andi main_v18 main_v19
  main_v20

def fn {F : FTy → Type} [FloatOps F] (main_arg0 : IVec S32 32) (main_arg1 : IVec S65x1x256 32) (main_arg2 : IVec S65x1x256 32) (main_arg3 : IVec S65x1x256 32) (main_arg4 : IVec S65x1x256 32) : IVec S65x32x256 1 :=
  let main_c : IVec S_ 32 := constantI S_ 32 0#32
  let main_v0 : IVec S65x1x256 32 := broadcastInDim S65x1x256 ![] bcast_S_S65x1x256 main_c
  let main_v1 : IVec S65x1x256 1 := cmpi .sge main_arg1 main_v0
  let main_c_0 : IVec S_ 32 := constantI S_ 32 32#32
  let main_v2 : IVec S65x1x256 32 := broadcastInDim S65x1x256 ![] bcast_S_S65x1x256 main_c_0
  let main_v3 : IVec S65x1x256 1 := cmpi .slt main_arg1 main_v2
  let main_v4 : IVec S65x1x256 1 := andi main_v1 main_v3
  let main_c_1 : IVec S_ 32 := constantI S_ 32 0#32
  let main_v5 : IVec S65x1x256 32 := broadcastInDim S65x1x256 ![] bcast_S_S65x1x256 main_c_1
  let main_v6 : IVec S65x1x256 1 := cmpi .sge main_arg2 main_v5
  let main_v7 : IVec S65x1x256 1 := andi main_v4 main_v6
  let main_c_2 : IVec S_ 32 := constantI S_ 32 32#32
  let main_v8 : IVec S65x1x256 32 := broadcastInDim S65x1x256 ![] bcast_S_S65x1x256 main_c_2
  let main_v9 : IVec S65x1x256 1 := cmpi .slt main_arg2 main_v8
  let main_v10 : IVec S65x1x256 1 := andi main_v7 main_v9
  let main_c_3 : IVec S_ 32 := constantI S_ 32 0#32
  let main_v11 : IVec S32 32 := broadcastInDim S32 ![] bcast_S_S32 main_c_3
  let main_v12 : IVec S32 1 := cmpi .sge main_arg0 main_v11
  let main_c_4 : IVec S_ 32 := constantI S_ 32 33280#32
  let main_v13 : IVec S32 32 := broadcastInDim S32 ![] bcast_S_S32 main_c_4
  let main_v14 : IVec S32 1 := cmpi .sle main_arg0 main_v13
  let main_v15 : IVec S32 1 := andi main_v12 main_v14
  let main_v16 : IVec S32x1 1 := broadcastInDim S32x1 ![0] bcast_S32_S32x1_0 main_v15
  let main_v17 : IVec S1x32x1 1 := broadcastInDim S1x32x1 ![1, 2] bcast_S32x1_S1x32x1_1_2 main_v16
  fn_part1 (F := F) main_v10 main_v17
-- ==== Kernel.lean ====
abbrev S16640x1024 : Shape := ⟨2, ![16640, 1024]⟩
abbrev S8x6144 : Shape := ⟨2, ![8, 6144]⟩
abbrev S1024 : Shape := ⟨1, ![1024]⟩
abbrev S1x1024x2048 : Shape := ⟨3, ![1, 1024, 2048]⟩
abbrev S1x1024 : Shape := ⟨2, ![1, 1024]⟩
abbrev S1x4x128x128 : Shape := ⟨4, ![1, 4, 128, 128]⟩
abbrev S1x4x128 : Shape := ⟨3, ![1, 4, 128]⟩
abbrev S1x1024x1024 : Shape := ⟨3, ![1, 1024, 1024]⟩
abbrev S1024x2048 : Shape := ⟨2, ![1024, 2048]⟩
abbrev S4x128x128 : Shape := ⟨3, ![4, 128, 128]⟩
abbrev S4x128 : Shape := ⟨2, ![4, 128]⟩
abbrev S1024x1024 : Shape := ⟨2, ![1024, 1024]⟩
abbrev S128x4 : Shape := ⟨2, ![128, 4]⟩
abbrev S256x1024 : Shape := ⟨2, ![256, 1024]⟩
abbrev S1x6144 : Shape := ⟨2, ![1, 6144]⟩
abbrev S256 : Shape := ⟨1, ![256]⟩
abbrev S256x1 : Shape := ⟨2, ![256, 1]⟩
abbrev S256x2048 : Shape := ⟨2, ![256, 2048]⟩
abbrev S1x128x128 : Shape := ⟨3, ![1, 128, 128]⟩
abbrev S128x128 : Shape := ⟨2, ![128, 128]⟩
abbrev S128x256 : Shape := ⟨2, ![128, 256]⟩
abbrev S128x1 : Shape := ⟨2, ![128, 1]⟩

abbrev nBuf : Space → Nat
  | .hbm => 20
  | .vmem => 12
  | .smem => 0
  | _ => 0

abbrev bufTy : (tb : Table) → Fin (tcTables nBuf tb) → BufTy
  | .hbm, ⟨0, _⟩ => ⟨S16640x1024, .f32⟩
  | .hbm, ⟨1, _⟩ => ⟨S8x6144, .f32⟩
  | .hbm, ⟨2, _⟩ => ⟨S1024, .f32⟩
  | .hbm, ⟨3, _⟩ => ⟨S1x1024x2048, .f32⟩
  | .hbm, ⟨4, _⟩ => ⟨S1x1024, .f32⟩
  | .hbm, ⟨5, _⟩ => ⟨S1x4x128x128, .f32⟩
  | .hbm, ⟨6, _⟩ => ⟨S1x4x128, .f32⟩
  | .hbm, ⟨7, _⟩ => ⟨S1x1024x1024, .f32⟩
  | .hbm, ⟨8, _⟩ => ⟨S1024x2048, .f32⟩
  | .hbm, ⟨9, _⟩ => ⟨S1024, .f32⟩
  | .hbm, ⟨10, _⟩ => ⟨S4x128x128, .f32⟩
  | .hbm, ⟨11, _⟩ => ⟨S4x128, .f32⟩
  | .hbm, ⟨12, _⟩ => ⟨S1024x1024, .f32⟩
  | .hbm, ⟨13, _⟩ => ⟨S1x1024, .f32⟩
  | .hbm, ⟨14, _⟩ => ⟨S1024x2048, .bf16⟩
  | .hbm, ⟨15, _⟩ => ⟨S1x1024, .f32⟩
  | .hbm, ⟨16, _⟩ => ⟨S4x128x128, .bf16⟩
  | .hbm, ⟨17, _⟩ => ⟨S128x4, .f32⟩
  | .hbm, ⟨18, _⟩ => ⟨S1024x1024, .bf16⟩
  | .hbm, ⟨19, _⟩ => ⟨S16640x1024, .f32⟩
  | .local _ .vmem, ⟨0, _⟩ => ⟨S256x1024, .f32⟩
  | .local _ .vmem, ⟨1, _⟩ => ⟨S256x1024, .f32⟩
  | .local _ .vmem, ⟨2, _⟩ => ⟨S8x6144, .f32⟩
  | .local _ .vmem, ⟨3, _⟩ => ⟨S1x1024, .f32⟩
  | .local _ .vmem, ⟨4, _⟩ => ⟨S1024x2048, .bf16⟩
  | .local _ .vmem, ⟨5, _⟩ => ⟨S1x1024, .f32⟩
  | .local _ .vmem, ⟨6, _⟩ => ⟨S4x128x128, .bf16⟩
  | .local _ .vmem, ⟨7, _⟩ => ⟨S128x4, .f32⟩
  | .local _ .vmem, ⟨8, _⟩ => ⟨S1024x1024, .bf16⟩
  | .local _ .vmem, ⟨9, _⟩ => ⟨S256x1024, .f32⟩
  | .local _ .vmem, ⟨10, _⟩ => ⟨S256x1024, .f32⟩
  | .local _ .vmem, ⟨11, _⟩ => ⟨S256x1024, .bf16⟩
  | _, _ => ⟨S16640x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![65], ![false]⟩

def k0_off1 (i : grid0.Coords) : Fin 2 → Nat :=
  let arg0 : BitVec 32 := BitVec.ofNat 32 (i 0).val
  let c1_i32 : BitVec 32 := 1#32
  let v0 : BitVec 1 := Scalar.cmpi .slt arg0 c1_i32
  let c0_i32 : BitVec 32 := 0#32
  let c1_i32_0 : BitVec 32 := 1#32
  let v1 : BitVec 32 := Scalar.select v0 c0_i32 c1_i32_0
  let v2 : Index := Scalar.indexCast v1
  let c0 : Index := 0#32
  ![v2.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S16640x1024 : Shape := ⟨2, ![16640, 1024]⟩
abbrev S8x6144 : Shape := ⟨2, ![8, 6144]⟩
abbrev S1024 : Shape := ⟨1, ![1024]⟩
abbrev S1x1024x2048 : Shape := ⟨3, ![1, 1024, 2048]⟩
abbrev S1x1024 : Shape := ⟨2, ![1, 1024]⟩
abbrev S1x4x128x128 : Shape := ⟨4, ![1, 4, 128, 128]⟩
abbrev S1x4x128 : Shape := ⟨3, ![1, 4, 128]⟩
abbrev S1x1024x1024 : Shape := ⟨3, ![1, 1024, 1024]⟩
abbrev S16384x1024 : Shape := ⟨2, ![16384, 1024]⟩
abbrev S1x16384x1024 : Shape := ⟨3, ![1, 16384, 1024]⟩
abbrev S256x1024 : Shape := ⟨2, ![256, 1024]⟩
abbrev S1x256x1024 : Shape := ⟨3, ![1, 256, 1024]⟩
abbrev S1x6144 : Shape := ⟨2, ![1, 6144]⟩
abbrev S1x1x6144 : Shape := ⟨3, ![1, 1, 6144]⟩
abbrev S1x1x1024 : Shape := ⟨3, ![1, 1, 1024]⟩
abbrev S1024x2048 : Shape := ⟨2, ![1024, 2048]⟩
abbrev S4x128x128 : Shape := ⟨3, ![4, 128, 128]⟩
abbrev S4x128 : Shape := ⟨2, ![4, 128]⟩
abbrev S1024x1024 : Shape := ⟨2, ![1024, 1024]⟩
abbrev S_ : Shape := ⟨0, ![]⟩
abbrev S1x16384 : Shape := ⟨2, ![1, 16384]⟩
abbrev S1x16384x1 : Shape := ⟨3, ![1, 16384, 1]⟩
abbrev S1x256 : Shape := ⟨2, ![1, 256]⟩
abbrev S1x256x1 : Shape := ⟨3, ![1, 256, 1]⟩
abbrev S1x16384x2048 : Shape := ⟨3, ![1, 16384, 2048]⟩
abbrev S1x128x128x4x256 : Shape := ⟨5, ![1, 128, 128, 4, 256]⟩
abbrev S4x1x128x256x128 : Shape := ⟨5, ![4, 1, 128, 256, 128]⟩
abbrev S128x4 : Shape := ⟨2, ![128, 4]⟩
abbrev S1x1x128x4x1 : Shape := ⟨5, ![1, 1, 128, 4, 1]⟩
abbrev S1x256x2048 : Shape := ⟨3, ![1, 256, 2048]⟩
abbrev S1x2x128x4x256 : Shape := ⟨5, ![1, 2, 128, 4, 256]⟩
abbrev S4x1x2x256x128 : Shape := ⟨5, ![4, 1, 2, 256, 128]⟩
abbrev S1x16640x1024 : Shape := ⟨3, ![1, 16640, 1024]⟩

abbrev nBuf : Space → Nat
  | .hbm => 179
  | .vmem => 0
  | .smem => 0
  | _ => 0

abbrev hbmTy0_0 (i : Nat) : BufTy := match i % 128 with
  | 0 => ⟨S16640x1024, .f32⟩
  | 1 => ⟨S8x6144, .f32⟩
  | 2 => ⟨S1024, .f32⟩
  | 3 => ⟨S1x1024x2048, .f32⟩
  | 4 => ⟨S1x1024, .f32⟩
  | 5 => ⟨S1x4x128x128, .f32⟩
  | 6 => ⟨S1x4x128, .f32⟩
  | 7 => ⟨S1x1024x1024, .f32⟩
  | 8 => ⟨S16384x1024, .f32⟩
  | 9 => ⟨S1x16384x1024, .f32⟩
  | 10 => ⟨S256x1024, .f32⟩
  | 11 => ⟨S1x256x1024, .f32⟩
  | 12 => ⟨S1x6144, .f32⟩
  | 13 => ⟨S1x1x6144, .f32⟩
  | 14 => ⟨S1x1x1024, .f32⟩
  | 15 => ⟨S1x1x1024, .f32⟩
  | 16 => ⟨S1x1x1024, .f32⟩
  | 17 => ⟨S1x1x1024, .f32⟩
  | 18 => ⟨S1x1x1024, .f32⟩
  | 19 => ⟨S1x1x1024, .f32⟩
  | 20 => ⟨S1x6144, .f32⟩
  | 21 => ⟨S1x1x6144, .f32⟩
  | 22 => ⟨S1x1x1024, .f32⟩
  | 23 => ⟨S1x1x1024, .f32⟩
  | 24 => ⟨S1x1x1024, .f32⟩
  | 25 => ⟨S1x1x1024, .f32⟩
  | 26 => ⟨S1x1x1024, .f32⟩
  | 27 => ⟨S1x1x1024, .f32⟩
  | 28 => ⟨S1024x2048, .f32⟩
  | 29 => ⟨S1024, .f32⟩
  | 30 => ⟨S4x128x128, .f32⟩
  | 31 => ⟨S4x128, .f32⟩
  | 32 => ⟨S1024x1024, .f32⟩
  | 33 => ⟨S1x16384x1024, .f32⟩
  | 34 => ⟨S_, .f32⟩
  | 35 => ⟨S1x16384, .f32⟩
  | 36 => ⟨S1x16384x1, .f32⟩
  | 37 => ⟨S_, .f32⟩
  | 38 => ⟨S1x16384x1, .f32⟩
  | 39 => ⟨S1x16384x1, .f32⟩
  | 40 => ⟨S_, .f32⟩
  | 41 => ⟨S1x16384x1, .f32⟩
  | 42 => ⟨S1x16384x1, .f32⟩
  | 43 => ⟨S1x16384x1, .f32⟩
  | 44 => ⟨S1x16384x1024, .f32⟩
  | 45 => ⟨S1x16384x1024, .f32⟩
  | 46 => ⟨S1x1x1024, .f32⟩
  | 47 => ⟨S1x16384x1024, .f32⟩
  | 48 => ⟨S1x16384x1024, .f32⟩
  | 49 => ⟨S_, .f32⟩
  | 50 => ⟨S1x1x1024, .f32⟩
  | 51 => ⟨S1x1x1024, .f32⟩
  | 52 => ⟨S1x16384x1024, .f32⟩
  | 53 => ⟨S1x16384x1024, .f32⟩
  | 54 => ⟨S1x16384x1024, .f32⟩
  | 55 => ⟨S1x16384x1024, .f32⟩
  | 56 => ⟨S1x256x1024, .f32⟩
  | 57 => ⟨S_, .f32⟩
  | 58 => ⟨S1x256, .f32⟩
  | 59 => ⟨S1x256x1, .f32⟩
  | 60 => ⟨S_, .f32⟩
  | 61 => ⟨S1x256x1, .f32⟩
  | 62 => ⟨S1x256x1, .f32⟩
  | 63 => ⟨S_, .f32⟩
  | 64 => ⟨S1x256x1, .f32⟩
  | 65 => ⟨S1x256x1, .f32⟩
  | 66 => ⟨S1x256x1, .f32⟩
  | 67 => ⟨S1x256x1024, .f32⟩
  | 68 => ⟨S1x256x1024, .f32⟩
  | 69 => ⟨S1x1x1024, .f32⟩
  | 70 => ⟨S1x256x1024, .f32⟩
  | 71 => ⟨S1x256x1024, .f32⟩
  | 72 => ⟨S_, .f32⟩
  | 73 => ⟨S1x1x1024, .f32⟩
  | 74 => ⟨S1x1x1024, .f32⟩
  | 75 => ⟨S1x256x1024, .f32⟩
  | 76 => ⟨S1x256x1024, .f32⟩
  | 77 => ⟨S1x256x1024, .f32⟩
  | 78 => ⟨S1x256x1024, .f32⟩
  | 79 => ⟨S1x16384x2048, .f32⟩
  | 80 => ⟨S1x16384x2048, .f32⟩
  | 81 => ⟨S1x16384x2048, .f32⟩
  | 82 => ⟨S_, .f32⟩
  | 83 => ⟨S1x16384x2048, .f32⟩
  | 84 => ⟨S1x16384x2048, .f32⟩
  | 85 => ⟨S1x16384x2048, .f32⟩
  | 86 => ⟨S_, .f32⟩
  | 87 => ⟨S1x16384x2048, .f32⟩
  | 88 => ⟨S1x16384x2048, .f32⟩
  | 89 => ⟨S1x16384x2048, .f32⟩
  | 90 => ⟨S_, .f32⟩
  | 91 => ⟨S1x16384x2048, .f32⟩
  | 92 => ⟨S1x16384x2048, .f32⟩
  | 93 => ⟨S_, .f32⟩
  | 94 => ⟨S1x16384x2048, .f32⟩
  | 95 => ⟨S1x16384x2048, .f32⟩
  | 96 => ⟨S1x16384x2048, .f32⟩
  | 97 => ⟨S1x16384x1024, .f32⟩
  | 98 => ⟨S1x16384x1024, .f32⟩
  | 99 => ⟨S1x16384x1024, .f32⟩
  | 100 => ⟨S_, .f32⟩
  | 101 => ⟨S1x16384, .f32⟩
  | 102 => ⟨S1x16384x1, .f32⟩
  | 103 => ⟨S_, .f32⟩
  | 104 => ⟨S1x16384x1, .f32⟩
  | 105 => ⟨S1x16384x1, .f32⟩
  | 106 => ⟨S_, .f32⟩
  | 107 => ⟨S1x16384x1, .f32⟩
  | 108 => ⟨S1x16384x1, .f32⟩
  | 109 => ⟨S1x16384x1, .f32⟩
  | 110 => ⟨S1x16384x1024, .f32⟩
  | 111 => ⟨S1x16384x1024, .f32⟩
  | 112 => ⟨S1x1x1024, .f32⟩
  | 113 => ⟨S1x16384x1024, .f32⟩
  | 114 => ⟨S1x16384x1024, .f32⟩
  | 115 => ⟨S1x128x128x4x256, .f32⟩
  | 116 => ⟨S4x1x128x256x128, .f32⟩
  | 117 => ⟨S1x128x128x4x256, .f32⟩
  | 118 => ⟨S128x4, .f32⟩
  | 119 => ⟨S1x1x128x4x1, .f32⟩
  | 120 => ⟨S1x128x128x4x256, .f32⟩
  | 121 => ⟨S1x128x128x4x256, .f32⟩
  | 122 => ⟨S1x16384x1024, .f32⟩
  | 123 => ⟨S1x16384x1024, .f32⟩
  | 124 => ⟨S1x16384x1024, .f32⟩
  | 125 => ⟨S1x16384x1024, .f32⟩
  | 126 => ⟨S1x16384x1024, .f32⟩
  | 127 => ⟨S1x16384x1024, .f32⟩
  | _ => ⟨S16640x1024, .f32⟩

abbrev hbmTy0_1 (i : Nat) : BufTy := match i % 128 with
  | 0 => ⟨S1x256x2048, .f32⟩
  | 1 => ⟨S1x256x2048, .f32⟩
  | 2 => ⟨S1x256x2048, .f32⟩
  | 3 => ⟨S_, .f32⟩
  | 4 => ⟨S1x256x2048, .f32⟩
  | 5 => ⟨S1x256x2048, .f32⟩
  | 6 => ⟨S1x256x2048, .f32⟩
  | 7 => ⟨S_, .f32⟩
  | 8 => ⟨S1x256x2048, .f32⟩
  | 9 => ⟨S1x256x2048, .f32⟩
  | 10 => ⟨S1x256x2048, .f32⟩
  | 11 => ⟨S_, .f32⟩
  | 12 => ⟨S1x256x2048, .f32⟩
  | 13 => ⟨S1x256x2048, .f32⟩
  | 14 => ⟨S_, .f32⟩
  | 15 => ⟨S1x256x2048, .f32⟩
  | 16 => ⟨S1x256x2048, .f32⟩
  | 17 => ⟨S1x256x2048, .f32⟩
  | 18 => ⟨S1x256x1024, .f32⟩
  | 19 => ⟨S1x256x1024, .f32⟩
  | 20 => ⟨S1x256x1024, .f32⟩
  | 21 => ⟨S_, .f32⟩
  | 22 => ⟨S1x256, .f32⟩
  | 23 => ⟨S1x256x1, .f32⟩
  | 24 => ⟨S_, .f32⟩
  | 25 => ⟨S1x256x1, .f32⟩
  | 26 => ⟨S1x256x1, .f32⟩
  | 27 => ⟨S_, .f32⟩
  | 28 => ⟨S1x256x1, .f32⟩
  | 29 => ⟨S1x256x1, .f32⟩
  | 30 => ⟨S1x256x1, .f32⟩
  | 31 => ⟨S1x256x1024, .f32⟩
  | 32 => ⟨S1x256x1024, .f32⟩
  | 33 => ⟨S1x1x1024, .f32⟩
  | 34 => ⟨S1x256x1024, .f32⟩
  | 35 => ⟨S1x256x1024, .f32⟩
  | 36 => ⟨S1x2x128x4x256, .f32⟩
  | 37 => ⟨S4x1x2x256x128, .f32⟩
  | 38 => ⟨S1x2x128x4x256, .f32⟩
  | 39 => ⟨S128x4, .f32⟩
  | 40 => ⟨S1x1x128x4x1, .f32⟩
  | 41 => ⟨S1x2x128x4x256, .f32⟩
  | 42 => ⟨S1x2x128x4x256, .f32⟩
  | 43 => ⟨S1x256x1024, .f32⟩
  | 44 => ⟨S1x256x1024, .f32⟩
  | 45 => ⟨S1x256x1024, .f32⟩
  | 46 => ⟨S1x256x1024, .f32⟩
  | 47 => ⟨S1x256x1024, .f32⟩
  | 48 => ⟨S1x256x1024, .f32⟩
  | 49 => ⟨S1x16640x1024, .f32⟩
  | 50 => ⟨S16640x1024, .f32⟩
  | _ => ⟨S16640x1024, .f32⟩

abbrev hbmTy (i : Nat) : BufTy := match i / 128 with
  | 0 => hbmTy0_0 i
  | 1 => hbmTy0_1 i
  | _ => ⟨S16640x1024, .f32⟩

abbrev bufTy : (tb : Table) → Fin (tcTables nBuf tb) → BufTy
  | .hbm, ⟨i, _⟩ => hbmTy i
  | _, _ => ⟨S16640x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst : Ref sig .tc := ⟨.hbm, 34, rfl⟩
abbrev main_v26 : Ref sig .tc := ⟨.hbm, 35, rfl⟩
abbrev main_v27 : Ref sig .tc := ⟨.hbm, 36, rfl⟩
abbrev main_cst_0 : Ref sig .tc := ⟨.hbm, 37, rfl⟩
abbrev main_v28 : Ref sig .tc := ⟨.hbm, 38, rfl⟩
abbrev main_v29 : Ref sig .tc := ⟨.hbm, 39, rfl⟩
abbrev main_cst_1 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_2 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_3 : Ref sig .tc := ⟨.hbm, 57, rfl⟩
abbrev main_v45 : Ref sig .tc := ⟨.hbm, 58, rfl⟩
abbrev main_v46 : Ref sig .tc := ⟨.hbm, 59, rfl⟩
abbrev main_cst_4 : Ref sig .tc := ⟨.hbm, 60, rfl⟩
abbrev main_v47 : Ref sig .tc := ⟨.hbm, 61, rfl⟩
abbrev main_v48 : Ref sig .tc := ⟨.hbm, 62, rfl⟩
abbrev main_cst_5 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_6 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_cst_7 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_cst_8 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_cst_9 : Ref sig .tc := ⟨.hbm, 90, rfl⟩
abbrev main_v72 : Ref sig .tc := ⟨.hbm, 91, rfl⟩
abbrev main_v73 : Ref sig .tc := ⟨.hbm, 92, rfl⟩
abbrev main_cst_10 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_cst_11 : Ref sig .tc := ⟨.hbm, 100, rfl⟩
abbrev main_v80 : Ref sig .tc := ⟨.hbm, 101, rfl⟩
abbrev main_v81 : Ref sig .tc := ⟨.hbm, 102, rfl⟩
abbrev main_cst_12 : Ref sig .tc := ⟨.hbm, 103, rfl⟩
abbrev main_v82 : Ref sig .tc := ⟨.hbm, 104, rfl⟩
abbrev main_v83 : Ref sig .tc := ⟨.hbm, 105, rfl⟩
abbrev main_cst_13 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_cst_14 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_cst_15 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_cst_16 : Ref sig .tc := ⟨.hbm, 139, rfl⟩
abbrev main_v114 : Ref sig .tc := ⟨.hbm, 140, rfl⟩
abbrev main_v115 : Ref sig .tc := ⟨.hbm, 141, rfl⟩
abbrev main_cst_17 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_cst_18 : Ref sig .tc := ⟨.hbm, 149, rfl⟩
abbrev main_v122 : Ref sig .tc := ⟨.hbm, 150, rfl⟩
abbrev main_v123 : Ref sig .tc := ⟨.hbm, 151, rfl⟩
abbrev main_cst_19 : Ref sig .tc := ⟨.hbm, 152, rfl⟩
abbrev main_v124 : Ref sig .tc := ⟨.hbm, 153, rfl⟩
abbrev main_v125 : Ref sig .tc := ⟨.hbm, 154, rfl⟩
abbrev main_cst_20 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_v145 : Ref sig .tc := ⟨.hbm, 175, rfl⟩
abbrev main_v146 : Ref sig .tc := ⟨.hbm, 176, rfl⟩
abbrev main_v147 : Ref sig .tc := ⟨.hbm, 177, rfl⟩
abbrev main_v148 : Ref sig .tc := ⟨.hbm, 178, rfl⟩

abbrev nD : Nat := 1
abbrev τ : Topo := Topo.v7x

variable {F : FTy → Type} [FloatOps F]
-- ==== Kernel2.lean ====
abbrev S16640x1280 : Shape := ⟨2, ![16640, 1280]⟩
abbrev S16640x1024 : Shape := ⟨2, ![16640, 1024]⟩
abbrev S8x6144 : Shape := ⟨2, ![8, 6144]⟩
abbrev S1280x1024 : Shape := ⟨2, ![1280, 1024]⟩
abbrev S16384x1024 : Shape := ⟨2, ![16384, 1024]⟩
abbrev S256x1280 : Shape := ⟨2, ![256, 1280]⟩
abbrev S256x1024 : Shape := ⟨2, ![256, 1024]⟩
abbrev S1x6144 : Shape := ⟨2, ![1, 6144]⟩
abbrev S1x1024 : Shape := ⟨2, ![1, 1024]⟩

abbrev nBuf : Space → Nat
  | .hbm => 8
  | .vmem => 12
  | .smem => 0
  | _ => 0

abbrev bufTy : (tb : Table) → Fin (tcTables nBuf tb) → BufTy
  | .hbm, ⟨0, _⟩ => ⟨S16640x1280, .f32⟩
  | .hbm, ⟨1, _⟩ => ⟨S16640x1280, .f32⟩
  | .hbm, ⟨2, _⟩ => ⟨S16640x1280, .f32⟩
  | .hbm, ⟨3, _⟩ => ⟨S16640x1024, .f32⟩
  | .hbm, ⟨4, _⟩ => ⟨S8x6144, .f32⟩
  | .hbm, ⟨5, _⟩ => ⟨S1280x1024, .f32⟩
  | .hbm, ⟨6, _⟩ => ⟨S1280x1024, .bf16⟩
  | .hbm, ⟨7, _⟩ => ⟨S16384x1024, .f32⟩
  | .local _ .vmem, ⟨0, _⟩ => ⟨S256x1280, .f32⟩
  | .local _ .vmem, ⟨1, _⟩ => ⟨S256x1280, .f32⟩
  | .local _ .vmem, ⟨2, _⟩ => ⟨S256x1280, .f32⟩
  | .local _ .vmem, ⟨3, _⟩ => ⟨S256x1280, .f32⟩
  | .local _ .vmem, ⟨4, _⟩ => ⟨S256x1280, .f32⟩
  | .local _ .vmem, ⟨5, _⟩ => ⟨S256x1280, .f32⟩
  | .local _ .vmem, ⟨6, _⟩ => ⟨S256x1024, .f32⟩
  | .local _ .vmem, ⟨7, _⟩ => ⟨S256x1024, .f32⟩
  | .local _ .vmem, ⟨8, _⟩ => ⟨S8x6144, .f32⟩
  | .local _ .vmem, ⟨9, _⟩ => ⟨S1280x1024, .bf16⟩
  | .local _ .vmem, ⟨10, _⟩ => ⟨S256x1024, .f32⟩
  | .local _ .vmem, ⟨11, _⟩ => ⟨S256x1024, .f32⟩
  | _, _ => ⟨S16640x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

def k0_off1 : Fin 2 → Nat :=
  let v_false : BitVec 1 := 0#1
  let c0_i32 : BitVec 32 := 0#32
  let c1_i32 : BitVec 32 := 1#32
  let v0 : BitVec 32 := Scalar.select v_false c0_i32 c1_i32
  let v1 : Index := Scalar.indexCast v0
  let c0 : Index := 0#32
  ![v1.toNat, 0]
def cc0_transform_0 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1280x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S16640x1280 : Shape := ⟨2, ![16640, 1280]⟩
abbrev S16640x1024 : Shape := ⟨2, ![16640, 1024]⟩
abbrev S8x6144 : Shape := ⟨2, ![8, 6144]⟩
abbrev S1280x1024 : Shape := ⟨2, ![1280, 1024]⟩
abbrev S16384x1280 : Shape := ⟨2, ![16384, 1280]⟩
abbrev S16384x1024 : Shape := ⟨2, ![16384, 1024]⟩
abbrev S1x6144 : Shape := ⟨2, ![1, 6144]⟩
abbrev S1x1024 : Shape := ⟨2, ![1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S16640x1280, .f32⟩
  | .hbm, ⟨1, _⟩ => ⟨S16640x1280, .f32⟩
  | .hbm, ⟨2, _⟩ => ⟨S16640x1280, .f32⟩
  | .hbm, ⟨3, _⟩ => ⟨S16640x1024, .f32⟩
  | .hbm, ⟨4, _⟩ => ⟨S8x6144, .f32⟩
  | .hbm, ⟨5, _⟩ => ⟨S1280x1024, .f32⟩
  | .hbm, ⟨6, _⟩ => ⟨S16384x1280, .f32⟩
  | .hbm, ⟨7, _⟩ => ⟨S16384x1280, .f32⟩
  | .hbm, ⟨8, _⟩ => ⟨S16384x1280, .f32⟩
  | .hbm, ⟨9, _⟩ => ⟨S16384x1024, .f32⟩
  | .hbm, ⟨10, _⟩ => ⟨S1x6144, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S16384x1280, .f32⟩
  | .hbm, ⟨18, _⟩ => ⟨S16384x1280, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | _, _ => ⟨S16640x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel3.lean ====
abbrev S16640x1024 : Shape := ⟨2, ![16640, 1024]⟩
abbrev S8x6144 : Shape := ⟨2, ![8, 6144]⟩
abbrev S1024 : Shape := ⟨1, ![1024]⟩
abbrev S1024x1024 : Shape := ⟨2, ![1024, 1024]⟩
abbrev S1x1024 : Shape := ⟨2, ![1, 1024]⟩
abbrev S256x1024 : Shape := ⟨2, ![256, 1024]⟩
abbrev S1x6144 : Shape := ⟨2, ![1, 6144]⟩
abbrev S256x256 : Shape := ⟨2, ![256, 256]⟩
abbrev S256 : Shape := ⟨1, ![256]⟩
abbrev S256x1 : Shape := ⟨2, ![256, 1]⟩
abbrev S1x256 : Shape := ⟨2, ![1, 256]⟩

abbrev nBuf : Space → Nat
  | .hbm => 10
  | .vmem => 14
  | .smem => 0
  | _ => 0

abbrev bufTy : (tb : Table) → Fin (tcTables nBuf tb) → BufTy
  | .hbm, ⟨0, _⟩ => ⟨S16640x1024, .f32⟩
  | .hbm, ⟨1, _⟩ => ⟨S16640x1024, .f32⟩
  | .hbm, ⟨2, _⟩ => ⟨S16640x1024, .f32⟩
  | .hbm, ⟨3, _⟩ => ⟨S16640x1024, .f32⟩
  | .hbm, ⟨4, _⟩ => ⟨S8x6144, .f32⟩
  | .hbm, ⟨5, _⟩ => ⟨S1024, .f32⟩
  | .hbm, ⟨6, _⟩ => ⟨S1024x1024, .f32⟩
  | .hbm, ⟨7, _⟩ => ⟨S1x1024, .f32⟩
  | .hbm, ⟨8, _⟩ => ⟨S1024x1024, .bf16⟩
  | .hbm, ⟨9, _⟩ => ⟨S16640x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S8x6144, .f32⟩
  | .local _ .vmem, ⟨9, _⟩ => ⟨S1x1024, .f32⟩
  | .local _ .vmem, ⟨10, _⟩ => ⟨S1024x1024, .bf16⟩
  | .local _ .vmem, ⟨11, _⟩ => ⟨S256x1024, .f32⟩
  | .local _ .vmem, ⟨12, _⟩ => ⟨S256x1024, .f32⟩
  | .local _ .vmem, ⟨13, _⟩ => ⟨S256x1024, .bf16⟩
  | _, _ => ⟨S16640x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![65], ![false]⟩

def k0_off1 (i : grid0.Coords) : Fin 2 → Nat :=
  let arg0 : BitVec 32 := BitVec.ofNat 32 (i 0).val
  let c1_i32 : BitVec 32 := 1#32
  let v0 : BitVec 1 := Scalar.cmpi .slt arg0 c1_i32
  let c0_i32 : BitVec 32 := 0#32
  let c1_i32_0 : BitVec 32 := 1#32
  let v1 : BitVec 32 := Scalar.select v0 c0_i32 c1_i32_0
  let v2 : Index := Scalar.indexCast v1
  let c0 : Index := 0#32
  ![v2.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S16640x1024 : Shape := ⟨2, ![16640, 1024]⟩
abbrev S8x6144 : Shape := ⟨2, ![8, 6144]⟩
abbrev S1024 : Shape := ⟨1, ![1024]⟩
abbrev S1024x1024 : Shape := ⟨2, ![1024, 1024]⟩
abbrev S1x6144 : Shape := ⟨2, ![1, 6144]⟩
abbrev S1x1024 : Shape := ⟨2, ![1, 1024]⟩
abbrev S16640x4x256 : Shape := ⟨3, ![16640, 4, 256]⟩
abbrev S_ : Shape := ⟨0, ![]⟩
abbrev S16640x4 : Shape := ⟨2, ![16640, 4]⟩
abbrev S16640x4x1 : Shape := ⟨3, ![16640, 4, 1]⟩
abbrev S256x1024 : Shape := ⟨2, ![256, 1024]⟩
abbrev S16384x1024 : Shape := ⟨2, ![16384, 1024]⟩

abbrev nBuf : Space → Nat
  | .hbm => 61
  | .vmem => 0
  | .smem => 0
  | _ => 0

abbrev bufTy : (tb : Table) → Fin (tcTables nBuf tb) → BufTy
  | .hbm, ⟨0, _⟩ => ⟨S16640x1024, .f32⟩
  | .hbm, ⟨1, _⟩ => ⟨S16640x1024, .f32⟩
  | .hbm, ⟨2, _⟩ => ⟨S16640x1024, .f32⟩
  | .hbm, ⟨3, _⟩ => ⟨S16640x1024, .f32⟩
  | .hbm, ⟨4, _⟩ => ⟨S8x6144, .f32⟩
  | .hbm, ⟨5, _⟩ => ⟨S1024, .f32⟩
  | .hbm, ⟨6, _⟩ => ⟨S1024x1024, .f32⟩
  | .hbm, ⟨7, _⟩ => ⟨S1x6144, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x6144, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S16640x1024, .f32⟩
  | .hbm, ⟨22, _⟩ => ⟨S16640x4x256, .f32⟩
  | .hbm, ⟨23, _⟩ => ⟨S16640x4x256, .f32⟩
  | .hbm, ⟨24, _⟩ => ⟨S_, .f32⟩
  | .hbm, ⟨25, _⟩ => ⟨S16640x4, .f32⟩
  | .hbm, ⟨26, _⟩ => ⟨S16640x4x1, .f32⟩
  | .hbm, ⟨27, _⟩ => ⟨S_, .f32⟩
  | .hbm, ⟨28, _⟩ => ⟨S16640x4x1, .f32⟩
  | .hbm, ⟨29, _⟩ => ⟨S16640x4x1, .f32⟩
  | .hbm, ⟨30, _⟩ => ⟨S_, .f32⟩
  | .hbm, ⟨31, _⟩ => ⟨S16640x4x1, .f32⟩
  | .hbm, ⟨32, _⟩ => ⟨S16640x4x1, .f32⟩
  | .hbm, ⟨33, _⟩ => ⟨S16640x4x1, .f32⟩
  | .hbm, ⟨34, _⟩ => ⟨S16640x4x256, .f32⟩
  | .hbm, ⟨35, _⟩ => ⟨S16640x4x256, .f32⟩
  | .hbm, ⟨36, _⟩ => ⟨S16640x1024, .f32⟩
  | .hbm, ⟨37, _⟩ => ⟨S1x1024, .f32⟩
  | .hbm, ⟨38, _⟩ => ⟨S16640x1024, .f32⟩
  | .hbm, ⟨39, _⟩ => ⟨S16640x1024, .f32⟩
  | .hbm, ⟨40, _⟩ => ⟨S16640x1024, .f32⟩
  | .hbm, ⟨41, _⟩ => ⟨S16640x1024, .f32⟩
  | .hbm, ⟨42, _⟩ => ⟨S_, .f32⟩
  | .hbm, ⟨43, _⟩ => ⟨S16640x1024, .f32⟩
  | .hbm, ⟨44, _⟩ => ⟨S16640x1024, .f32⟩
  | .hbm, ⟨45, _⟩ => ⟨S_, .f32⟩
  | .hbm, ⟨46, _⟩ => ⟨S16640x1024, .f32⟩
  | .hbm, ⟨47, _⟩ => ⟨S16640x1024, .f32⟩
  | .hbm, ⟨48, _⟩ => ⟨S16640x1024, .f32⟩
  | .hbm, ⟨49, _⟩ => ⟨S16640x1024, .f32⟩
  | .hbm, ⟨50, _⟩ => ⟨S256x1024, .f32⟩
  | .hbm, ⟨51, _⟩ => ⟨S256x1024, .f32⟩
  | .hbm, ⟨52, _⟩ => ⟨S256x1024, .f32⟩
  | .hbm, ⟨53, _⟩ => ⟨S256x1024, .f32⟩
  | .hbm, ⟨54, _⟩ => ⟨S256x1024, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S16384x1024, .f32⟩
  | .hbm, ⟨60, _⟩ => ⟨S16640x1024, .f32⟩
  | _, _ => ⟨S16640x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_v18 : Ref sig .tc := ⟨.hbm, 26, rfl⟩
abbrev main_cst_0 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_2 : Ref sig .tc := ⟨.hbm, 42, rfl⟩
abbrev main_v32 : Ref sig .tc := ⟨.hbm, 43, rfl⟩
abbrev main_v33 : Ref sig .tc := ⟨.hbm, 44, rfl⟩
abbrev main_cst_3 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩

abbrev nD : Nat := 1
abbrev τ : Topo := Topo.v7x

variable {F : FTy → Type} [FloatOps F]
-- ==== Kernel4.lean ====
abbrev S162 : Shape := ⟨1, ![162]⟩
abbrev S1 : Shape := ⟨1, ![1]⟩
abbrev S41472x1024 : Shape := ⟨2, ![41472, 1024]⟩
abbrev S4x32x1024x512 : Shape := ⟨4, ![4, 32, 1024, 512]⟩
abbrev S4x32x512x1024 : Shape := ⟨4, ![4, 32, 512, 1024]⟩
abbrev S256x1024 : Shape := ⟨2, ![256, 1024]⟩
abbrev S1x1x1024x512 : Shape := ⟨4, ![1, 1, 1024, 512]⟩
abbrev S1x1x512x1024 : Shape := ⟨4, ![1, 1, 512, 1024]⟩
abbrev S1024x512 : Shape := ⟨2, ![1024, 512]⟩
abbrev S512x1024 : Shape := ⟨2, ![512, 1024]⟩
abbrev S256x512 : Shape := ⟨2, ![256, 512]⟩

abbrev nBuf : Space → Nat
  | .hbm => 5
  | .vmem => 13
  | .smem => 2
  | _ => 0

abbrev bufTy : (tb : Table) → Fin (tcTables nBuf tb) → BufTy
  | .hbm, ⟨0, _⟩ => ⟨S41472x1024, .f32⟩
  | .hbm, ⟨1, _⟩ => ⟨S4x32x1024x512, .f32⟩
  | .hbm, ⟨2, _⟩ => ⟨S4x32x1024x512, .f32⟩
  | .hbm, ⟨3, _⟩ => ⟨S4x32x512x1024, .f32⟩
  | .hbm, ⟨4, _⟩ => ⟨S41472x1024, .f32⟩
  | .local _ .vmem, ⟨0, _⟩ => ⟨S256x1024, .f32⟩
  | .local _ .vmem, ⟨1, _⟩ => ⟨S256x1024, .f32⟩
  | .local _ .vmem, ⟨2, _⟩ => ⟨S1x1x1024x512, .f32⟩
  | .local _ .vmem, ⟨3, _⟩ => ⟨S1x1x1024x512, .f32⟩
  | .local _ .vmem, ⟨4, _⟩ => ⟨S1x1x1024x512, .f32⟩
  | .local _ .vmem, ⟨5, _⟩ => ⟨S1x1x1024x512, .f32⟩
  | .local _ .vmem, ⟨6, _⟩ => ⟨S1x1x512x1024, .f32⟩
  | .local _ .vmem, ⟨7, _⟩ => ⟨S1x1x512x1024, .f32⟩
  | .local _ .vmem, ⟨8, _⟩ => ⟨S256x1024, .f32⟩
  | .local _ .vmem, ⟨9, _⟩ => ⟨S256x1024, .f32⟩
  | .local _ .vmem, ⟨10, _⟩ => ⟨S1024x512, .bf16⟩
  | .local _ .vmem, ⟨11, _⟩ => ⟨S1024x512, .bf16⟩
  | .local _ .vmem, ⟨12, _⟩ => ⟨S512x1024, .bf16⟩
  | .local _ .smem, ⟨0, _⟩ => ⟨S162, .i32⟩
  | .local _ .smem, ⟨1, _⟩ => ⟨S1, .i32⟩
  | _, _ => ⟨S41472x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![162], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v2 : BitVec 32 := Scalar.subi arg0 c1_i32
  let c0_i32 : BitVec 32 := 0#32
  let v3 : BitVec 32 := Scalar.maxsi v2 c0_i32
  let v4 : Index := Scalar.indexCast v3
  ![v4.toNat]
def k0_cond2 (i : grid0.Coords) (v0 : BitVec 32) : BitVec 1 :=
  let arg0 : BitVec 32 := BitVec.ofNat 32 (i 0).val
  let v1 : BitVec 1 := Scalar.cmpi .slt arg0 v0
  let v14 : BitVec 32 := Scalar.extui v1
  let c0_i32_2 : BitVec 32 := 0#32
  let v15 : BitVec 1 := Scalar.cmpi .ne v14 c0_i32_2
  v15

def k0_cond3 (i : grid0.Coords) (v0 : BitVec 32) : BitVec 1 :=
  let arg0 : BitVec 32 := BitVec.ofNat 32 (i 0).val
  let v1 : BitVec 1 := Scalar.cmpi .slt arg0 v0
  let v_true : BitVec 1 := 1#1
  let v16 : BitVec 1 := Scalar.xori v1 v_true
  let v17 : BitVec 32 := Scalar.extui v16
  let c0_i32_3 : BitVec 32 := 0#32
  let v18 : BitVec 1 := Scalar.cmpi .ne v17 c0_i32_3
  v18

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S162.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S162) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S162.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S162) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S162.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S162) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference4Ideal.lean ====
abbrev S162 : Shape := ⟨1, ![162]⟩
abbrev S1 : Shape := ⟨1, ![1]⟩
abbrev S41472x1024 : Shape := ⟨2, ![41472, 1024]⟩
abbrev S4x32x1024x512 : Shape := ⟨4, ![4, 32, 1024, 512]⟩
abbrev S4x32x512x1024 : Shape := ⟨4, ![4, 32, 512, 1024]⟩
abbrev S162x256x1024 : Shape := ⟨3, ![162, 256, 1024]⟩
abbrev S1x32x1024x512 : Shape := ⟨4, ![1, 32, 1024, 512]⟩
abbrev S32x1024x512 : Shape := ⟨3, ![32, 1024, 512]⟩
abbrev S_ : Shape := ⟨0, ![]⟩
abbrev S162x1 : Shape := ⟨2, ![162, 1]⟩
abbrev S162x1024x512 : Shape := ⟨3, ![162, 1024, 512]⟩
abbrev S162x256x512 : Shape := ⟨3, ![162, 256, 512]⟩
abbrev S1x32x512x1024 : Shape := ⟨4, ![1, 32, 512, 1024]⟩
abbrev S32x512x1024 : Shape := ⟨3, ![32, 512, 1024]⟩
abbrev S162x512x1024 : Shape := ⟨3, ![162, 512, 1024]⟩
abbrev S162x1x1 : Shape := ⟨3, ![162, 1, 1]⟩

abbrev nBuf : Space → Nat
  | .hbm => 64
  | .vmem => 0
  | .smem => 0
  | _ => 0

abbrev bufTy : (tb : Table) → Fin (tcTables nBuf tb) → BufTy
  | .hbm, ⟨0, _⟩ => ⟨S162, .i32⟩
  | .hbm, ⟨1, _⟩ => ⟨S1, .i32⟩
  | .hbm, ⟨2, _⟩ => ⟨S41472x1024, .f32⟩
  | .hbm, ⟨3, _⟩ => ⟨S4x32x1024x512, .f32⟩
  | .hbm, ⟨4, _⟩ => ⟨S4x32x1024x512, .f32⟩
  | .hbm, ⟨5, _⟩ => ⟨S4x32x512x1024, .f32⟩
  | .hbm, ⟨6, _⟩ => ⟨S162x256x1024, .f32⟩
  | .hbm, ⟨7, _⟩ => ⟨S1x32x1024x512, .f32⟩
  | .hbm, ⟨8, _⟩ => ⟨S32x1024x512, .f32⟩
  | .hbm, ⟨9, _⟩ => ⟨S_, .i32⟩
  | .hbm, ⟨10, _⟩ => ⟨S162, .i32⟩
  | .hbm, ⟨11, _⟩ => ⟨S162, .i1⟩
  | .hbm, ⟨12, _⟩ => ⟨S_, .i32⟩
  | .hbm, ⟨13, _⟩ => ⟨S162, .i32⟩
  | .hbm, ⟨14, _⟩ => ⟨S162, .i32⟩
  | .hbm, ⟨15, _⟩ => ⟨S162, .i32⟩
  | .hbm, ⟨16, _⟩ => ⟨S162x1, .i32⟩
  | .hbm, ⟨17, _⟩ => ⟨S162x1024x512, .f32⟩
  | .hbm, ⟨18, _⟩ => ⟨S162x256x512, .f32⟩
  | .hbm, ⟨19, _⟩ => ⟨S1x32x1024x512, .f32⟩
  | .hbm, ⟨20, _⟩ => ⟨S32x1024x512, .f32⟩
  | .hbm, ⟨21, _⟩ => ⟨S_, .i32⟩
  | .hbm, ⟨22, _⟩ => ⟨S162, .i32⟩
  | .hbm, ⟨23, _⟩ => ⟨S162, .i1⟩
  | .hbm, ⟨24, _⟩ => ⟨S_, .i32⟩
  | .hbm, ⟨25, _⟩ => ⟨S162, .i32⟩
  | .hbm, ⟨26, _⟩ => ⟨S162, .i32⟩
  | .hbm, ⟨27, _⟩ => ⟨S162, .i32⟩
  | .hbm, ⟨28, _⟩ => ⟨S162x1, .i32⟩
  | .hbm, ⟨29, _⟩ => ⟨S162x1024x512, .f32⟩
  | .hbm, ⟨30, _⟩ => ⟨S162x256x512, .f32⟩
  | .hbm, ⟨31, _⟩ => ⟨S162x256x512, .f32⟩
  | .hbm, ⟨32, _⟩ => ⟨S162x256x512, .f32⟩
  | .hbm, ⟨33, _⟩ => ⟨S_, .f32⟩
  | .hbm, ⟨34, _⟩ => ⟨S162x256x512, .f32⟩
  | .hbm, ⟨35, _⟩ => ⟨S162x256x512, .f32⟩
  | .hbm, ⟨36, _⟩ => ⟨S_, .f32⟩
  | .hbm, ⟨37, _⟩ => ⟨S162x256x512, .f32⟩
  | .hbm, ⟨38, _⟩ => ⟨S162x256x512, .f32⟩
  | .hbm, ⟨39, _⟩ => ⟨S162x256x512, .f32⟩
  | .hbm, ⟨40, _⟩ => ⟨S162x256x512, .f32⟩
  | .hbm, ⟨41, _⟩ => ⟨S1x32x512x1024, .f32⟩
  | .hbm, ⟨42, _⟩ => ⟨S32x512x1024, .f32⟩
  | .hbm, ⟨43, _⟩ => ⟨S_, .i32⟩
  | .hbm, ⟨44, _⟩ => ⟨S162, .i32⟩
  | .hbm, ⟨45, _⟩ => ⟨S162, .i1⟩
  | .hbm, ⟨46, _⟩ => ⟨S_, .i32⟩
  | .hbm, ⟨47, _⟩ => ⟨S162, .i32⟩
  | .hbm, ⟨48, _⟩ => ⟨S162, .i32⟩
  | .hbm, ⟨49, _⟩ => ⟨S162, .i32⟩
  | .hbm, ⟨50, _⟩ => ⟨S162x1, .i32⟩
  | .hbm, ⟨51, _⟩ => ⟨S162x512x1024, .f32⟩
  | .hbm, ⟨52, _⟩ => ⟨S162x256x1024, .f32⟩
  | .hbm, ⟨53, _⟩ => ⟨S162, .i32⟩
  | .hbm, ⟨54, _⟩ => ⟨S_, .i32⟩
  | .hbm, ⟨55, _⟩ => ⟨S162, .i32⟩
  | .hbm, ⟨56, _⟩ => ⟨S162, .i1⟩
  | .hbm, ⟨57, _⟩ => ⟨S162x1x1, .i1⟩
  | .hbm, ⟨58, _⟩ => ⟨S_, .f32⟩
  | .hbm, ⟨59, _⟩ => ⟨S_, .f32⟩
  | .hbm, ⟨60, _⟩ => ⟨S162x256x1024, .i1⟩
  | .hbm, ⟨61, _⟩ => ⟨S162x256x1024, .f32⟩
  | .hbm, ⟨62, _⟩ => ⟨S162x256x1024, .f32⟩
  | .hbm, ⟨63, _⟩ => ⟨S41472x1024, .f32⟩
  | _, _ => ⟨S162, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_c_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_3 : Ref sig .tc := ⟨.hbm, 43, rfl⟩
abbrev main_v25 : Ref sig .tc := ⟨.hbm, 44, rfl⟩
abbrev main_v26 : Ref sig .tc := ⟨.hbm, 45, rfl⟩
abbrev main_c_4 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_v38 : Ref sig .tc := ⟨.hbm, 62, rfl⟩
abbrev main_v39 : Ref sig .tc := ⟨.hbm, 63, rfl⟩

abbrev nD : Nat := 1
abbrev τ : Topo := Topo.v7x

variable {F : FTy → Type} [FloatOps F]
-- ==== Kernel5.lean ====
abbrev S16640x1024 : Shape := ⟨2, ![16640, 1024]⟩
abbrev S8x6144 : Shape := ⟨2, ![8, 6144]⟩
abbrev S1024 : Shape := ⟨1, ![1024]⟩
abbrev S1024x2560 : Shape := ⟨2, ![1024, 2560]⟩
abbrev S1x1024 : Shape := ⟨2, ![1, 1024]⟩
abbrev S16640x1280 : Shape := ⟨2, ![16640, 1280]⟩
abbrev S256x1024 : Shape := ⟨2, ![256, 1024]⟩
abbrev S256x1280 : Shape := ⟨2, ![256, 1280]⟩
abbrev S1x6144 : Shape := ⟨2, ![1, 6144]⟩
abbrev S256 : Shape := ⟨1, ![256]⟩
abbrev S256x1 : Shape := ⟨2, ![256, 1]⟩
abbrev S256x2560 : Shape := ⟨2, ![256, 2560]⟩

abbrev nBuf : Space → Nat
  | .hbm => 8
  | .vmem => 9
  | .smem => 0
  | _ => 0

abbrev bufTy : (tb : Table) → Fin (tcTables nBuf tb) → BufTy
  | .hbm, ⟨0, _⟩ => ⟨S16640x1024, .f32⟩
  | .hbm, ⟨1, _⟩ => ⟨S8x6144, .f32⟩
  | .hbm, ⟨2, _⟩ => ⟨S1024, .f32⟩
  | .hbm, ⟨3, _⟩ => ⟨S1024x2560, .f32⟩
  | .hbm, ⟨4, _⟩ => ⟨S1x1024, .f32⟩
  | .hbm, ⟨5, _⟩ => ⟨S1024x2560, .bf16⟩
  | .hbm, ⟨6, _⟩ => ⟨S16640x1280, .f32⟩
  | .hbm, ⟨7, _⟩ => ⟨S16640x1280, .f32⟩
  | .local _ .vmem, ⟨0, _⟩ => ⟨S256x1024, .f32⟩
  | .local _ .vmem, ⟨1, _⟩ => ⟨S256x1024, .f32⟩
  | .local _ .vmem, ⟨2, _⟩ => ⟨S8x6144, .f32⟩
  | .local _ .vmem, ⟨3, _⟩ => ⟨S1x1024, .f32⟩
  | .local _ .vmem, ⟨4, _⟩ => ⟨S1024x2560, .bf16⟩
  | .local _ .vmem, ⟨5, _⟩ => ⟨S256x1280, .f32⟩
  | .local _ .vmem, ⟨6, _⟩ => ⟨S256x1280, .f32⟩
  | .local _ .vmem, ⟨7, _⟩ => ⟨S256x1280, .f32⟩
  | .local _ .vmem, ⟨8, _⟩ => ⟨S256x1280, .f32⟩
  | _, _ => ⟨S16640x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![65], ![false]⟩

def k0_off1 (i : grid0.Coords) : Fin 2 → Nat :=
  let arg0 : BitVec 32 := BitVec.ofNat 32 (i 0).val
  let c1_i32 : BitVec 32 := 1#32
  let v0 : BitVec 1 := Scalar.cmpi .slt arg0 c1_i32
  let c0_i32 : BitVec 32 := 0#32
  let c1_i32_0 : BitVec 32 := 1#32
  let v1 : BitVec 32 := Scalar.select v0 c0_i32 c1_i32_0
  let v2 : Index := Scalar.indexCast v1
  let c0 : Index := 0#32
  ![v2.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2560 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1280 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1280 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S16640x1024 : Shape := ⟨2, ![16640, 1024]⟩
abbrev S8x6144 : Shape := ⟨2, ![8, 6144]⟩
abbrev S1024 : Shape := ⟨1, ![1024]⟩
abbrev S1024x2560 : Shape := ⟨2, ![1024, 2560]⟩
abbrev S1x6144 : Shape := ⟨2, ![1, 6144]⟩
abbrev S1x1024 : Shape := ⟨2, ![1, 1024]⟩
abbrev S256x1024 : Shape := ⟨2, ![256, 1024]⟩
abbrev S_ : Shape := ⟨0, ![]⟩
abbrev S256 : Shape := ⟨1, ![256]⟩
abbrev S256x1 : Shape := ⟨2, ![256, 1]⟩
abbrev S16384x1024 : Shape := ⟨2, ![16384, 1024]⟩
abbrev S16384 : Shape := ⟨1, ![16384]⟩
abbrev S16384x1 : Shape := ⟨2, ![16384, 1]⟩
abbrev S16640x2560 : Shape := ⟨2, ![16640, 2560]⟩
abbrev S16640x1280 : Shape := ⟨2, ![16640, 1280]⟩

abbrev nBuf : Space → Nat
  | .hbm => 87
  | .vmem => 0
  | .smem => 0
  | _ => 0

abbrev bufTy : (tb : Table) → Fin (tcTables nBuf tb) → BufTy
  | .hbm, ⟨0, _⟩ => ⟨S16640x1024, .f32⟩
  | .hbm, ⟨1, _⟩ => ⟨S8x6144, .f32⟩
  | .hbm, ⟨2, _⟩ => ⟨S1024, .f32⟩
  | .hbm, ⟨3, _⟩ => ⟨S1024x2560, .f32⟩
  | .hbm, ⟨4, _⟩ => ⟨S1x6144, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x6144, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S256x1024, .f32⟩
  | .hbm, ⟨19, _⟩ => ⟨S256x1024, .f32⟩
  | .hbm, ⟨20, _⟩ => ⟨S_, .f32⟩
  | .hbm, ⟨21, _⟩ => ⟨S256, .f32⟩
  | .hbm, ⟨22, _⟩ => ⟨S256x1, .f32⟩
  | .hbm, ⟨23, _⟩ => ⟨S_, .f32⟩
  | .hbm, ⟨24, _⟩ => ⟨S256x1, .f32⟩
  | .hbm, ⟨25, _⟩ => ⟨S256x1, .f32⟩
  | .hbm, ⟨26, _⟩ => ⟨S_, .f32⟩
  | .hbm, ⟨27, _⟩ => ⟨S256x1, .f32⟩
  | .hbm, ⟨28, _⟩ => ⟨S256x1, .f32⟩
  | .hbm, ⟨29, _⟩ => ⟨S256x1, .f32⟩
  | .hbm, ⟨30, _⟩ => ⟨S256x1024, .f32⟩
  | .hbm, ⟨31, _⟩ => ⟨S256x1024, .f32⟩
  | .hbm, ⟨32, _⟩ => ⟨S1x1024, .f32⟩
  | .hbm, ⟨33, _⟩ => ⟨S256x1024, .f32⟩
  | .hbm, ⟨34, _⟩ => ⟨S256x1024, .f32⟩
  | .hbm, ⟨35, _⟩ => ⟨S_, .f32⟩
  | .hbm, ⟨36, _⟩ => ⟨S1x1024, .f32⟩
  | .hbm, ⟨37, _⟩ => ⟨S1x1024, .f32⟩
  | .hbm, ⟨38, _⟩ => ⟨S256x1024, .f32⟩
  | .hbm, ⟨39, _⟩ => ⟨S256x1024, .f32⟩
  | .hbm, ⟨40, _⟩ => ⟨S256x1024, .f32⟩
  | .hbm, ⟨41, _⟩ => ⟨S256x1024, .f32⟩
  | .hbm, ⟨42, _⟩ => ⟨S16384x1024, .f32⟩
  | .hbm, ⟨43, _⟩ => ⟨S16384x1024, .f32⟩
  | .hbm, ⟨44, _⟩ => ⟨S_, .f32⟩
  | .hbm, ⟨45, _⟩ => ⟨S16384, .f32⟩
  | .hbm, ⟨46, _⟩ => ⟨S16384x1, .f32⟩
  | .hbm, ⟨47, _⟩ => ⟨S_, .f32⟩
  | .hbm, ⟨48, _⟩ => ⟨S16384x1, .f32⟩
  | .hbm, ⟨49, _⟩ => ⟨S16384x1, .f32⟩
  | .hbm, ⟨50, _⟩ => ⟨S_, .f32⟩
  | .hbm, ⟨51, _⟩ => ⟨S16384x1, .f32⟩
  | .hbm, ⟨52, _⟩ => ⟨S16384x1, .f32⟩
  | .hbm, ⟨53, _⟩ => ⟨S16384x1, .f32⟩
  | .hbm, ⟨54, _⟩ => ⟨S16384x1024, .f32⟩
  | .hbm, ⟨55, _⟩ => ⟨S16384x1024, .f32⟩
  | .hbm, ⟨56, _⟩ => ⟨S1x1024, .f32⟩
  | .hbm, ⟨57, _⟩ => ⟨S16384x1024, .f32⟩
  | .hbm, ⟨58, _⟩ => ⟨S16384x1024, .f32⟩
  | .hbm, ⟨59, _⟩ => ⟨S_, .f32⟩
  | .hbm, ⟨60, _⟩ => ⟨S1x1024, .f32⟩
  | .hbm, ⟨61, _⟩ => ⟨S1x1024, .f32⟩
  | .hbm, ⟨62, _⟩ => ⟨S16384x1024, .f32⟩
  | .hbm, ⟨63, _⟩ => ⟨S16384x1024, .f32⟩
  | .hbm, ⟨64, _⟩ => ⟨S16384x1024, .f32⟩
  | .hbm, ⟨65, _⟩ => ⟨S16384x1024, .f32⟩
  | .hbm, ⟨66, _⟩ => ⟨S16640x1024, .f32⟩
  | .hbm, ⟨67, _⟩ => ⟨S16640x2560, .f32⟩
  | .hbm, ⟨68, _⟩ => ⟨S16640x1280, .f32⟩
  | .hbm, ⟨69, _⟩ => ⟨S16640x1280, .f32⟩
  | .hbm, ⟨70, _⟩ => ⟨S16640x1280, .f32⟩
  | .hbm, ⟨71, _⟩ => ⟨S_, .f32⟩
  | .hbm, ⟨72, _⟩ => ⟨S16640x1280, .f32⟩
  | .hbm, ⟨73, _⟩ => ⟨S16640x1280, .f32⟩
  | .hbm, ⟨74, _⟩ => ⟨S16640x1280, .f32⟩
  | .hbm, ⟨75, _⟩ => ⟨S_, .f32⟩
  | .hbm, ⟨76, _⟩ => ⟨S16640x1280, .f32⟩
  | .hbm, ⟨77, _⟩ => ⟨S16640x1280, .f32⟩
  | .hbm, ⟨78, _⟩ => ⟨S16640x1280, .f32⟩
  | .hbm, ⟨79, _⟩ => ⟨S_, .f32⟩
  | .hbm, ⟨80, _⟩ => ⟨S16640x1280, .f32⟩
  | .hbm, ⟨81, _⟩ => ⟨S16640x1280, .f32⟩
  | .hbm, ⟨82, _⟩ => ⟨S_, .f32⟩
  | .hbm, ⟨83, _⟩ => ⟨S16640x1280, .f32⟩
  | .hbm, ⟨84, _⟩ => ⟨S16640x1280, .f32⟩
  | .hbm, ⟨85, _⟩ => ⟨S16640x1280, .f32⟩
  | .hbm, ⟨86, _⟩ => ⟨S16640x1280, .f32⟩
  | _, _ => ⟨S16640x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst : Ref sig .tc := ⟨.hbm, 20, rfl⟩
abbrev main_v16 : Ref sig .tc := ⟨.hbm, 21, rfl⟩
abbrev main_v17 : Ref sig .tc := ⟨.hbm, 22, rfl⟩
abbrev main_cst_0 : Ref sig .tc := ⟨.hbm, 23, rfl⟩
abbrev main_v18 : Ref sig .tc := ⟨.hbm, 24, rfl⟩
abbrev main_v19 : Ref sig .tc := ⟨.hbm, 25, rfl⟩
abbrev main_cst_1 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_2 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_3 : Ref sig .tc := ⟨.hbm, 44, rfl⟩
abbrev main_v36 : Ref sig .tc := ⟨.hbm, 45, rfl⟩
abbrev main_v37 : Ref sig .tc := ⟨.hbm, 46, rfl⟩
abbrev main_cst_4 : Ref sig .tc := ⟨.hbm, 47, rfl⟩
abbrev main_v38 : Ref sig .tc := ⟨.hbm, 48, rfl⟩
abbrev main_v39 : Ref sig .tc := ⟨.hbm, 49, rfl⟩
abbrev main_cst_5 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_cst_6 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_cst_7 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_cst_8 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_cst_9 : Ref sig .tc := ⟨.hbm, 79, rfl⟩
abbrev main_v65 : Ref sig .tc := ⟨.hbm, 80, rfl⟩
abbrev main_v66 : Ref sig .tc := ⟨.hbm, 81, rfl⟩
abbrev main_cst_10 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩

abbrev nD : Nat := 1
abbrev τ : Topo := Topo.v7x

variable {F : FTy → Type} [FloatOps F]
-- ==== Kernel6.lean ====
abbrev S16640x1024 : Shape := ⟨2, ![16640, 1024]⟩
abbrev S8x6144 : Shape := ⟨2, ![8, 6144]⟩
abbrev S1024 : Shape := ⟨1, ![1024]⟩
abbrev S1024x3088 : Shape := ⟨2, ![1024, 3088]⟩
abbrev S2x2x4 : Shape := ⟨3, ![2, 2, 4]⟩
abbrev S1024x3072 : Shape := ⟨2, ![1024, 3072]⟩
abbrev S1024x16 : Shape := ⟨2, ![1024, 16]⟩
abbrev S_ : Shape := ⟨0, ![]⟩
abbrev S1024x112 : Shape := ⟨2, ![1024, 112]⟩
abbrev S1024x128 : Shape := ⟨2, ![1024, 128]⟩
abbrev S16 : Shape := ⟨1, ![16]⟩
abbrev S112 : Shape := ⟨1, ![112]⟩
abbrev S128 : Shape := ⟨1, ![128]⟩
abbrev S1x128 : Shape := ⟨2, ![1, 128]⟩
abbrev S1x1024 : Shape := ⟨2, ![1, 1024]⟩
abbrev S16640x128 : Shape := ⟨2, ![16640, 128]⟩
abbrev S256x1024 : Shape := ⟨2, ![256, 1024]⟩
abbrev S256x128 : Shape := ⟨2, ![256, 128]⟩
abbrev S1x6144 : Shape := ⟨2, ![1, 6144]⟩
abbrev S256 : Shape := ⟨1, ![256]⟩
abbrev S256x1 : Shape := ⟨2, ![256, 1]⟩
abbrev S256x3072 : Shape := ⟨2, ![256, 3072]⟩

abbrev nBuf : Space → Nat
  | .hbm => 21
  | .vmem => 15
  | .smem => 0
  | _ => 0

abbrev bufTy : (tb : Table) → Fin (tcTables nBuf tb) → BufTy
  | .hbm, ⟨0, _⟩ => ⟨S16640x1024, .f32⟩
  | .hbm, ⟨1, _⟩ => ⟨S8x6144, .f32⟩
  | .hbm, ⟨2, _⟩ => ⟨S1024, .f32⟩
  | .hbm, ⟨3, _⟩ => ⟨S1024x3088, .f32⟩
  | .hbm, ⟨4, _⟩ => ⟨S2x2x4, .f32⟩
  | .hbm, ⟨5, _⟩ => ⟨S1024x3072, .f32⟩
  | .hbm, ⟨6, _⟩ => ⟨S1024x3072, .bf16⟩
  | .hbm, ⟨7, _⟩ => ⟨S1024x16, .f32⟩
  | .hbm, ⟨8, _⟩ => ⟨S_, .f32⟩
  | .hbm, ⟨9, _⟩ => ⟨S1024x112, .f32⟩
  | .hbm, ⟨10, _⟩ => ⟨S1024x128, .f32⟩
  | .hbm, ⟨11, _⟩ => ⟨S16, .f32⟩
  | .hbm, ⟨12, _⟩ => ⟨S_, .f32⟩
  | .hbm, ⟨13, _⟩ => ⟨S112, .f32⟩
  | .hbm, ⟨14, _⟩ => ⟨S128, .f32⟩
  | .hbm, ⟨15, _⟩ => ⟨S1x128, .f32⟩
  | .hbm, ⟨16, _⟩ => ⟨S1x1024, .f32⟩
  | .hbm, ⟨17, _⟩ => ⟨S16640x1024, .f32⟩
  | .hbm, ⟨18, _⟩ => ⟨S16640x1024, .bf16⟩
  | .hbm, ⟨19, _⟩ => ⟨S16640x1024, .f32⟩
  | .hbm, ⟨20, _⟩ => ⟨S16640x128, .f32⟩
  | .local _ .vmem, ⟨0, _⟩ => ⟨S256x1024, .f32⟩
  | .local _ .vmem, ⟨1, _⟩ => ⟨S256x1024, .f32⟩
  | .local _ .vmem, ⟨2, _⟩ => ⟨S8x6144, .f32⟩
  | .local _ .vmem, ⟨3, _⟩ => ⟨S1x1024, .f32⟩
  | .local _ .vmem, ⟨4, _⟩ => ⟨S1024x3072, .bf16⟩
  | .local _ .vmem, ⟨5, _⟩ => ⟨S1024x128, .f32⟩
  | .local _ .vmem, ⟨6, _⟩ => ⟨S1x128, .f32⟩
  | .local _ .vmem, ⟨7, _⟩ => ⟨S256x1024, .f32⟩
  | .local _ .vmem, ⟨8, _⟩ => ⟨S256x1024, .f32⟩
  | .local _ .vmem, ⟨9, _⟩ => ⟨S256x1024, .bf16⟩
  | .local _ .vmem, ⟨10, _⟩ => ⟨S256x1024, .bf16⟩
  | .local _ .vmem, ⟨11, _⟩ => ⟨S256x1024, .f32⟩
  | .local _ .vmem, ⟨12, _⟩ => ⟨S256x1024, .f32⟩
  | .local _ .vmem, ⟨13, _⟩ => ⟨S256x128, .f32⟩
  | .local _ .vmem, ⟨14, _⟩ => ⟨S256x128, .f32⟩
  | _, _ => ⟨S16640x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v10_2 : Ref sig .tc := ⟨.hbm, 19, rfl⟩
abbrev main_v10_3 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![65], ![false]⟩

def k0_off1 (i : grid0.Coords) : Fin 2 → Nat :=
  let arg0 : BitVec 32 := BitVec.ofNat 32 (i 0).val
  let c1_i32 : BitVec 32 := 1#32
  let v0 : BitVec 1 := Scalar.cmpi .slt arg0 c1_i32
  let c0_i32 : BitVec 32 := 0#32
  let c1_i32_0 : BitVec 32 := 1#32
  let v1 : BitVec 32 := Scalar.select v0 c0_i32 c1_i32_0
  let v2 : Index := Scalar.indexCast v1
  let c0 : Index := 0#32
  ![v2.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference6Ideal.lean ====
abbrev S16640x1024 : Shape := ⟨2, ![16640, 1024]⟩
abbrev S8x6144 : Shape := ⟨2, ![8, 6144]⟩
abbrev S1024 : Shape := ⟨1, ![1024]⟩
abbrev S1024x3088 : Shape := ⟨2, ![1024, 3088]⟩
abbrev S2x2x4 : Shape := ⟨3, ![2, 2, 4]⟩
abbrev S1x6144 : Shape := ⟨2, ![1, 6144]⟩
abbrev S1x1024 : Shape := ⟨2, ![1, 1024]⟩
abbrev S256x1024 : Shape := ⟨2, ![256, 1024]⟩
abbrev S_ : Shape := ⟨0, ![]⟩
abbrev S256 : Shape := ⟨1, ![256]⟩
abbrev S256x1 : Shape := ⟨2, ![256, 1]⟩
abbrev S16384x1024 : Shape := ⟨2, ![16384, 1024]⟩
abbrev S16384 : Shape := ⟨1, ![16384]⟩
abbrev S16384x1 : Shape := ⟨2, ![16384, 1]⟩
abbrev S16640x3088 : Shape := ⟨2, ![16640, 3088]⟩
abbrev S16640x16 : Shape := ⟨2, ![16640, 16]⟩
abbrev S16 : Shape := ⟨1, ![16]⟩
abbrev S1x16 : Shape := ⟨2, ![1, 16]⟩
abbrev S16640x128 : Shape := ⟨2, ![16640, 128]⟩
abbrev S16640x16x2x4 : Shape := ⟨4, ![16640, 16, 2, 4]⟩
abbrev S16640x16x1x4 : Shape := ⟨4, ![16640, 16, 1, 4]⟩
abbrev S16640x16x4 : Shape := ⟨3, ![16640, 16, 4]⟩

abbrev nBuf : Space → Nat
  | .hbm => 106
  | .vmem => 0
  | .smem => 0
  | _ => 0

abbrev bufTy : (tb : Table) → Fin (tcTables nBuf tb) → BufTy
  | .hbm, ⟨0, _⟩ => ⟨S16640x1024, .f32⟩
  | .hbm, ⟨1, _⟩ => ⟨S8x6144, .f32⟩
  | .hbm, ⟨2, _⟩ => ⟨S1024, .f32⟩
  | .hbm, ⟨3, _⟩ => ⟨S1024x3088, .f32⟩
  | .hbm, ⟨4, _⟩ => ⟨S2x2x4, .f32⟩
  | .hbm, ⟨5, _⟩ => ⟨S1x6144, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x6144, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S256x1024, .f32⟩
  | .hbm, ⟨20, _⟩ => ⟨S256x1024, .f32⟩
  | .hbm, ⟨21, _⟩ => ⟨S_, .f32⟩
  | .hbm, ⟨22, _⟩ => ⟨S256, .f32⟩
  | .hbm, ⟨23, _⟩ => ⟨S256x1, .f32⟩
  | .hbm, ⟨24, _⟩ => ⟨S_, .f32⟩
  | .hbm, ⟨25, _⟩ => ⟨S256x1, .f32⟩
  | .hbm, ⟨26, _⟩ => ⟨S256x1, .f32⟩
  | .hbm, ⟨27, _⟩ => ⟨S_, .f32⟩
  | .hbm, ⟨28, _⟩ => ⟨S256x1, .f32⟩
  | .hbm, ⟨29, _⟩ => ⟨S256x1, .f32⟩
  | .hbm, ⟨30, _⟩ => ⟨S256x1, .f32⟩
  | .hbm, ⟨31, _⟩ => ⟨S256x1024, .f32⟩
  | .hbm, ⟨32, _⟩ => ⟨S256x1024, .f32⟩
  | .hbm, ⟨33, _⟩ => ⟨S1x1024, .f32⟩
  | .hbm, ⟨34, _⟩ => ⟨S256x1024, .f32⟩
  | .hbm, ⟨35, _⟩ => ⟨S256x1024, .f32⟩
  | .hbm, ⟨36, _⟩ => ⟨S_, .f32⟩
  | .hbm, ⟨37, _⟩ => ⟨S1x1024, .f32⟩
  | .hbm, ⟨38, _⟩ => ⟨S1x1024, .f32⟩
  | .hbm, ⟨39, _⟩ => ⟨S256x1024, .f32⟩
  | .hbm, ⟨40, _⟩ => ⟨S256x1024, .f32⟩
  | .hbm, ⟨41, _⟩ => ⟨S256x1024, .f32⟩
  | .hbm, ⟨42, _⟩ => ⟨S256x1024, .f32⟩
  | .hbm, ⟨43, _⟩ => ⟨S16384x1024, .f32⟩
  | .hbm, ⟨44, _⟩ => ⟨S16384x1024, .f32⟩
  | .hbm, ⟨45, _⟩ => ⟨S_, .f32⟩
  | .hbm, ⟨46, _⟩ => ⟨S16384, .f32⟩
  | .hbm, ⟨47, _⟩ => ⟨S16384x1, .f32⟩
  | .hbm, ⟨48, _⟩ => ⟨S_, .f32⟩
  | .hbm, ⟨49, _⟩ => ⟨S16384x1, .f32⟩
  | .hbm, ⟨50, _⟩ => ⟨S16384x1, .f32⟩
  | .hbm, ⟨51, _⟩ => ⟨S_, .f32⟩
  | .hbm, ⟨52, _⟩ => ⟨S16384x1, .f32⟩
  | .hbm, ⟨53, _⟩ => ⟨S16384x1, .f32⟩
  | .hbm, ⟨54, _⟩ => ⟨S16384x1, .f32⟩
  | .hbm, ⟨55, _⟩ => ⟨S16384x1024, .f32⟩
  | .hbm, ⟨56, _⟩ => ⟨S16384x1024, .f32⟩
  | .hbm, ⟨57, _⟩ => ⟨S1x1024, .f32⟩
  | .hbm, ⟨58, _⟩ => ⟨S16384x1024, .f32⟩
  | .hbm, ⟨59, _⟩ => ⟨S16384x1024, .f32⟩
  | .hbm, ⟨60, _⟩ => ⟨S_, .f32⟩
  | .hbm, ⟨61, _⟩ => ⟨S1x1024, .f32⟩
  | .hbm, ⟨62, _⟩ => ⟨S1x1024, .f32⟩
  | .hbm, ⟨63, _⟩ => ⟨S16384x1024, .f32⟩
  | .hbm, ⟨64, _⟩ => ⟨S16384x1024, .f32⟩
  | .hbm, ⟨65, _⟩ => ⟨S16384x1024, .f32⟩
  | .hbm, ⟨66, _⟩ => ⟨S16384x1024, .f32⟩
  | .hbm, ⟨67, _⟩ => ⟨S16640x1024, .f32⟩
  | .hbm, ⟨68, _⟩ => ⟨S16640x3088, .f32⟩
  | .hbm, ⟨69, _⟩ => ⟨S16640x16, .f32⟩
  | .hbm, ⟨70, _⟩ => ⟨S16, .f32⟩
  | .hbm, ⟨71, _⟩ => ⟨S1x16, .f32⟩
  | .hbm, ⟨72, _⟩ => ⟨S16640x16, .f32⟩
  | .hbm, ⟨73, _⟩ => ⟨S16640x16, .f32⟩
  | .hbm, ⟨74, _⟩ => ⟨S_, .i32⟩
  | .hbm, ⟨75, _⟩ => ⟨S_, .f32⟩
  | .hbm, ⟨76, _⟩ => ⟨S16640x128, .f32⟩
  | .hbm, ⟨77, _⟩ => ⟨S16640x16x2x4, .f32⟩
  | .hbm, ⟨78, _⟩ => ⟨S16640x16x1x4, .f32⟩
  | .hbm, ⟨79, _⟩ => ⟨S16640x16x4, .f32⟩
  | .hbm, ⟨80, _⟩ => ⟨S16640x16x1x4, .f32⟩
  | .hbm, ⟨81, _⟩ => ⟨S16640x16x4, .f32⟩
  | .hbm, ⟨82, _⟩ => ⟨S16640x16x4, .f32⟩
  | .hbm, ⟨83, _⟩ => ⟨S_, .f32⟩
  | .hbm, ⟨84, _⟩ => ⟨S16640x16x4, .f32⟩
  | .hbm, ⟨85, _⟩ => ⟨S16640x16x4, .f32⟩
  | .hbm, ⟨86, _⟩ => ⟨S16640x16x4, .f32⟩
  | .hbm, ⟨87, _⟩ => ⟨S16640x16x4, .f32⟩
  | .hbm, ⟨88, _⟩ => ⟨S16640x16x4, .i1⟩
  | .hbm, ⟨89, _⟩ => ⟨S16640x16x4, .f32⟩
  | .hbm, ⟨90, _⟩ => ⟨S16640x16x4, .f32⟩
  | .hbm, ⟨91, _⟩ => ⟨S16640x16x4, .f32⟩
  | .hbm, ⟨92, _⟩ => ⟨S16640x16x4, .f32⟩
  | .hbm, ⟨93, _⟩ => ⟨S16640x16x4, .f32⟩
  | .hbm, ⟨94, _⟩ => ⟨S16640x16x4, .f32⟩
  | .hbm, ⟨95, _⟩ => ⟨S16640x16x4, .f32⟩
  | .hbm, ⟨96, _⟩ => ⟨S16640x16x4, .f32⟩
  | .hbm, ⟨97, _⟩ => ⟨S16640x16x4, .f32⟩
  | .hbm, ⟨98, _⟩ => ⟨S16640x16x1x4, .f32⟩
  | .hbm, ⟨99, _⟩ => ⟨S16640x16x1x4, .f32⟩
  | .hbm, ⟨100, _⟩ => ⟨S16640x16x2x4, .f32⟩
  | .hbm, ⟨101, _⟩ => ⟨S16640x1024, .f32⟩
  | .hbm, ⟨102, _⟩ => ⟨S16640x1024, .f32⟩
  | .hbm, ⟨103, _⟩ => ⟨S16640x1024, .bf16⟩
  | .hbm, ⟨104, _⟩ => ⟨S16640x1024, .f32⟩
  | .hbm, ⟨105, _⟩ => ⟨S16640x128, .f32⟩
  | _, _ => ⟨S16640x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_2 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_3 : Ref sig .tc := ⟨.hbm, 45, rfl⟩
abbrev main_v36 : Ref sig .tc := ⟨.hbm, 46, rfl⟩
abbrev main_v37 : Ref sig .tc := ⟨.hbm, 47, rfl⟩
abbrev main_cst_4 : Ref sig .tc := ⟨.hbm, 48, rfl⟩
abbrev main_v38 : Ref sig .tc := ⟨.hbm, 49, rfl⟩
abbrev main_v39 : Ref sig .tc := ⟨.hbm, 50, rfl⟩
abbrev main_cst_5 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_6 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_c : Ref sig .tc := ⟨.hbm, 74, rfl⟩
abbrev main_call0_v0 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_call1_v0 : Ref sig .tc := ⟨.hbm, 82, rfl⟩
abbrev main_call1_call0_cst : Ref sig .tc := ⟨.hbm, 83, rfl⟩
abbrev main_call1_call0_v0 : Ref sig .tc := ⟨.hbm, 84, rfl⟩
abbrev main_call1_call0_v1 : Ref sig .tc := ⟨.hbm, 85, rfl⟩
abbrev main_call1_call0_v2 : Ref sig .tc := ⟨.hbm, 86, rfl⟩
abbrev main_call1_call0_v3 : Ref sig .tc := ⟨.hbm, 87, rfl⟩
abbrev main_call1_call0_v4 : Ref sig .tc := ⟨.hbm, 88, rfl⟩
abbrev main_call1_call0_v5 : Ref sig .tc := ⟨.hbm, 89, rfl⟩
abbrev main_call1_call0_v6 : Ref sig .tc := ⟨.hbm, 90, rfl⟩
abbrev main_call1_call0_v7 : Ref sig .tc := ⟨.hbm, 91, rfl⟩
abbrev main_call1_call0_v8 : Ref sig .tc := ⟨.hbm, 92, rfl⟩
abbrev main_call1_call0_v9 : Ref sig .tc := ⟨.hbm, 93, rfl⟩
abbrev main_call1_call0_v10 : Ref sig .tc := ⟨.hbm, 94, rfl⟩
abbrev main_call1_call0_v11 : Ref sig .tc := ⟨.hbm, 95, rfl⟩
abbrev main_call1_v1 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩

abbrev nD : Nat := 1
abbrev τ : Topo := Topo.v7x

variable {F : FTy → Type} [FloatOps F]
-- ==== Kernel7.lean ====
abbrev S1024x128x128 : Shape := ⟨3, ![1024, 128, 128]⟩
abbrev S16384x1024 : Shape := ⟨2, ![16384, 1024]⟩
abbrev S8x6144 : Shape := ⟨2, ![8, 6144]⟩
abbrev S1024x1024 : Shape := ⟨2, ![1024, 1024]⟩
abbrev S1024x8x128 : Shape := ⟨3, ![1024, 8, 128]⟩
abbrev S8192x128 : Shape := ⟨2, ![8192, 128]⟩
abbrev S1x6144 : Shape := ⟨2, ![1, 6144]⟩
abbrev S1x1024 : Shape := ⟨2, ![1, 1024]⟩
abbrev S1x8x128 : Shape := ⟨3, ![1, 8, 128]⟩
abbrev S8x128 : Shape := ⟨2, ![8, 128]⟩
abbrev S1024x128 : Shape := ⟨2, ![1024, 128]⟩
abbrev S128x1024 : Shape := ⟨2, ![128, 1024]⟩

abbrev nBuf : Space → Nat
  | .hbm => 6
  | .vmem => 9
  | .smem => 0
  | _ => 0

abbrev bufTy : (tb : Table) → Fin (tcTables nBuf tb) → BufTy
  | .hbm, ⟨0, _⟩ => ⟨S1024x128x128, .f32⟩
  | .hbm, ⟨1, _⟩ => ⟨S16384x1024, .f32⟩
  | .hbm, ⟨2, _⟩ => ⟨S8x6144, .f32⟩
  | .hbm, ⟨3, _⟩ => ⟨S1024x1024, .f32⟩
  | .hbm, ⟨4, _⟩ => ⟨S1024x1024, .bf16⟩
  | .hbm, ⟨5, _⟩ => ⟨S16384x1024, .f32⟩
  | .local _ .vmem, ⟨0, _⟩ => ⟨S1024x8x128, .f32⟩
  | .local _ .vmem, ⟨1, _⟩ => ⟨S1024x8x128, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S8x6144, .f32⟩
  | .local _ .vmem, ⟨6, _⟩ => ⟨S1024x1024, .f32⟩
  | .local _ .vmem, ⟨7, _⟩ => ⟨S1024x1024, .f32⟩
  | .local _ .vmem, ⟨8, _⟩ => ⟨S8192x128, .f32⟩
  | _, _ => ⟨S1024x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def k0_off1 : Fin 2 → Nat :=
  let v_false : BitVec 1 := 0#1
  let c0_i32 : BitVec 32 := 0#32
  let c1_i32 : BitVec 32 := 1#32
  let v0 : BitVec 32 := Scalar.select v_false c0_i32 c1_i32
  let v1 : Index := Scalar.indexCast v0
  let c0 : Index := 0#32
  ![v1.toNat, 0]
@[reducible] def k0_t1_loop : Scf.Loop 32 :=
  let c0_i32_0 : BitVec 32 := 0#32
  let c1024_i32 : BitVec 32 := 1024#32
  let v4 : BitVec 32 := Scalar.addi c0_i32_0 c1024_i32
  let c1_i32_1 : BitVec 32 := 1#32
  ⟨c0_i32_0, v4, c1_i32_1⟩
def k0_off2 (k0_t1 : Fin k0_t1_loop.trips) : Fin 3 → Nat :=
  let c0_i32_0 : BitVec 32 := 0#32
  let c1_i32_1 : BitVec 32 := 1#32
  let arg7 : BitVec 32 := Scf.iv c0_i32_0 c1_i32_1 k0_t1
  let v85 : Index := Scalar.indexCast arg7
  let c0_60 : Index := 0#32
  let c0_61 : Index := 0#32
  ![v85.toNat, 0, 0]
def k0_off3 (k0_t1 : Fin k0_t1_loop.trips) : Fin 2 → Nat :=
  let c0_i32_0 : BitVec 32 := 0#32
  let c1_i32_1 : BitVec 32 := 1#32
  let arg7 : BitVec 32 := Scf.iv c0_i32_0 c1_i32_1 k0_t1
  let v88 : Index := Scalar.indexCast arg7
  let c0_62 : Index := 0#32
  ![v88.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference7Ideal.lean ====
abbrev S1024x128x128 : Shape := ⟨3, ![1024, 128, 128]⟩
abbrev S16384x1024 : Shape := ⟨2, ![16384, 1024]⟩
abbrev S8x6144 : Shape := ⟨2, ![8, 6144]⟩
abbrev S1024x1024 : Shape := ⟨2, ![1024, 1024]⟩
abbrev S1x6144 : Shape := ⟨2, ![1, 6144]⟩
abbrev S1x1024 : Shape := ⟨2, ![1, 1024]⟩
abbrev S1024x16384 : Shape := ⟨2, ![1024, 16384]⟩

abbrev nBuf : Space → Nat
  | .hbm => 17
  | .vmem => 0
  | .smem => 0
  | _ => 0

abbrev bufTy : (tb : Table) → Fin (tcTables nBuf tb) → BufTy
  | .hbm, ⟨0, _⟩ => ⟨S1024x128x128, .f32⟩
  | .hbm, ⟨1, _⟩ => ⟨S16384x1024, .f32⟩
  | .hbm, ⟨2, _⟩ => ⟨S8x6144, .f32⟩
  | .hbm, ⟨3, _⟩ => ⟨S1024x1024, .f32⟩
  | .hbm, ⟨4, _⟩ => ⟨S1x6144, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1024x16384, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S16384x1024, .f32⟩
  | _, _ => ⟨S1024x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== Kernel8.lean ====
abbrev S16384x1024 : Shape := ⟨2, ![16384, 1024]⟩
abbrev S8x6144 : Shape := ⟨2, ![8, 6144]⟩
abbrev S1024 : Shape := ⟨1, ![1024]⟩
abbrev S1024x1024 : Shape := ⟨2, ![1024, 1024]⟩
abbrev S512x256 : Shape := ⟨2, ![512, 256]⟩
abbrev S1x1024 : Shape := ⟨2, ![1, 1024]⟩
abbrev S1024x128x128 : Shape := ⟨3, ![1024, 128, 128]⟩
abbrev S1024x8x128 : Shape := ⟨3, ![1024, 8, 128]⟩
abbrev S8192x128 : Shape := ⟨2, ![8192, 128]⟩
abbrev S1x6144 : Shape := ⟨2, ![1, 6144]⟩
abbrev S256x1024 : Shape := ⟨2, ![256, 1024]⟩
abbrev S256 : Shape := ⟨1, ![256]⟩
abbrev S256x1 : Shape := ⟨2, ![256, 1]⟩
abbrev S1024x256 : Shape := ⟨2, ![1024, 256]⟩
abbrev S256x256 : Shape := ⟨2, ![256, 256]⟩
abbrev S256x128 : Shape := ⟨2, ![256, 128]⟩
abbrev S8x128 : Shape := ⟨2, ![8, 128]⟩
abbrev S1x8x128 : Shape := ⟨3, ![1, 8, 128]⟩

abbrev nBuf : Space → Nat
  | .hbm => 10
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S8x6144, .f32⟩
  | .hbm, ⟨2, _⟩ => ⟨S1024, .f32⟩
  | .hbm, ⟨3, _⟩ => ⟨S1024x1024, .f32⟩
  | .hbm, ⟨4, _⟩ => ⟨S512x256, .f32⟩
  | .hbm, ⟨5, _⟩ => ⟨S1x1024, .f32⟩
  | .hbm, ⟨6, _⟩ => ⟨S1024x1024, .f32⟩
  | .hbm, ⟨7, _⟩ => ⟨S1024x1024, .bf16⟩
  | .hbm, ⟨8, _⟩ => ⟨S1024x128x128, .f32⟩
  | .hbm, ⟨9, _⟩ => ⟨S1024x128x128, .f32⟩
  | .local _ .vmem, ⟨0, _⟩ => ⟨S1024x1024, .f32⟩
  | .local _ .vmem, ⟨1, _⟩ => ⟨S1024x1024, .f32⟩
  | .local _ .vmem, ⟨2, _⟩ => ⟨S8x6144, .f32⟩
  | .local _ .vmem, ⟨3, _⟩ => ⟨S1x1024, .f32⟩
  | .local _ .vmem, ⟨4, _⟩ => ⟨S1024x1024, .bf16⟩
  | .local _ .vmem, ⟨5, _⟩ => ⟨S512x256, .f32⟩
  | .local _ .vmem, ⟨6, _⟩ => ⟨S1024x8x128, .f32⟩
  | .local _ .vmem, ⟨7, _⟩ => ⟨S1024x8x128, .f32⟩
  | .local _ .vmem, ⟨8, _⟩ => ⟨S1024x8x128, .f32⟩
  | .local _ .vmem, ⟨9, _⟩ => ⟨S1024x8x128, .f32⟩
  | .local _ .vmem, ⟨10, _⟩ => ⟨S8192x128, .f32⟩
  | .local _ .vmem, ⟨11, _⟩ => ⟨S8192x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def k0_off1 : Fin 2 → Nat :=
  let v_false : BitVec 1 := 0#1
  let c0_i32 : BitVec 32 := 0#32
  let c1_i32 : BitVec 32 := 1#32
  let v0 : BitVec 32 := Scalar.select v_false c0_i32 c1_i32
  let v1 : Index := Scalar.indexCast v0
  let c0 : Index := 0#32
  ![v1.toNat, 0]
@[reducible] def k0_t1_loop : Scf.Loop 32 :=
  let c0_i32_2 : BitVec 32 := 0#32
  let c4_i32 : BitVec 32 := 4#32
  let v7 : BitVec 32 := Scalar.addi c0_i32_2 c4_i32
  let c1_i32_3 : BitVec 32 := 1#32
  ⟨c0_i32_2, v7, c1_i32_3⟩
def k0_mult1 (k0_t1 : Fin k0_t1_loop.trips) : BitVec 32 :=
  let c0_i32_2 : BitVec 32 := 0#32
  let c1_i32_3 : BitVec 32 := 1#32
  let arg10 : BitVec 32 := Scf.iv c0_i32_2 c1_i32_3 k0_t1
  let c256_i32 : BitVec 32 := 256#32
  let v9 : BitVec 32 := Scalar.muli arg10 c256_i32
  v9
def k0_off2 (k0_t1 : Fin k0_t1_loop.trips) : Fin 2 → Nat :=
  let c0_i32_2 : BitVec 32 := 0#32
  let c1_i32_3 : BitVec 32 := 1#32
  let arg10 : BitVec 32 := Scf.iv c0_i32_2 c1_i32_3 k0_t1
  let c256_i32 : BitVec 32 := 256#32
  let v9 : BitVec 32 := Scalar.muli arg10 c256_i32
  let v10 : BitVec 32 := v9
  let v11 : Index := Scalar.indexCast v10
  let c0_8 : Index := 0#32
  ![v11.toNat, 0]
def k0_mult2 (k0_t1 : Fin k0_t1_loop.trips) : BitVec 32 :=
  let c0_i32_2 : BitVec 32 := 0#32
  let c1_i32_3 : BitVec 32 := 1#32
  let arg10 : BitVec 32 := Scf.iv c0_i32_2 c1_i32_3 k0_t1
  let c2_i32 : BitVec 32 := 2#32
  let v40 : BitVec 32 := Scalar.muli arg10 c2_i32
  let c0_i32_18 : BitVec 32 := 0#32
  let v41 : BitVec 32 := Scalar.addi v40 c0_i32_18
  let c1024_i32_19 : BitVec 32 := 1024#32
  let v42 : BitVec 32 := Scalar.muli v41 c1024_i32_19
  let c0_i32_20 : BitVec 32 := 0#32
  let v43 : BitVec 32 := Scalar.addi v42 c0_i32_20
  v43
def k0_off3 (k0_t1 : Fin k0_t1_loop.trips) (c0_i32_18 : BitVec 32) (c0_i32_20 : BitVec 32) : Fin 2 → Nat :=
  let c0_i32_2 : BitVec 32 := 0#32
  let c1_i32_3 : BitVec 32 := 1#32
  let arg10 : BitVec 32 := Scf.iv c0_i32_2 c1_i32_3 k0_t1
  let c2_i32 : BitVec 32 := 2#32
  let v40 : BitVec 32 := Scalar.muli arg10 c2_i32
  let v41 : BitVec 32 := Scalar.addi v40 c0_i32_18
  let c1024_i32_19 : BitVec 32 := 1024#32
  let v42 : BitVec 32 := Scalar.muli v41 c1024_i32_19
  let v43 : BitVec 32 := Scalar.addi v42 c0_i32_20
  let v44 : BitVec 32 := v43
  let v46 : Index := Scalar.indexCast v44
  let c0_21 : Index := 0#32
  ![v46.toNat, 0]
def k0_mult3 (k0_t1 : Fin k0_t1_loop.trips) : BitVec 32 :=
  let c0_i32_2 : BitVec 32 := 0#32
  let c1_i32_3 : BitVec 32 := 1#32
  let arg10 : BitVec 32 := Scf.iv c0_i32_2 c1_i32_3 k0_t1
  let c2_i32_23 : BitVec 32 := 2#32
  let v55 : BitVec 32 := Scalar.muli arg10 c2_i32_23
  let c1_i32_24 : BitVec 32 := 1#32
  let v56 : BitVec 32 := Scalar.addi v55 c1_i32_24
  let c1024_i32_25 : BitVec 32 := 1024#32
  let v57 : BitVec 32 := Scalar.muli v56 c1024_i32_25
  let c0_i32_26 : BitVec 32 := 0#32
  let v58 : BitVec 32 := Scalar.addi v57 c0_i32_26
  v58
def k0_mult4 (k0_t1 : Fin k0_t1_loop.trips) : BitVec 32 :=
  let c0_i32_2 : BitVec 32 := 0#32
  let c1_i32_3 : BitVec 32 := 1#32
  let arg10 : BitVec 32 := Scf.iv c0_i32_2 c1_i32_3 k0_t1
  let c2_i32_30 : BitVec 32 := 2#32
  let v72 : BitVec 32 := Scalar.muli arg10 c2_i32_30
  let c0_i32_31 : BitVec 32 := 0#32
  let v73 : BitVec 32 := Scalar.addi v72 c0_i32_31
  let c1024_i32_32 : BitVec 32 := 1024#32
  let v74 : BitVec 32 := Scalar.muli v73 c1024_i32_32
  let c256_i32_33 : BitVec 32 := 256#32
  let v75 : BitVec 32 := Scalar.addi v74 c256_i32_33
  v75
def k0_mult5 (k0_t1 : Fin k0_t1_loop.trips) : BitVec 32 :=
  let c0_i32_2 : BitVec 32 := 0#32
  let c1_i32_3 : BitVec 32 := 1#32
  let arg10 : BitVec 32 := Scf.iv c0_i32_2 c1_i32_3 k0_t1
  let c2_i32_36 : BitVec 32 := 2#32
  let v87 : BitVec 32 := Scalar.muli arg10 c2_i32_36
  let c1_i32_37 : BitVec 32 := 1#32
  let v88 : BitVec 32 := Scalar.addi v87 c1_i32_37
  let c1024_i32_38 : BitVec 32 := 1024#32
  let v89 : BitVec 32 := Scalar.muli v88 c1024_i32_38
  let c256_i32_39 : BitVec 32 := 256#32
  let v90 : BitVec 32 := Scalar.addi v89 c256_i32_39
  v90
def k0_mult6 (k0_t1 : Fin k0_t1_loop.trips) : BitVec 32 :=
  let c0_i32_2 : BitVec 32 := 0#32
  let c1_i32_3 : BitVec 32 := 1#32
  let arg10 : BitVec 32 := Scf.iv c0_i32_2 c1_i32_3 k0_t1
  let c2_i32_43 : BitVec 32 := 2#32
  let v104 : BitVec 32 := Scalar.muli arg10 c2_i32_43
  let c0_i32_44 : BitVec 32 := 0#32
  let v105 : BitVec 32 := Scalar.addi v104 c0_i32_44
  let c1024_i32_45 : BitVec 32 := 1024#32
  let v106 : BitVec 32 := Scalar.muli v105 c1024_i32_45
  let c512_i32 : BitVec 32 := 512#32
  let v107 : BitVec 32 := Scalar.addi v106 c512_i32
  v107
def k0_mult7 (k0_t1 : Fin k0_t1_loop.trips) : BitVec 32 :=
  let c0_i32_2 : BitVec 32 := 0#32
  let c1_i32_3 : BitVec 32 := 1#32
  let arg10 : BitVec 32 := Scf.iv c0_i32_2 c1_i32_3 k0_t1
  let c2_i32_48 : BitVec 32 := 2#32
  let v119 : BitVec 32 := Scalar.muli arg10 c2_i32_48
  let c1_i32_49 : BitVec 32 := 1#32
  let v120 : BitVec 32 := Scalar.addi v119 c1_i32_49
  let c1024_i32_50 : BitVec 32 := 1024#32
  let v121 : BitVec 32 := Scalar.muli v120 c1024_i32_50
  let c512_i32_51 : BitVec 32 := 512#32
  let v122 : BitVec 32 := Scalar.addi v121 c512_i32_51
  v122
def k0_mult8 (k0_t1 : Fin k0_t1_loop.trips) : BitVec 32 :=
  let c0_i32_2 : BitVec 32 := 0#32
  let c1_i32_3 : BitVec 32 := 1#32
  let arg10 : BitVec 32 := Scf.iv c0_i32_2 c1_i32_3 k0_t1
  let c2_i32_55 : BitVec 32 := 2#32
  let v136 : BitVec 32 := Scalar.muli arg10 c2_i32_55
  let c0_i32_56 : BitVec 32 := 0#32
  let v137 : BitVec 32 := Scalar.addi v136 c0_i32_56
  let c1024_i32_57 : BitVec 32 := 1024#32
  let v138 : BitVec 32 := Scalar.muli v137 c1024_i32_57
  let c768_i32 : BitVec 32 := 768#32
  let v139 : BitVec 32 := Scalar.addi v138 c768_i32
  v139
def k0_mult9 (k0_t1 : Fin k0_t1_loop.trips) : BitVec 32 :=
  let c0_i32_2 : BitVec 32 := 0#32
  let c1_i32_3 : BitVec 32 := 1#32
  let arg10 : BitVec 32 := Scf.iv c0_i32_2 c1_i32_3 k0_t1
  let c2_i32_60 : BitVec 32 := 2#32
  let v151 : BitVec 32 := Scalar.muli arg10 c2_i32_60
  let c1_i32_61 : BitVec 32 := 1#32
  let v152 : BitVec 32 := Scalar.addi v151 c1_i32_61
  let c1024_i32_62 : BitVec 32 := 1024#32
  let v153 : BitVec 32 := Scalar.muli v152 c1024_i32_62
  let c768_i32_63 : BitVec 32 := 768#32
  let v154 : BitVec 32 := Scalar.addi v153 c768_i32_63
  v154
@[reducible] def k0_t2_loop : Scf.Loop 32 :=
  let c0_i32_5 : BitVec 32 := 0#32
  let c1024_i32 : BitVec 32 := 1024#32
  let v8 : BitVec 32 := Scalar.addi c0_i32_5 c1024_i32
  let c1_i32_6 : BitVec 32 := 1#32
  ⟨c0_i32_5, v8, c1_i32_6⟩
def k0_off4 (k0_t2 : Fin k0_t2_loop.trips) : Fin 2 → Nat :=
  let c0_i32_5 : BitVec 32 := 0#32
  let c1_i32_6 : BitVec 32 := 1#32
  let arg10 : BitVec 32 := Scf.iv c0_i32_5 c1_i32_6 k0_t2
  let v9 : Index := Scalar.indexCast arg10
  let c0_8 : Index := 0#32
  ![v9.toNat, 0]
def k0_off5 (k0_t2 : Fin k0_t2_loop.trips) : Fin 3 → Nat :=
  let c0_i32_5 : BitVec 32 := 0#32
  let c1_i32_6 : BitVec 32 := 1#32
  let arg10 : BitVec 32 := Scf.iv c0_i32_5 c1_i32_6 k0_t2
  let v11 : Index := Scalar.indexCast arg10
  let c0_9 : Index := 0#32
  let c0_10 : Index := 0#32
  ![v11.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference8Ideal.lean ====
abbrev S16384x1024 : Shape := ⟨2, ![16384, 1024]⟩
abbrev S8x6144 : Shape := ⟨2, ![8, 6144]⟩
abbrev S1024 : Shape := ⟨1, ![1024]⟩
abbrev S1024x1024 : Shape := ⟨2, ![1024, 1024]⟩
abbrev S512x256 : Shape := ⟨2, ![512, 256]⟩
abbrev S1x6144 : Shape := ⟨2, ![1, 6144]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S16384x4x256 : Shape := ⟨3, ![16384, 4, 256]⟩
abbrev S256x512 : Shape := ⟨2, ![256, 512]⟩
abbrev S16384x4x512 : Shape := ⟨3, ![16384, 4, 512]⟩
abbrev S1024x16384 : Shape := ⟨2, ![1024, 16384]⟩
abbrev S1024x128x128 : Shape := ⟨3, ![1024, 128, 128]⟩

abbrev nBuf : Space → Nat
  | .hbm => 47
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S8x6144, .f32⟩
  | .hbm, ⟨2, _⟩ => ⟨S1024, .f32⟩
  | .hbm, ⟨3, _⟩ => ⟨S1024x1024, .f32⟩
  | .hbm, ⟨4, _⟩ => ⟨S512x256, .f32⟩
  | .hbm, ⟨5, _⟩ => ⟨S1x6144, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S16384x1024, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1, .f32⟩
  | .hbm, ⟨23, _⟩ => ⟨S16384x1024, .f32⟩
  | .hbm, ⟨24, _⟩ => ⟨S16384x1024, .f32⟩
  | .hbm, ⟨25, _⟩ => ⟨S1x1024, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S1x1024, .f32⟩
  | .hbm, ⟨30, _⟩ => ⟨S1x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S16384x4x256, .f32⟩
  | .hbm, ⟨37, _⟩ => ⟨S256x512, .f32⟩
  | .hbm, ⟨38, _⟩ => ⟨S16384x4x512, .f32⟩
  | .hbm, ⟨39, _⟩ => ⟨S16384x4x256, .f32⟩
  | .hbm, ⟨40, _⟩ => ⟨S16384x1024, .f32⟩
  | .hbm, ⟨41, _⟩ => ⟨S1024x16384, .f32⟩
  | .hbm, ⟨42, _⟩ => ⟨S1024x128x128, .f32⟩
  | .hbm, ⟨43, _⟩ => ⟨S16384x4x256, .f32⟩
  | .hbm, ⟨44, _⟩ => ⟨S16384x1024, .f32⟩
  | .hbm, ⟨45, _⟩ => ⟨S1024x16384, .f32⟩
  | .hbm, ⟨46, _⟩ => ⟨S1024x128x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩

abbrev nD : Nat := 1
abbrev τ : Topo := Topo.v7x

variable {F : FTy → Type} [FloatOps F]
-- ==== Kernel9.lean ====
abbrev S1x1024 : Shape := ⟨2, ![1, 1024]⟩
abbrev S1024 : Shape := ⟨1, ![1024]⟩
abbrev S4x1024x6144 : Shape := ⟨3, ![4, 1024, 6144]⟩
abbrev S4x6144 : Shape := ⟨2, ![4, 6144]⟩
abbrev S_ : Shape := ⟨0, ![]⟩
abbrev S6x1024 : Shape := ⟨2, ![6, 1024]⟩
abbrev S8x1024 : Shape := ⟨2, ![8, 1024]⟩
abbrev S4x1x6144 : Shape := ⟨3, ![4, 1, 6144]⟩
abbrev S4x8x6144 : Shape := ⟨3, ![4, 8, 6144]⟩
abbrev S1x1024x1024 : Shape := ⟨3, ![1, 1024, 1024]⟩
abbrev S1x1x1024 : Shape := ⟨3, ![1, 1, 1024]⟩
abbrev S1x8x1024 : Shape := ⟨3, ![1, 8, 1024]⟩
abbrev S1024x1024 : Shape := ⟨2, ![1024, 1024]⟩

abbrev nBuf : Space → Nat
  | .hbm => 10
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1024, .f32⟩
  | .hbm, ⟨2, _⟩ => ⟨S4x1024x6144, .f32⟩
  | .hbm, ⟨3, _⟩ => ⟨S4x6144, .f32⟩
  | .hbm, ⟨4, _⟩ => ⟨S1x1024, .f32⟩
  | .hbm, ⟨5, _⟩ => ⟨S_, .f32⟩
  | .hbm, ⟨6, _⟩ => ⟨S6x1024, .f32⟩
  | .hbm, ⟨7, _⟩ => ⟨S8x1024, .f32⟩
  | .hbm, ⟨8, _⟩ => ⟨S4x1x6144, .f32⟩
  | .hbm, ⟨9, _⟩ => ⟨S4x8x6144, .f32⟩
  | .local _ .vmem, ⟨0, _⟩ => ⟨S8x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference9Ideal.lean ====
abbrev S1x1024 : Shape := ⟨2, ![1, 1024]⟩
abbrev S1024 : Shape := ⟨1, ![1024]⟩
abbrev S4x1024x6144 : Shape := ⟨3, ![4, 1024, 6144]⟩
abbrev S4x6144 : Shape := ⟨2, ![4, 6144]⟩
abbrev S_ : Shape := ⟨0, ![]⟩
abbrev S6x1024 : Shape := ⟨2, ![6, 1024]⟩
abbrev S8x1024 : Shape := ⟨2, ![8, 1024]⟩
abbrev S4x6144x8 : Shape := ⟨3, ![4, 6144, 8]⟩
abbrev S4x8x6144 : Shape := ⟨3, ![4, 8, 6144]⟩
abbrev S4x1x6144 : Shape := ⟨3, ![4, 1, 6144]⟩

abbrev nBuf : Space → Nat
  | .hbm => 31
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1024, .f32⟩
  | .hbm, ⟨2, _⟩ => ⟨S4x1024x6144, .f32⟩
  | .hbm, ⟨3, _⟩ => ⟨S4x6144, .f32⟩
  | .hbm, ⟨4, _⟩ => ⟨S1x1024, .f32⟩
  | .hbm, ⟨5, _⟩ => ⟨S1x1024, .f32⟩
  | .hbm, ⟨6, _⟩ => ⟨S_, .f32⟩
  | .hbm, ⟨7, _⟩ => ⟨S1x1024, .f32⟩
  | .hbm, ⟨8, _⟩ => ⟨S1x1024, .f32⟩
  | .hbm, ⟨9, _⟩ => ⟨S_, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1024, .f32⟩
  | .hbm, ⟨14, _⟩ => ⟨S1024, .f32⟩
  | .hbm, ⟨15, _⟩ => ⟨S_, .f32⟩
  | .hbm, ⟨16, _⟩ => ⟨S1024, .f32⟩
  | .hbm, ⟨17, _⟩ => ⟨S1024, .f32⟩
  | .hbm, ⟨18, _⟩ => ⟨S_, .f32⟩
  | .hbm, ⟨19, _⟩ => ⟨S1024, .f32⟩
  | .hbm, ⟨20, _⟩ => ⟨S1024, .f32⟩
  | .hbm, ⟨21, _⟩ => ⟨S1024, .f32⟩
  | .hbm, ⟨22, _⟩ => ⟨S1x1024, .f32⟩
  | .hbm, ⟨23, _⟩ => ⟨S_, .f32⟩
  | .hbm, ⟨24, _⟩ => ⟨S6x1024, .f32⟩
  | .hbm, ⟨25, _⟩ => ⟨S8x1024, .f32⟩
  | .hbm, ⟨26, _⟩ => ⟨S4x6144x8, .f32⟩
  | .hbm, ⟨27, _⟩ => ⟨S4x8x6144, .f32⟩
  | .hbm, ⟨28, _⟩ => ⟨S4x1x6144, .f32⟩
  | .hbm, ⟨29, _⟩ => ⟨S4x8x6144, .f32⟩
  | .hbm, ⟨30, _⟩ => ⟨S4x8x6144, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_call1_v0 : Ref sig .tc := ⟨.hbm, 13, rfl⟩
abbrev main_call1_v1 : Ref sig .tc := ⟨.hbm, 14, rfl⟩
abbrev main_call1_cst : Ref sig .tc := ⟨.hbm, 15, rfl⟩
abbrev main_call1_v2 : Ref sig .tc := ⟨.hbm, 16, rfl⟩
abbrev main_call1_v3 : Ref sig .tc := ⟨.hbm, 17, rfl⟩
abbrev main_call1_cst_0 : Ref sig .tc := ⟨.hbm, 18, rfl⟩
abbrev main_call1_v4 : Ref sig .tc := ⟨.hbm, 19, rfl⟩
abbrev main_call1_v5 : Ref sig .tc := ⟨.hbm, 20, rfl⟩
abbrev main_v1 : Ref sig .tc := ⟨.hbm, 21, rfl⟩
abbrev main_v2 : Ref sig .tc := ⟨.hbm, 22, rfl⟩
abbrev main_cst : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩

abbrev nD : Nat := 1
abbrev τ : Topo := Topo.v7x

variable {F : FTy → Type} [FloatOps F]
-- ==== Kernel10.lean ====
abbrev S16384x1024 : Shape := ⟨2, ![16384, 1024]⟩
abbrev S256x1024 : Shape := ⟨2, ![256, 1024]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S64 : Shape := ⟨1, ![64]⟩
abbrev S64x1 : Shape := ⟨2, ![64, 1]⟩
abbrev S64x256 : Shape := ⟨2, ![64, 256]⟩
abbrev S256x512 : Shape := ⟨2, ![256, 512]⟩
abbrev S64x512 : Shape := ⟨2, ![64, 512]⟩
abbrev S16640x1024 : Shape := ⟨2, ![16640, 1024]⟩
abbrev S1x512 : Shape := ⟨2, ![1, 512]⟩

abbrev nBuf : Space → Nat
  | .hbm => 29
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S256x1024, .f32⟩
  | .hbm, ⟨2, _⟩ => ⟨S256, .f32⟩
  | .hbm, ⟨3, _⟩ => ⟨S_, .f32⟩
  | .hbm, ⟨4, _⟩ => ⟨S256, .f32⟩
  | .hbm, ⟨5, _⟩ => ⟨S256, .f32⟩
  | .hbm, ⟨6, _⟩ => ⟨S_, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S256x1, .f32⟩
  | .hbm, ⟨12, _⟩ => ⟨S1x256, .f32⟩
  | .hbm, ⟨13, _⟩ => ⟨S256x256, .f32⟩
  | .hbm, ⟨14, _⟩ => ⟨S256x256, .f32⟩
  | .hbm, ⟨15, _⟩ => ⟨S256x256, .f32⟩
  | .hbm, ⟨16, _⟩ => ⟨S64, .f32⟩
  | .hbm, ⟨17, _⟩ => ⟨S64x1, .f32⟩
  | .hbm, ⟨18, _⟩ => ⟨S1x256, .f32⟩
  | .hbm, ⟨19, _⟩ => ⟨S64x256, .f32⟩
  | .hbm, ⟨20, _⟩ => ⟨S64x256, .f32⟩
  | .hbm, ⟨21, _⟩ => ⟨S64x256, .f32⟩
  | .hbm, ⟨22, _⟩ => ⟨S256x256, .f32⟩
  | .hbm, ⟨23, _⟩ => ⟨S256x256, .f32⟩
  | .hbm, ⟨24, _⟩ => ⟨S256x512, .f32⟩
  | .hbm, ⟨25, _⟩ => ⟨S64x256, .f32⟩
  | .hbm, ⟨26, _⟩ => ⟨S64x256, .f32⟩
  | .hbm, ⟨27, _⟩ => ⟨S64x512, .f32⟩
  | .hbm, ⟨28, _⟩ => ⟨S16640x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x512, .f32⟩
  | .local _ .vmem, ⟨4, _⟩ => ⟨S64x512, .f32⟩
  | .local _ .vmem, ⟨5, _⟩ => ⟨S256x1024, .f32⟩
  | .local _ .vmem, ⟨6, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![65], ![false]⟩

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def k0_off1 (i : grid0.Coords) (c0_i32_3 : BitVec 32) : Fin 2 → Nat :=
  let arg0 : BitVec 32 := BitVec.ofNat 32 (i 0).val
  let c1_i32 : BitVec 32 := 1#32
  let v6 : BitVec 32 := Scalar.subi arg0 c1_i32
  let c4_i32 : BitVec 32 := 4#32
  let v7 : BitVec 32 := Scalar.muli v6 c4_i32
  let v8 : BitVec 32 := Scalar.addi v7 c0_i32_3
  let v9 : Index := Scalar.indexCast v8
  let c0 : Index := 0#32
  ![v9.toNat, 0]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference10Ideal.lean ====
abbrev S16384x1024 : Shape := ⟨2, ![16384, 1024]⟩
abbrev S256x1024 : Shape := ⟨2, ![256, 1024]⟩
abbrev S256 : Shape := ⟨1, ![256]⟩
abbrev S256x64 : Shape := ⟨2, ![256, 64]⟩
abbrev S16384 : Shape := ⟨1, ![16384]⟩
abbrev S64 : Shape := ⟨1, ![64]⟩
abbrev S1x64 : Shape := ⟨2, ![1, 64]⟩
abbrev S_ : Shape := ⟨0, ![]⟩
abbrev S16384x1 : Shape := ⟨2, ![16384, 1]⟩
abbrev S1x256 : Shape := ⟨2, ![1, 256]⟩
abbrev S16384x256 : Shape := ⟨2, ![16384, 256]⟩
abbrev S16640x1024 : Shape := ⟨2, ![16640, 1024]⟩

abbrev nBuf : Space → Nat
  | .hbm => 34
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S256x1024, .f32⟩
  | .hbm, ⟨2, _⟩ => ⟨S256, .f32⟩
  | .hbm, ⟨3, _⟩ => ⟨S256x64, .f32⟩
  | .hbm, ⟨4, _⟩ => ⟨S16384, .f32⟩
  | .hbm, ⟨5, _⟩ => ⟨S64, .f32⟩
  | .hbm, ⟨6, _⟩ => ⟨S1x64, .f32⟩
  | .hbm, ⟨7, _⟩ => ⟨S256x64, .f32⟩
  | .hbm, ⟨8, _⟩ => ⟨S16384, .f32⟩
  | .hbm, ⟨9, _⟩ => ⟨S256, .f32⟩
  | .hbm, ⟨10, _⟩ => ⟨S_, .f32⟩
  | .hbm, ⟨11, _⟩ => ⟨S256, .f32⟩
  | .hbm, ⟨12, _⟩ => ⟨S256, .f32⟩
  | .hbm, ⟨13, _⟩ => ⟨S_, .f32⟩
  | .hbm, ⟨14, _⟩ => ⟨S256, .f32⟩
  | .hbm, ⟨15, _⟩ => ⟨S256, .f32⟩
  | .hbm, ⟨16, _⟩ => ⟨S256, .f32⟩
  | .hbm, ⟨17, _⟩ => ⟨S16384x1, .f32⟩
  | .hbm, ⟨18, _⟩ => ⟨S1x256, .f32⟩
  | .hbm, ⟨19, _⟩ => ⟨S16384x256, .f32⟩
  | .hbm, ⟨20, _⟩ => ⟨S16384x256, .f32⟩
  | .hbm, ⟨21, _⟩ => ⟨S16384x256, .f32⟩
  | .hbm, ⟨22, _⟩ => ⟨S16384x1, .f32⟩
  | .hbm, ⟨23, _⟩ => ⟨S1x256, .f32⟩
  | .hbm, ⟨24, _⟩ => ⟨S16384x256, .f32⟩
  | .hbm, ⟨25, _⟩ => ⟨S16384x256, .f32⟩
  | .hbm, ⟨26, _⟩ => ⟨S16384x256, .f32⟩
  | .hbm, ⟨27, _⟩ => ⟨S16384x256, .f32⟩
  | .hbm, ⟨28, _⟩ => ⟨S16384x256, .f32⟩
  | .hbm, ⟨29, _⟩ => ⟨S16384x256, .f32⟩
  | .hbm, ⟨30, _⟩ => ⟨S16384x256, .f32⟩
  | .hbm, ⟨31, _⟩ => ⟨S16384x1024, .f32⟩
  | .hbm, ⟨32, _⟩ => ⟨S16384x1024, .f32⟩
  | .hbm, ⟨33, _⟩ => ⟨S16640x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩

abbrev nD : Nat := 1
abbrev τ : Topo := Topo.v7x

variable {F : FTy → Type} [FloatOps F]
-- ==== Kernel11.lean ====
abbrev S32 : Shape := ⟨1, ![32]⟩
abbrev S65x1x256 : Shape := ⟨3, ![65, 1, 256]⟩
abbrev S8x256 : Shape := ⟨2, ![8, 256]⟩
abbrev S1 : Shape := ⟨1, ![1]⟩

abbrev nBuf : Space → Nat
  | .hbm => 7
  | .vmem => 7
  | .smem => 1
  | _ => 0

abbrev bufTy : (tb : Table) → Fin (tcTables nBuf tb) → BufTy
  | .hbm, ⟨0, _⟩ => ⟨S65x1x256, .i32⟩
  | .hbm, ⟨1, _⟩ => ⟨S65x1x256, .i32⟩
  | .hbm, ⟨2, _⟩ => ⟨S65x1x256, .i32⟩
  | .hbm, ⟨3, _⟩ => ⟨S65x1x256, .i32⟩
  | .hbm, ⟨4, _⟩ => ⟨S65x1x256, .i32⟩
  | .hbm, ⟨5, _⟩ => ⟨S65x1x256, .i32⟩
  | .hbm, ⟨6, _⟩ => ⟨S8x256, .i32⟩
  | .local _ .vmem, ⟨0, _⟩ => ⟨S65x1x256, .i32⟩
  | .local _ .vmem, ⟨1, _⟩ => ⟨S65x1x256, .i32⟩
  | .local _ .vmem, ⟨2, _⟩ => ⟨S65x1x256, .i32⟩
  | .local _ .vmem, ⟨3, _⟩ => ⟨S65x1x256, .i32⟩
  | .local _ .vmem, ⟨4, _⟩ => ⟨S65x1x256, .i32⟩
  | .local _ .vmem, ⟨5, _⟩ => ⟨S65x1x256, .i32⟩
  | .local _ .vmem, ⟨6, _⟩ => ⟨S8x256, .i32⟩
  | .local _ .smem, ⟨0, _⟩ => ⟨S32, .i32⟩
  | _, _ => ⟨S65x1x256, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S65x1x256 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S65x1x256 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S65x1x256 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S65x1x256 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S65x1x256 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S65x1x256 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x256 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference11Ideal.lean ====
abbrev S32 : Shape := ⟨1, ![32]⟩
abbrev S65x1x256 : Shape := ⟨3, ![65, 1, 256]⟩
abbrev S_ : Shape := ⟨0, ![]⟩
abbrev S65x1x256x1 : Shape := ⟨4, ![65, 1, 256, 1]⟩
abbrev S256 : Shape := ⟨1, ![256]⟩
abbrev S1x32 : Shape := ⟨2, ![1, 32]⟩
abbrev S256x1 : Shape := ⟨2, ![256, 1]⟩
abbrev S256x32 : Shape := ⟨2, ![256, 32]⟩
abbrev S224 : Shape := ⟨1, ![224]⟩
abbrev S1 : Shape := ⟨1, ![1]⟩
abbrev S1x256 : Shape := ⟨2, ![1, 256]⟩
abbrev S8x256 : Shape := ⟨2, ![8, 256]⟩

abbrev nBuf : Space → Nat
  | .hbm => 96
  | .vmem => 0
  | .smem => 0
  | _ => 0

abbrev bufTy : (tb : Table) → Fin (tcTables nBuf tb) → BufTy
  | .hbm, ⟨0, _⟩ => ⟨S32, .i32⟩
  | .hbm, ⟨1, _⟩ => ⟨S65x1x256, .i32⟩
  | .hbm, ⟨2, _⟩ => ⟨S65x1x256, .i32⟩
  | .hbm, ⟨3, _⟩ => ⟨S65x1x256, .i32⟩
  | .hbm, ⟨4, _⟩ => ⟨S65x1x256, .i32⟩
  | .hbm, ⟨5, _⟩ => ⟨S_, .i32⟩
  | .hbm, ⟨6, _⟩ => ⟨S32, .i32⟩
  | .hbm, ⟨7, _⟩ => ⟨S32, .i32⟩
  | .hbm, ⟨8, _⟩ => ⟨S_, .i32⟩
  | .hbm, ⟨9, _⟩ => ⟨S_, .i32⟩
  | .hbm, ⟨10, _⟩ => ⟨S32, .i32⟩
  | .hbm, ⟨11, _⟩ => ⟨S32, .i32⟩
  | .hbm, ⟨12, _⟩ => ⟨S32, .i32⟩
  | .hbm, ⟨13, _⟩ => ⟨S_, .i32⟩
  | .hbm, ⟨14, _⟩ => ⟨S32, .i32⟩
  | .hbm, ⟨15, _⟩ => ⟨S32, .i1⟩
  | .hbm, ⟨16, _⟩ => ⟨S32, .i32⟩
  | .hbm, ⟨17, _⟩ => ⟨S32, .i32⟩
  | .hbm, ⟨18, _⟩ => ⟨S_, .i32⟩
  | .hbm, ⟨19, _⟩ => ⟨S32, .i32⟩
  | .hbm, ⟨20, _⟩ => ⟨S32, .i1⟩
  | .hbm, ⟨21, _⟩ => ⟨S32, .i1⟩
  | .hbm, ⟨22, _⟩ => ⟨S_, .i32⟩
  | .hbm, ⟨23, _⟩ => ⟨S32, .i32⟩
  | .hbm, ⟨24, _⟩ => ⟨S32, .i32⟩
  | .hbm, ⟨25, _⟩ => ⟨S32, .i32⟩
  | .hbm, ⟨26, _⟩ => ⟨S_, .i32⟩
  | .hbm, ⟨27, _⟩ => ⟨S32, .i32⟩
  | .hbm, ⟨28, _⟩ => ⟨S32, .i32⟩
  | .hbm, ⟨29, _⟩ => ⟨S_, .i32⟩
  | .hbm, ⟨30, _⟩ => ⟨S_, .i32⟩
  | .hbm, ⟨31, _⟩ => ⟨S32, .i32⟩
  | .hbm, ⟨32, _⟩ => ⟨S32, .i32⟩
  | .hbm, ⟨33, _⟩ => ⟨S_, .i32⟩
  | .hbm, ⟨34, _⟩ => ⟨S65x1x256, .i32⟩
  | .hbm, ⟨35, _⟩ => ⟨S65x1x256, .i1⟩
  | .hbm, ⟨36, _⟩ => ⟨S_, .i32⟩
  | .hbm, ⟨37, _⟩ => ⟨S65x1x256, .i32⟩
  | .hbm, ⟨38, _⟩ => ⟨S65x1x256, .i32⟩
  | .hbm, ⟨39, _⟩ => ⟨S65x1x256, .i32⟩
  | .hbm, ⟨40, _⟩ => ⟨S65x1x256x1, .i32⟩
  | .hbm, ⟨41, _⟩ => ⟨S65x1x256, .i32⟩
  | .hbm, ⟨42, _⟩ => ⟨S65x1x256, .i32⟩
  | .hbm, ⟨43, _⟩ => ⟨S_, .i32⟩
  | .hbm, ⟨44, _⟩ => ⟨S65x1x256, .i32⟩
  | .hbm, ⟨45, _⟩ => ⟨S65x1x256, .i1⟩
  | .hbm, ⟨46, _⟩ => ⟨S_, .i32⟩
  | .hbm, ⟨47, _⟩ => ⟨S65x1x256, .i32⟩
  | .hbm, ⟨48, _⟩ => ⟨S65x1x256, .i32⟩
  | .hbm, ⟨49, _⟩ => ⟨S65x1x256, .i32⟩
  | .hbm, ⟨50, _⟩ => ⟨S65x1x256x1, .i32⟩
  | .hbm, ⟨51, _⟩ => ⟨S65x1x256, .i32⟩
  | .hbm, ⟨52, _⟩ => ⟨S65x1x256, .i32⟩
  | .hbm, ⟨53, _⟩ => ⟨S256, .i32⟩
  | .hbm, ⟨54, _⟩ => ⟨S_, .i32⟩
  | .hbm, ⟨55, _⟩ => ⟨S256, .i32⟩
  | .hbm, ⟨56, _⟩ => ⟨S256, .i32⟩
  | .hbm, ⟨57, _⟩ => ⟨S1x32, .i32⟩
  | .hbm, ⟨58, _⟩ => ⟨S256x1, .i32⟩
  | .hbm, ⟨59, _⟩ => ⟨S256x32, .i32⟩
  | .hbm, ⟨60, _⟩ => ⟨S256x32, .i32⟩
  | .hbm, ⟨61, _⟩ => ⟨S256x32, .i1⟩
  | .hbm, ⟨62, _⟩ => ⟨S256x32, .i32⟩
  | .hbm, ⟨63, _⟩ => ⟨S_, .i32⟩
  | .hbm, ⟨64, _⟩ => ⟨S256, .i32⟩
  | .hbm, ⟨65, _⟩ => ⟨S_, .i32⟩
  | .hbm, ⟨66, _⟩ => ⟨S256, .i32⟩
  | .hbm, ⟨67, _⟩ => ⟨S256, .i32⟩
  | .hbm, ⟨68, _⟩ => ⟨S_, .i32⟩
  | .hbm, ⟨69, _⟩ => ⟨S224, .i32⟩
  | .hbm, ⟨70, _⟩ => ⟨S256, .i32⟩
  | .hbm, ⟨71, _⟩ => ⟨S1, .i32⟩
  | .hbm, ⟨72, _⟩ => ⟨S_, .i32⟩
  | .hbm, ⟨73, _⟩ => ⟨S_, .i32⟩
  | .hbm, ⟨74, _⟩ => ⟨S_, .i32⟩
  | .hbm, ⟨75, _⟩ => ⟨S_, .i32⟩
  | .hbm, ⟨76, _⟩ => ⟨S_, .i32⟩
  | .hbm, ⟨77, _⟩ => ⟨S_, .i32⟩
  | .hbm, ⟨78, _⟩ => ⟨S_, .i1⟩
  | .hbm, ⟨79, _⟩ => ⟨S_, .i32⟩
  | .hbm, ⟨80, _⟩ => ⟨S_, .i32⟩
  | .hbm, ⟨81, _⟩ => ⟨S_, .i1⟩
  | .hbm, ⟨82, _⟩ => ⟨S_, .i1⟩
  | .hbm, ⟨83, _⟩ => ⟨S_, .i32⟩
  | .hbm, ⟨84, _⟩ => ⟨S_, .i32⟩
  | .hbm, ⟨85, _⟩ => ⟨S_, .i32⟩
  | .hbm, ⟨86, _⟩ => ⟨S256, .i32⟩
  | .hbm, ⟨87, _⟩ => ⟨S1x256, .i32⟩
  | .hbm, ⟨88, _⟩ => ⟨S1x256, .i32⟩
  | .hbm, ⟨89, _⟩ => ⟨S1x256, .i32⟩
  | .hbm, ⟨90, _⟩ => ⟨S1x256, .i32⟩
  | .hbm, ⟨91, _⟩ => ⟨S1x256, .i32⟩
  | .hbm, ⟨92, _⟩ => ⟨S1x256, .i32⟩
  | .hbm, ⟨93, _⟩ => ⟨S1x256, .i32⟩
  | .hbm, ⟨94, _⟩ => ⟨S1x256, .i32⟩
  | .hbm, ⟨95, _⟩ => ⟨S8x256, .i32⟩
  | _, _ => ⟨S32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v2 : Ref sig .tc := ⟨.hbm, 25, rfl⟩
abbrev main_c_1 : Ref sig .tc := ⟨.hbm, 26, rfl⟩
abbrev main_v3 : Ref sig .tc := ⟨.hbm, 27, rfl⟩
abbrev main_v4 : Ref sig .tc := ⟨.hbm, 28, rfl⟩
abbrev main_call1_call0_c : Ref sig .tc := ⟨.hbm, 29, rfl⟩
abbrev main_call1_call0_v0 : Ref sig .tc := ⟨.hbm, 30, rfl⟩
abbrev main_v5 : Ref sig .tc := ⟨.hbm, 31, rfl⟩
abbrev main_v6 : Ref sig .tc := ⟨.hbm, 32, rfl⟩
abbrev main_c_2 : Ref sig .tc := ⟨.hbm, 33, rfl⟩
abbrev main_v7 : Ref sig .tc := ⟨.hbm, 34, rfl⟩
abbrev main_v8 : Ref sig .tc := ⟨.hbm, 35, rfl⟩
abbrev main_c_3 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_c_4 : Ref sig .tc := ⟨.hbm, 43, rfl⟩
abbrev main_v15 : Ref sig .tc := ⟨.hbm, 44, rfl⟩
abbrev main_v16 : Ref sig .tc := ⟨.hbm, 45, rfl⟩
abbrev main_c_5 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_c_6 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_c_7 : Ref sig .tc := ⟨.hbm, 63, rfl⟩
abbrev main_v32 : Ref sig .tc := ⟨.hbm, 64, rfl⟩
abbrev main_c_8 : Ref sig .tc := ⟨.hbm, 65, rfl⟩
abbrev main_v33 : Ref sig .tc := ⟨.hbm, 66, rfl⟩
abbrev main_v34 : Ref sig .tc := ⟨.hbm, 67, rfl⟩
abbrev main_c_9 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_c_10 : Ref sig .tc := ⟨.hbm, 73, rfl⟩
abbrev main_call2_v0 : Ref sig .tc := ⟨.hbm, 74, rfl⟩
abbrev main_call2_v1 : Ref sig .tc := ⟨.hbm, 75, rfl⟩
abbrev main_call2_v2 : Ref sig .tc := ⟨.hbm, 76, rfl⟩
abbrev main_call2_v3 : Ref sig .tc := ⟨.hbm, 77, rfl⟩
abbrev main_call2_v4 : Ref sig .tc := ⟨.hbm, 78, rfl⟩
abbrev main_call2_v5 : Ref sig .tc := ⟨.hbm, 79, rfl⟩
abbrev main_call2_c : Ref sig .tc := ⟨.hbm, 80, rfl⟩
abbrev main_call2_v6 : Ref sig .tc := ⟨.hbm, 81, rfl⟩
abbrev main_call2_v7 : Ref sig .tc := ⟨.hbm, 82, rfl⟩
abbrev main_call2_c_0 : Ref sig .tc := ⟨.hbm, 83, rfl⟩
abbrev main_call2_v8 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩

abbrev nD : Nat := 1
abbrev τ : Topo := Topo.v7x

variable {F : FTy → Type} [FloatOps F]
-- ==== Proof.Mixer.lean ====
/-
  The chunk MLP mixer over the extended reals, named by no program: what both programs of the first claim compute.

  A token sequence is a function `X : ℕ → Fin 1024 → EReal` from the token's number to its features. Each token is
  normalised, scaled and shifted, sent through the input projection and GELU (`hidden`); the second half of the 2048
  hidden features is normalised again (`gateIn`), mixed across the 128 tokens of the token's chunk, one 128 x 128 matrix
  per group of 256 features, and multiplies the first half (`mixed`); the output projection of that, times a gate, is
  added to the token (`out`).
-/
module

public import Idealize.ShloMosaic.Lib.Pointwise

@[expose] public section

noncomputable section

open Idealize.ShloMosaic

namespace Cert.Mixer

/-- The weights of the layer and the three modulation rows in use. -/
structure Weights where
  norm : Fin 1024 → EReal
  shift : Fin 1024 → EReal
  scale : Fin 1024 → EReal
  gate : Fin 1024 → EReal
  win : Fin 1024 → Fin 2048 → EReal
  vnorm : Fin 1024 → EReal
  spatial : Fin 4 → Fin 128 → Fin 128 → EReal
  bias : Fin 4 → Fin 128 → EReal
  wout : Fin 1024 → Fin 1024 → EReal

/-- The root-mean-square norm of a row of 1024 features, times a gain: `x / √(mean x² + ε) · g`. -/
def rms (x g : Fin 1024 → EReal) (k : Fin 1024) : EReal :=
  x k * Ideal.rsqrt (Ideal.div (∑ l, x l * x l) (Ideal.ofBits FTy.f32 1149239296#32) + Ideal.ofBits FTy.f32 897988541#32) * g k

/-- GELU in its tanh form. -/
def gelu (z : EReal) : EReal :=
  Ideal.ofBits FTy.f32 1056964608#32 * z *
    (1 + Ideal.tanh (Ideal.ofBits FTy.f32 1061962282#32 * (z + Ideal.ofBits FTy.f32 1027024659#32 * (z * z * z))))

/-- The tanh form with the half taken into the second factor. -/
theorem gelu_comm (z : EReal) :
    z * (Ideal.ofBits FTy.f32 1056964608#32 *
      (1 + Ideal.tanh (Ideal.ofBits FTy.f32 1061962282#32 * (z + Ideal.ofBits FTy.f32 1027024659#32 * (z * z * z))))) = gelu z := by
  unfold gelu; rw [← mul_assoc, mul_comm z]

variable (W : Weights)

/-- The hidden feature `j` of a token with features `x`. -/
def hidden (x : Fin 1024 → EReal) (j : Fin 2048) : EReal :=
  gelu (∑ k, (rms x W.norm k * (1 + W.scale k) + W.shift k) * W.win k j)

/-- The normalised second half of the hidden features. -/
def gateIn (x : Fin 1024 → EReal) (j : Fin 1024) : EReal :=
  rms (fun l => hidden W x ⟨1024 + l, by omega⟩) W.vnorm j

/-- The first half times the chunk's mixture of the second half. -/
def mixed (X : ℕ → Fin 1024 → EReal) (r : ℕ) (j : Fin 1024) : EReal :=
  hidden W (X r) ⟨j, by omega⟩ *
    (∑ q : Fin 128, W.spatial ⟨j / 256, by omega⟩ ⟨r % 128, Nat.mod_lt _ (by decide)⟩ q * gateIn W (X (r / 128 * 128 + q)) j
      + W.bias ⟨j / 256, by omega⟩ ⟨r % 128, Nat.mod_lt _ (by decide)⟩)

/-- The layer: the token plus its gate times the output projection. -/
def out (X : ℕ → Fin 1024 → EReal) (r : ℕ) (d : Fin 1024) : EReal :=
  X r d + W.gate d * ∑ j, mixed W X r j * W.wout j d

/-- The layer at a token reads only the tokens of its chunk: on sequences that agree there it agrees. -/
theorem out_congr {X Y : ℕ → Fin 1024 → EReal} {r s : ℕ} (hm : r % 128 = s % 128)
    (h : ∀ q < 128, X (r / 128 * 128 + q) = Y (s / 128 * 128 + q)) (d : Fin 1024) : out W X r d = out W Y s d := by
  have hr : X r = Y s := by
    have := h (r % 128) (Nat.mod_lt _ (by decide))
    rwa [show r / 128 * 128 + r % 128 = r by omega, show s / 128 * 128 + r % 128 = s by omega] at this
  have hj : ∀ j : Fin 1024, mixed W X r j = mixed W Y s j := by
    intro j
    unfold mixed
    have hs : ∀ q : Fin 128, gateIn W (X (r / 128 * 128 + q)) j = gateIn W (Y (s / 128 * 128 + q)) j :=
      fun q => by rw [h q q.isLt]
    simp only [hr, hs, hm]
  unfold out
  simp only [hr, hj]

end Cert.Mixer
end
end
-- ==== Proof.Block.lean ====
/-
  What one grid point of the chunk MLP kernel writes back, as the mixer of `Mixer.lean` applied to the point's block of
  256 tokens: the payloads of the body read at an index, the eight stores of the gated product read back as one array,
  and the body put together.
-/
module

public import proofs.«01_k».proof.Proof.Gen.KernelIdeal.Frame
public import proofs.«01_k».proof.Proof.Mixer
public import Idealize.ShloMosaic.Lib.Pointwise

@[expose] public section

set_option maxRecDepth 16384

noncomputable section

namespace Cert.KernelIdeal.Block

open Idealize.ShloMosaic Idealize.ShloMosaic.TcCoe Idealize.SL.Sem Cert.KernelIdeal Cert.KernelIdeal.Gen

theorem hz : (![0, 0] : Fin 2 → Nat) = fun _ => 0 := funext fun a => by fin_cases a <;> rfl

/-- The weights as one grid point of the kernel sees them: `v3` is the modulation row in use. -/
def weights (v3 : Vec Ideal S1x6144 .f32) (x2 : Vec Ideal S1x1024 .f32) (x3 : Vec Ideal S1024x2048 .bf16)
    (x4 : Vec Ideal S1x1024 .f32) (x5 : Vec Ideal S4x128x128 .bf16) (x6 : Vec Ideal S128x4 .f32)
    (x7 : Vec Ideal S1024x1024 .bf16) : Mixer.Weights where
  norm k := x2 (ix2 0 k)
  shift k := v3 (ix2 0 ⟨k, by omega⟩)
  scale k := v3 (ix2 0 ⟨1024 + k, by omega⟩)
  gate k := v3 (ix2 0 ⟨2048 + k, by omega⟩)
  win k j := x3 (ix2 k j)
  vnorm k := x4 (ix2 0 k)
  spatial g t q := x5 (ix3 g t q)
  bias g t := x6 (ix2 t g)
  wout j d := x7 (ix2 j d)

/-- The rows of a block of 256 tokens, as a sequence. -/
def rows (X : Vec Ideal S256x1024 .f32) (a : ℕ) (k : Fin 1024) : EReal := if h : a < 256 then X (ix2 ⟨a, h⟩ k) else 0

theorem rows_fin (X : Vec Ideal S256x1024 .f32) (a : Fin 256) : rows X a = fun k => X (ix2 a k) := by
  funext k; unfold rows; rw [dif_pos a.isLt]

theorem rows_mk (X : Vec Ideal S256x1024 .f32) (a : ℕ) (h : a < 256) : rows X a = fun k => X (ix2 ⟨a, h⟩ k) := by
  funext k; unfold rows; rw [dif_pos h]

variable (v3 : Vec Ideal S1x6144 .f32) (X : Vec Ideal S256x1024 .f32) (x2 : Vec Ideal S1x1024 .f32) (x3 : Vec Ideal S1024x2048 .bf16)
  (x4 : Vec Ideal S1x1024 .f32) (x5 : Vec Ideal S4x128x128 .bf16) (x6 : Vec Ideal S128x4 .f32) (x7 : Vec Ideal S1024x1024 .bf16)

/-- The GELU of the input projection is the hidden feature. -/
theorem pay8_apply (r : Fin 256) (j : Fin 2048) :
    k0_pay8 (k0_pay6 v3 X x2 x3) (k0_pay7 v3 X x2 x3) (ix2 r j) = Mixer.hidden (weights v3 x2 x3 x4 x5 x6 x7) (rows X r) j := by
  have h4 : k0_pay5 v3 X x2 x3 (ix2 r j)
      = ∑ k, (Mixer.rms (rows X r) (Mixer.Weights.norm (weights v3 x2 x3 x4 x5 x6 x7)) k * (1 + Mixer.Weights.scale (weights v3 x2 x3 x4 x5 x6 x7) k) + Mixer.Weights.shift (weights v3 x2 x3 x4 x5 x6 x7) k) * Mixer.Weights.win (weights v3 x2 x3 x4 x5 x6 x7) k j := by
    rw [rows_fin]; pointwise [k0_pay5]; rfl
  unfold Mixer.hidden Mixer.gelu
  rw [← h4]
  pointwise [k0_pay8, k0_pay6, k0_pay7]

/-- The normalised second half of the hidden features. -/
theorem pay10_apply (r : Fin 256) (j : Fin 1024) :
    k0_pay10 (k0_pay6 v3 X x2 x3) (k0_pay7 v3 X x2 x3) x4 (ix2 r j) = Mixer.gateIn (weights v3 x2 x3 x4 x5 x6 x7) (rows X r) j := by
  unfold Mixer.gateIn
  simp only [← pay8_apply v3 X x2 x3 x4 x5 x6 x7]
  pointwise [k0_pay10]; rfl

/-- The first half of the hidden features. -/
theorem pay9_apply (r : Fin 256) (j : Fin 1024) :
    k0_pay9 (k0_pay6 v3 X x2 x3) (k0_pay7 v3 X x2 x3) (ix2 r j) = Mixer.hidden (weights v3 x2 x3 x4 x5 x6 x7) (rows X r) ⟨j, by omega⟩ := by
  rw [← pay8_apply v3 X x2 x3 x4 x5 x6 x7]
  pointwise [k0_pay9]

/-- The gated product as one array, from the two halves `u`, `v` of the hidden features. -/
def product (u : Vec Ideal S256x1024 .f32) (v : Vec Ideal S256x1024 .bf16) (x5 : Vec Ideal S4x128x128 .bf16)
    (x6 : Vec Ideal S128x4 .f32) (y : S256x1024.Idx) : EReal :=
  have h0 : (y 0).val < 256 := (y 0).isLt
  have h1 : (y 1).val < 1024 := (y 1).isLt
  u y * (∑ q : Fin 128, x5 (ix3 ⟨(y 1).val / 256, by omega⟩ ⟨(y 0).val % 128, by omega⟩ q) * v (ix2 ⟨(y 0).val / 128 * 128 + q, by omega⟩ ⟨(y 1).val, h1⟩)
    + x6 (ix2 ⟨(y 0).val % 128, by omega⟩ ⟨(y 1).val / 256, by omega⟩))

theorem product_at (u : Vec Ideal S256x1024 .f32) (v : Vec Ideal S256x1024 .bf16) (a b : ℕ) (ha : a < 256) (hb : b < 1024)
    (g : Fin 4) (t : Fin 128) (o : ℕ) (ho : o < 129) (hg : b / 256 = g) (ht : a % 128 = t) (hq : a / 128 * 128 = o) :
    product u v x5 x6 (ix2 ⟨a, ha⟩ ⟨b, hb⟩)
      = u (ix2 ⟨a, ha⟩ ⟨b, hb⟩) * (∑ q : Fin 128, x5 (ix3 g t q) * v (ix2 ⟨o + q, by omega⟩ ⟨b, hb⟩) + x6 (ix2 t g)) := by
  obtain ⟨g, hg'⟩ := g
  obtain ⟨t, ht'⟩ := t
  dsimp only at hg ht
  subst hg ht hq
  rfl

/-- The eight stores of the gated product, last first: one per chunk and group of features. -/
abbrev pieces (p q : FVec Ideal S256x2048 .f32) (x4 : Vec Ideal S1x1024 .f32) (x5 : Vec Ideal S4x128x128 .bf16)
    (x6 : Vec Ideal S128x4 .f32) : List (View.Piece (Elt Ideal) S256x1024 .bf16) :=
  [⟨Rect.unit ![128, 768] ![128, 256] inb_S256x1024_S128x256_128_768,
    k0_pay2 (k0_pay9 p q) (k0_pay10 p q x4) (View.ld x5 (Rect.unit ![3, 0, 0] ![1, 128, 128] inb_S4x128x128_S1x128x128_3_0_0)) (View.ld x6 (Rect.unit ![0, 3] ![128, 1] inb_S128x4_S128x1_0_3))⟩,
   ⟨Rect.unit ![128, 512] ![128, 256] inb_S256x1024_S128x256_128_512,
    k0_pay1 (k0_pay18 (k0_pay10 p q x4) (View.ld x5 (Rect.unit ![2, 0, 0] ![1, 128, 128] inb_S4x128x128_S1x128x128_2_0_0)) (View.ld x6 (Rect.unit ![0, 2] ![128, 1] inb_S128x4_S128x1_0_2))) (k0_pay19 (k0_pay9 p q))⟩,
   ⟨Rect.unit ![128, 256] ![128, 256] inb_S256x1024_S128x256_128_256,
    k0_pay17 (k0_pay9 p q) (k0_pay10 p q x4) (View.ld x5 (Rect.unit ![1, 0, 0] ![1, 128, 128] inb_S4x128x128_S1x128x128_1_0_0)) (View.ld x6 (Rect.unit ![0, 1] ![128, 1] inb_S128x4_S128x1_0_1))⟩,
   ⟨Rect.unit ![128, 0] ![128, 256] inb_S256x1024_S128x256_128_0,
    k0_pay16 (k0_pay9 p q) (k0_pay10 p q x4) (View.ld x5 (Rect.unit ![0, 0, 0] ![1, 128, 128] inb_S4x128x128_S1x128x128_0_0_0)) (View.ld x6 (Rect.unit ![0, 0] ![128, 1] inb_S128x4_S128x1_0_0))⟩,
   ⟨Rect.unit ![0, 768] ![128, 256] inb_S256x1024_S128x256_0_768,
    k0_pay15 (k0_pay9 p q) (k0_pay10 p q x4) (View.ld x5 (Rect.unit ![3, 0, 0] ![1, 128, 128] inb_S4x128x128_S1x128x128_3_0_0)) (View.ld x6 (Rect.unit ![0, 3] ![128, 1] inb_S128x4_S128x1_0_3))⟩,
   ⟨Rect.unit ![0, 512] ![128, 256] inb_S256x1024_S128x256_0_512,
    k0_pay14 (k0_pay9 p q) (k0_pay10 p q x4) (View.ld x5 (Rect.unit ![2, 0, 0] ![1, 128, 128] inb_S4x128x128_S1x128x128_2_0_0)) (View.ld x6 (Rect.unit ![0, 2] ![128, 1] inb_S128x4_S128x1_0_2))⟩,
   ⟨Rect.unit ![0, 256] ![128, 256] inb_S256x1024_S128x256_0_256,
    k0_pay13 (k0_pay9 p q) (k0_pay12 p q x4 (View.ld x5 (Rect.unit ![1, 0, 0] ![1, 128, 128] inb_S4x128x128_S1x128x128_1_0_0))) (View.ld x6 (Rect.unit ![0, 1] ![128, 1] inb_S128x4_S128x1_0_1))⟩,
   ⟨Rect.unit ![0, 0] ![128, 256] inb_S256x1024_S128x256_0_0,
    k0_pay11 p q x4 (View.ld x5 (Rect.unit ![0, 0, 0] ![1, 128, 128] inb_S4x128x128_S1x128x128_0_0_0)) (View.ld x6 (Rect.unit ![0, 0] ![128, 1] inb_S128x4_S128x1_0_0))⟩]

/-- Read back, the eight stores are the gated product. -/
theorem pieces_canon (p q : FVec Ideal S256x2048 .f32) (y : S256x1024.Idx) :
    View.canon (pieces p q x4 x5 x6) y = product (k0_pay9 p q) (k0_pay10 p q x4) x5 x6 y := by
  refine View.canon_apply_of_pieces (product (k0_pay9 p q) (k0_pay10 p q x4) x5 x6) (pieces p q x4 x5 x6) ?_ y
    (View.cover_of_tiledL (pieces p q x4 x5 x6) S128x256.size (by sl_kernel_rfl) y)
  intro e hp
  simp only [pieces, List.mem_cons, List.mem_singleton, List.not_mem_nil, or_false] at hp
  rcases hp with rfl | rfl | rfl | rfl | rfl | rfl | rfl | rfl
  · intro x
    obtain ⟨r, j, rfl⟩ : ∃ (r : Fin 128) (j : Fin 256), x = ix2 r j := ⟨x 0, x 1, eq_ix2 x⟩
    have he : (Rect.unit (s := S256x1024) ![128, 768] ![128, 256] inb_S256x1024_S128x256_128_768).emb (ix2 r j)
        = ix2 (⟨128 + r, by omega⟩ : Fin 256) (⟨768 + j, by omega⟩ : Fin 1024) := by
      funext a; apply Fin.ext
      match a with
      | ⟨0, _⟩ => show 128 + 1 * r.val = 128 + r.val; omega
      | ⟨1, _⟩ => show 768 + 1 * j.val = 768 + j.val; omega
    refine Eq.trans ?_ (congrArg (product (k0_pay9 p q) (k0_pay10 p q x4) x5 x6) he).symm
    rw [product_at x5 x6 _ _ _ _ _ _ 3 r 128 (by omega) (by show (768 + j.val) / 256 = 3; omega) (by omega) (by omega)]
    pointwise [k0_pay1, k0_pay2, k0_pay11, k0_pay12, k0_pay13, k0_pay14, k0_pay15, k0_pay16, k0_pay17, k0_pay18, k0_pay19]
  · intro x
    obtain ⟨r, j, rfl⟩ : ∃ (r : Fin 128) (j : Fin 256), x = ix2 r j := ⟨x 0, x 1, eq_ix2 x⟩
    have he : (Rect.unit (s := S256x1024) ![128, 512] ![128, 256] inb_S256x1024_S128x256_128_512).emb (ix2 r j)
        = ix2 (⟨128 + r, by omega⟩ : Fin 256) (⟨512 + j, by omega⟩ : Fin 1024) := by
      funext a; apply Fin.ext
      match a with
      | ⟨0, _⟩ => show 128 + 1 * r.val = 128 + r.val; omega
      | ⟨1, _⟩ => show 512 + 1 * j.val = 512 + j.val; omega
    refine Eq.trans ?_ (congrArg (product (k0_pay9 p q) (k0_pay10 p q x4) x5 x6) he).symm
    rw [product_at x5 x6 _ _ _ _ _ _ 2 r 128 (by omega) (by show (512 + j.val) / 256 = 2; omega) (by omega) (by omega)]
    pointwise [k0_pay1, k0_pay2, k0_pay11, k0_pay12, k0_pay13, k0_pay14, k0_pay15, k0_pay16, k0_pay17, k0_pay18, k0_pay19]
  · intro x
    obtain ⟨r, j, rfl⟩ : ∃ (r : Fin 128) (j : Fin 256), x = ix2 r j := ⟨x 0, x 1, eq_ix2 x⟩
    have he : (Rect.unit (s := S256x1024) ![128, 256] ![128, 256] inb_S256x1024_S128x256_128_256).emb (ix2 r j)
        = ix2 (⟨128 + r, by omega⟩ : Fin 256) (⟨256 + j, by omega⟩ : Fin 1024) := by
      funext a; apply Fin.ext
      match a with
      | ⟨0, _⟩ => show 128 + 1 * r.val = 128 + r.val; omega
      | ⟨1, _⟩ => show 256 + 1 * j.val = 256 + j.val; omega
    refine Eq.trans ?_ (congrArg (product (k0_pay9 p q) (k0_pay10 p q x4) x5 x6) he).symm
    rw [product_at x5 x6 _ _ _ _ _ _ 1 r 128 (by omega) (by show (256 + j.val) / 256 = 1; omega) (by omega) (by omega)]
    pointwise [k0_pay1, k0_pay2, k0_pay11, k0_pay12, k0_pay13, k0_pay14, k0_pay15, k0_pay16, k0_pay17, k0_pay18, k0_pay19]
  · intro x
    obtain ⟨r, j, rfl⟩ : ∃ (r : Fin 128) (j : Fin 256), x = ix2 r j := ⟨x 0, x 1, eq_ix2 x⟩
    have he : (Rect.unit (s := S256x1024) ![128, 0] ![128, 256] inb_S256x1024_S128x256_128_0).emb (ix2 r j)
        = ix2 (⟨128 + r, by omega⟩ : Fin 256) (⟨0 + j, by omega⟩ : Fin 1024) := by
      funext a; apply Fin.ext
      match a with
      | ⟨0, _⟩ => show 128 + 1 * r.val = 128 + r.val; omega
      | ⟨1, _⟩ => show 0 + 1 * j.val = 0 + j.val; omega
    refine Eq.trans ?_ (congrArg (product (k0_pay9 p q) (k0_pay10 p q x4) x5 x6) he).symm
    rw [product_at x5 x6 _ _ _ _ _ _ 0 r 128 (by omega) (by show (0 + j.val) / 256 = 0; omega) (by omega) (by omega)]
    pointwise [k0_pay1, k0_pay2, k0_pay11, k0_pay12, k0_pay13, k0_pay14, k0_pay15, k0_pay16, k0_pay17, k0_pay18, k0_pay19]
  · intro x
    obtain ⟨r, j, rfl⟩ : ∃ (r : Fin 128) (j : Fin 256), x = ix2 r j := ⟨x 0, x 1, eq_ix2 x⟩
    have he : (Rect.unit (s := S256x1024) ![0, 768] ![128, 256] inb_S256x1024_S128x256_0_768).emb (ix2 r j)
        = ix2 (⟨0 + r, by omega⟩ : Fin 256) (⟨768 + j, by omega⟩ : Fin 1024) := by
      funext a; apply Fin.ext
      match a with
      | ⟨0, _⟩ => show 0 + 1 * r.val = 0 + r.val; omega
      | ⟨1, _⟩ => show 768 + 1 * j.val = 768 + j.val; omega
    refine Eq.trans ?_ (congrArg (product (k0_pay9 p q) (k0_pay10 p q x4) x5 x6) he).symm
    rw [product_at x5 x6 _ _ _ _ _ _ 3 r 0 (by omega) (by show (768 + j.val) / 256 = 3; omega) (by omega) (by omega)]
    pointwise [k0_pay1, k0_pay2, k0_pay11, k0_pay12, k0_pay13, k0_pay14, k0_pay15, k0_pay16, k0_pay17, k0_pay18, k0_pay19]
  · intro x
    obtain ⟨r, j, rfl⟩ : ∃ (r : Fin 128) (j : Fin 256), x = ix2 r j := ⟨x 0, x 1, eq_ix2 x⟩
    have he : (Rect.unit (s := S256x1024) ![0, 512] ![128, 256] inb_S256x1024_S128x256_0_512).emb (ix2 r j)
        = ix2 (⟨0 + r, by omega⟩ : Fin 256) (⟨512 + j, by omega⟩ : Fin 1024) := by
      funext a; apply Fin.ext
      match a with
      | ⟨0, _⟩ => show 0 + 1 * r.val = 0 + r.val; omega
      | ⟨1, _⟩ => show 512 + 1 * j.val = 512 + j.val; omega
    refine Eq.trans ?_ (congrArg (product (k0_pay9 p q) (k0_pay10 p q x4) x5 x6) he).symm
    rw [product_at x5 x6 _ _ _ _ _ _ 2 r 0 (by omega) (by show (512 + j.val) / 256 = 2; omega) (by omega) (by omega)]
    pointwise [k0_pay1, k0_pay2, k0_pay11, k0_pay12, k0_pay13, k0_pay14, k0_pay15, k0_pay16, k0_pay17, k0_pay18, k0_pay19]
  · intro x
    obtain ⟨r, j, rfl⟩ : ∃ (r : Fin 128) (j : Fin 256), x = ix2 r j := ⟨x 0, x 1, eq_ix2 x⟩
    have he : (Rect.unit (s := S256x1024) ![0, 256] ![128, 256] inb_S256x1024_S128x256_0_256).emb (ix2 r j)
        = ix2 (⟨0 + r, by omega⟩ : Fin 256) (⟨256 + j, by omega⟩ : Fin 1024) := by
      funext a; apply Fin.ext
      match a with
      | ⟨0, _⟩ => show 0 + 1 * r.val = 0 + r.val; omega
      | ⟨1, _⟩ => show 256 + 1 * j.val = 256 + j.val; omega
    refine Eq.trans ?_ (congrArg (product (k0_pay9 p q) (k0_pay10 p q x4) x5 x6) he).symm
    rw [product_at x5 x6 _ _ _ _ _ _ 1 r 0 (by omega) (by show (256 + j.val) / 256 = 1; omega) (by omega) (by omega)]
    pointwise [k0_pay1, k0_pay2, k0_pay11, k0_pay12, k0_pay13, k0_pay14, k0_pay15, k0_pay16, k0_pay17, k0_pay18, k0_pay19]
  · intro x
    obtain ⟨r, j, rfl⟩ : ∃ (r : Fin 128) (j : Fin 256), x = ix2 r j := ⟨x 0, x 1, eq_ix2 x⟩
    have he : (Rect.unit (s := S256x1024) ![0, 0] ![128, 256] inb_S256x1024_S128x256_0_0).emb (ix2 r j)
        = ix2 (⟨0 + r, by omega⟩ : Fin 256) (⟨0 + j, by omega⟩ : Fin 1024) := by
      funext a; apply Fin.ext
      match a with
      | ⟨0, _⟩ => show 0 + 1 * r.val = 0 + r.val; omega
      | ⟨1, _⟩ => show 0 + 1 * j.val = 0 + j.val; omega
    refine Eq.trans ?_ (congrArg (product (k0_pay9 p q) (k0_pay10 p q x4) x5 x6) he).symm
    rw [product_at x5 x6 _ _ _ _ _ _ 0 r 0 (by omega) (by show (0 + j.val) / 256 = 0; omega) (by omega) (by omega)]
    pointwise [k0_pay1, k0_pay2, k0_pay11, k0_pay12, k0_pay13, k0_pay14, k0_pay15, k0_pay16, k0_pay17, k0_pay18, k0_pay19]

/-- The eight stores read back through the whole scratch buffer. -/
theorem readCov_pieces (p q : FVec Ideal S256x2048 .f32) (v : View sig .tc .vmem S256x1024 .bf16) :
    v.readCov (pieces p q x4 x5 x6) (Rect.unit (s := S256x1024) ![0, 0] S256x1024.size inb_S256x1024_S256x1024_0_0).toLoadRect
      = View.canon (pieces p q x4 x5 x6) := by
  rw [View.readCov_eq_canon']
  funext j
  refine congrArg (View.canon (pieces p q x4 x5 x6)) ?_
  funext a; apply Fin.ext
  match a with
  | ⟨0, _⟩ => show 0 + 1 * (j 0).val = (j 0).val; omega
  | ⟨1, _⟩ => show 0 + 1 * (j 1).val = (j 1).val; omega

/-- The whole body over a block of tokens, in terms of the mixer. -/
theorem body_apply (r : Fin 256) (d : Fin 1024) :
    k0_pay3 (k0_pay4 v3) X (View.canon (pieces (k0_pay6 v3 X x2 x3) (k0_pay7 v3 X x2 x3) x4 x5 x6)) x7 (ix2 r d) = Mixer.out (weights v3 x2 x3 x4 x5 x6 x7) (rows X) r d := by
  have hm : ∀ j : Fin 1024, View.canon (pieces (k0_pay6 v3 X x2 x3) (k0_pay7 v3 X x2 x3) x4 x5 x6) (ix2 r j) = Mixer.mixed (weights v3 x2 x3 x4 x5 x6 x7) (rows X) r j := by
    intro j
    rw [pieces_canon]
    have hp := product_at x5 x6 (k0_pay9 (k0_pay6 v3 X x2 x3) (k0_pay7 v3 X x2 x3)) (k0_pay10 (k0_pay6 v3 X x2 x3) (k0_pay7 v3 X x2 x3) x4) r j r.isLt j.isLt ⟨j / 256, by omega⟩
      ⟨r % 128, by omega⟩ (r / 128 * 128) (by omega) rfl rfl rfl
    refine hp.trans ?_
    unfold Mixer.mixed
    rw [← pay9_apply v3 X x2 x3 x4 x5 x6 x7]
    refine congrArg (_ * ·) (congrArg (· + _) (Finset.sum_congr rfl fun q _ => ?_))
    rw [pay10_apply v3 X x2 x3 x4 x5 x6 x7]
    rfl
  unfold Mixer.out
  simp only [← hm]
  rw [rows_fin]
  pointwise [k0_pay3, k0_pay4]; rfl

variable (c : Dev nD) (i : grid0.Coords)
  (a1 : Memref sig .tc .vmem S256x1024 .f32) (h1 : a1.IsWhole)
  (a2 : Memref sig .tc .vmem S8x6144 .f32) (h2 : a2.IsWhole)
  (a3 : Memref sig .tc .vmem S1x1024 .f32) (h3 : a3.IsWhole)
  (a4 : Memref sig .tc .vmem S1024x2048 .bf16) (h4 : a4.IsWhole)
  (a5 : Memref sig .tc .vmem S1x1024 .f32) (h5 : a5.IsWhole)
  (a6 : Memref sig .tc .vmem S4x128x128 .bf16) (h6 : a6.IsWhole)
  (a7 : Memref sig .tc .vmem S128x4 .f32) (h7 : a7.IsWhole)
  (a8 : Memref sig .tc .vmem S1024x1024 .bf16) (h8 : a8.IsWhole)
  (a9 : Memref sig .tc .vmem S256x1024 .f32) (h9 : a9.IsWhole)
  (a10 : Memref sig .tc .vmem S256x1024 .bf16) (h10 : a10.IsWhole)
variable (x0 : Vec Ideal S256x1024 .f32) (x1 : Vec Ideal S8x6144 .f32)

/-- The modulation row that a grid point loads lies in the table. -/
def RowIn (i : grid0.Coords) : Prop := ∀ a : Fin 2, (![BitVec.toNat (Scalar.indexCast (Scalar.select (Scalar.cmpi CmpIPredicate.slt (BitVec.ofNat 32 (i 0).val) 1#32) 0#32 1#32)), 0] : Fin 2 → ℕ) a + (![1, 6144] : Fin 2 → ℕ) a ≤ S8x6144.size a

/-- The modulation row that a grid point loads: row 0 at the context block, row 1 at the latent blocks. -/
abbrev modRow (i : grid0.Coords) (hr : RowIn i) (x1 : Vec Ideal S8x6144 .f32) : Vec Ideal S1x6144 .f32 :=
  View.ld x1 (Rect.unit (s := S8x6144) ![BitVec.toNat (Scalar.indexCast (Scalar.select (Scalar.cmpi CmpIPredicate.slt (BitVec.ofNat 32 (i 0).val) 1#32) 0#32 1#32)), 0] ![1, 6144] hr)

/-- What the body leaves in the output block. -/
theorem out_A (hr : RowIn i) :
    out0_A_8 c i a1 h1 a2 h2 a3 h3 a4 h4 a5 h5 a6 h6 a7 h7 a8 h8 a9 h9 a10 h10 x0 x1 x2 x3 x4 x5 x6 x7
      = k0_pay3 (k0_pay4 (modRow i hr x1)) x0
          (View.canon (pieces (k0_pay6 (modRow i hr x1) x0 x2 x3) (k0_pay7 (modRow i hr x1) x0 x2 x3) x4 x5 x6)) x7 := by
  unfold out0_A_8
  rw [View.read_writes_eq_canon _ _ _ (cover0_A_8 c i a1 h1 a2 h2 a3 h3 a4 h4 a5 h5 a6 h6 a7 h7 a8 h8 a9 h9 a10 h10 x0 x1 x2 x3 x4 x5 x6 x7)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, View.readCov_unit_zero (S := S256x1024) _ hz, View.ld_unit_zero (S := S256x1024) hz, View.ld_unit_zero (S := S1x1024) hz, View.ld_unit_zero (S := S1024x2048) hz, View.ld_unit_zero (S := S1024x1024) hz]
  exact congrArg (fun e => k0_pay3 (k0_pay4 (modRow i hr x1)) x0 e x7)
    (readCov_pieces x4 x5 x6 (k0_pay6 (modRow i hr x1) x0 x2 x3) (k0_pay7 (modRow i hr x1) x0 x2 x3) a10.view)

end Cert.KernelIdeal.Block
end
end
-- ==== Proof.Layer.lean ====
/-
  The whole chunk MLP layer over its eight argument arrays: the mixer of `Mixer.lean` run once over the 256 context
  tokens (modulation row 0) and once over the 16384 latent tokens (modulation row 1).
-/
module

public import proofs.«01_k».proof.Proof.Mixer

@[expose] public section

noncomputable section

open Idealize.ShloMosaic

namespace Cert.Mixer

/-- The latent tokens: rows 256 and up of the token array. -/
def latents (s : Vec Ideal ⟨2, ![16640, 1024]⟩ .f32) (n : ℕ) (k : Fin 1024) : EReal :=
  if h : n < 16384 then s (ix2 ⟨256 + n, by omega⟩ k) else 0

/-- The context tokens: its first 256 rows. -/
def context (s : Vec Ideal ⟨2, ![16640, 1024]⟩ .f32) (n : ℕ) (k : Fin 1024) : EReal :=
  if h : n < 256 then s (ix2 ⟨n, by omega⟩ k) else 0

/-- The weights of the layer with row `b` of the modulation table. -/
def ofArrays (b : Fin 8) (mods : Vec Ideal ⟨2, ![8, 6144]⟩ .f32) (norm : Vec Ideal ⟨1, ![1024]⟩ .f32)
    (win : Vec Ideal ⟨3, ![1, 1024, 2048]⟩ .f32) (vnorm : Vec Ideal ⟨2, ![1, 1024]⟩ .f32)
    (ws : Vec Ideal ⟨4, ![1, 4, 128, 128]⟩ .f32) (bs : Vec Ideal ⟨3, ![1, 4, 128]⟩ .f32)
    (wout : Vec Ideal ⟨3, ![1, 1024, 1024]⟩ .f32) : Weights where
  norm k := norm (ix1 k)
  shift k := mods (ix2 b ⟨k, by omega⟩)
  scale k := mods (ix2 b ⟨1024 + k, by omega⟩)
  gate k := mods (ix2 b ⟨2048 + k, by omega⟩)
  win k j := win (ix3 0 k j)
  vnorm k := vnorm (ix2 0 k)
  spatial g t q := ws (ix4 0 g t q)
  bias g t := bs (ix3 0 g t)
  wout j d := wout (ix3 0 j d)

/-- The layer's result: the 256 context tokens, then the 16384 latent tokens. -/
def layer (s : Vec Ideal ⟨2, ![16640, 1024]⟩ .f32)
    (mods : Vec Ideal ⟨2, ![8, 6144]⟩ .f32) (norm : Vec Ideal ⟨1, ![1024]⟩ .f32)
    (win : Vec Ideal ⟨3, ![1, 1024, 2048]⟩ .f32) (vnorm : Vec Ideal ⟨2, ![1, 1024]⟩ .f32)
    (ws : Vec Ideal ⟨4, ![1, 4, 128, 128]⟩ .f32) (bs : Vec Ideal ⟨3, ![1, 4, 128]⟩ .f32)
    (wout : Vec Ideal ⟨3, ![1, 1024, 1024]⟩ .f32) (y : (⟨2, ![16640, 1024]⟩ : Shape).Idx) : EReal :=
  if (y 0).val < 256 then out (ofArrays 0 mods norm win vnorm ws bs wout) (context s) (y 0).val (y 1)
  else out (ofArrays 1 mods norm win vnorm ws bs wout) (latents s) ((y 0).val - 256) (y 1)

end Cert.Mixer
end
end
-- ==== Proof.Array.lean ====
/-
  The kernel's result array: what each of the 65 grid points writes back is its block of `Mixer.layer` over the argument
  arrays, so the array ends holding `Mixer.layer`.
-/
module

public import proofs.«01_k».proof.Proof.Gen.KernelIdeal.Value
public import proofs.«01_k».proof.Proof.Block
public import proofs.«01_k».proof.Proof.Layer
public import Idealize.ShloMosaic.Lib.StableHlo.ReadAt

@[expose] public section

set_option maxRecDepth 16384
noncomputable section

namespace Cert.KernelIdeal.Array
open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ) (ρ : Dev nD → PrngReg) (c : Dev nD)

/-- Argument 0. -/
abbrev s : Vec Ideal S16640x1024 .f32 := m ((c : Thread nD τ).loc main_arg0)
/-- Argument 1. -/
abbrev mods : Vec Ideal S8x6144 .f32 := m ((c : Thread nD τ).loc main_arg1)
/-- Argument 2. -/
abbrev norm : Vec Ideal S1024 .f32 := m ((c : Thread nD τ).loc main_arg2)
/-- Argument 3. -/
abbrev win : Vec Ideal S1x1024x2048 .f32 := m ((c : Thread nD τ).loc main_arg3)
/-- Argument 4. -/
abbrev vnorm : Vec Ideal S1x1024 .f32 := m ((c : Thread nD τ).loc main_arg4)
/-- Argument 5. -/
abbrev ws : Vec Ideal S1x4x128x128 .f32 := m ((c : Thread nD τ).loc main_arg5)
/-- Argument 6. -/
abbrev bs : Vec Ideal S1x4x128 .f32 := m ((c : Thread nD τ).loc main_arg6)
/-- Argument 7. -/
abbrev wout : Vec Ideal S1x1024x1024 .f32 := m ((c : Thread nD τ).loc main_arg7)

/-! ## What the host computes before the call, at an index -/

theorem V5 (k : Fin 1024) : (V m c main_v5 : Vec Ideal S1x1024 .f32) (ix2 0 k) = norm m c (ix1 k) := by
  unfold V
  after_reads_at

theorem V6 (k : Fin 1024) (j : Fin 2048) : (V m c main_v6 : Vec Ideal S1024x2048 .bf16) (ix2 k j) = win m c (ix3 0 k j) := by
  unfold V
  after_reads_at

theorem V7 (k : Fin 1024) : (V m c main_v7 : Vec Ideal S1x1024 .f32) (ix2 0 k) = vnorm m c (ix2 0 k) := by
  unfold V
  after_reads_at

theorem V8 (g : Fin 4) (t q : Fin 128) : (V m c main_v8 : Vec Ideal S4x128x128 .bf16) (ix3 g t q) = ws m c (ix4 0 g t q) := by
  unfold V
  after_reads_at

theorem V9 (t : Fin 128) (g : Fin 4) : (V m c main_v9 : Vec Ideal S128x4 .f32) (ix2 t g) = bs m c (ix3 0 g t) := by
  unfold V
  after_reads_at

theorem V10 (j d : Fin 1024) : (V m c main_v10 : Vec Ideal S1024x1024 .bf16) (ix2 j d) = wout m c (ix3 0 j d) := by
  unfold V
  after_reads_at

/-! ## The blocks a grid point is handed, at an index -/

theorem lt65 (t : Fin cfg0.N) : t.val < 65 := lt_of_lt_of_eq t.isLt Gen.N_0

/-- The block indices: the tokens' and the result's block is the point's, everything else is whole. -/
theorem idx : ∀ t : Fin cfg0.N, win0_0.index t 0 = t.val
    ∧ win0_0.index t 1 = 0
    ∧ win0_8.index t 0 = t.val
    ∧ win0_8.index t 1 = 0
    ∧ win0_1.index t 0 = 0
    ∧ win0_1.index t 1 = 0
    ∧ win0_2.index t 0 = 0
    ∧ win0_2.index t 1 = 0
    ∧ win0_3.index t 0 = 0
    ∧ win0_3.index t 1 = 0
    ∧ win0_4.index t 0 = 0
    ∧ win0_4.index t 1 = 0
    ∧ win0_6.index t 0 = 0
    ∧ win0_6.index t 1 = 0
    ∧ win0_7.index t 0 = 0
    ∧ win0_7.index t 1 = 0
    ∧ win0_5.index t 0 = 0
    ∧ win0_5.index t 1 = 0
    ∧ win0_5.index t 2 = 0 := by decide +kernel

theorem blk0 (t : Fin cfg0.N) (r : Fin 256) (k : Fin 1024) (n : Fin 16640) (hn : n.val = 256 * t.val + r.val) :
    (iblk m c 0 t : Vec Ideal S256x1024 .f32) (ix2 r k) = s m c (ix2 n k) := by
  refine Eq.trans ?_ (congrFun (V_main_arg0 m c) _)
  unfold iblk
  rw [View.read_apply]
  show V m c main_arg0 _ = V m c main_arg0 _
  congr 1
  funext a
  apply Fin.ext
  match a with
  | ⟨0, _⟩ => show win0_0.index t 0 * 256 + 1 * r.val = n.val; have := idx t; omega
  | ⟨1, _⟩ => show win0_0.index t 1 * 1024 + 1 * k.val = k.val; have := idx t; omega

theorem blk1 (t' : Fin cfg0.N) (n : Fin 8) (k : Fin 6144) :
    (iblk m c 1 t' : Vec Ideal S8x6144 .f32) (ix2 n k) = mods m c (ix2 n k) := by
  refine Eq.trans ?_ (congrFun (V_main_arg1 m c) _)
  unfold iblk
  rw [View.read_apply]
  show V m c main_arg1 _ = V m c main_arg1 _
  congr 1
  funext a
  apply Fin.ext
  match a with
  | ⟨0, _⟩ => show win0_1.index t' 0 * 8 + 1 * n.val = n.val; have := idx t'; omega
  | ⟨1, _⟩ => show win0_1.index t' 1 * 6144 + 1 * k.val = k.val; have := idx t'; omega

theorem blk2 (t' : Fin cfg0.N) (k : Fin 1024) :
    (iblk m c 2 t' : Vec Ideal S1x1024 .f32) (ix2 0 k) = norm m c (ix1 k) := by
  rw [← V5]
  unfold iblk
  rw [View.read_apply]
  show V m c main_v5 _ = V m c main_v5 _
  congr 1
  funext a
  apply Fin.ext
  match a with
  | ⟨0, _⟩ => show win0_2.index t' 0 * 1 + 1 * 0 = 0; have := idx t'; omega
  | ⟨1, _⟩ => show win0_2.index t' 1 * 1024 + 1 * k.val = k.val; have := idx t'; omega

theorem blk3 (t' : Fin cfg0.N) (k : Fin 1024) (j : Fin 2048) :
    (iblk m c 3 t' : Vec Ideal S1024x2048 .bf16) (ix2 k j) = win m c (ix3 0 k j) := by
  rw [← V6]
  unfold iblk
  rw [View.read_apply]
  show V m c main_v6 _ = V m c main_v6 _
  congr 1
  funext a
  apply Fin.ext
  match a with
  | ⟨0, _⟩ => show win0_3.index t' 0 * 1024 + 1 * k.val = k.val; have := idx t'; omega
  | ⟨1, _⟩ => show win0_3.index t' 1 * 2048 + 1 * j.val = j.val; have := idx t'; omega

theorem blk4 (t' : Fin cfg0.N) (k : Fin 1024) :
    (iblk m c 4 t' : Vec Ideal S1x1024 .f32) (ix2 0 k) = vnorm m c (ix2 0 k) := by
  rw [← V7]
  unfold iblk
  rw [View.read_apply]
  show V m c main_v7 _ = V m c main_v7 _
  congr 1
  funext a
  apply Fin.ext
  match a with
  | ⟨0, _⟩ => show win0_4.index t' 0 * 1 + 1 * 0 = 0; have := idx t'; omega
  | ⟨1, _⟩ => show win0_4.index t' 1 * 1024 + 1 * k.val = k.val; have := idx t'; omega

theorem blk5 (t' : Fin cfg0.N) (g : Fin 4) (t q : Fin 128) :
    (iblk m c 5 t' : Vec Ideal S4x128x128 .bf16) (ix3 g t q) = ws m c (ix4 0 g t q) := by
  rw [← V8]
  unfold iblk
  rw [View.read_apply]
  show V m c main_v8 _ = V m c main_v8 _
  congr 1
  funext a
  apply Fin.ext
  match a with
  | ⟨0, _⟩ => show win0_5.index t' 0 * 4 + 1 * g.val = g.val; have := idx t'; omega
  | ⟨1, _⟩ => show win0_5.index t' 1 * 128 + 1 * t.val = t.val; have := idx t'; omega
  | ⟨2, _⟩ => show win0_5.index t' 2 * 128 + 1 * q.val = q.val; have := idx t'; omega

theorem blk6 (t' : Fin cfg0.N) (t : Fin 128) (g : Fin 4) :
    (iblk m c 6 t' : Vec Ideal S128x4 .f32) (ix2 t g) = bs m c (ix3 0 g t) := by
  rw [← V9]
  unfold iblk
  rw [View.read_apply]
  show V m c main_v9 _ = V m c main_v9 _
  congr 1
  funext a
  apply Fin.ext
  match a with
  | ⟨0, _⟩ => show win0_6.index t' 0 * 128 + 1 * t.val = t.val; have := idx t'; omega
  | ⟨1, _⟩ => show win0_6.index t' 1 * 4 + 1 * g.val = g.val; have := idx t'; omega

theorem blk7 (t' : Fin cfg0.N) (j d : Fin 1024) :
    (iblk m c 7 t' : Vec Ideal S1024x1024 .bf16) (ix2 j d) = wout m c (ix3 0 j d) := by
  rw [← V10]
  unfold iblk
  rw [View.read_apply]
  show V m c main_v10 _ = V m c main_v10 _
  congr 1
  funext a
  apply Fin.ext
  match a with
  | ⟨0, _⟩ => show win0_7.index t' 0 * 1024 + 1 * j.val = j.val; have := idx t'; omega
  | ⟨1, _⟩ => show win0_7.index t' 1 * 1024 + 1 * d.val = d.val; have := idx t'; omega

/-! ## The row a grid point loads at a computed offset -/

/-- The modulation row at a point: 0 at the first, 1 at the others. -/
theorem rowOff : ∀ t : Fin cfg0.N, BitVec.toNat (Scalar.indexCast (Scalar.select (Scalar.cmpi CmpIPredicate.slt (BitVec.ofNat 32 (grid0.coords t 0).val) 1#32) 0#32 1#32))
    = if t.val = 0 then 0 else 1 := by decide +kernel

theorem rowIn : ∀ t : Fin cfg0.N, Block.RowIn (grid0.coords t) := by
  unfold Block.RowIn
  decide +kernel

theorem modRow_apply (t : Fin cfg0.N) (hr : Block.RowIn (grid0.coords t)) (x1 : Vec Ideal S8x6144 .f32) (b : Fin 8)
    (hb : b.val = if t.val = 0 then 0 else 1) (j : Fin 6144) : Block.modRow (grid0.coords t) hr x1 (ix2 0 j) = x1 (ix2 b j) := by
  show x1 _ = x1 _
  congr 1
  funext a
  apply Fin.ext
  match a with
  | ⟨0, _⟩ => exact (congrArg (· + 1 * 0) (rowOff t)).trans hb.symm
  | ⟨1, _⟩ => show 0 + 1 * j.val = j.val; omega

/-! ## The weights and the tokens a grid point sees -/

theorem weights_eq (t : Fin cfg0.N) (hr : Block.RowIn (grid0.coords t)) (b : Fin 8) (hb : b.val = if t.val = 0 then 0 else 1) :
    Block.weights (Block.modRow (grid0.coords t) hr (iblk m c 1 t)) (iblk m c 2 t) (iblk m c 3 t) (iblk m c 4 t) (iblk m c 5 t) (iblk m c 6 t) (iblk m c 7 t)
      = Mixer.ofArrays b (mods m c) (norm m c) (win m c) (vnorm m c) (ws m c) (bs m c) (wout m c) := by
  have hm : ∀ j : Fin 6144, Block.modRow (grid0.coords t) hr (iblk m c 1 t) (ix2 0 j) = mods m c (ix2 b j) :=
    fun j => (modRow_apply t hr _ b hb j).trans (blk1 m c t b j)
  unfold Block.weights Mixer.ofArrays
  simp only [blk2, blk3, blk4, blk5, blk6, blk7]
  congr 1
  · exact funext fun k => hm _
  · exact funext fun k => hm _
  · exact funext fun k => hm _

/-- The first point's block is the context tokens. -/
theorem context_eq (t : Fin cfg0.N) (ht : t.val = 0) (a : ℕ) (ha : a < 256) : Block.rows (iblk m c 0 t) a = Mixer.context (s m c) a := by
  funext k
  rw [Block.rows_mk _ a ha]
  unfold Mixer.context
  rw [dif_pos ha]
  exact blk0 m c t ⟨a, ha⟩ k ⟨a, by omega⟩ (by dsimp only; omega)

/-- The other points' blocks are the latent tokens. -/
theorem latents_eq (t : Fin cfg0.N) (ht : 1 ≤ t.val) (a : ℕ) (ha : a < 256) :
    Block.rows (iblk m c 0 t) a = Mixer.latents (s m c) (256 * (t.val - 1) + a) := by
  have hN := lt65 t
  funext k
  rw [Block.rows_mk _ a ha]
  unfold Mixer.latents
  rw [dif_pos (show 256 * (t.val - 1) + a < 16384 by omega)]
  exact blk0 m c t ⟨a, ha⟩ k ⟨256 + (256 * (t.val - 1) + a), by omega⟩ (by dsimp only; omega)

/-! ## The array -/

/-- What a point writes back is its block of the layer. -/
theorem flushed_eq (t : Fin cfg0.N) (hf : (cfg0.win 8).flush t = true) :
    (Gen.dats m 0 c).flushed 8 t = ((cfg0.win 8).blk t).view.read (Elt Ideal) (Mixer.layer (s m c) (mods m c) (norm m c) (win m c) (vnorm m c) (ws m c) (bs m c) (wout m c)) := by
  have hN := lt65 t
  have hr := rowIn t
  have hrd : ∀ (r : Fin 256) (d : Fin 1024) (n : Fin 16640), n.val = 256 * t.val + r.val →
      ((cfg0.win 8).blk t).view.read (Elt Ideal) (Mixer.layer (s m c) (mods m c) (norm m c) (win m c) (vnorm m c) (ws m c) (bs m c) (wout m c)) (ix2 r d) = (Mixer.layer (s m c) (mods m c) (norm m c) (win m c) (vnorm m c) (ws m c) (bs m c) (wout m c)) (ix2 n d) := by
    intro r d n hn
    rw [View.read_apply]
    refine congrArg (Mixer.layer (s m c) (mods m c) (norm m c) (win m c) (vnorm m c) (ws m c) (bs m c) (wout m c)) ?_
    funext a
    apply Fin.ext
    match a with
    | ⟨0, _⟩ => show win0_8.index t 0 * 256 + 1 * r.val = n.val; have := idx t; omega
    | ⟨1, _⟩ => show win0_8.index t 1 * 1024 + 1 * d.val = d.val; have := idx t; omega
  funext y
  obtain ⟨r, d, rfl⟩ : ∃ (r : Fin 256) (d : Fin 1024), y = ix2 r d := ⟨y 0, y 1, eq_ix2 y⟩
  rw [hrd r d ⟨256 * t.val + r.val, by omega⟩ rfl]
  rw [Value.flushed8_A m c t, Block.out_A _ _ _ _ _ _ _ _ _ _ _ _ _ _ _ _ _ _ _ _ _ _ _ _ _ _ _ _ _ _ hr]
  refine (Block.body_apply _ _ _ _ _ _ _ _ r d).trans ?_
  by_cases h0 : t.val = 0
  · rw [weights_eq m c t hr 0 (by rw [if_pos h0]; rfl)]
    refine Eq.trans ?_ (if_pos (show 256 * t.val + r.val < 256 by omega)).symm
    refine Mixer.out_congr _ (show r.val % 128 = (256 * t.val + r.val) % 128 by omega) (fun q hq => ?_) d
    rw [context_eq m c t h0 _ (by omega)]
    congr 1
    show _ = (256 * t.val + r.val) / 128 * 128 + q
    omega
  · have h1 : 1 ≤ t.val := by omega
    rw [weights_eq m c t hr 1 (by rw [if_neg h0]; rfl)]
    refine Eq.trans ?_ (if_neg (show ¬256 * t.val + r.val < 256 by omega)).symm
    refine Mixer.out_congr _ (show r.val % 128 = (256 * t.val + r.val - 256) % 128 by omega) (fun q hq => ?_) d
    refine (latents_eq m c t h1 _ (by omega)).trans ?_
    congr 1
    show _ = (256 * t.val + r.val - 256) / 128 * 128 + q
    omega

/-- So the result array ends holding it: the points' blocks cover it. -/
theorem final : (Gen.dats m 0 c).arrAt 8 cfg0.N = Mixer.layer (s m c) (mods m c) (norm m c) (win m c) (vnorm m c) (ws m c) (bs m c) (wout m c) :=
  (Gen.dats m 0 c).arrAt_eq_of_cover 8 _ (flushed_eq m c) fun i => by
    have h0 : (i 0 : ℕ) < 16640 := (i 0).isLt
    have h1 : (i 1 : ℕ) < 1024 := (i 1).isLt
    have hb : (i 0).val / 256 < cfg0.N := by show _ < grid0.N; rw [Gen.N_0]; omega
    refine ⟨⟨(i 0).val / 256, hb⟩, (by decide +kernel : ∀ t : Fin cfg0.N, (cfg0.win 8).flush t = true) _, ?_⟩
    show i ∈ ((View.whole main_v11).slice (win0_8.rect ⟨(i 0).val / 256, hb⟩)).set
    rw [View.set_slice_whole, Rect.mem_set_unit]
    intro a
    have hi := idx ⟨(i 0).val / 256, hb⟩
    dsimp only at hi
    match a with
    | ⟨0, _⟩ => show win0_8.index ⟨(i 0).val / 256, hb⟩ 0 * 256 ≤ (i 0 : ℕ) ∧ (i 0 : ℕ) < win0_8.index ⟨(i 0).val / 256, hb⟩ 0 * 256 + 256; omega
    | ⟨1, _⟩ => show win0_8.index ⟨(i 0).val / 256, hb⟩ 1 * 1024 ≤ (i 1 : ℕ) ∧ (i 1 : ℕ) < win0_8.index ⟨(i 0).val / 256, hb⟩ 1 * 1024 + 1024; omega

end Cert.KernelIdeal.Array
end
end
-- ==== Proof.RefLayer.lean ====
/-
  The reference's result, read: every stage of the printed reference at an index is the stage of `Mixer.lean` over the
  token sequences and weights of `Layer.lean`.
-/
module

public import proofs.«01_k».proof.Proof.Gen.ReferenceIdeal.Run
public import proofs.«01_k».proof.Proof.Gen.ReferenceIdeal.Read
public import proofs.«01_k».proof.Proof.Layer
public import Idealize.ShloMosaic.Lib.Pointwise

@[expose] public section

set_option maxRecDepth 16384
noncomputable section

namespace Cert.ReferenceIdeal.Layer

open Idealize.ShloMosaic Idealize.ShloMosaic.TcCoe Idealize.SL.Sem Cert.ReferenceIdeal Cert.ReferenceIdeal.Gen
open Cert.ReferenceIdeal.Read

variable (x0 : Vec Ideal S16640x1024 .f32) (x1 : Vec Ideal S8x6144 .f32)
  (x2 : Vec Ideal S1024 .f32) (x3 : Vec Ideal S1x1024x2048 .f32) (x4 : Vec Ideal S1x1024 .f32)
  (x5 : Vec Ideal S1x4x128x128 .f32) (x6 : Vec Ideal S1x4x128 .f32) (x7 : Vec Ideal S1x1024x1024 .f32)

/-- The latent tokens. -/
theorem latent_apply (r : Fin 16384) (k : Fin 1024) : Mixer.latents x0 r k = (val_main_v1 (F := Ideal) x0) (ix3 0 r k) := by
  have h : (val_main_v1 (F := Ideal) x0) (ix3 0 r k) = x0 (ix2 ⟨256 + r, by omega⟩ k) := by
    pointwise [val_main_v1, val_main_v0]
  rw [h]; unfold Mixer.latents; rw [dif_pos r.isLt]

/-- The modulated latent tokens. -/
theorem latent_modulated (r : Fin 16384) (k : Fin 1024) :
    (val_main_v43 (F := Ideal) x0 x1 x2) (ix3 0 r k) = Mixer.rms (Mixer.latents x0 r) (fun l => x2 (ix1 l)) k * (1 + x1 (ix2 1 ⟨1024 + k, by omega⟩)) + x1 (ix2 1 ⟨k, by omega⟩) := by
  unfold Mixer.rms
  simp only [latent_apply]
  pointwise [val_main_v43, val_main_v41, val_main_v37, val_main_v34, val_main_v33, val_main_v32, val_main_v31, val_main_v29, val_main_v27, val_main_v26, val_main_v25, val_main_cst, val_main_v28, val_main_cst_0, val_main_v30, val_main_cst_1, val_main_v36, val_main_v35, val_main_v40, val_main_v39, val_main_v38, val_main_cst_2, val_main_v7, val_main_v5, val_main_v4, val_main_v42, val_main_v6]

/-- The hidden features of the latent tokens. -/
theorem latent_hidden (r : Fin 16384) (j : Fin 2048) :
    (val_main_v76 (F := Ideal) x0 x1 x2 x3) (ix3 0 r j) = Mixer.hidden (Mixer.ofArrays 1 x1 x2 x3 x4 x5 x6 x7) (Mixer.latents x0 r) j := by
  have hs : (∑ k : Fin 1024, (val_main_v43 (F := Ideal) x0 x1 x2) (ix3 0 r k) * x3 (ix3 0 k j))
      = ∑ k, (Mixer.rms (Mixer.latents x0 r) (Mixer.ofArrays 1 x1 x2 x3 x4 x5 x6 x7).norm k * (1 + (Mixer.ofArrays 1 x1 x2 x3 x4 x5 x6 x7).scale k) + (Mixer.ofArrays 1 x1 x2 x3 x4 x5 x6 x7).shift k) * (Mixer.ofArrays 1 x1 x2 x3 x4 x5 x6 x7).win k j :=
    Finset.sum_congr rfl fun k _ => by rw [latent_modulated]; rfl
  unfold Mixer.hidden
  rw [← Mixer.gelu_comm, ← hs]
  pointwise [val_main_v76, val_main_v63, val_main_v20, val_main_v75, val_main_v74, val_main_cst_10, val_main_v73, val_main_v72, val_main_cst_9, val_main_v71, val_main_v70, val_main_v69, val_main_cst_8, val_main_v68, val_main_v67, val_main_v66, val_main_cst_7, val_main_v65, val_main_v64]

/-- The normalised second half of the hidden features of the latent tokens. -/
theorem latent_gateIn (r : Fin 16384) (j : Fin 1024) :
    (val_main_v91 (F := Ideal) x0 x1 x2 x3 x4) (ix3 0 r j) = Mixer.gateIn (Mixer.ofArrays 1 x1 x2 x3 x4 x5 x6 x7) (Mixer.latents x0 r) j := by
  unfold Mixer.gateIn Mixer.rms
  simp only [← latent_hidden]
  pointwise [val_main_v91, val_main_v88, val_main_v78, val_main_v87, val_main_v86, val_main_v85, val_main_v83, val_main_v81, val_main_v80, val_main_v79, val_main_cst_11, val_main_v82, val_main_cst_12, val_main_v84, val_main_cst_13, val_main_v90, val_main_v89, val_main_v21]
  rfl

/-- The gated product of the latent tokens. -/
theorem latent_mixed (r : Fin 16384) (j : Fin 1024) :
    (val_main_v100 (F := Ideal) x0 x1 x2 x3 x4 x5 x6) (ix3 0 r j) = Mixer.mixed (Mixer.ofArrays 1 x1 x2 x3 x4 x5 x6 x7) (Mixer.latents x0) r j := by
  have hs : (∑ q : Fin 128, (val_main_v91 (F := Ideal) x0 x1 x2 x3 x4) (ix3 0 ⟨r / 128 * 128 + q, by omega⟩ j) * x5 (ix4 0 ⟨j / 256, by omega⟩ ⟨r % 128, by omega⟩ q))
      = ∑ q : Fin 128, x5 (ix4 0 ⟨j / 256, by omega⟩ ⟨r % 128, by omega⟩ q) * Mixer.gateIn (Mixer.ofArrays 1 x1 x2 x3 x4 x5 x6 x7) (Mixer.latents x0 (r / 128 * 128 + q)) j :=
    Finset.sum_congr rfl fun q _ => by rw [latent_gateIn x0 x1 x2 x3 x4 x5 x6 x7, mul_comm]
  unfold Mixer.mixed
  rw [← latent_hidden]
  refine Eq.trans ?_ (congrArg (fun z => _ * (z + _)) hs)
  pointwise [val_main_v100, val_main_v77, val_main_v99, val_main_v98, val_main_v94, val_main_v93, val_main_v92, val_main_v22, val_main_v97, val_main_v96, val_main_v95, val_main_v23]
  rfl

/-- The layer's result at the latent tokens. -/
theorem latent_out (r : Fin 16384) (d : Fin 1024) :
    (val_main_v104 (F := Ideal) x0 x1 x2 x3 x4 x5 x6 x7) (ix3 0 r d) = Mixer.out (Mixer.ofArrays 1 x1 x2 x3 x4 x5 x6 x7) (Mixer.latents x0) r d := by
  unfold Mixer.out
  simp only [← latent_mixed]
  simp only [latent_apply]
  pointwise [val_main_v104, val_main_v103, val_main_v102, val_main_v8, val_main_v5, val_main_v4, val_main_v101, val_main_v24]
  rfl

/-- The context tokens. -/
theorem context_apply (r : Fin 256) (k : Fin 1024) : Mixer.context x0 r k = (val_main_v3 (F := Ideal) x0) (ix3 0 r k) := by
  have h : (val_main_v3 (F := Ideal) x0) (ix3 0 r k) = x0 (ix2 ⟨r, by omega⟩ k) := by
    pointwise [val_main_v3, val_main_v2]
  rw [h]; unfold Mixer.context; rw [dif_pos r.isLt]

/-- The modulated context tokens. -/
theorem context_modulated (r : Fin 256) (k : Fin 1024) :
    (val_main_v62 (F := Ideal) x0 x1 x2) (ix3 0 r k) = Mixer.rms (Mixer.context x0 r) (fun l => x2 (ix1 l)) k * (1 + x1 (ix2 0 ⟨1024 + k, by omega⟩)) + x1 (ix2 0 ⟨k, by omega⟩) := by
  unfold Mixer.rms
  simp only [context_apply]
  pointwise [val_main_v62, val_main_v60, val_main_v56, val_main_v53, val_main_v52, val_main_v51, val_main_v50, val_main_v48, val_main_v46, val_main_v45, val_main_v44, val_main_cst_3, val_main_v47, val_main_cst_4, val_main_v49, val_main_cst_5, val_main_v55, val_main_v54, val_main_v59, val_main_v58, val_main_v57, val_main_cst_6, val_main_v15, val_main_v13, val_main_v12, val_main_v61, val_main_v14]

/-- The hidden features of the context tokens. -/
theorem context_hidden (r : Fin 256) (j : Fin 2048) :
    (val_main_v118 (F := Ideal) x0 x1 x2 x3) (ix3 0 r j) = Mixer.hidden (Mixer.ofArrays 0 x1 x2 x3 x4 x5 x6 x7) (Mixer.context x0 r) j := by
  have hs : (∑ k : Fin 1024, (val_main_v62 (F := Ideal) x0 x1 x2) (ix3 0 r k) * x3 (ix3 0 k j))
      = ∑ k, (Mixer.rms (Mixer.context x0 r) (Mixer.ofArrays 0 x1 x2 x3 x4 x5 x6 x7).norm k * (1 + (Mixer.ofArrays 0 x1 x2 x3 x4 x5 x6 x7).scale k) + (Mixer.ofArrays 0 x1 x2 x3 x4 x5 x6 x7).shift k) * (Mixer.ofArrays 0 x1 x2 x3 x4 x5 x6 x7).win k j :=
    Finset.sum_congr rfl fun k _ => by rw [context_modulated]; rfl
  unfold Mixer.hidden
  rw [← Mixer.gelu_comm, ← hs]
  pointwise [val_main_v118, val_main_v105, val_main_v20, val_main_v117, val_main_v116, val_main_cst_17, val_main_v115, val_main_v114, val_main_cst_16, val_main_v113, val_main_v112, val_main_v111, val_main_cst_15, val_main_v110, val_main_v109, val_main_v108, val_main_cst_14, val_main_v107, val_main_v106]

/-- The normalised second half of the hidden features of the context tokens. -/
theorem context_gateIn (r : Fin 256) (j : Fin 1024) :
    (val_main_v133 (F := Ideal) x0 x1 x2 x3 x4) (ix3 0 r j) = Mixer.gateIn (Mixer.ofArrays 0 x1 x2 x3 x4 x5 x6 x7) (Mixer.context x0 r) j := by
  unfold Mixer.gateIn Mixer.rms
  simp only [← context_hidden]
  pointwise [val_main_v133, val_main_v130, val_main_v120, val_main_v129, val_main_v128, val_main_v127, val_main_v125, val_main_v123, val_main_v122, val_main_v121, val_main_cst_18, val_main_v124, val_main_cst_19, val_main_v126, val_main_cst_20, val_main_v132, val_main_v131, val_main_v21]
  rfl

/-- The gated product of the context tokens. -/
theorem context_mixed (r : Fin 256) (j : Fin 1024) :
    (val_main_v142 (F := Ideal) x0 x1 x2 x3 x4 x5 x6) (ix3 0 r j) = Mixer.mixed (Mixer.ofArrays 0 x1 x2 x3 x4 x5 x6 x7) (Mixer.context x0) r j := by
  have hs : (∑ q : Fin 128, (val_main_v133 (F := Ideal) x0 x1 x2 x3 x4) (ix3 0 ⟨r / 128 * 128 + q, by omega⟩ j) * x5 (ix4 0 ⟨j / 256, by omega⟩ ⟨r % 128, by omega⟩ q))
      = ∑ q : Fin 128, x5 (ix4 0 ⟨j / 256, by omega⟩ ⟨r % 128, by omega⟩ q) * Mixer.gateIn (Mixer.ofArrays 0 x1 x2 x3 x4 x5 x6 x7) (Mixer.context x0 (r / 128 * 128 + q)) j :=
    Finset.sum_congr rfl fun q _ => by rw [context_gateIn x0 x1 x2 x3 x4 x5 x6 x7, mul_comm]
  unfold Mixer.mixed
  rw [← context_hidden]
  refine Eq.trans ?_ (congrArg (fun z => _ * (z + _)) hs)
  pointwise [val_main_v142, val_main_v119, val_main_v141, val_main_v140, val_main_v136, val_main_v135, val_main_v134, val_main_v22, val_main_v139, val_main_v138, val_main_v137, val_main_v23]
  rfl

/-- The layer's result at the context tokens. -/
theorem context_out (r : Fin 256) (d : Fin 1024) :
    (val_main_v146 (F := Ideal) x0 x1 x2 x3 x4 x5 x6 x7) (ix3 0 r d) = Mixer.out (Mixer.ofArrays 0 x1 x2 x3 x4 x5 x6 x7) (Mixer.context x0) r d := by
  unfold Mixer.out
  simp only [← context_mixed]
  simp only [context_apply]
  pointwise [val_main_v146, val_main_v145, val_main_v144, val_main_v16, val_main_v13, val_main_v12, val_main_v143, val_main_v24]
  rfl

/-- The reference's result is the layer of its arguments. -/
theorem result_eq : (val_main_v148 (F := Ideal) x0 x1 x2 x3 x4 x5 x6 x7) = Mixer.layer x0 x1 x2 x3 x4 x5 x6 x7 := by
  funext y
  obtain ⟨r, d, rfl⟩ : ∃ (r : Fin 16640) (d : Fin 1024), y = ix2 r d := ⟨y 0, y 1, eq_ix2 y⟩
  have h : (val_main_v148 (F := Ideal) x0 x1 x2 x3 x4 x5 x6 x7) (ix2 r d) = if h : r.val < 256 then (val_main_v146 (F := Ideal) x0 x1 x2 x3 x4 x5 x6 x7) (ix3 0 ⟨r, h⟩ d)
      else (val_main_v104 (F := Ideal) x0 x1 x2 x3 x4 x5 x6 x7) (ix3 0 ⟨r - 256, by omega⟩ d) := by
    pointwise [val_main_v148, val_main_v147]
  rw [h]
  show _ = if r.val < 256 then _ else _
  by_cases hr : r.val < 256
  · rw [dif_pos hr, if_pos hr, context_out]; rfl
  · rw [dif_neg hr, if_neg hr, latent_out]; rfl

end Cert.ReferenceIdeal.Layer
end
end
-- ==== Proof.ChunkClaims.lean ====
/-
  The claims about the chunk MLP call: its frames, and that its idealization and the reference's compute the same layer.
-/
module

public import proofs.«01_k».proof.Defs
public import proofs.«01_k».proof.Proof.Gen.Kernel.Frame
public import proofs.«01_k».proof.Proof.Array
public import proofs.«01_k».proof.Proof.RefLayer

@[expose] public section

noncomputable section

namespace Cert.Proof

open Idealize.ShloMosaic Idealize.SL.Sem

/-- The chunk MLP layer runs and leaves its arguments unchanged. -/
theorem frame_Kernel : Cert.quiescent_Kernel (hKernel := Cert.Kernel.Gen.facts) := fun m ρ _ => Cert.Kernel.Gen.frame m ρ

/-- So does its idealization. -/
theorem frame_KernelIdeal : Cert.quiescent_KernelIdeal (hKernelIdeal := Cert.KernelIdeal.Gen.facts) :=
  fun m ρ _ => Cert.KernelIdeal.Gen.frame m ρ

/-- So does the reference; it declares no semaphore. -/
theorem frame_ReferenceIdeal : Cert.quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Both results are `Mixer.layer` of the arguments. -/
theorem algebraic_Kernel : Cert.algebraic_KernelIdeal_ReferenceIdeal
    (hKernelIdeal := Cert.KernelIdeal.Gen.facts) (hReferenceIdeal := Cert.ReferenceIdeal.Gen.facts) := by
  intro m ρ m' ρ' _ hagree
  refine ⟨fun c => Mixer.layer (m ((c.tc : Thread _ _).loc Cert.KernelIdeal.main_arg0)) (m ((c.tc : Thread _ _).loc Cert.KernelIdeal.main_arg1)) (m ((c.tc : Thread _ _).loc Cert.KernelIdeal.main_arg2)) (m ((c.tc : Thread _ _).loc Cert.KernelIdeal.main_arg3)) (m ((c.tc : Thread _ _).loc Cert.KernelIdeal.main_arg4)) (m ((c.tc : Thread _ _).loc Cert.KernelIdeal.main_arg5)) (m ((c.tc : Thread _ _).loc Cert.KernelIdeal.main_arg6)) (m ((c.tc : Thread _ _).loc Cert.KernelIdeal.main_arg7)), ?_, ?_⟩
  · exact (θ_run Cert.KernelIdeal.defs _ _).mono
      (fun r h c => ⟨(h c).1.trans (Cert.KernelIdeal.Array.final m c), (h c).2⟩) (Cert.KernelIdeal.Value.run_blocks m ρ)
  · refine (θ_run Cert.ReferenceIdeal.defs _ _).mono (fun r h c => ⟨?_, (h c).2⟩) (Cert.ReferenceIdeal.Value.run (F := Ideal) m' ρ')
    obtain ⟨h0, h1, h2, h3, h4, h5, h6, h7⟩ := hagree c
    refine ((h c).1.trans ((Cert.ReferenceIdeal.Read.val_main_v148_eq (F := Ideal) m' c).trans
      (Cert.ReferenceIdeal.Layer.result_eq _ _ _ _ _ _ _ _))).trans ?_
    rw [h0, h1, h2, h3, h4, h5, h6, h7]

end Cert.Proof
end
end
-- ==== Proof.LruOut.lean ====
/-
  The output call of the RG-LRU layer: the sum of the two scan directions, gated, projected, scaled by the modulation
  and added to the latent tokens; kernel and reference both compute `LruOut.out`.
-/
module

public import proofs.«01_k».proof.Defs
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read
public import Idealize.ShloMosaic.Lib.Pointwise
public import Idealize.ShloMosaic.Lib.StableHlo.ReadAt

@[expose] public section

set_option maxRecDepth 16384
noncomputable section

namespace Cert.LruOut
open Idealize.ShloMosaic

/-- Latent token `n` (row `256 + n` of the arrays) after the layer: `s + gate · ((gl · (hf + hr)) W)`. -/
def out (gl : Vec Ideal ⟨2, ![16640, 1280]⟩ .f32) (hf : Vec Ideal ⟨2, ![16640, 1280]⟩ .f32) (hr : Vec Ideal ⟨2, ![16640, 1280]⟩ .f32) (s : Vec Ideal ⟨2, ![16640, 1024]⟩ .f32) (mods : Vec Ideal ⟨2, ![8, 6144]⟩ .f32) (wout : Vec Ideal ⟨2, ![1280, 1024]⟩ .f32) (y : (⟨2, ![16384, 1024]⟩ : Shape).Idx) : EReal :=
  have h : (y 0).val < 16384 := (y 0).isLt
  have h1 : (y 1).val < 1024 := (y 1).isLt
  s (ix2 ⟨256 + (y 0).val, by omega⟩ (y 1)) + mods (ix2 1 ⟨2048 + (y 1).val, by omega⟩) *
    ∑ j : Fin 1280, gl (ix2 ⟨256 + (y 0).val, by omega⟩ j) * (hf (ix2 ⟨256 + (y 0).val, by omega⟩ j) + hr (ix2 ⟨256 + (y 0).val, by omega⟩ j)) * wout (ix2 j (y 1))

end Cert.LruOut

namespace Cert.Kernel2Ideal.Array
open Idealize.ShloMosaic Idealize.ShloMosaic.TcCoe Idealize.SL.Sem Cert.Kernel2Ideal Cert.Kernel2Ideal.Gen
open Idealize.ShloMosaic.Pipeline (Dat)

variable (m : (ℓ : Loc nD τ sig) → Buf (Elt Ideal) ℓ) (ρ : Dev nD → PrngReg) (c : Dev nD)

/-- Argument 0. -/
abbrev gl : Vec Ideal S16640x1280 .f32 := m ((c : Thread nD τ).loc main_arg0)
/-- Argument 1. -/
abbrev hf : Vec Ideal S16640x1280 .f32 := m ((c : Thread nD τ).loc main_arg1)
/-- Argument 2. -/
abbrev hr : Vec Ideal S16640x1280 .f32 := m ((c : Thread nD τ).loc main_arg2)
/-- Argument 3. -/
abbrev s : Vec Ideal S16640x1024 .f32 := m ((c : Thread nD τ).loc main_arg3)
/-- Argument 4. -/
abbrev mods : Vec Ideal S8x6144 .f32 := m ((c : Thread nD τ).loc main_arg4)
/-- Argument 5. -/
abbrev wout : Vec Ideal S1280x1024 .f32 := m ((c : Thread nD τ).loc main_arg5)

theorem hz : (![0, 0] : Fin 2 → Nat) = fun _ => 0 := funext fun a => by fin_cases a <;> rfl

theorem V0 (r : Fin 1280) (k : Fin 1024) : (V m c main_v0 : Vec Ideal S1280x1024 .bf16) (ix2 r k) = wout m c (ix2 r k) := by
  unfold V
  after_reads_at

theorem lt64 (t : Fin cfg0.N) : t.val < 64 := lt_of_lt_of_eq t.isLt Gen.N_0

/-- The block indices: the token blocks one after the point, everything else whole. -/
theorem idx : ∀ t : Fin cfg0.N, win0_0.index t 0 = t.val + 1
    ∧ win0_1.index t 0 = t.val + 1
    ∧ win0_2.index t 0 = t.val + 1
    ∧ win0_3.index t 0 = t.val + 1
    ∧ win0_0.index t 1 = 0
    ∧ win0_1.index t 1 = 0
    ∧ win0_2.index t 1 = 0
    ∧ win0_3.index t 1 = 0
    ∧ win0_4.index t 1 = 0
    ∧ win0_5.index t 1 = 0
    ∧ win0_4.index t 0 = 0
    ∧ win0_5.index t 0 = 0
    ∧ win0_6.index t 0 = t.val
    ∧ win0_6.index t 1 = 0 := by decide +kernel

theorem blk0 (t : Fin cfg0.N) (r : Fin 256) (k : Fin 1280) (n : Fin 16640) (hn : n.val = 256 + (256 * t.val + r.val)) :
    (iblk m c 0 t : Vec Ideal S256x1280 .f32) (ix2 r k) = gl m c (ix2 n k) := by
  refine Eq.trans ?_ (congrFun (V_main_arg0 m c) _)
  unfold iblk
  rw [View.read_apply]
  show V m c main_arg0 _ = V m c main_arg0 _
  congr 1
  funext a
  apply Fin.ext
  match a with
  | ⟨0, _⟩ => show win0_0.index t 0 * 256 + 1 * r.val = n.val; have := idx t; omega
  | ⟨1, _⟩ => show win0_0.index t 1 * 1280 + 1 * k.val = k.val; have := idx t; omega

theorem blk1 (t : Fin cfg0.N) (r : Fin 256) (k : Fin 1280) (n : Fin 16640) (hn : n.val = 256 + (256 * t.val + r.val)) :
    (iblk m c 1 t : Vec Ideal S256x1280 .f32) (ix2 r k) = hf m c (ix2 n k) := by
  refine Eq.trans ?_ (congrFun (V_main_arg1 m c) _)
  unfold iblk
  rw [View.read_apply]
  show V m c main_arg1 _ = V m c main_arg1 _
  congr 1
  funext a
  apply Fin.ext
  match a with
  | ⟨0, _⟩ => show win0_1.index t 0 * 256 + 1 * r.val = n.val; have := idx t; omega
  | ⟨1, _⟩ => show win0_1.index t 1 * 1280 + 1 * k.val = k.val; have := idx t; omega

theorem blk2 (t : Fin cfg0.N) (r : Fin 256) (k : Fin 1280) (n : Fin 16640) (hn : n.val = 256 + (256 * t.val + r.val)) :
    (iblk m c 2 t : Vec Ideal S256x1280 .f32) (ix2 r k) = hr m c (ix2 n k) := by
  refine Eq.trans ?_ (congrFun (V_main_arg2 m c) _)
  unfold iblk
  rw [View.read_apply]
  show V m c main_arg2 _ = V m c main_arg2 _
  congr 1
  funext a
  apply Fin.ext
  match a with
  | ⟨0, _⟩ => show win0_2.index t 0 * 256 + 1 * r.val = n.val; have := idx t; omega
  | ⟨1, _⟩ => show win0_2.index t 1 * 1280 + 1 * k.val = k.val; have := idx t; omega

theorem blk3 (t : Fin cfg0.N) (r : Fin 256) (k : Fin 1024) (n : Fin 16640) (hn : n.val = 256 + (256 * t.val + r.val)) :
    (iblk m c 3 t : Vec Ideal S256x1024 .f32) (ix2 r k) = s m c (ix2 n k) := by
  refine Eq.trans ?_ (congrFun (V_main_arg3 m c) _)
  unfold iblk
  rw [View.read_apply]
  show V m c main_arg3 _ = V m c main_arg3 _
  congr 1
  funext a
  apply Fin.ext
  match a with
  | ⟨0, _⟩ => show win0_3.index t 0 * 256 + 1 * r.val = n.val; have := idx t; omega
  | ⟨1, _⟩ => show win0_3.index t 1 * 1024 + 1 * k.val = k.val; have := idx t; omega

theorem blk4 (t : Fin cfg0.N) (r : Fin 8) (k : Fin 6144) :
    (iblk m c 4 t : Vec Ideal S8x6144 .f32) (ix2 r k) = mods m c (ix2 r k) := by
  refine Eq.trans ?_ (congrFun (V_main_arg4 m c) _)
  unfold iblk
  rw [View.read_apply]
  show V m c main_arg4 _ = V m c main_arg4 _
  congr 1
  funext a
  apply Fin.ext
  match a with
  | ⟨0, _⟩ => show win0_4.index t 0 * 8 + 1 * r.val = r.val; have := idx t; omega
  | ⟨1, _⟩ => show win0_4.index t 1 * 6144 + 1 * k.val = k.val; have := idx t; omega

theorem blk5 (t : Fin cfg0.N) (r : Fin 1280) (k : Fin 1024) :
    (iblk m c 5 t : Vec Ideal S1280x1024 .bf16) (ix2 r k) = wout m c (ix2 r k) := by
  rw [← V0]
  unfold iblk
  rw [View.read_apply]
  show V m c main_v0 _ = V m c main_v0 _
  congr 1
  funext a
  apply Fin.ext
  match a with
  | ⟨0, _⟩ => show win0_5.index t 0 * 1280 + 1 * r.val = r.val; have := idx t; omega
  | ⟨1, _⟩ => show win0_5.index t 1 * 1024 + 1 * k.val = k.val; have := idx t; omega

theorem ld_r0_1_f32 (x : Vec Ideal S256x1280 .f32) : View.ld x r0_1 = x := View.ld_unit_zero (S := S256x1280) hz _ x
theorem ld_r0_2_f32 (x : Vec Ideal S256x1024 .f32) : View.ld x r0_2 = x := View.ld_unit_zero (S := S256x1024) hz _ x
theorem ld_r0_3_bf16 (x : Vec Ideal S1280x1024 .bf16) : View.ld x r0_3 = x := View.ld_unit_zero (S := S1280x1024) hz _ x

/-- The body's result at an index. -/
theorem pay_apply (v2 : Vec Ideal S1x6144 .f32) (v4 v6 v8 : Vec Ideal S256x1280 .f32) (v12 : Vec Ideal S256x1024 .f32)
    (v13 : Vec Ideal S1280x1024 .bf16) (r : Fin 256) (k : Fin 1024) :
    k0_pay1 v2 v4 v6 v8 v12 v13 (ix2 r k)
      = v12 (ix2 r k) + v2 (ix2 0 ⟨2048 + k, by omega⟩) * ∑ j : Fin 1280, v4 (ix2 r j) * (v6 (ix2 r j) + v8 (ix2 r j)) * v13 (ix2 j k) := by
  pointwise [k0_pay1]

/-- The modulation row the body loads. -/
theorem row_apply (x4 : Vec Ideal S8x6144 .f32) (k : Fin 6144) : (View.ld x4 r0_0 : Vec Ideal S1x6144 .f32) (ix2 0 k) = x4 (ix2 1 k) := by
  show x4 _ = x4 _
  congr 1
  funext a
  apply Fin.ext
  match a with
  | ⟨0, _⟩ => show k0_off1 0 + 1 * 0 = 1; rw [k0_off1_eq]; rfl
  | ⟨1, _⟩ => show k0_off1 1 + 1 * k.val = k.val; rw [k0_off1_eq]; show 0 + 1 * k.val = k.val; omega

/-- What a point writes back is its block of the result. -/
theorem flushed_eq (t : Fin cfg0.N) (hf' : (cfg0.win 6).flush t = true) :
    (Gen.dats m 0 c).flushed 6 t = ((cfg0.win 6).blk t).view.read (Elt Ideal) (LruOut.out (gl m c) (hf m c) (hr m c) (s m c) (mods m c) (wout m c)) := by
  have hN := lt64 t
  have hrd : ∀ (r : Fin 256) (k : Fin 1024) (n : Fin 16384), n.val = 256 * t.val + r.val →
      ((cfg0.win 6).blk t).view.read (Elt Ideal) (LruOut.out (gl m c) (hf m c) (hr m c) (s m c) (mods m c) (wout m c)) (ix2 r k) = LruOut.out (gl m c) (hf m c) (hr m c) (s m c) (mods m c) (wout m c) (ix2 n k) := by
    intro r k n hn
    rw [View.read_apply]
    refine congrArg (LruOut.out (gl m c) (hf m c) (hr m c) (s m c) (mods m c) (wout m c)) ?_
    funext a
    apply Fin.ext
    match a with
    | ⟨0, _⟩ => show win0_6.index t 0 * 256 + 1 * r.val = n.val; have := idx t; omega
    | ⟨1, _⟩ => show win0_6.index t 1 * 1024 + 1 * k.val = k.val; have := idx t; omega
  funext y
  obtain ⟨r, k, rfl⟩ : ∃ (r : Fin 256) (k : Fin 1024), y = ix2 r k := ⟨y 0, y 1, eq_ix2 y⟩
  rw [hrd r k ⟨256 * t.val + r.val, by omega⟩ rfl, Value.flushed6 m c t]
  unfold out0_6
  rw [View.canon_unit_zero hz]
  refine (pay_apply _ _ _ _ _ _ r k).trans ?_
  rw [row_apply]
  rw [ld_r0_1_f32, ld_r0_1_f32, ld_r0_1_f32, ld_r0_2_f32, ld_r0_3_bf16]
  rw [blk3 m c t r k ⟨256 + (256 * t.val + r.val), by omega⟩ rfl, blk4 m c t]
  refine congrArg (_ + _ * ·) (Finset.sum_congr rfl fun j _ => ?_)
  rw [blk0 m c t r j ⟨256 + (256 * t.val + r.val), by omega⟩ rfl, blk1 m c t r j ⟨256 + (256 * t.val + r.val), by omega⟩ rfl,
    blk2 m c t r j ⟨256 + (256 * t.val + r.val), by omega⟩ rfl, blk5 m c t]
  rfl

/-- So the result array ends holding it: the points' blocks cover it. -/
theorem final : (Gen.dats m 0 c).arrAt 6 cfg0.N = LruOut.out (gl m c) (hf m c) (hr m c) (s m c) (mods m c) (wout m c) :=
  (Gen.dats m 0 c).arrAt_eq_of_cover 6 _ (flushed_eq m c) fun i => by
    have h0 : (i 0 : ℕ) < 16384 := (i 0).isLt
    have h1 : (i 1 : ℕ) < 1024 := (i 1).isLt
    have hb : (i 0).val / 256 < cfg0.N := by show _ < grid0.N; rw [Gen.N_0]; omega
    refine ⟨⟨(i 0).val / 256, hb⟩, (by decide +kernel : ∀ t : Fin cfg0.N, (cfg0.win 6).flush t = true) _, ?_⟩
    show i ∈ ((View.whole main_v1).slice (win0_6.rect ⟨(i 0).val / 256, hb⟩)).set
    rw [View.set_slice_whole, Rect.mem_set_unit]
    intro a
    have hi := idx ⟨(i 0).val / 256, hb⟩
    dsimp only at hi
    match a with
    | ⟨0, _⟩ => show win0_6.index ⟨(i 0).val / 256, hb⟩ 0 * 256 ≤ (i 0 : ℕ) ∧ (i 0 : ℕ) < win0_6.index ⟨(i 0).val / 256, hb⟩ 0 * 256 + 256; omega
    | ⟨1, _⟩ => show win0_6.index ⟨(i 0).val / 256, hb⟩ 1 * 1024 ≤ (i 1 : ℕ) ∧ (i 1 : ℕ) < win0_6.index ⟨(i 0).val / 256, hb⟩ 1 * 1024 + 1024; omega

end Cert.Kernel2Ideal.Array

namespace Cert.Reference2Ideal.Layer
open Idealize.ShloMosaic Idealize.ShloMosaic.TcCoe Idealize.SL.Sem Cert.Reference2Ideal Cert.Reference2Ideal.Gen Cert.Reference2Ideal.Read

variable (x0 : Vec Ideal S16640x1280 .f32) (x1 : Vec Ideal S16640x1280 .f32) (x2 : Vec Ideal S16640x1280 .f32) (x3 : Vec Ideal S16640x1024 .f32) (x4 : Vec Ideal S8x6144 .f32) (x5 : Vec Ideal S1280x1024 .f32)

/-- The reference's result is the same function. -/
theorem result_eq : (val_main_v16 (F := Ideal) x0 x1 x2 x3 x4 x5) = LruOut.out x0 x1 x2 x3 x4 x5 := by
  funext y
  obtain ⟨r, k, rfl⟩ : ∃ (r : Fin 16384) (k : Fin 1024), y = ix2 r k := ⟨y 0, y 1, eq_ix2 y⟩
  show _ = x3 (ix2 ⟨256 + r.val, by omega⟩ k) + x4 (ix2 1 ⟨2048 + k.val, by omega⟩) *
    ∑ j : Fin 1280, x0 (ix2 ⟨256 + r.val, by omega⟩ j) * (x1 (ix2 ⟨256 + r.val, by omega⟩ j) + x2 (ix2 ⟨256 + r.val, by omega⟩ j)) * x5 (ix2 j k)
  pointwise [val_main_v16, val_main_v3, val_main_v15, val_main_v14, val_main_v7, val_main_v4, val_main_v13, val_main_v12, val_main_v0, val_main_v11, val_main_v1, val_main_v2]

end Cert.Reference2Ideal.Layer

namespace Cert.Proof

open Idealize.ShloMosaic Idealize.SL.Sem

/-- The output call of the RG-LRU layer runs and leaves its arguments unchanged. -/
theorem frame_Kernel2 : Cert.quiescent_Kernel2 (hKernel2 := Cert.Kernel2.Gen.facts) := fun m ρ _ => Cert.Kernel2.Gen.frame m ρ

/-- So does its idealization. -/
theorem frame_Kernel2Ideal : Cert.quiescent_Kernel2Ideal (hKernel2Ideal := Cert.Kernel2Ideal.Gen.facts) :=
  fun m ρ _ => Cert.Kernel2Ideal.Gen.frame m ρ

/-- So does the reference; it declares no semaphore. -/
theorem frame_Reference2Ideal : Cert.quiescent_Reference2Ideal (hReference2Ideal := Cert.Reference2Ideal.Gen.facts) := fun m ρ _ =>
  (θ_run Cert.Reference2Ideal.defs _ _).mono
    (fun r h => ⟨fun c => (h c).2, Idealize.ShloMosaic.sem_eq_zero_of_no_sems (by decide) r.2⟩)
    (Cert.Reference2Ideal.Value.run (F := Ideal) m ρ)

/-- Both results are `LruOut.out` of the arguments. -/
theorem algebraic_Kernel2 : Cert.algebraic_Kernel2Ideal_Reference2Ideal
    (hKernel2Ideal := Cert.Kernel2Ideal.Gen.facts) (hReference2Ideal := Cert.Reference2Ideal.Gen.facts) := by
  intro m ρ m' ρ' _ hagree
  refine ⟨fun c => LruOut.out (m ((c.tc : Thread _ _).loc Cert.Kernel2Ideal.main_arg0)) (m ((c.tc : Thread _ _).loc Cert.Kernel2Ideal.main_arg1)) (m ((c.tc : Thread _ _).loc Cert.Kernel2Ideal.main_arg2)) (m ((c.tc : Thread _ _).loc Cert.Kernel2Ideal.main_arg3)) (m ((c.tc : Thread _ _).loc Cert.Kernel2Ideal.main_arg4)) (m ((c.tc : Thread _ _).loc Cert.Kernel2Ideal.main_arg5)), ?_, ?_⟩
  · exact (θ_run Cert.Kernel2Ideal.defs _ _).mono
      (fun r h c => ⟨(h c).1.trans (Cert.Kernel2Ideal.Array.final m c), (h c).2⟩) (Cert.Kernel2Ideal.Value.run_blocks m ρ)
  · refine (θ_run Cert.Reference2Ideal.defs _ _).mono (fun r h c => ⟨?_, (h c).2⟩) (Cert.Reference2Ideal.Value.run (F := Ideal) m' ρ')
    obtain ⟨h0, h1, h2, h3, h4, h5⟩ := hagree c
    refine ((h c).1.trans ((Cert.Reference2Ideal.Read.val_main_v16_eq (F := Ideal) _ _ _ _ _ _).trans
      (Cert.Reference2Ideal.Layer.result_eq _ _ _ _ _ _))).trans ?_
    rw [h0, h1, h2, h3, h4, h5]

end Cert.Proof
end
end
-- ==== Proof.MlOut.lean ====
/-
  The output call of the mLSTM layer: the sum of the two scan directions, normalised head by head, gated by the logistic
  function, projected, scaled by the modulation and added to the tokens; kernel and reference both compute `MlOut.out`.
-/
module

public import proofs.«01_k».proof.Defs
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import Idealize.ShloMosaic.Lib.Pointwise
public import Idealize.ShloMosaic.Lib.StableHlo.ReadAt

@[expose] public section

set_option maxRecDepth 16384
noncomputable section

namespace Cert.MlOut
open Idealize.ShloMosaic

/-- The head that feature `j` belongs to, as the range of its 256 features: feature `q` of the head of `j`. -/
abbrev mate (j : Fin 1024) (q : Fin 256) : Fin 1024 := ⟨j.val / 256 * 256 + q.val, by omega⟩

/-- One token's gated features: `h`, the summed scan states, normalised over the feature's head, times the norm gain, times
    the logistic function of the gate. -/
def gated (h g o : Fin 1024 → EReal) (j : Fin 1024) : EReal :=
  h j * Ideal.rsqrt (Ideal.div (∑ q : Fin 256, h (mate j q) * h (mate j q)) (Ideal.ofBits FTy.f32 1132462080#32)
    + Ideal.ofBits FTy.f32 897988541#32) * g j * Ideal.logistic (o j)

/-- The row of the modulation table that token `n` uses: 0 for the context, 1 for the latent tokens. -/
def stream (n : ℕ) : Fin 8 := if n < 256 then 0 else 1

/-- Token `n` after the layer: `s + gate · (gated W)`. -/
def out (hf : Vec Ideal ⟨2, ![16640, 1024]⟩ .f32) (hr : Vec Ideal ⟨2, ![16640, 1024]⟩ .f32) (o : Vec Ideal ⟨2, ![16640, 1024]⟩ .f32) (s : Vec Ideal ⟨2, ![16640, 1024]⟩ .f32) (mods : Vec Ideal ⟨2, ![8, 6144]⟩ .f32) (normg : Vec Ideal ⟨1, ![1024]⟩ .f32) (wout : Vec Ideal ⟨2, ![1024, 1024]⟩ .f32) (y : (⟨2, ![16640, 1024]⟩ : Shape).Idx) : EReal :=
  have h1 : (y 1).val < 1024 := (y 1).isLt
  s y + mods (ix2 (stream (y 0).val) ⟨2048 + (y 1).val, by omega⟩) *
    ∑ j : Fin 1024, gated (fun j => hf (ix2 (y 0) j) + hr (ix2 (y 0) j)) (fun j => normg (ix1 j)) (fun j => o (ix2 (y 0) j)) j * wout (ix2 j (y 1))

end Cert.MlOut

namespace Cert.Kernel3Ideal.Array
open Idealize.ShloMosaic Idealize.ShloMosaic.TcCoe Idealize.SL.Sem Cert.Kernel3Ideal Cert.Kernel3Ideal.Gen
open Idealize.ShloMosaic.Pipeline (Dat)

/-- The gated features of a block of 256 tokens as one array. -/
def prod (a b o : Vec Ideal S256x1024 .f32) (g : Vec Ideal S1x1024 .f32) (y : S256x1024.Idx) : EReal :=
  MlOut.gated (fun j => a (ix2 (y 0) j) + b (ix2 (y 0) j)) (fun j => g (ix2 0 j)) (fun j => o (ix2 (y 0) j)) (y 1)

/-- The gated features read at an index, the head given by its number `n`. -/
theorem prod_at (a b o : Vec Ideal S256x1024 .f32) (g : Vec Ideal S1x1024 .f32) (r : Fin 256) (j : ℕ) (hj : j < 1024) (n : ℕ) (hn' : n ≤ 768) (hn : j / 256 * 256 = n) :
    prod a b o g (ix2 r ⟨j, hj⟩)
      = (a (ix2 r ⟨j, hj⟩) + b (ix2 r ⟨j, hj⟩)) * Ideal.rsqrt (Ideal.div (∑ q : Fin 256, (a (ix2 r ⟨n + q, by omega⟩) + b (ix2 r ⟨n + q, by omega⟩)) * (a (ix2 r ⟨n + q, by omega⟩) + b (ix2 r ⟨n + q, by omega⟩))) (Ideal.ofBits FTy.f32 1132462080#32)
    + Ideal.ofBits FTy.f32 897988541#32) * g (ix2 0 ⟨j, hj⟩) * Ideal.div 1 (1 + Ideal.exp (0 - o (ix2 r ⟨j, hj⟩))) := by
  subst hn
  rw [zero_sub]
  rfl

/-- The gated features of a row whose arrays are given. -/
theorem prod_congr (a b o : Vec Ideal S256x1024 .f32) (g : Vec Ideal S1x1024 .f32) (A B O G : Fin 1024 → EReal) (r : Fin 256)
    (ha : ∀ j, a (ix2 r j) = A j) (hb : ∀ j, b (ix2 r j) = B j) (ho : ∀ j, o (ix2 r j) = O j) (hg : ∀ j, g (ix2 0 j) = G j) (j : Fin 1024) :
    prod a b o g (ix2 r j) = MlOut.gated (fun j => A j + B j) G O j := by
  obtain rfl : (fun j => a (ix2 r j)) = A := funext ha
  obtain rfl : (fun j => b (ix2 r j)) = B := funext hb
  obtain rfl : (fun j => o (ix2 r j)) = O := funext ho
  obtain rfl : (fun j => g (ix2 0 j)) = G := funext hg
  rfl

/-- The four stores of the gated features, last first: one per head. -/
abbrev pieces (a b o : Vec Ideal S256x1024 .f32) (g : Vec Ideal S1x1024 .f32) : List (View.Piece (Elt Ideal) S256x1024 .bf16) :=
  [⟨Rect.unit ![0, 768] ![256, 256] inb_S256x1024_S256x256_0_768, k0_pay1 (k0_pay5 o) (k0_pay6 g) (k0_pay10 (k0_pay4 a b)) (k0_pay11 (k0_pay4 a b))⟩,
   ⟨Rect.unit ![0, 512] ![256, 256] inb_S256x1024_S256x256_0_512, k0_pay9 (k0_pay4 a b) (k0_pay5 o) (k0_pay6 g)⟩,
   ⟨Rect.unit ![0, 256] ![256, 256] inb_S256x1024_S256x256_0_256, k0_pay8 (k0_pay4 a b) (k0_pay5 o) (k0_pay6 g)⟩,
   ⟨Rect.unit ![0, 0] ![256, 256] inb_S256x1024_S256x256_0_0, k0_pay7 a b o g⟩]

/-- Read back, the four stores are the gated features. -/
theorem pieces_canon (a b o : Vec Ideal S256x1024 .f32) (g : Vec Ideal S1x1024 .f32) (y : S256x1024.Idx) :
    View.canon (pieces a b o g) y = prod a b o g y := by
  refine View.canon_apply_of_pieces (prod a b o g) (pieces a b o g) ?_ y
    (View.cover_of_tiledL (pieces a b o g) S256x256.size (by sl_kernel_rfl) y)
  intro p hp
  simp only [pieces, List.mem_cons, List.mem_singleton, List.not_mem_nil, or_false] at hp
  rcases hp with rfl | rfl | rfl | rfl
  · intro x
    obtain ⟨r, j, rfl⟩ : ∃ (r : Fin 256) (j : Fin 256), x = ix2 r j := ⟨x 0, x 1, eq_ix2 x⟩
    have he : (Rect.unit (s := S256x1024) ![0, 768] ![256, 256] inb_S256x1024_S256x256_0_768).emb (ix2 r j)
        = ix2 r (⟨768 + j, by omega⟩ : Fin 1024) := by
      funext a; apply Fin.ext
      match a with
      | ⟨0, _⟩ => show 0 + 1 * r.val = r.val; omega
      | ⟨1, _⟩ => show 768 + 1 * j.val = 768 + j.val; omega
    refine Eq.trans ?_ (congrArg (prod a b o g) he).symm
    rw [prod_at a b o g r (768 + j) (by omega) 768 (by omega) (by omega)]
    pointwise [k0_pay1, k0_pay4, k0_pay5, k0_pay6, k0_pay7, k0_pay8, k0_pay9, k0_pay10, k0_pay11]
  · intro x
    obtain ⟨r, j, rfl⟩ : ∃ (r : Fin 256) (j : Fin 256), x = ix2 r j := ⟨x 0, x 1, eq_ix2 x⟩
    have he : (Rect.unit (s := S256x1024) ![0, 512] ![256, 256] inb_S256x1024_S256x256_0_512).emb (ix2 r j)
        = ix2 r (⟨512 + j, by omega⟩ : Fin 1024) := by
      funext a; apply Fin.ext
      match a with
      | ⟨0, _⟩ => show 0 + 1 * r.val = r.val; omega
      | ⟨1, _⟩ => show 512 + 1 * j.val = 512 + j.val; omega
    refine Eq.trans ?_ (congrArg (prod a b o g) he).symm
    rw [prod_at a b o g r (512 + j) (by omega) 512 (by omega) (by omega)]
    pointwise [k0_pay1, k0_pay4, k0_pay5, k0_pay6, k0_pay7, k0_pay8, k0_pay9, k0_pay10, k0_pay11]
  · intro x
    obtain ⟨r, j, rfl⟩ : ∃ (r : Fin 256) (j : Fin 256), x = ix2 r j := ⟨x 0, x 1, eq_ix2 x⟩
    have he : (Rect.unit (s := S256x1024) ![0, 256] ![256, 256] inb_S256x1024_S256x256_0_256).emb (ix2 r j)
        = ix2 r (⟨256 + j, by omega⟩ : Fin 1024) := by
      funext a; apply Fin.ext
      match a with
      | ⟨0, _⟩ => show 0 + 1 * r.val = r.val; omega
      | ⟨1, _⟩ => show 256 + 1 * j.val = 256 + j.val; omega
    refine Eq.trans ?_ (congrArg (prod a b o g) he).symm
    rw [prod_at a b o g r (256 + j) (by omega) 256 (by omega) (by omega)]
    pointwise [k0_pay1, k0_pay4, k0_pay5, k0_pay6, k0_pay7, k0_pay8, k0_pay9, k0_pay10, k0_pay11]
  · intro x
    obtain ⟨r, j, rfl⟩ : ∃ (r : Fin 256) (j : Fin 256), x = ix2 r j := ⟨x 0, x 1, eq_ix2 x⟩
    have he : (Rect.unit (s := S256x1024) ![0, 0] ![256, 256] inb_S256x1024_S256x256_0_0).emb (ix2 r j)
        = ix2 r (⟨0 + j, by omega⟩ : Fin 1024) := by
      funext a; apply Fin.ext
      match a with
      | ⟨0, _⟩ => show 0 + 1 * r.val = r.val; omega
      | ⟨1, _⟩ => show 0 + 1 * j.val = 0 + j.val; omega
    refine Eq.trans ?_ (congrArg (prod a b o g) he).symm
    rw [prod_at a b o g r (0 + j) (by omega) 0 (by omega) (by omega)]
    pointwise [k0_pay1, k0_pay4, k0_pay5, k0_pay6, k0_pay7, k0_pay8, k0_pay9, k0_pay10, k0_pay11]

/-- The four stores read back through the whole scratch buffer. -/
theorem readCov_pieces (a b o : Vec Ideal S256x1024 .f32) (g : Vec Ideal S1x1024 .f32) (v : View sig .tc .vmem S256x1024 .bf16) :
    v.readCov (pieces a b o g) (Rect.unit (s := S256x1024) ![0, 0] S256x1024.size inb_S256x1024_S256x1024_0_0).toLoadRect
      = View.canon (pieces a b o g) := by
  rw [View.readCov_eq_canon']
  funext j
  refine congrArg (View.canon (pieces a b o g)) ?_
  funext a; apply Fin.ext
  match a with
  | ⟨0, _⟩ => show 0 + 1 * (j 0).val = (j 0).val; omega
  | ⟨1, _⟩ => show 0 + 1 * (j 1).val = (j 1).val; omega

theorem hz : (![0, 0] : Fin 2 → Nat) = fun _ => 0 := funext fun a => by fin_cases a <;> rfl

/-- The modulation row that a grid point loads. -/
abbrev modRow (i : grid0.Coords) (x4 : Vec Ideal S8x6144 .f32) : Vec Ideal S1x6144 .f32 :=
  View.ld x4 (Rect.unit (s := S8x6144) (k0_off1 i) S1x6144.size (k0_off1_inb i))

/-- What the body leaves in the output block. -/
theorem out_A (c : Dev nD) (i : grid0.Coords)
  (a1 : Memref sig .tc .vmem S256x1024 .f32) (h1 : a1.IsWhole)
  (a2 : Memref sig .tc .vmem S256x1024 .f32) (h2 : a2.IsWhole)
  (a3 : Memref sig .tc .vmem S256x1024 .f32) (h3 : a3.IsWhole)
  (a4 : Memref sig .tc .vmem S256x1024 .f32) (h4 : a4.IsWhole)
  (a5 : Memref sig .tc .vmem S8x6144 .f32) (h5 : a5.IsWhole)
  (a6 : Memref sig .tc .vmem S1x1024 .f32) (h6 : a6.IsWhole)
  (a7 : Memref sig .tc .vmem S1024x1024 .bf16) (h7 : a7.IsWhole)
  (a8 : Memref sig .tc .vmem S256x1024 .f32) (h8 : a8.IsWhole)
  (a9 : Memref sig .tc .vmem S256x1024 .bf16) (h9 : a9.IsWhole)
  (x0 : Vec Ideal S256x1024 .f32) (x1 : Vec Ideal S256x1024 .f32) (x2 : Vec Ideal S256x1024 .f32) (x3 : Vec Ideal S256x1024 .f32) (x4 : Vec Ideal S8x6144 .f32) (x5 : Vec Ideal S1x1024 .f32) (x6 : Vec Ideal S1024x1024 .bf16) :
    out0_A_7 c i a1 h1 a2 h2 a3 h3 a4 h4 a5 h5 a6 h6 a7 h7 a8 h8 a9 h9 x0 x1 x2 x3 x4 x5 x6
      = k0_pay2 (k0_pay3 (modRow i x4)) (View.canon (pieces x0 x1 x2 x5)) x6 x3 := by
  unfold out0_A_7
  rw [View.read_writes_eq_canon _ _ _ (cover0_A_7 c i a1 h1 a2 h2 a3 h3 a4 h4 a5 h5 a6 h6 a7 h7 a8 h8 a9 h9 x0 x1 x2 x3 x4 x5 x6)]
  unfold kernelRun0_A
  dsimp only
  sl_unfold_words
  rw [View.canon_unit_zero hz]
  simp only [View.readAt_eq_ld, h1.read_unread, h2.read_unread, h3.read_unread, h4.read_unread, h5.read_unread, h6.read_unread, h7.read_unread, View.ld_unit_zero (S := S256x1024) hz, View.ld_unit_zero (S := S1x1024) hz, View.ld_unit_zero (S := S1024x1024) hz]
  exact congrArg (fun p => k0_pay2 (k0_pay3 (modRow i x4)) p x6 x3) (readCov_pieces x0 x1 x2 x5 a9.view)

/-- The body's result at an index. -/
theorem pay_apply (v3 : Vec Ideal S1x6144 .f32) (p : Vec Ideal S256x1024 .bf16) (w : Vec Ideal S1024x1024 .bf16) (t : Vec Ideal S256x1024 .f32)
    (r : Fin 256) (k : Fin 1024) :
    k0_pay2 (k0_pay3 v3) p w t (ix2 r k) = t (ix2 r k) + v3 (ix2 0 ⟨2048 + k, by omega⟩) * ∑ j : Fin 1024, p (ix2 r j) * w (ix2 j k) := by
  pointwise [k0_pay2, k0_pay3]

variable (m : (ℓ : Loc nD τ sig) → Buf (Elt Ideal) ℓ) (ρ : Dev nD → PrngReg) (c : Dev nD)

/-- Argument 0. -/
abbrev hf : Vec Ideal S16640x1024 .f32 := m ((c : Thread nD τ).loc main_arg0)
/-- Argument 1. -/
abbrev hr : Vec Ideal S16640x1024 .f32 := m ((c : Thread nD τ).loc main_arg1)
/-- Argument 2. -/
abbrev o : Vec Ideal S16640x1024 .f32 := m ((c : Thread nD τ).loc main_arg2)
/-- Argument 3. -/
abbrev s : Vec Ideal S16640x1024 .f32 := m ((c : Thread nD τ).loc main_arg3)
/-- Argument 4. -/
abbrev mods : Vec Ideal S8x6144 .f32 := m ((c : Thread nD τ).loc main_arg4)
/-- Argument 5. -/
abbrev normg : Vec Ideal S1024 .f32 := m ((c : Thread nD τ).loc main_arg5)
/-- Argument 6. -/
abbrev wout : Vec Ideal S1024x1024 .f32 := m ((c : Thread nD τ).loc main_arg6)

theorem V0 (r : Fin 1) (k : Fin 1024) : (V m c main_v0 : Vec Ideal S1x1024 .f32) (ix2 r k) = normg m c (ix1 k) := by
  unfold V
  after_reads_at

theorem V1 (r : Fin 1024) (k : Fin 1024) : (V m c main_v1 : Vec Ideal S1024x1024 .bf16) (ix2 r k) = wout m c (ix2 r k) := by
  unfold V
  after_reads_at

theorem lt65 (t : Fin cfg0.N) : t.val < 65 := lt_of_lt_of_eq t.isLt Gen.N_0

/-- The block indices: the token blocks at the point, everything else whole. -/
theorem idx : ∀ t : Fin cfg0.N, win0_0.index t 0 = t.val
    ∧ win0_1.index t 0 = t.val
    ∧ win0_2.index t 0 = t.val
    ∧ win0_3.index t 0 = t.val
    ∧ win0_0.index t 1 = 0
    ∧ win0_1.index t 1 = 0
    ∧ win0_2.index t 1 = 0
    ∧ win0_3.index t 1 = 0
    ∧ win0_4.index t 1 = 0
    ∧ win0_5.index t 1 = 0
    ∧ win0_6.index t 1 = 0
    ∧ win0_4.index t 0 = 0
    ∧ win0_5.index t 0 = 0
    ∧ win0_6.index t 0 = 0
    ∧ win0_7.index t 0 = t.val
    ∧ win0_7.index t 1 = 0 := by decide +kernel

/-- The row of the modulation table at a grid point. -/
theorem coord : ∀ t : Fin cfg0.N, k0_off1 (grid0.coords t) 0 = (if t.val < 1 then 0 else 1) ∧ k0_off1 (grid0.coords t) 1 = 0 := by
  decide +kernel

theorem blk0 (t : Fin cfg0.N) (r : Fin 256) (k : Fin 1024) (n : Fin 16640) (hn : n.val = 256 * t.val + r.val) :
    (iblk m c 0 t : Vec Ideal S256x1024 .f32) (ix2 r k) = hf m c (ix2 n k) := by
  refine Eq.trans ?_ (congrFun (V_main_arg0 m c) _)
  unfold iblk
  rw [View.read_apply]
  show V m c main_arg0 _ = V m c main_arg0 _
  congr 1
  funext a
  apply Fin.ext
  match a with
  | ⟨0, _⟩ => show win0_0.index t 0 * 256 + 1 * r.val = n.val; have := idx t; omega
  | ⟨1, _⟩ => show win0_0.index t 1 * 1024 + 1 * k.val = k.val; have := idx t; omega

theorem blk1 (t : Fin cfg0.N) (r : Fin 256) (k : Fin 1024) (n : Fin 16640) (hn : n.val = 256 * t.val + r.val) :
    (iblk m c 1 t : Vec Ideal S256x1024 .f32) (ix2 r k) = hr m c (ix2 n k) := by
  refine Eq.trans ?_ (congrFun (V_main_arg1 m c) _)
  unfold iblk
  rw [View.read_apply]
  show V m c main_arg1 _ = V m c main_arg1 _
  congr 1
  funext a
  apply Fin.ext
  match a with
  | ⟨0, _⟩ => show win0_1.index t 0 * 256 + 1 * r.val = n.val; have := idx t; omega
  | ⟨1, _⟩ => show win0_1.index t 1 * 1024 + 1 * k.val = k.val; have := idx t; omega

theorem blk2 (t : Fin cfg0.N) (r : Fin 256) (k : Fin 1024) (n : Fin 16640) (hn : n.val = 256 * t.val + r.val) :
    (iblk m c 2 t : Vec Ideal S256x1024 .f32) (ix2 r k) = o m c (ix2 n k) := by
  refine Eq.trans ?_ (congrFun (V_main_arg2 m c) _)
  unfold iblk
  rw [View.read_apply]
  show V m c main_arg2 _ = V m c main_arg2 _
  congr 1
  funext a
  apply Fin.ext
  match a with
  | ⟨0, _⟩ => show win0_2.index t 0 * 256 + 1 * r.val = n.val; have := idx t; omega
  | ⟨1, _⟩ => show win0_2.index t 1 * 1024 + 1 * k.val = k.val; have := idx t; omega

theorem blk3 (t : Fin cfg0.N) (r : Fin 256) (k : Fin 1024) (n : Fin 16640) (hn : n.val = 256 * t.val + r.val) :
    (iblk m c 3 t : Vec Ideal S256x1024 .f32) (ix2 r k) = s m c (ix2 n k) := by
  refine Eq.trans ?_ (congrFun (V_main_arg3 m c) _)
  unfold iblk
  rw [View.read_apply]
  show V m c main_arg3 _ = V m c main_arg3 _
  congr 1
  funext a
  apply Fin.ext
  match a with
  | ⟨0, _⟩ => show win0_3.index t 0 * 256 + 1 * r.val = n.val; have := idx t; omega
  | ⟨1, _⟩ => show win0_3.index t 1 * 1024 + 1 * k.val = k.val; have := idx t; omega

theorem blk4 (t : Fin cfg0.N) (r : Fin 8) (k : Fin 6144) :
    (iblk m c 4 t : Vec Ideal S8x6144 .f32) (ix2 r k) = mods m c (ix2 r k) := by
  refine Eq.trans ?_ (congrFun (V_main_arg4 m c) _)
  unfold iblk
  rw [View.read_apply]
  show V m c main_arg4 _ = V m c main_arg4 _
  congr 1
  funext a
  apply Fin.ext
  match a with
  | ⟨0, _⟩ => show win0_4.index t 0 * 8 + 1 * r.val = r.val; have := idx t; omega
  | ⟨1, _⟩ => show win0_4.index t 1 * 6144 + 1 * k.val = k.val; have := idx t; omega

theorem blk5 (t : Fin cfg0.N) (r : Fin 1) (k : Fin 1024) :
    (iblk m c 5 t : Vec Ideal S1x1024 .f32) (ix2 r k) = normg m c (ix1 k) := by
  rw [← V0 m c r k]
  unfold iblk
  rw [View.read_apply]
  show V m c main_v0 _ = V m c main_v0 _
  congr 1
  funext a
  apply Fin.ext
  match a with
  | ⟨0, _⟩ => show win0_5.index t 0 * 1 + 1 * r.val = r.val; have := idx t; omega
  | ⟨1, _⟩ => show win0_5.index t 1 * 1024 + 1 * k.val = k.val; have := idx t; omega

theorem blk6 (t : Fin cfg0.N) (r : Fin 1024) (k : Fin 1024) :
    (iblk m c 6 t : Vec Ideal S1024x1024 .bf16) (ix2 r k) = wout m c (ix2 r k) := by
  rw [← V1 m c r k]
  unfold iblk
  rw [View.read_apply]
  show V m c main_v1 _ = V m c main_v1 _
  congr 1
  funext a
  apply Fin.ext
  match a with
  | ⟨0, _⟩ => show win0_6.index t 0 * 1024 + 1 * r.val = r.val; have := idx t; omega
  | ⟨1, _⟩ => show win0_6.index t 1 * 1024 + 1 * k.val = k.val; have := idx t; omega

/-- The modulation row the body loads. -/
theorem row_apply (t : Fin cfg0.N) (x4 : Vec Ideal S8x6144 .f32) (n : ℕ) (hn : n / 256 = t.val) (k : Fin 6144) :
    modRow (grid0.coords t) x4 (ix2 0 k) = x4 (ix2 (MlOut.stream n) k) := by
  have hc := coord t
  have hs : (MlOut.stream n).val = if t.val < 1 then 0 else 1 := by
    unfold MlOut.stream
    by_cases h : n < 256
    · rw [if_pos h, if_pos (by omega)]; rfl
    · rw [if_neg h, if_neg (by omega)]; rfl
  show x4 _ = x4 _
  congr 1
  funext a
  apply Fin.ext
  match a with
  | ⟨0, _⟩ => show k0_off1 (grid0.coords t) 0 + 1 * 0 = (MlOut.stream n).val; omega
  | ⟨1, _⟩ => show k0_off1 (grid0.coords t) 1 + 1 * k.val = k.val; omega

/-- What a point writes back is its block of the result. -/
theorem flushed_eq (t : Fin cfg0.N) (hf' : (cfg0.win 7).flush t = true) :
    (Gen.dats m 0 c).flushed 7 t = ((cfg0.win 7).blk t).view.read (Elt Ideal) (MlOut.out (hf m c) (hr m c) (o m c) (s m c) (mods m c) (normg m c) (wout m c)) := by
  have hN := lt65 t
  have hrd : ∀ (r : Fin 256) (k : Fin 1024) (n : Fin 16640), n.val = 256 * t.val + r.val →
      ((cfg0.win 7).blk t).view.read (Elt Ideal) (MlOut.out (hf m c) (hr m c) (o m c) (s m c) (mods m c) (normg m c) (wout m c)) (ix2 r k) = MlOut.out (hf m c) (hr m c) (o m c) (s m c) (mods m c) (normg m c) (wout m c) (ix2 n k) := by
    intro r k n hn
    rw [View.read_apply]
    refine congrArg (MlOut.out (hf m c) (hr m c) (o m c) (s m c) (mods m c) (normg m c) (wout m c)) ?_
    funext a
    apply Fin.ext
    match a with
    | ⟨0, _⟩ => show win0_7.index t 0 * 256 + 1 * r.val = n.val; have := idx t; omega
    | ⟨1, _⟩ => show win0_7.index t 1 * 1024 + 1 * k.val = k.val; have := idx t; omega
  funext y
  obtain ⟨r, k, rfl⟩ : ∃ (r : Fin 256) (k : Fin 1024), y = ix2 r k := ⟨y 0, y 1, eq_ix2 y⟩
  rw [hrd r k ⟨256 * t.val + r.val, by omega⟩ rfl, Value.flushed7_A m c t, out_A]
  refine (pay_apply _ _ _ _ r k).trans ?_
  rw [row_apply t _ (256 * t.val + r.val) (by omega)]
  rw [blk3 m c t r k ⟨256 * t.val + r.val, by omega⟩ rfl, blk4 m c t]
  refine congrArg (_ + _ * ·) (Finset.sum_congr rfl fun j _ => ?_)
  rw [pieces_canon, blk6 m c t]
  refine congrArg (· * _) ?_
  exact prod_congr _ _ _ _ _ _ _ _ r (fun j => blk0 m c t r j ⟨256 * t.val + r.val, by omega⟩ rfl) (fun j => blk1 m c t r j ⟨256 * t.val + r.val, by omega⟩ rfl)
    (fun j => blk2 m c t r j ⟨256 * t.val + r.val, by omega⟩ rfl) (fun j => blk5 m c t 0 j) j

/-- So the result array ends holding it: the points' blocks cover it. -/
theorem final : (Gen.dats m 0 c).arrAt 7 cfg0.N = MlOut.out (hf m c) (hr m c) (o m c) (s m c) (mods m c) (normg m c) (wout m c) :=
  (Gen.dats m 0 c).arrAt_eq_of_cover 7 _ (flushed_eq m c) fun i => by
    have h0 : (i 0 : ℕ) < 16640 := (i 0).isLt
    have h1 : (i 1 : ℕ) < 1024 := (i 1).isLt
    have hb : (i 0).val / 256 < cfg0.N := by show _ < grid0.N; rw [Gen.N_0]; omega
    refine ⟨⟨(i 0).val / 256, hb⟩, (by decide +kernel : ∀ t : Fin cfg0.N, (cfg0.win 7).flush t = true) _, ?_⟩
    show i ∈ ((View.whole main_v2).slice (win0_7.rect ⟨(i 0).val / 256, hb⟩)).set
    rw [View.set_slice_whole, Rect.mem_set_unit]
    intro a
    have hi := idx ⟨(i 0).val / 256, hb⟩
    dsimp only at hi
    match a with
    | ⟨0, _⟩ => show win0_7.index ⟨(i 0).val / 256, hb⟩ 0 * 256 ≤ (i 0 : ℕ) ∧ (i 0 : ℕ) < win0_7.index ⟨(i 0).val / 256, hb⟩ 0 * 256 + 256; omega
    | ⟨1, _⟩ => show win0_7.index ⟨(i 0).val / 256, hb⟩ 1 * 1024 ≤ (i 1 : ℕ) ∧ (i 1 : ℕ) < win0_7.index ⟨(i 0).val / 256, hb⟩ 1 * 1024 + 1024; omega

end Cert.Kernel3Ideal.Array

namespace Cert.Reference3Ideal.Layer
open Idealize.ShloMosaic Idealize.ShloMosaic.TcCoe Idealize.SL.Sem Cert.Reference3Ideal Cert.Reference3Ideal.Gen Cert.Reference3Ideal.Read

variable (x0 : Vec Ideal S16640x1024 .f32) (x1 : Vec Ideal S16640x1024 .f32) (x2 : Vec Ideal S16640x1024 .f32) (x3 : Vec Ideal S16640x1024 .f32) (x4 : Vec Ideal S8x6144 .f32) (x5 : Vec Ideal S1024 .f32) (x6 : Vec Ideal S1024x1024 .f32)

/-- The gated features in the reference. -/
theorem gated_eq (r : Fin 16640) (j : Fin 1024) : (val_main_v36 (F := Ideal) x0 x1 x2 x5) (ix2 r j)
    = MlOut.gated (fun j => x0 (ix2 r j) + x1 (ix2 r j)) (fun j => x5 (ix1 j)) (fun j => x2 (ix2 r j)) j := by
  unfold MlOut.gated Ideal.logistic
  pointwise [val_main_v36, val_main_v29, val_main_v26, val_main_v25, val_main_v15, val_main_v14, val_main_v24, val_main_v23, val_main_v22, val_main_v20, val_main_v18, val_main_v17, val_main_v16, val_main_cst, val_main_v19, val_main_cst_0, val_main_v21, val_main_cst_1, val_main_v28, val_main_v27, val_main_v35, val_main_v34, val_main_cst_3, val_main_v33, val_main_v32, val_main_cst_2, val_main_v31, val_main_v30]

/-- The reference's result is the same function. -/
theorem result_eq : (val_main_v48 (F := Ideal) x0 x1 x2 x3 x4 x5 x6) = MlOut.out x0 x1 x2 x3 x4 x5 x6 := by
  funext y
  obtain ⟨r, k, rfl⟩ : ∃ (r : Fin 16640) (k : Fin 1024), y = ix2 r k := ⟨y 0, y 1, eq_ix2 y⟩
  show _ = x3 (ix2 r k) + x4 (ix2 (MlOut.stream r.val) ⟨2048 + k.val, by omega⟩) * ∑ j : Fin 1024, MlOut.gated (fun j => x0 (ix2 r j) + x1 (ix2 r j)) (fun j => x5 (ix1 j)) (fun j => x2 (ix2 r j)) j * x6 (ix2 j k)
  simp only [← gated_eq]
  unfold MlOut.stream
  by_cases h : r.val < 256
  on_goal 1 => rw [if_pos h]
  on_goal 2 => rw [if_neg h]
  all_goals pointwise [val_main_v48, val_main_v42, val_main_v38, val_main_v41, val_main_v40, val_main_v10, val_main_v7, val_main_v39, val_main_v37, val_main_v47, val_main_v43, val_main_v46, val_main_v45, val_main_v3, val_main_v0, val_main_v44]
  · rw [dif_pos h]
  · have e : (⟨256 + (r.val - 256), by omega⟩ : Fin 16640) = r := Fin.ext (by show 256 + (r.val - 256) = r.val; omega)
    rw [dif_neg h]
    simp only [e]

end Cert.Reference3Ideal.Layer

namespace Cert.Proof

open Idealize.ShloMosaic Idealize.SL.Sem

/-- The output call of the mLSTM layer runs and leaves its arguments unchanged. -/
theorem frame_Kernel3 : Cert.quiescent_Kernel3 (hKernel3 := Cert.Kernel3.Gen.facts) := fun m ρ _ => Cert.Kernel3.Gen.frame m ρ

/-- So does its idealization. -/
theorem frame_Kernel3Ideal : Cert.quiescent_Kernel3Ideal (hKernel3Ideal := Cert.Kernel3Ideal.Gen.facts) :=
  fun m ρ _ => Cert.Kernel3Ideal.Gen.frame m ρ

/-- So does the reference; it declares no semaphore. -/
theorem frame_Reference3Ideal : Cert.quiescent_Reference3Ideal (hReference3Ideal := Cert.Reference3Ideal.Gen.facts) := fun m ρ _ =>
  (θ_run Cert.Reference3Ideal.defs _ _).mono
    (fun r h => ⟨fun c => (h c).2, Idealize.ShloMosaic.sem_eq_zero_of_no_sems (by decide) r.2⟩)
    (Cert.Reference3Ideal.Value.run (F := Ideal) m ρ)

/-- Both results are `MlOut.out` of the arguments. -/
theorem algebraic_Kernel3 : Cert.algebraic_Kernel3Ideal_Reference3Ideal
    (hKernel3Ideal := Cert.Kernel3Ideal.Gen.facts) (hReference3Ideal := Cert.Reference3Ideal.Gen.facts) := by
  intro m ρ m' ρ' _ hagree
  refine ⟨fun c => MlOut.out (m ((c.tc : Thread _ _).loc Cert.Kernel3Ideal.main_arg0)) (m ((c.tc : Thread _ _).loc Cert.Kernel3Ideal.main_arg1)) (m ((c.tc : Thread _ _).loc Cert.Kernel3Ideal.main_arg2)) (m ((c.tc : Thread _ _).loc Cert.Kernel3Ideal.main_arg3)) (m ((c.tc : Thread _ _).loc Cert.Kernel3Ideal.main_arg4)) (m ((c.tc : Thread _ _).loc Cert.Kernel3Ideal.main_arg5)) (m ((c.tc : Thread _ _).loc Cert.Kernel3Ideal.main_arg6)), ?_, ?_⟩
  · exact (θ_run Cert.Kernel3Ideal.defs _ _).mono
      (fun r h c => ⟨(h c).1.trans (Cert.Kernel3Ideal.Array.final m c), (h c).2⟩) (Cert.Kernel3Ideal.Value.run_blocks m ρ)
  · refine (θ_run Cert.Reference3Ideal.defs _ _).mono (fun r h c => ⟨?_, (h c).2⟩) (Cert.Reference3Ideal.Value.run (F := Ideal) m' ρ')
    obtain ⟨h0, h1, h2, h3, h4, h5, h6⟩ := hagree c
    refine ((h c).1.trans ((Cert.Reference3Ideal.Read.val_main_v48_eq (F := Ideal) _ _ _ _ _ _ _).trans
      (Cert.Reference3Ideal.Layer.result_eq _ _ _ _ _ _ _))).trans ?_
    rw [h0, h1, h2, h3, h4, h5, h6]

end Cert.Proof
end
end
-- ==== Proof.ExpertsRef.lean ====
/-
  The experts call as a function of its arguments, `Experts.out`, and the reference's result equal to it where every
  expert number is one of the 32.
-/
module

public import proofs.«01_k».proof.Defs
public import proofs.«01_k».proof.Proof.Gen.Reference4Ideal.Run
public import proofs.«01_k».proof.Proof.Gen.Reference4Ideal.Read
public import Idealize.ShloMosaic.Lib.Pointwise

@[expose] public section

set_option maxRecDepth 16384
noncomputable section

namespace Cert.Experts
open Idealize.ShloMosaic

/-- The expert of a block: its number, read signed and kept below 32. -/
def expert (w : BitVec 32) : Fin 32 := ⟨min w.toInt.toNat 31, by omega⟩

/-- Row `n` times column `h` of expert `e`'s matrix of the first layer. -/
def dot (x : Vec Ideal ⟨2, ![41472, 1024]⟩ .f32) (w : Vec Ideal ⟨4, ![4, 32, 1024, 512]⟩ .f32) (n : Fin 41472) (e : Fin 32) (h : Fin 512) : EReal :=
  ∑ d : Fin 1024, x (ix2 n d) * w (ix4 0 e d h)

/-- Hidden unit `h` of row `n` through expert `e`: `silu(a) · u`. -/
def hidden (x : Vec Ideal ⟨2, ![41472, 1024]⟩ .f32) (g u : Vec Ideal ⟨4, ![4, 32, 1024, 512]⟩ .f32) (n : Fin 41472) (e : Fin 32) (h : Fin 512) : EReal :=
  dot x g n e h * Ideal.div 1 (1 + Ideal.exp (-dot x g n e h)) * dot x u n e h

/-- Entry `(n, k)` of the result: row `n` through its block's expert where the block is used, `0` elsewhere. -/
def out (be : IVec ⟨1, ![162]⟩ 32) (nu : IVec ⟨1, ![1]⟩ 32) (x : Vec Ideal ⟨2, ![41472, 1024]⟩ .f32)
    (g u : Vec Ideal ⟨4, ![4, 32, 1024, 512]⟩ .f32) (w : Vec Ideal ⟨4, ![4, 32, 512, 1024]⟩ .f32) (y : (⟨2, ![41472, 1024]⟩ : Shape).Idx) : EReal :=
  have h0 : (y 0).val < 41472 := (y 0).isLt
  if IntOp.cmpi .slt (BitVec.ofNat 32 ((y 0).val / 256)) (nu (ix1 0)) = 1#1 then
    ∑ h : Fin 512, hidden x g u (y 0) (expert (be (ix1 ⟨(y 0).val / 256, by omega⟩))) h
      * w (ix4 0 (expert (be (ix1 ⟨(y 0).val / 256, by omega⟩))) h (y 1))
  else 0

/-- The word names one of the 32 experts. -/
def Named (w : BitVec 32) : Prop := IntOp.cmpi .sge w 0#32 = 1#1 ∧ IntOp.cmpi .slt w 32#32 = 1#1

end Cert.Experts

namespace Cert.Reference4Ideal.Layer
open Idealize.ShloMosaic Idealize.ShloMosaic.TcCoe Idealize.SL.Sem Cert.Reference4Ideal Cert.Reference4Ideal.Gen Cert.Reference4Ideal.Read

/-- The gather of whole `[P, Q]` matrices by one number per row of the start indices. -/
abbrev matDims (P Q : Nat) (wf : GatherDims.WF ⟨3, ![32, P, Q]⟩ ⟨2, ![162, 1]⟩ ⟨3, ![162, P, Q]⟩ [1, 2] [0] [] [0] [] 1 ![1, P, Q]) :
    GatherDims ⟨3, ![32, P, Q]⟩ ⟨2, ![162, 1]⟩ ⟨3, ![162, P, Q]⟩ where
  offsetDims := [1, 2]
  collapsedSliceDims := [0]
  operandBatchingDims := []
  startIndicesBatchingDims := []
  startIndexMap := [0]
  indexVectorDim := 1
  sliceSizes := ![1, P, Q]
  wf := wf

/-- It reads matrix `idx[b, 0]`, clamped to the 32 there are. -/
theorem gather_mat {α : Type} (P Q : Nat) (wf : GatherDims.WF ⟨3, ![32, P, Q]⟩ ⟨2, ![162, 1]⟩ ⟨3, ![162, P, Q]⟩ [1, 2] [0] [] [0] [] 1 ![1, P, Q])
    (x : (⟨3, ![32, P, Q]⟩ : Shape).Idx → α) (idx : IVec ⟨2, ![162, 1]⟩ 32) (b : Fin 162) (p : Fin P) (q : Fin Q) :
    Host.gather (matDims P Q wf) x idx (ix3 b p q) = x (ix3 (Experts.expert (idx (ix2 b 0))) p q) := by
  unfold Host.gather
  congr 1
  funext a
  refine Fin.ext ?_
  show (matDims P Q wf).start (ix3 b p q) idx a + (matDims P Q wf).batchCoord (ix3 b p q) a + (matDims P Q wf).offCoord (ix3 b p q) a = _
  rw [GatherDims.batchCoord_eq_zero _ _ _ List.not_mem_nil]
  have hs : (matDims P Q wf).sKept = [1, 2] := rfl
  match a with
  | ⟨0, _⟩ =>
    show (matDims P Q wf).start (ix3 b p q) idx 0 + 0 + (matDims P Q wf).offCoord (ix3 b p q) 0 = _
    rw [GatherDims.offCoord_eq_zero _ _ _ (fun h => ((GatherDims.mem_sKept _ _).mp h).1 (List.mem_singleton.mpr rfl))]
    unfold GatherDims.start
    rw [dif_pos (show (0 : Fin 3) ∈ (matDims P Q wf).startIndexMap from List.mem_singleton.mpr rfl)]
    have hsi : (matDims P Q wf).siIdx (ix3 b p q) ⟨List.idxOf (0 : Fin 3) (matDims P Q wf).startIndexMap,
        List.idxOf_lt_length_iff.2 (List.mem_singleton.mpr rfl)⟩ = ix2 b 0 := by
      funext b'; refine Fin.ext ?_
      match b' with
      | ⟨0, _⟩ => rfl
      | ⟨1, _⟩ => rfl
    rw [hsi]
    rfl
  | ⟨1, _⟩ =>
    show (matDims P Q wf).start (ix3 b p q) idx 1 + 0 + (matDims P Q wf).offCoord (ix3 b p q) 1 = p.val
    have h1 : (1 : Fin 3) ∈ (matDims P Q wf).sKept := by rw [hs]; exact (by decide : (1 : Fin 3) ∈ ([1, 2] : List (Fin 3)))
    unfold GatherDims.start GatherDims.offCoord
    rw [dif_neg (show (1 : Fin 3) ∉ ([0] : List (Fin 3)) by decide), dif_pos h1, Nat.zero_add]
    rfl
  | ⟨2, _⟩ =>
    show (matDims P Q wf).start (ix3 b p q) idx 2 + 0 + (matDims P Q wf).offCoord (ix3 b p q) 2 = q.val
    have h1 : (2 : Fin 3) ∈ (matDims P Q wf).sKept := by rw [hs]; exact (by decide : (2 : Fin 3) ∈ ([1, 2] : List (Fin 3)))
    unfold GatherDims.start GatherDims.offCoord
    rw [dif_neg (show (2 : Fin 3) ∉ ([0] : List (Fin 3)) by decide), dif_pos h1, Nat.zero_add]
    rfl

variable (x0 : IVec S162 32) (x1 : IVec S1 32) (x2 : Vec Ideal S41472x1024 .f32) (x3 x4 : Vec Ideal S4x32x1024x512 .f32) (x5 : Vec Ideal S4x32x512x1024 .f32)

/-- A number that names an expert is not wrapped. -/
theorem not_wrapped (w : BitVec 32) (h : Experts.Named w) : Scalar.select (IntOp.cmpi .slt w 0#32) (IntOp.addi w 32#32) w = w := by
  have h0 : IntOp.cmpi .slt w 0#32 = 0#1 := by
    have := h.1
    revert this
    simp only [IntOp.cmpi]
    intro h
    have hle : ¬ (BitVec.slt w 0#32 = true) := by
      intro hs
      rw [BitVec.sle_eq_not_slt] at h
      rw [hs] at h
      exact absurd h (by decide)
    simp [hle]
  rw [h0]; rfl

theorem word8 (h : ∀ b, Experts.Named (x0 b)) (b : Fin 162) : val_main_v8 (F := Ideal) x0 (ix2 b 0) = x0 (ix1 b) :=
  (show _ = Scalar.select (IntOp.cmpi .slt (x0 (ix1 b)) 0#32) (IntOp.addi (x0 (ix1 b)) 32#32) (x0 (ix1 b)) by
    pointwise [val_main_v8, val_main_v7, val_main_v6, val_main_v5, val_main_v4, val_main_v3, val_main_c, val_main_c_0]).trans (not_wrapped _ (h _))
theorem word18 (h : ∀ b, Experts.Named (x0 b)) (b : Fin 162) : val_main_v18 (F := Ideal) x0 (ix2 b 0) = x0 (ix1 b) := word8 x0 h b
theorem word30 (h : ∀ b, Experts.Named (x0 b)) (b : Fin 162) : val_main_v30 (F := Ideal) x0 (ix2 b 0) = x0 (ix1 b) := word8 x0 h b

theorem gate (h : ∀ b, Experts.Named (x0 b)) (b : Fin 162) (p : Fin 1024) (q : Fin 512) :
    val_main_v9 (F := Ideal) x0 x3 (ix3 b p q) = x3 (ix4 0 (Experts.expert (x0 (ix1 b))) p q) := by
  refine (gather_mat 1024 512 _ (val_main_v2 (F := Ideal) x3) (val_main_v8 (F := Ideal) x0) b p q).trans ?_
  rw [word8 x0 h]
  pointwise [val_main_v2, val_main_v1]
theorem up (h : ∀ b, Experts.Named (x0 b)) (b : Fin 162) (p : Fin 1024) (q : Fin 512) :
    val_main_v19 (F := Ideal) x0 x4 (ix3 b p q) = x4 (ix4 0 (Experts.expert (x0 (ix1 b))) p q) := by
  refine (gather_mat 1024 512 _ (val_main_v12 (F := Ideal) x4) (val_main_v18 (F := Ideal) x0) b p q).trans ?_
  rw [word18 x0 h]
  pointwise [val_main_v12, val_main_v11]
theorem down (h : ∀ b, Experts.Named (x0 b)) (b : Fin 162) (p : Fin 512) (q : Fin 1024) :
    val_main_v31 (F := Ideal) x0 x5 (ix3 b p q) = x5 (ix4 0 (Experts.expert (x0 (ix1 b))) p q) := by
  refine (gather_mat 512 1024 _ (val_main_v24 (F := Ideal) x5) (val_main_v30 (F := Ideal) x0) b p q).trans ?_
  rw [word30 x0 h]
  pointwise [val_main_v24, val_main_v23]

theorem row (b : Fin 162) (r : Fin 256) (d : Fin 1024) (n : Fin 41472) (hn : n.val = 256 * b.val + r.val) :
    val_main_v0 (F := Ideal) x2 (ix3 b r d) = x2 (ix2 n d) := by
  rw [val_main_v0_apply]
  congr 1
  funext a
  apply Fin.ext
  have := b.isLt; have := r.isLt; have := d.isLt
  match a with
  | ⟨0, _⟩ => show ((b.val * 256 + r.val) * 1024 + d.val) / 1024 = n.val; omega
  | ⟨1, _⟩ => show ((b.val * 256 + r.val) * 1024 + d.val) % 1024 = d.val; omega

theorem gated (h : ∀ b, Experts.Named (x0 b)) (b : Fin 162) (r : Fin 256) (q : Fin 512) (n : Fin 41472) (hn : n.val = 256 * b.val + r.val) :
    val_main_v10 (F := Ideal) x0 x2 x3 (ix3 b r q) = Experts.dot x2 x3 n (Experts.expert (x0 (ix1 b))) q := by
  rw [val_main_v10_apply]
  refine Finset.sum_congr rfl fun d _ => ?_
  rw [show lidx_main_v10 (ix3 b r q) d = ix3 b r d from by funext a; fin_cases a <;> rfl,
    show ridx_main_v10 (ix3 b r q) d = ix3 b d q from by funext a; fin_cases a <;> rfl,
    row x2 b r d n hn, gate x0 x3 h]
theorem raised (h : ∀ b, Experts.Named (x0 b)) (b : Fin 162) (r : Fin 256) (q : Fin 512) (n : Fin 41472) (hn : n.val = 256 * b.val + r.val) :
    val_main_v20 (F := Ideal) x0 x2 x4 (ix3 b r q) = Experts.dot x2 x4 n (Experts.expert (x0 (ix1 b))) q := by
  rw [val_main_v20_apply]
  refine Finset.sum_congr rfl fun d _ => ?_
  rw [show lidx_main_v20 (ix3 b r q) d = ix3 b r d from by funext a; fin_cases a <;> rfl,
    show ridx_main_v20 (ix3 b r q) d = ix3 b d q from by funext a; fin_cases a <;> rfl,
    row x2 b r d n hn, up x0 x4 h]

theorem hidden_at (h : ∀ b, Experts.Named (x0 b)) (b : Fin 162) (r : Fin 256) (q : Fin 512) (n : Fin 41472) (hn : n.val = 256 * b.val + r.val) :
    val_main_v22 (F := Ideal) x0 x2 x3 x4 (ix3 b r q) = Experts.hidden x2 x3 x4 n (Experts.expert (x0 (ix1 b))) q := by
  unfold Experts.hidden
  rw [← gated x0 x2 x3 h b r q n hn, ← raised x0 x2 x4 h b r q n hn]
  pointwise [val_main_v22, val_main_v21, val_main_call0_v5, val_main_call0_v4, val_main_call0_v3, val_main_call0_v2, val_main_call0_v1, val_main_call0_v0, val_main_call0_cst, val_main_call0_cst_0]

/-- The word that counts the used blocks. -/
theorem count (x : S_.Idx) : val_main_v34 (F := Ideal) x1 x = x1 (ix1 0) := by
  unfold val_main_v34 shapeCast
  congr 1
  funext a
  obtain rfl : a = 0 := Subsingleton.elim _ _
  exact Subsingleton.elim (α := Fin 1) _ _

theorem used (b : Fin 162) (r : Fin 256) (k : Fin 1024) :
    val_main_call1_v1 (F := Ideal) x1 (ix3 b r k) = IntOp.cmpi .slt (BitVec.ofNat 32 b.val) (x1 (ix1 0)) := by
  rw [val_main_call1_v1_apply, val_main_v37_apply, val_main_v36_apply, val_main_v35_apply, count, val_main_v33_apply]
  rfl

theorem zero (i : S162x256x1024.Idx) : val_main_call1_v2 (F := Ideal) i = (0 : EReal) := by
  rw [val_main_call1_v2_apply, val_main_call1_v0_apply]
  pointwise [val_main_cst]

/-- The reference's result is `Experts.out`. -/
theorem result_eq (h : ∀ b, Experts.Named (x0 b)) : (val_main_v39 (F := Ideal) x0 x1 x2 x3 x4 x5) = Experts.out x0 x1 x2 x3 x4 x5 := by
  funext y
  obtain ⟨n, k, rfl⟩ : ∃ (n : Fin 41472) (k : Fin 1024), y = ix2 n k := ⟨y 0, y 1, eq_ix2 y⟩
  have hb : n.val / 256 < 162 := by have := n.isLt; omega
  have hr : n.val % 256 < 256 := by omega
  rw [val_main_v39_apply, show idx_main_v39 (ix2 n k) = ix3 ⟨n.val / 256, hb⟩ ⟨n.val % 256, hr⟩ k from by
    funext a
    apply Fin.ext
    have := n.isLt; have := k.isLt
    match a with
    | ⟨0, _⟩ => show (n.val * 1024 + k.val) / 262144 = n.val / 256; omega
    | ⟨1, _⟩ => show (n.val * 1024 + k.val) / 1024 % 256 = n.val % 256; omega
    | ⟨2, _⟩ => show (n.val * 1024 + k.val) % 1024 = k.val; omega]
  rw [val_main_v38_apply, used, zero]
  unfold Experts.out
  show Scalar.select (IntOp.cmpi .slt (BitVec.ofNat 32 (n.val / 256)) (x1 (ix1 0))) _ _ = if IntOp.cmpi .slt (BitVec.ofNat 32 (n.val / 256)) (x1 (ix1 0)) = 1#1 then _ else _
  by_cases hu : IntOp.cmpi .slt (BitVec.ofNat 32 (n.val / 256)) (x1 (ix1 0)) = 1#1
  · rw [if_pos hu, hu, ValueIdx.select_one, val_main_v32_apply]
    refine Finset.sum_congr rfl fun q _ => ?_
    rw [show lidx_main_v32 (ix3 ⟨n.val / 256, hb⟩ ⟨n.val % 256, hr⟩ k) q = ix3 ⟨n.val / 256, hb⟩ ⟨n.val % 256, hr⟩ q from by funext a; fin_cases a <;> rfl,
      show ridx_main_v32 (ix3 ⟨n.val / 256, hb⟩ ⟨n.val % 256, hr⟩ k) q = ix3 ⟨n.val / 256, hb⟩ q k from by funext a; fin_cases a <;> rfl,
      down x0 x5 h, hidden_at x0 x2 x3 x4 h _ _ q n (by show n.val = 256 * (n.val / 256) + n.val % 256; omega)]
    rfl
  · rw [if_neg hu, ValueIdx.eq_zero_of_ne_one hu, ValueIdx.select_zero]

end Cert.Reference4Ideal.Layer
end
end
-- ==== Proof.ExpertsRunIdeal.lean ====
/- The expert kernel's body, run on whole staging buffers: one triple for each of the three ways its
   conditionals can go. The block is USED when its number is below the number of used blocks; its weights are
   FRESH when it is the first block or its expert differs from the block's before.
   A used block with fresh weights rounds the three weight blocks into the scratch buffers and computes with them;
   a used block whose weights are not fresh computes with what the scratch buffers hold; an unused block
   stores zeros. -/
module

public import proofs.«01_k».proof.Proof.Gen.Kernel4Ideal.Launch
public import proofs.«01_k».proof.Proof.Gen.Kernel4Ideal.Skeleton
public import Idealize.ShloMosaic.Lib.Pipeline.FrameBody
public import Idealize.ShloMosaic.Lib.VecWindow
public import Idealize.ShloMosaic.Lib.Tactic
public import Idealize.ShloMosaic.Lib.WordCmp

@[expose] public section

set_option maxRecDepth 16384

noncomputable section

namespace Cert.Kernel4Ideal.Hand

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The table of expert numbers and the table holding the number of used blocks, as the body is handed them. -/
abbrev beM : Memref sig .tc .smem S162 .i32 := Memref.whole main_arg0
abbrev beW : beM.IsWhole := Memref.isWhole_whole _
abbrev nuM : Memref sig .tc .smem S1 .i32 := Memref.whole main_arg1
abbrev nuW : nuM.IsWhole := Memref.isWhole_whole _

/-- A table's contents on core `c`, and the table held at half the share. -/
abbrev TabBuf (c : Dev nD) {S : Shape} {e : EltTy} (M : Memref sig .tc .smem S e) : Type := Buf (Elt F) (M.view.loc (c : Thread nD τ))
abbrev tabPt (c : Dev nD) {S : Shape} {e : EltTy} (M : Memref sig .tc .smem S e) (f : TabBuf (F := F) c M) : sProp 𝕄 :=
  M.view.loc (c : Thread nD τ) ↦{fullShare.right} f

/-- The words the body reads: the number of used blocks, and the expert of the block before and of this block. -/
abbrev nuWord (c : Dev nD) (xt1 : TabBuf (F := F) c nuM) : BitVec 32 :=
  nuM.view.readAt (Elt F) (Rect.unit (s := S1) ![0] S1.size inb_S1_S1_0).toLoadRect xt1 (Shape.Idx.first (numel1_S1.symm ▸ Nat.one_pos))
abbrev prevWord (c : Dev nD) (i : grid0.Coords) (xt0 : TabBuf (F := F) c beM) : BitVec 32 :=
  beM.view.readAt (Elt F) (Rect.unit (s := S162) (k0_off2 i) S1.size (k0_off2_inb i)).toLoadRect xt0 (Shape.Idx.first (numel1_S1.symm ▸ Nat.one_pos))
abbrev curWord (c : Dev nD) (i : grid0.Coords) (xt0 : TabBuf (F := F) c beM) : BitVec 32 :=
  beM.view.readAt (Elt F) (Rect.unit (s := S162) (k0_off1 i) S1.size (k0_off1_inb i)).toLoadRect xt0 (Shape.Idx.first (numel1_S1.symm ▸ Nat.one_pos))

/-- The condition under which the body rounds its weight blocks into the scratch buffers: used and fresh. -/
abbrev freshCond (i : grid0.Coords) (v0 v5 v8 : BitVec 32) : Prop :=
  (Scalar.cmpi .ne (Scalar.extui (Scalar.andi (Scalar.cmpi .slt (BitVec.ofNat 32 (i 0).val) v0) (Scalar.ori (Scalar.cmpi .eq (BitVec.ofNat 32 (i 0).val) 0#32) (Scalar.cmpi .ne v8 v5)))) 0#32) = 1#1

set_option maxHeartbeats 1000000 in
/-- The body's triple for a used block with fresh weights. -/
theorem run_A (c : Dev nD) (i : grid0.Coords) (arg3 : Memref sig .tc .vmem S256x1024 .f32) (harg3 : arg3.IsWhole) (arg4 : Memref sig .tc .vmem S1x1x1024x512 .f32) (harg4 : arg4.IsWhole) (arg5 : Memref sig .tc .vmem S1x1x1024x512 .f32) (harg5 : arg5.IsWhole) (arg6 : Memref sig .tc .vmem S1x1x512x1024 .f32) (harg6 : arg6.IsWhole) (arg7 : Memref sig .tc .vmem S256x1024 .f32) (harg7 : arg7.IsWhole)
    (arg8 : Memref sig .tc .vmem S1024x512 .bf16) (harg8 : arg8.IsWhole) (arg9 : Memref sig .tc .vmem S1024x512 .bf16) (harg9 : arg9.IsWhole) (arg10 : Memref sig .tc .vmem S512x1024 .bf16) (harg10 : arg10.IsWhole)
    (x0 : Vec F S256x1024 .f32) (x1 : Vec F S1x1x1024x512 .f32) (x2 : Vec F S1x1x1024x512 .f32) (x3 : Vec F S1x1x512x1024 .f32)
    (g0 : Vec F S1024x512 .bf16) (g1 : Vec F S1024x512 .bf16) (g2 : Vec F S512x1024 .bf16)
    (xt0 : TabBuf (F := F) c beM) (xt1 : TabBuf (F := F) c nuM)
    (hc0 : freshCond i (nuWord c xt1) (prevWord c i xt0) (curWord c i xt0)) (hc2 : k0_cond2 i (nuWord c xt1) = 1#1) (hc3 : ¬k0_cond3 i (nuWord c xt1) = 1#1) (E : Set ℕ) (Q : PUnit → sProp 𝕄) :
    iprop(owns (c : Thread nD τ) arg3 fullShare (x0) ∗ owns (c : Thread nD τ) arg4 fullShare (x1) ∗ owns (c : Thread nD τ) arg5 fullShare (x2) ∗ owns (c : Thread nD τ) arg6 fullShare (x3) ∗ (∃ d, owns (c : Thread nD τ) arg7 fullShare d) ∗ owns (c : Thread nD τ) arg8 fullShare (g0) ∗ owns (c : Thread nD τ) arg9 fullShare (g1) ∗ owns (c : Thread nD τ) arg10 fullShare (g2) ∗ tabPt c beM xt0 ∗ tabPt c nuM xt1
        ∗ (iprop(owns (c : Thread nD τ) arg3 fullShare (x0) ∗ owns (c : Thread nD τ) arg4 fullShare (x1) ∗ owns (c : Thread nD τ) arg5 fullShare (x2) ∗ owns (c : Thread nD τ) arg6 fullShare (x3) ∗ owns (c : Thread nD τ) arg7 fullShare (k0_pay4 x0 (k0_pay1 x1) (k0_pay2 x2) (k0_pay3 x3)) ∗ owns (c : Thread nD τ) arg8 fullShare (k0_pay1 x1) ∗ owns (c : Thread nD τ) arg9 fullShare (k0_pay2 x2) ∗ owns (c : Thread nD τ) arg10 fullShare (k0_pay3 x3) ∗ tabPt c beM xt0 ∗ tabPt c nuM xt1) -∗ Q ⟨⟩))
      ⊢ wp frame (wpE (defs₀ (F := F)) Variants.none c none) E (cc0_moe_experts i beM beW nuM nuW arg3 harg3 arg4 harg4 arg5 harg5 arg6 harg6 arg7 harg7 arg8 harg8 arg9 harg9 arg10 harg10) Q := by
  simp only [cc0_moe_experts_eq_skeleton]; unfold cc0_moe_experts_skel
  unfold owns
  iintro ⟨⟨%f0, %hf0, H0⟩, ⟨%f1, %hf1, H1⟩, ⟨%f2, %hf2, H2⟩, ⟨%f3, %hf3, H3⟩, ⟨%d4, %f4, -, H4⟩, ⟨%fs0, %hs0, HS0⟩, ⟨%fs1, %hs1, HS1⟩, ⟨%fs2, %hs2, HS2⟩, HT0, HT1, Hk⟩
  obtain rfl := harg3.eq_unread hf0; obtain rfl := harg4.eq_unread hf1; obtain rfl := harg5.eq_unread hf2; obtain rfl := harg6.eq_unread hf3
  obtain rfl := harg8.eq_unread hs0; obtain rfl := harg9.eq_unread hs1; obtain rfl := harg10.eq_unread hs2
  sl_exec! (disch := first
    | (guard_target = (Scalar.cmpi _ _ _ = _); exact hc0)
    | (guard_target = (k0_cond2 _ _ = _); exact hc2)
    | (guard_target = ¬(k0_cond3 _ _ = _); exact hc3))
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; swap; · iexact H4
    ipureintro
    unfold run_A.sl.H4_1; rw [View.read_writes_full]
    exact congr (congr (congr (congrArg k0_pay4 ((View.readAt_full _ _ _).trans hf0))
      ((View.readCov_full _ _ _ _ _).trans (congrArg k0_pay1 ((View.readAt_full _ _ _).trans hf1))))
      ((View.readCov_full _ _ _ _ _).trans (congrArg k0_pay2 ((View.readAt_full _ _ _).trans hf2))))
      ((View.readCov_full _ _ _ _ _).trans (congrArg k0_pay3 ((View.readAt_full _ _ _).trans hf3)))
  isplitl [HS0]
  · iexists _; isplitr; swap; · iexact HS0
    ipureintro
    unfold run_A.sl.HS0_1; rw [View.read_writes_full]; exact congrArg k0_pay1 ((View.readAt_full _ _ _).trans hf1)
  isplitl [HS1]
  · iexists _; isplitr; swap; · iexact HS1
    ipureintro
    unfold run_A.sl.HS1_1; rw [View.read_writes_full]; exact congrArg k0_pay2 ((View.readAt_full _ _ _).trans hf2)
  isplitl [HS2]
  · iexists _; isplitr; swap; · iexact HS2
    ipureintro
    unfold run_A.sl.HS2_1; rw [View.read_writes_full]; exact congrArg k0_pay3 ((View.readAt_full _ _ _).trans hf3)
  isplitl [HT0]; · iexact HT0
  iexact HT1

set_option maxHeartbeats 1000000 in
/-- The body's triple for a used block whose weights the scratch buffers hold. -/
theorem run_B (c : Dev nD) (i : grid0.Coords) (arg3 : Memref sig .tc .vmem S256x1024 .f32) (harg3 : arg3.IsWhole) (arg4 : Memref sig .tc .vmem S1x1x1024x512 .f32) (harg4 : arg4.IsWhole) (arg5 : Memref sig .tc .vmem S1x1x1024x512 .f32) (harg5 : arg5.IsWhole) (arg6 : Memref sig .tc .vmem S1x1x512x1024 .f32) (harg6 : arg6.IsWhole) (arg7 : Memref sig .tc .vmem S256x1024 .f32) (harg7 : arg7.IsWhole)
    (arg8 : Memref sig .tc .vmem S1024x512 .bf16) (harg8 : arg8.IsWhole) (arg9 : Memref sig .tc .vmem S1024x512 .bf16) (harg9 : arg9.IsWhole) (arg10 : Memref sig .tc .vmem S512x1024 .bf16) (harg10 : arg10.IsWhole)
    (x0 : Vec F S256x1024 .f32) (x1 : Vec F S1x1x1024x512 .f32) (x2 : Vec F S1x1x1024x512 .f32) (x3 : Vec F S1x1x512x1024 .f32)
    (g0 : Vec F S1024x512 .bf16) (g1 : Vec F S1024x512 .bf16) (g2 : Vec F S512x1024 .bf16)
    (xt0 : TabBuf (F := F) c beM) (xt1 : TabBuf (F := F) c nuM)
    (hc0 : ¬freshCond i (nuWord c xt1) (prevWord c i xt0) (curWord c i xt0)) (hc2 : k0_cond2 i (nuWord c xt1) = 1#1) (hc3 : ¬k0_cond3 i (nuWord c xt1) = 1#1) (E : Set ℕ) (Q : PUnit → sProp 𝕄) :
    iprop(owns (c : Thread nD τ) arg3 fullShare (x0) ∗ owns (c : Thread nD τ) arg4 fullShare (x1) ∗ owns (c : Thread nD τ) arg5 fullShare (x2) ∗ owns (c : Thread nD τ) arg6 fullShare (x3) ∗ (∃ d, owns (c : Thread nD τ) arg7 fullShare d) ∗ owns (c : Thread nD τ) arg8 fullShare (g0) ∗ owns (c : Thread nD τ) arg9 fullShare (g1) ∗ owns (c : Thread nD τ) arg10 fullShare (g2) ∗ tabPt c beM xt0 ∗ tabPt c nuM xt1
        ∗ (iprop(owns (c : Thread nD τ) arg3 fullShare (x0) ∗ owns (c : Thread nD τ) arg4 fullShare (x1) ∗ owns (c : Thread nD τ) arg5 fullShare (x2) ∗ owns (c : Thread nD τ) arg6 fullShare (x3) ∗ owns (c : Thread nD τ) arg7 fullShare (k0_pay4 x0 g0 g1 g2) ∗ owns (c : Thread nD τ) arg8 fullShare (g0) ∗ owns (c : Thread nD τ) arg9 fullShare (g1) ∗ owns (c : Thread nD τ) arg10 fullShare (g2) ∗ tabPt c beM xt0 ∗ tabPt c nuM xt1) -∗ Q ⟨⟩))
      ⊢ wp frame (wpE (defs₀ (F := F)) Variants.none c none) E (cc0_moe_experts i beM beW nuM nuW arg3 harg3 arg4 harg4 arg5 harg5 arg6 harg6 arg7 harg7 arg8 harg8 arg9 harg9 arg10 harg10) Q := by
  simp only [cc0_moe_experts_eq_skeleton]; unfold cc0_moe_experts_skel
  unfold owns
  iintro ⟨⟨%f0, %hf0, H0⟩, ⟨%f1, %hf1, H1⟩, ⟨%f2, %hf2, H2⟩, ⟨%f3, %hf3, H3⟩, ⟨%d4, %f4, -, H4⟩, ⟨%fs0, %hs0, HS0⟩, ⟨%fs1, %hs1, HS1⟩, ⟨%fs2, %hs2, HS2⟩, HT0, HT1, Hk⟩
  obtain rfl := harg3.eq_unread hf0; obtain rfl := harg4.eq_unread hf1; obtain rfl := harg5.eq_unread hf2; obtain rfl := harg6.eq_unread hf3
  obtain rfl := harg8.eq_unread hs0; obtain rfl := harg9.eq_unread hs1; obtain rfl := harg10.eq_unread hs2
  sl_exec! (disch := first
    | (guard_target = ¬(Scalar.cmpi _ _ _ = _); exact hc0)
    | (guard_target = (k0_cond2 _ _ = _); exact hc2)
    | (guard_target = ¬(k0_cond3 _ _ = _); exact hc3))
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; swap; · iexact H4
    ipureintro
    unfold run_B.sl.H4_1; rw [View.read_writes_full]
    exact congr (congr (congr (congrArg k0_pay4 ((View.readAt_full _ _ _).trans hf0)) ((View.readAt_full _ _ _).trans hs0))
      ((View.readAt_full _ _ _).trans hs1)) ((View.readAt_full _ _ _).trans hs2)
  isplitl [HS0]
  · iexists _; isplitr; · ipureintro; exact harg8.read_unread _
    iexact HS0
  isplitl [HS1]
  · iexists _; isplitr; · ipureintro; exact harg9.read_unread _
    iexact HS1
  isplitl [HS2]
  · iexists _; isplitr; · ipureintro; exact harg10.read_unread _
    iexact HS2
  isplitl [HT0]; · iexact HT0
  iexact HT1

set_option maxHeartbeats 1000000 in
/-- The body's triple for a unused block. -/
theorem run_C (c : Dev nD) (i : grid0.Coords) (arg3 : Memref sig .tc .vmem S256x1024 .f32) (harg3 : arg3.IsWhole) (arg4 : Memref sig .tc .vmem S1x1x1024x512 .f32) (harg4 : arg4.IsWhole) (arg5 : Memref sig .tc .vmem S1x1x1024x512 .f32) (harg5 : arg5.IsWhole) (arg6 : Memref sig .tc .vmem S1x1x512x1024 .f32) (harg6 : arg6.IsWhole) (arg7 : Memref sig .tc .vmem S256x1024 .f32) (harg7 : arg7.IsWhole)
    (arg8 : Memref sig .tc .vmem S1024x512 .bf16) (harg8 : arg8.IsWhole) (arg9 : Memref sig .tc .vmem S1024x512 .bf16) (harg9 : arg9.IsWhole) (arg10 : Memref sig .tc .vmem S512x1024 .bf16) (harg10 : arg10.IsWhole)
    (x0 : Vec F S256x1024 .f32) (x1 : Vec F S1x1x1024x512 .f32) (x2 : Vec F S1x1x1024x512 .f32) (x3 : Vec F S1x1x512x1024 .f32)
    (g0 : Vec F S1024x512 .bf16) (g1 : Vec F S1024x512 .bf16) (g2 : Vec F S512x1024 .bf16)
    (xt0 : TabBuf (F := F) c beM) (xt1 : TabBuf (F := F) c nuM)
    (hc0 : ¬freshCond i (nuWord c xt1) (prevWord c i xt0) (curWord c i xt0)) (hc2 : ¬k0_cond2 i (nuWord c xt1) = 1#1) (hc3 : k0_cond3 i (nuWord c xt1) = 1#1) (E : Set ℕ) (Q : PUnit → sProp 𝕄) :
    iprop(owns (c : Thread nD τ) arg3 fullShare (x0) ∗ owns (c : Thread nD τ) arg4 fullShare (x1) ∗ owns (c : Thread nD τ) arg5 fullShare (x2) ∗ owns (c : Thread nD τ) arg6 fullShare (x3) ∗ (∃ d, owns (c : Thread nD τ) arg7 fullShare d) ∗ owns (c : Thread nD τ) arg8 fullShare (g0) ∗ owns (c : Thread nD τ) arg9 fullShare (g1) ∗ owns (c : Thread nD τ) arg10 fullShare (g2) ∗ tabPt c beM xt0 ∗ tabPt c nuM xt1
        ∗ (iprop(owns (c : Thread nD τ) arg3 fullShare (x0) ∗ owns (c : Thread nD τ) arg4 fullShare (x1) ∗ owns (c : Thread nD τ) arg5 fullShare (x2) ∗ owns (c : Thread nD τ) arg6 fullShare (x3) ∗ owns (c : Thread nD τ) arg7 fullShare (k0_pay5 (F := F)) ∗ owns (c : Thread nD τ) arg8 fullShare (g0) ∗ owns (c : Thread nD τ) arg9 fullShare (g1) ∗ owns (c : Thread nD τ) arg10 fullShare (g2) ∗ tabPt c beM xt0 ∗ tabPt c nuM xt1) -∗ Q ⟨⟩))
      ⊢ wp frame (wpE (defs₀ (F := F)) Variants.none c none) E (cc0_moe_experts i beM beW nuM nuW arg3 harg3 arg4 harg4 arg5 harg5 arg6 harg6 arg7 harg7 arg8 harg8 arg9 harg9 arg10 harg10) Q := by
  simp only [cc0_moe_experts_eq_skeleton]; unfold cc0_moe_experts_skel
  unfold owns
  iintro ⟨⟨%f0, %hf0, H0⟩, ⟨%f1, %hf1, H1⟩, ⟨%f2, %hf2, H2⟩, ⟨%f3, %hf3, H3⟩, ⟨%d4, %f4, -, H4⟩, ⟨%fs0, %hs0, HS0⟩, ⟨%fs1, %hs1, HS1⟩, ⟨%fs2, %hs2, HS2⟩, HT0, HT1, Hk⟩
  obtain rfl := harg3.eq_unread hf0; obtain rfl := harg4.eq_unread hf1; obtain rfl := harg5.eq_unread hf2; obtain rfl := harg6.eq_unread hf3
  obtain rfl := harg8.eq_unread hs0; obtain rfl := harg9.eq_unread hs1; obtain rfl := harg10.eq_unread hs2
  sl_exec! (disch := first
    | (guard_target = ¬(Scalar.cmpi _ _ _ = _); exact hc0)
    | (guard_target = ¬(k0_cond2 _ _ = _); exact hc2)
    | (guard_target = (k0_cond3 _ _ = _); exact hc3))
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; swap; · iexact H4
    ipureintro
    unfold run_C.sl.H4_1; exact View.read_writes_full _ _ _ _ _
  isplitl [HS0]
  · iexists _; isplitr; · ipureintro; exact harg8.read_unread _
    iexact HS0
  isplitl [HS1]
  · iexists _; isplitr; · ipureintro; exact harg9.read_unread _
    iexact HS1
  isplitl [HS2]
  · iexists _; isplitr; · ipureintro; exact harg10.read_unread _
    iexact HS2
  isplitl [HT0]; · iexact HT0
  iexact HT1

end Cert.Kernel4Ideal.Hand

end
-- ==== Proof.ExpertsFrameIdeal.lean ====
/- The expert kernel's pipeline. Its scratch buffers carry the rounded weights of an expert from one block to
   the next: after a used block they hold that block's own weights, so a block of the same expert finds its
   weights there. With that invariant every point's body leaves one value in the result's staging buffer,
   and the launch gives the final contents of every array.
   Everything is stated for expert numbers that name weight blocks inside the weight arrays (`Ok`). -/
module

public import proofs.«01_k».proof.Proof.ExpertsRunIdeal
public import Idealize.ShloMosaic.Lib.Claim
public import Idealize.ShloMosaic.Lib.Pipeline.Value

@[expose] public section

set_option maxRecDepth 16384

noncomputable section

namespace Cert.Kernel4Ideal.Hand

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.WordCmp
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The conditions on words -/

theorem ne_ext (x : BitVec 1) : Scalar.cmpi .ne (Scalar.extui x : BitVec 32) 0#32 = x := by revert x; decide

theorem cond2_eq (i : grid0.Coords) (v : BitVec 32) : k0_cond2 i v = Scalar.cmpi .slt (BitVec.ofNat 32 (i 0).val) v := by
  unfold k0_cond2; exact ne_ext _

theorem cond3_iff (i : grid0.Coords) (v : BitVec 32) : k0_cond3 i v = 1#1 ↔ ¬k0_cond2 i v = 1#1 := by
  rw [cond2_eq]; unfold k0_cond3
  exact (by decide : ∀ x : BitVec 1, Scalar.cmpi .ne (Scalar.extui (Scalar.xori x 1#1) : BitVec 32) 0#32 = 1#1 ↔ ¬x = 1#1) _

theorem fresh_used (i : grid0.Coords) (v0 v5 v8 : BitVec 32) (h : freshCond i v0 v5 v8) : k0_cond2 i v0 = 1#1 := by
  rw [cond2_eq]; unfold freshCond at h; rw [ne_ext] at h
  exact (by decide : ∀ x y : BitVec 1, Scalar.andi x y = 1#1 → x = 1#1) _ _ h

/-- A used block that is not fresh is not the first, and its expert is the one of the block before. -/
theorem not_fresh (i : grid0.Coords) (v0 v5 v8 : BitVec 32) (hu : k0_cond2 i v0 = 1#1) (h : ¬freshCond i v0 v5 v8) :
    (i 0).val ≠ 0 ∧ v8 = v5 := by
  rw [cond2_eq] at hu; unfold freshCond at h; rw [ne_ext] at h
  have hor : ¬Scalar.ori (Scalar.cmpi .eq (BitVec.ofNat 32 (i 0).val) 0#32) (Scalar.cmpi .ne v8 v5) = 1#1 := by
    revert hu h
    generalize Scalar.cmpi .slt (BitVec.ofNat 32 (i 0).val) v0 = x
    generalize Scalar.ori (Scalar.cmpi .eq (BitVec.ofNat 32 (i 0).val) 0#32) (Scalar.cmpi .ne v8 v5) = y
    revert x y; decide
  constructor
  · intro h0
    apply hor
    rw [h0]
    generalize Scalar.cmpi .ne v8 v5 = y
    revert y; decide
  · by_contra hne
    apply hor
    have h1 : Scalar.cmpi .ne v8 v5 = 1#1 := (cmpi_ne_eq v8 v5).trans (by simp [hne])
    rw [h1]
    generalize Scalar.cmpi .eq (BitVec.ofNat 32 (i 0).val) 0#32 = y
    revert y; decide

/-- The used blocks are the leading ones. -/
theorem used_before (i j : grid0.Coords) (v : BitVec 32) (hij : (j 0).val + 1 = (i 0).val) (hu : k0_cond2 i v = 1#1) : k0_cond2 j v = 1#1 := by
  have hi : (i 0).val < 162 := (i 0).isLt
  rw [cond2_eq] at hu ⊢
  have hu' := (ofBool_decide_eq_one_iff _).1 ((cmpi_slt_eq _ _).symm.trans hu)
  refine (cmpi_slt_eq _ _).trans ((ofBool_decide_eq_one_iff _).2 ?_)
  rw [toInt_ofNat_of_lt (by have : (2 : Nat) ^ (32 - 1) = 2147483648 := rfl; omega)] at hu' ⊢
  omega

/-! ## The arrays and tables at launch -/

/-- Core `c`'s buffers when the region is entered: as launched. -/
abbrev V (c : Dev nD) (b : Ref sig .tc) : Buf (Elt F) ((c : Thread nD τ).loc b) := m ((c : Thread nD τ).loc b)

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The tables' contents at launch. -/
def tbl : pre0.Contents (Elt F) := fun j => V m (0 : Dev nD) (pre0.ref j)
theorem V_pre (c : Dev nD) (j : Fin 2) : V m c (pre0.ref j) = tbl m j := by
  obtain rfl : c = 0 := Subsingleton.elim _ _; rfl

/-- Every expert number names a weight block inside its array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

theorem tabs_eq (c : Dev nD) : (Pipeline.ΦT pre0 (tbl m) c : sProp 𝕄) = iprop(tabPt c beM (tbl m 0) ∗ tabPt c nuM (tbl m 1)) := by
  unfold Pipeline.ΦT Pipeline.prefHeld
  rw [show (Finset.univ : Finset (Fin 2)) = insert (0 : Fin 2) {(1 : Fin 2)} from by decide,
    bigSep_insert (by decide), bigSep_singleton]
  rfl

/-- The block of window `w` at point `t`, read off its array at launch. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Block `t` is used. -/
abbrev used (c : Dev nD) (t : Fin grid0.N) : Prop := k0_cond2 (grid0.coords t) (nuWord c (tbl m 1)) = 1#1

/-- What the body leaves in the result's staging buffer at point `t`. -/
def blockOut (hO : Ok m) (c : Dev nD) (t : Fin (cfgM m hO).N) : Vec F S256x1024 .f32 :=
  if used m c t then k0_pay4 (iblk m hO c 0 t) (k0_pay1 (iblk m hO c 1 t)) (k0_pay2 (iblk m hO c 2 t)) (k0_pay3 (iblk m hO c 3 t))
  else k0_pay5

/-- What the scratch buffers hold before point `t`: after a used block, that block's rounded weights. -/
def Held (hO : Ok m) (c : Dev nD) (t : Fin ((cfgM m hO).N + 1)) (d0 : Vec F S1024x512 .bf16) (d1 : Vec F S1024x512 .bf16) (d2 : Vec F S512x1024 .bf16) : Prop :=
  ∀ s : Fin (cfgM m hO).N, s.val + 1 = t.val → used m c s →
    d0 = k0_pay1 (iblk m hO c 1 s) ∧ d1 = k0_pay2 (iblk m hO c 2 s) ∧ d2 = k0_pay3 (iblk m hO c 3 s)

abbrev sc0 : Memref sig .tc .vmem S1024x512 .bf16 := Memref.whole cc0_scratch0
abbrev sc1 : Memref sig .tc .vmem S1024x512 .bf16 := Memref.whole cc0_scratch1
abbrev sc2 : Memref sig .tc .vmem S512x1024 .bf16 := Memref.whole cc0_scratch2

/-- The invariant between points. -/
def Inv (hO : Ok m) (c : Dev nD) (t : Fin ((cfgM m hO).N + 1)) : sProp 𝕄 :=
  iprop((∃ d0 d1 d2, ⌜Held m hO c t d0 d1 d2⌝ ∗ owns (c : Thread nD τ) sc0 fullShare d0 ∗ owns (c : Thread nD τ) sc1 fullShare d1 ∗ owns (c : Thread nD τ) sc2 fullShare d2)
    ∗ (∃ r, prngReg c r) ∗ tabPt c beM (tbl m 0) ∗ tabPt c nuM (tbl m 1))

theorem rest_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA; rw [scopedRest0_eq]; simp only [sc0, sc1, sc2, owns_whole]; try rfl

/-- The pipeline's proof data. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => blockOut m hO c t
  Φ t := Inv m hO c t
  q _ := fullShare
  owed _ := 0

theorem A_eq (hO : Ok m) (c : Dev nD) (w : Fin (cfgM m hO).W) : (dats m hO 0 c).A w = V m c (Pipeline.arrRef spec0 w) := by
  dsimp only [dats]

theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = iblk m hO c 2 t := by dsimp only [dats]; try rfl
theorem after_3 (hO : Ok m) (c : Dev nD) (t : Fin (cfgM m hO).N) : (dats m hO 0 c).after 3 t = iblk m hO c 3 t := by dsimp only [dats]; try rfl
theorem after_4 (hO : Ok m) (c : Dev nD) (t : Fin (cfgM m hO).N) : (dats m hO 0 c).after 4 t = blockOut m hO c t := by dsimp only [dats]; try rfl

/-! Each input's staging buffer holds its block at every point, fetched there or not. -/

theorem fetched_0 (hO : Ok m) (c : Dev nD) (t : Fin (cfgM m hO).N) (d) : (dats m hO 0 c).fetched 0 t d = iblk m hO c 0 t := by
  unfold Dat.fetched Dat.blockOf iblk; rw [A_eq]; try rfl
theorem before_0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl) (fun t => by rw [after_0]; unfold Dat.blockOf iblk; rw [A_eq]; try rfl) t d).trans
    (fetched_0 m hO c t d)
theorem fetched_1 (hO : Ok m) (c : Dev nD) (t : Fin (cfgM m hO).N) (d) : (dats m hO 0 c).fetched 1 t d = iblk m hO c 1 t := by
  unfold Dat.fetched Dat.blockOf iblk; rw [A_eq]; try rfl
theorem before_1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl) (fun t => by rw [after_1]; unfold Dat.blockOf iblk; rw [A_eq]; try rfl) t d).trans
    (fetched_1 m hO c t d)
theorem fetched_2 (hO : Ok m) (c : Dev nD) (t : Fin (cfgM m hO).N) (d) : (dats m hO 0 c).fetched 2 t d = iblk m hO c 2 t := by
  unfold Dat.fetched Dat.blockOf iblk; rw [A_eq]; try rfl
theorem before_2 (hO : Ok m) (c : Dev nD) (t : Fin (cfgM m hO).N) (d) : (dats m hO 0 c).before 2 t d = iblk m hO c 2 t :=
  ((dats m hO 0 c).before_in_eq_fetched 2 rfl (fun _ => rfl) (fun _ _ _ => rfl) (fun t => by rw [after_2]; unfold Dat.blockOf iblk; rw [A_eq]; try rfl) t d).trans
    (fetched_2 m hO c t d)
theorem fetched_3 (hO : Ok m) (c : Dev nD) (t : Fin (cfgM m hO).N) (d) : (dats m hO 0 c).fetched 3 t d = iblk m hO c 3 t := by
  unfold Dat.fetched Dat.blockOf iblk; rw [A_eq]; try rfl
theorem before_3 (hO : Ok m) (c : Dev nD) (t : Fin (cfgM m hO).N) (d) : (dats m hO 0 c).before 3 t d = iblk m hO c 3 t :=
  ((dats m hO 0 c).before_in_eq_fetched 3 rfl (fun _ => rfl) (fun _ _ _ => rfl) (fun t => by rw [after_3]; unfold Dat.blockOf iblk; rw [A_eq]; try rfl) t d).trans
    (fetched_3 m hO c t d)

/-! ## Blocks of one expert -/

/-- The offset of the word read for the block before is that of the block before's own word. -/
theorem off_prev (i j : grid0.Coords) (hij : (j 0).val + 1 = (i 0).val) : k0_off2 i = k0_off1 j := by
  have hi : (i 0).val < 162 := (i 0).isLt
  unfold k0_off2 k0_off1
  have key : ∀ a : Fin 161, (Scalar.indexCast (Scalar.maxsi (Scalar.subi (BitVec.ofNat 32 (a.val + 1)) 1#32) 0#32) : Index).toNat
      = (Scalar.indexCast (BitVec.ofNat 32 a.val) : Index).toNat := by decide +kernel
  have h := key ⟨(j 0).val, by omega⟩
  rw [show (⟨(j 0).val, by omega⟩ : Fin 161).val = (j 0).val from rfl, hij] at h
  exact congrArg (fun n : Nat => (![n] : Fin 1 → Nat)) h

theorem word_congr (c : Dev nD) (xt0 : TabBuf (F := F) c beM) (o o' : Fin 1 → Nat) (h : o = o') (hi : ∀ a, o a + S1.size a ≤ S162.size a) (hi' : ∀ a, o' a + S1.size a ≤ S162.size a) :
    beM.view.readAt (Elt F) (Rect.unit (s := S162) o S1.size hi).toLoadRect xt0 (Shape.Idx.first (numel1_S1.symm ▸ Nat.one_pos))
      = beM.view.readAt (Elt F) (Rect.unit (s := S162) o' S1.size hi').toLoadRect xt0 (Shape.Idx.first (numel1_S1.symm ▸ Nat.one_pos)) := by
  subst h; rfl

theorem prev_word (c : Dev nD) (xt0 : TabBuf (F := F) c beM) (i j : grid0.Coords) (hij : (j 0).val + 1 = (i 0).val) :
    prevWord c i xt0 = curWord c j xt0 := word_congr c xt0 _ _ (off_prev i j hij) _ _

theorem index_1 (hO : Ok m) (c : Dev nD) (t : Fin (cfgM m hO).N) :
    ((cfgM m hO).win 1).index t = ![0, (curWord c (grid0.coords t) (tbl m 0)).toNat, 0, 0] := rfl
theorem iblk_congr_1 (hO : Ok m) (c : Dev nD) (t s : Fin (cfgM m hO).N) (h : curWord c (grid0.coords t) (tbl m 0) = curWord c (grid0.coords s) (tbl m 0)) :
    (iblk m hO c 1 t : Vec F S1x1x1024x512 .f32) = iblk m hO c 1 s := by
  have hx : ((cfgM m hO).win 1).index t = ((cfgM m hO).win 1).index s := by rw [index_1 m hO c, index_1 m hO c, h]
  have e := (dats m hO 0 c).fetched_congr 1 hx rfl (fun _ => Classical.arbitrary _)
  rw [fetched_1, fetched_1] at e
  exact e
theorem index_2 (hO : Ok m) (c : Dev nD) (t : Fin (cfgM m hO).N) :
    ((cfgM m hO).win 2).index t = ![0, (curWord c (grid0.coords t) (tbl m 0)).toNat, 0, 0] := rfl
theorem iblk_congr_2 (hO : Ok m) (c : Dev nD) (t s : Fin (cfgM m hO).N) (h : curWord c (grid0.coords t) (tbl m 0) = curWord c (grid0.coords s) (tbl m 0)) :
    (iblk m hO c 2 t : Vec F S1x1x1024x512 .f32) = iblk m hO c 2 s := by
  have hx : ((cfgM m hO).win 2).index t = ((cfgM m hO).win 2).index s := by rw [index_2 m hO c, index_2 m hO c, h]
  have e := (dats m hO 0 c).fetched_congr 2 hx rfl (fun _ => Classical.arbitrary _)
  rw [fetched_2, fetched_2] at e
  exact e
theorem index_3 (hO : Ok m) (c : Dev nD) (t : Fin (cfgM m hO).N) :
    ((cfgM m hO).win 3).index t = ![0, (curWord c (grid0.coords t) (tbl m 0)).toNat, 0, 0] := rfl
theorem iblk_congr_3 (hO : Ok m) (c : Dev nD) (t s : Fin (cfgM m hO).N) (h : curWord c (grid0.coords t) (tbl m 0) = curWord c (grid0.coords s) (tbl m 0)) :
    (iblk m hO c 3 t : Vec F S1x1x512x1024 .f32) = iblk m hO c 3 s := by
  have hx : ((cfgM m hO).win 3).index t = ((cfgM m hO).win 3).index s := by rw [index_3 m hO c, index_3 m hO c, h]
  have e := (dats m hO 0 c).fetched_congr 3 hx rfl (fun _ => Classical.arbitrary _)
  rw [fetched_3, fetched_3] at e
  exact e

theorem coords_val (t : Fin grid0.N) : (grid0.coords t 0).val = t.val := by
  revert t; decide +kernel

/-- At a used block that is not fresh, the scratch buffers hold the block's own weights. -/
theorem held_now (hO : Ok m) (c : Dev nD) (t : Fin (cfgM m hO).N) (d0 d1 d2) (hg : Held m hO c t.castSucc d0 d1 d2) (hu : used m c t)
    (hf : ¬freshCond (grid0.coords t) (nuWord c (tbl m 1)) (prevWord c (grid0.coords t) (tbl m 0)) (curWord c (grid0.coords t) (tbl m 0))) :
    d0 = k0_pay1 (iblk m hO c 1 t) ∧ d1 = k0_pay2 (iblk m hO c 2 t) ∧ d2 = k0_pay3 (iblk m hO c 3 t) := by
  obtain ⟨hne, hw⟩ := not_fresh _ _ _ _ hu hf
  have hN : t.val < 162 := t.isLt
  have ht := coords_val t
  obtain ⟨s, hs⟩ : ∃ s : Fin (cfgM m hO).N, s.val + 1 = t.val := ⟨⟨t.val - 1, by show t.val - 1 < 162; omega⟩, by show t.val - 1 + 1 = t.val; omega⟩
  have hst : (grid0.coords s 0).val + 1 = (grid0.coords t 0).val := by rw [coords_val, coords_val]; exact hs
  have hus : used m c s := used_before _ _ _ hst hu
  have hw := hw.trans (prev_word c (tbl m 0) _ _ hst)
  obtain ⟨e0, e1, e2⟩ := hg s hs hus
  refine ⟨e0.trans (congrArg k0_pay1 (iblk_congr_1 m hO c t s hw).symm), e1.trans (congrArg k0_pay2 (iblk_congr_2 m hO c t s hw).symm),
    e2.trans (congrArg k0_pay3 (iblk_congr_3 m hO c t s hw).symm)⟩

/-! ## The body obligation -/

abbrev ms0 (hO : Ok m) (t : Fin (cfgM m hO).N) : Memref sig .tc .vmem S256x1024 .f32 := spec0_0.stage ((cfgM m hO).slots t 0)
abbrev ms1 (hO : Ok m) (t : Fin (cfgM m hO).N) : Memref sig .tc .vmem S1x1x1024x512 .f32 := spec0_1.stage ((cfgM m hO).slots t 1)
abbrev ms2 (hO : Ok m) (t : Fin (cfgM m hO).N) : Memref sig .tc .vmem S1x1x1024x512 .f32 := spec0_2.stage ((cfgM m hO).slots t 2)
abbrev ms3 (hO : Ok m) (t : Fin (cfgM m hO).N) : Memref sig .tc .vmem S1x1x512x1024 .f32 := spec0_3.stage ((cfgM m hO).slots t 3)
abbrev ms4 (hO : Ok m) (t : Fin (cfgM m hO).N) : Memref sig .tc .vmem S256x1024 .f32 := spec0_4.stage ((cfgM m hO).slots t 4)

/-- The body as the pipeline calls it at point `t`. -/
abbrev bodyAt (a : (pcfg0 (F := F)).Adm) (t : Fin (cfg0 a).N) : Prog (TpuEff nD τ sig (Elt F) Λ₀ .tc) PUnit :=
  cc0_moe_experts (grid0.coords t) (Memref.whole main_arg0) (Memref.isWhole_whole _) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (Memref.whole cc0_scratch0) (Memref.isWhole_whole _) (Memref.whole cc0_scratch1) (Memref.isWhole_whole _) (Memref.whole cc0_scratch2) (Memref.isWhole_whole _)

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d))
    ∗ (∃ d, owns (c : Thread nD τ) (ms4 m hO t) fullShare ((dats m hO 0 c).before 4 t d)))

def bodyPost (hO : Ok m) (c : Dev nD) (t : Fin (cfgM m hO).N) : sProp 𝕄 :=
  iprop((dats m hO 0 c).Φ t.succ ∗ (dats m hO 0 c).owesAt () t.succ
    ∗ owns (c : Thread nD τ) (ms0 m hO t) fullShare ((dats m hO 0 c).after 0 t)
    ∗ owns (c : Thread nD τ) (ms1 m hO t) fullShare ((dats m hO 0 c).after 1 t)
    ∗ owns (c : Thread nD τ) (ms2 m hO t) fullShare ((dats m hO 0 c).after 2 t)
    ∗ owns (c : Thread nD τ) (ms3 m hO t) fullShare ((dats m hO 0 c).after 3 t)
    ∗ owns (c : Thread nD τ) (ms4 m hO t) fullShare ((dats m hO 0 c).after 4 t))

set_option maxHeartbeats 1600000 in
/-- The body at any point, from the invariant before it to the invariant after it. -/
theorem sound_body (hO : Ok m) (c : Dev nD) (t : Fin (cfgM m hO).N) :
    bodyPre m hO c t ⊢ wp frame (wpE (defs₀ (F := F)) Variants.none c none) Set.univ (bodyAt (adm m hO) t) (fun _ => bodyPost m hO c t) := by
  unfold bodyPre bodyPost bodyAt
  simp only [before_0, before_1, before_2, before_3]
  rw [show (dats m hO 0 c).Φ t.succ = Inv m hO c t.succ from rfl, show (dats m hO 0 c).Φ t.castSucc = Inv m hO c t.castSucc from rfl,
    show (dats m hO 0 c).owesAt () t.succ = (dats m hO 0 c).owesAt () t.castSucc from rfl,
    after_0, after_1, after_2, after_3, after_4]
  unfold Inv
  by_cases hu : used m c t
  · have hc3 : ¬k0_cond3 (grid0.coords t) (nuWord c (tbl m 1)) = 1#1 := fun h => (cond3_iff _ _).1 h hu
    have hout : blockOut m hO c t = k0_pay4 (iblk m hO c 0 t) (k0_pay1 (iblk m hO c 1 t)) (k0_pay2 (iblk m hO c 2 t)) (k0_pay3 (iblk m hO c 3 t)) := if_pos hu
    have hheld : Held m hO c t.succ (k0_pay1 (iblk m hO c 1 t)) (k0_pay2 (iblk m hO c 2 t)) (k0_pay3 (iblk m hO c 3 t)) := by
      intro s hs _
      obtain rfl : s = t := Fin.ext (by have : (t.succ).val = t.val + 1 := rfl; omega)
      exact ⟨rfl, rfl, rfl⟩
    by_cases hf : freshCond (grid0.coords t) (nuWord c (tbl m 1)) (prevWord c (grid0.coords t) (tbl m 0)) (curWord c (grid0.coords t) (tbl m 0))
    · iintro ⟨⟨⟨%g0, %g1, %g2, %hg, HS0, HS1, HS2⟩, Hg, HT0, HT1⟩, Ho, ⟨%d0, H0⟩, ⟨%d1, H1⟩, ⟨%d2, H2⟩, ⟨%d3, H3⟩, ⟨%d4, H4⟩⟩
      rw [hout]
      iapply (run_A c (grid0.coords t) _ _ _ _ _ _ _ _ _ _ _ _ _ _ _ _ (iblk m hO c 0 t) (iblk m hO c 1 t) (iblk m hO c 2 t) (iblk m hO c 3 t) g0 g1 g2 (tbl m 0) (tbl m 1) hf hu hc3 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      isplitl [HT0]; · iexact HT0
      isplitl [HT1]; · iexact HT1
      iintro ⟨H0, H1, H2, H3, H4, HS0, HS1, HS2, HT0, HT1⟩
      isplitl [HS0 HS1 HS2 Hg HT0 HT1]
      · isplitl [HS0 HS1 HS2]
        · iexists _, _, _
          isplitr; · ipureintro; exact hheld
          isplitl [HS0]; · iexact HS0
          isplitl [HS1]; · iexact HS1
          iexact HS2
        isplitl [Hg]; · iexact Hg
        isplitl [HT0]; · iexact HT0
        iexact HT1
      isplitl [Ho]; · iexact Ho
      isplitl [H0]; · iexact H0
      isplitl [H1]; · iexact H1
      isplitl [H2]; · iexact H2
      isplitl [H3]; · iexact H3
      iexact H4
    · iintro ⟨⟨⟨%g0, %g1, %g2, %hg, HS0, HS1, HS2⟩, Hg, HT0, HT1⟩, Ho, ⟨%d0, H0⟩, ⟨%d1, H1⟩, ⟨%d2, H2⟩, ⟨%d3, H3⟩, ⟨%d4, H4⟩⟩
      obtain ⟨e0, e1, e2⟩ := held_now m hO c t g0 g1 g2 hg hu hf
      subst e0 e1 e2
      rw [hout]
      iapply (run_B c (grid0.coords t) _ _ _ _ _ _ _ _ _ _ _ _ _ _ _ _ (iblk m hO c 0 t) (iblk m hO c 1 t) (iblk m hO c 2 t) (iblk m hO c 3 t) (k0_pay1 (iblk m hO c 1 t)) (k0_pay2 (iblk m hO c 2 t)) (k0_pay3 (iblk m hO c 3 t)) (tbl m 0) (tbl m 1) hf hu hc3 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      isplitl [HT0]; · iexact HT0
      isplitl [HT1]; · iexact HT1
      iintro ⟨H0, H1, H2, H3, H4, HS0, HS1, HS2, HT0, HT1⟩
      isplitl [HS0 HS1 HS2 Hg HT0 HT1]
      · isplitl [HS0 HS1 HS2]
        · iexists _, _, _
          isplitr; · ipureintro; exact hheld
          isplitl [HS0]; · iexact HS0
          isplitl [HS1]; · iexact HS1
          iexact HS2
        isplitl [Hg]; · iexact Hg
        isplitl [HT0]; · iexact HT0
        iexact HT1
      isplitl [Ho]; · iexact Ho
      isplitl [H0]; · iexact H0
      isplitl [H1]; · iexact H1
      isplitl [H2]; · iexact H2
      isplitl [H3]; · iexact H3
      iexact H4
  · have hf : ¬freshCond (grid0.coords t) (nuWord c (tbl m 1)) (prevWord c (grid0.coords t) (tbl m 0)) (curWord c (grid0.coords t) (tbl m 0)) :=
      fun h => hu (fresh_used _ _ _ _ h)
    have hc3 : k0_cond3 (grid0.coords t) (nuWord c (tbl m 1)) = 1#1 := (cond3_iff _ _).2 hu
    have hout : blockOut m hO c t = k0_pay5 := if_neg hu
    iintro ⟨⟨⟨%g0, %g1, %g2, %hg, HS0, HS1, HS2⟩, Hg, HT0, HT1⟩, Ho, ⟨%d0, H0⟩, ⟨%d1, H1⟩, ⟨%d2, H2⟩, ⟨%d3, H3⟩, ⟨%d4, H4⟩⟩
    have hheld : Held m hO c t.succ g0 g1 g2 := by
      intro s hs hus
      obtain rfl : s = t := Fin.ext (by have : (t.succ).val = t.val + 1 := rfl; omega)
      exact absurd hus hu
    rw [hout]
    iapply (run_C c (grid0.coords t) _ _ _ _ _ _ _ _ _ _ _ _ _ _ _ _ (iblk m hO c 0 t) (iblk m hO c 1 t) (iblk m hO c 2 t) (iblk m hO c 3 t) g0 g1 g2 (tbl m 0) (tbl m 1) hf hu hc3 Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    isplitl [HT0]; · iexact HT0
    isplitl [HT1]; · iexact HT1
    iintro ⟨H0, H1, H2, H3, H4, HS0, HS1, HS2, HT0, HT1⟩
    isplitl [HS0 HS1 HS2 Hg HT0 HT1]
    · isplitl [HS0 HS1 HS2]
      · iexists _, _, _
        isplitr; · ipureintro; exact hheld
        isplitl [HS0]; · iexact HS0
        isplitl [HS1]; · iexact HS1
        iexact HS2
      isplitl [Hg]; · iexact Hg
      isplitl [HT0]; · iexact HT0
      iexact HT1
    isplitl [Ho]; · iexact Ho
    isplitl [H0]; · iexact H0
    isplitl [H1]; · iexact H1
    isplitl [H2]; · iexact H2
    isplitl [H3]; · iexact H3
    iexact H4

theorem defs_row (hO : Ok m) (t : Fin (cfgM m hO).N) :
    defs₀ (F := F) .tc (cfgM m hO).body ((cfgM m hO).bodyArgs t ((cfgM m hO).slots t)) = bodyAt (adm m hO) t := by
  unfold defs₀; rw [Defs.onTc_tc]

/-- The result's block is written back at every point. -/
theorem flush_4 (a : (pcfg0 (F := F)).Adm) : ∀ t : Fin (cfg0 a).N, ((cfg0 a).win 4).flush t = true :=
  (fun t => (Pipeline.Window.flushOf_reads cc0_transform_4 reads0_4 hreads0_4 0 (by decide) (by decide) (Pipeline.Window.sep_of_coord cc0_transform_4 0 0 (fun _ => rfl) (by decide)) (P := 1) (m := 0) (by decide) rfl t).mpr (Nat.mod_one _) : ∀ t : Fin grid0.N, Pipeline.Window.flushOf grid0 true cc0_transform_4 t = true)

theorem leaves_4 (hO : Ok m) (c : Dev nD) (t : Fin (cfgM m hO).N) :
    (owns (c : Thread nD τ) (ms4 m hO t) fullShare ((dats m hO 0 c).after 4 t) : sProp 𝕄) ⊢ (dats m hO 0 c).leavesExact 4 t := by
  unfold Dat.leavesExact
  rw [flush_4 (adm m hO) t]
  split <;> exact .rfl

/-- The library's body obligation, at every point. -/
theorem body_obligation (hO : Ok m) (c : Dev nD) : BodyObligation (dats (F := F) m hO 0 c) (defs₀ (F := F)) Variants.none () Set.univ := fun t => by
  rw [bigSep_W0, bigSep_W0, defs_row m hO]
  exact triple_restated (sound_body m hO c t) rfl .rfl fun _ =>
    sep_mono .rfl (sep_mono .rfl (sep_mono .rfl (sep_mono .rfl (sep_mono .rfl (sep_mono .rfl (leaves_4 m hO c t))))))

theorem inv_in (hO : Ok m) (c : Dev nD) : (iprop(Pipeline.ΦA spec0 c ∗ Pipeline.ΦT pre0 (tbl m) c) : sProp 𝕄) ⊢ Inv m hO c 0 := by
  rw [rest_eq, tabs_eq]; unfold Inv
  iintro ⟨⟨⟨⟨%d0, HS0⟩, ⟨%d1, HS1⟩, ⟨%d2, HS2⟩⟩, Hg⟩, HT0, HT1⟩
  isplitl [HS0 HS1 HS2]
  · iexists d0, d1, d2
    isplitr
    · ipureintro
      intro s hs _
      exact absurd hs (Nat.succ_ne_zero _)
    isplitl [HS0]; · iexact HS0
    isplitl [HS1]; · iexact HS1
    iexact HS2
  isplitl [Hg]; · iexact Hg
  isplitl [HT0]; · iexact HT0
  iexact HT1

theorem inv_out (hO : Ok m) (c : Dev nD) : Inv m hO c (Fin.last _) ⊢ (Pipeline.ΦA spec0 c : sProp 𝕄) := by
  rw [rest_eq]; unfold Inv
  iintro ⟨⟨%d0, %d1, %d2, -, HS0, HS1, HS2⟩, Hg, -, -⟩
  isplitl [HS0 HS1 HS2]
  · isplitl [HS0]; · iexists _; iexact HS0
    isplitl [HS1]; · iexists _; iexact HS1
    iexists _; iexact HS2
  iexact Hg

/-! ## The run -/

set_option backward.isDefEq.respectTransparency.types false in
/-- The launch: every array ends at what the proof data say, every other buffer as launched, every semaphore counter at zero. -/
theorem run_all (hO : Ok m) : θ_run defs (onTc (τ := τ) (main (F := F))) (s₀ m ρ) (fun r => Pipeline.FramePost (Pipeline.pin pcfgs fun _ => adm m hO) (dats m hO) 0 (V m) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := inv_in m hO) (hout := inv_out m hO)

/-- Every run ends with the result array at what the pipeline's blocks leave there and the argument arrays unchanged. -/
theorem run_blocks (hO : Ok m) : θ_run defs (onTc (τ := τ) (main (F := F))) ⟨m, fun _ => 0, ρ⟩ (fun r => (∀ c : Dev nD,
      r.2.mem ((c.tc : Thread nD τ).loc main_v0) = (dats m hO 0 c).arrAt 4 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => ⟨(h.1 c).1 4, ((h.1 c).2 main_arg0 (by decide : main_arg0 ∈ Pipeline.restRefs sig spec0)),
      ((h.1 c).2 main_arg1 (by decide : main_arg1 ∈ Pipeline.restRefs sig spec0)),
      ((h.1 c).1 0).trans (((dats m hO 0 c).arrAt_in 0 rfl _).trans (A_eq m hO c 0)),
      ((h.1 c).1 1).trans (((dats m hO 0 c).arrAt_in 1 rfl _).trans (A_eq m hO c 1)),
      ((h.1 c).1 2).trans (((dats m hO 0 c).arrAt_in 2 rfl _).trans (A_eq m hO c 2)),
      ((h.1 c).1 3).trans (((dats m hO 0 c).arrAt_in 3 rfl _).trans (A_eq m hO c 3))⟩, h.2⟩) (run_all m ρ hO)

/-- The frame: every run ends with the argument arrays unchanged and every counter at zero. -/
theorem frame_of_ok (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => (h.1 c).2, h.2⟩) (run_blocks m ρ hO)

end Cert.Kernel4Ideal.Hand

end
-- ==== Proof.ExpertsPreIdeal.lean ====
/-
  The precondition of the experts call, read: every expert number is one of the 32, so every weight block lies inside
  its array.
-/
module

public import proofs.«01_k».proof.Proof.ExpertsFrameIdeal
public import proofs.«01_k».proof.Proof.ExpertsRef
public import proofs.«01_k».proof.Proof.Gen.Pre_expert_numbers

@[expose] public section

set_option maxRecDepth 16384
noncomputable section

namespace Cert.Kernel4Ideal.Hand
open Cert.Kernel4Ideal.Gen
open Idealize.ShloMosaic Idealize.ShloMosaic.TcCoe Idealize.SL.Sem Idealize.ShloMosaic.WordCmp

variable (m : (ℓ : Loc nD τ sig) → Buf (Elt Ideal) ℓ)

/-- The expert numbers. -/
abbrev be (c : Dev nD) : IVec S162 32 := m ((c.tc : Thread nD τ).loc main_arg0)
/-- The number of used blocks. -/
abbrev nu (c : Dev nD) : IVec S1 32 := m ((c.tc : Thread nD τ).loc main_arg1)

/-- The word the index maps read for block `t` is its expert number. -/
theorem cur_eq (c : Dev nD) (i : grid0.Coords) : curWord c i (tbl m 0) = be m c (ix1 ⟨(i 0).val, (i 0).isLt⟩) := by
  obtain rfl : c = 0 := Subsingleton.elim _ _
  show be m 0 _ = be m 0 _
  congr 1
  funext a
  obtain rfl : a = 0 := Subsingleton.elim (α := Fin 1) _ _
  apply Fin.ext
  have hi : (i 0).val < 162 := (i 0).isLt
  show k0_off1 i 0 + 1 * 0 = (i 0).val
  have key : ∀ a : Fin 162, (Scalar.indexCast (BitVec.ofNat 32 a.val) : Index).toNat = a.val := by decide +kernel
  exact key ⟨(i 0).val, hi⟩

/-- The word compared with the block's number counts the used blocks. -/
theorem nu_eq (c : Dev nD) : nuWord c (tbl m 1) = nu m c (ix1 0) := by
  obtain rfl : c = 0 := Subsingleton.elim _ _
  show nu m 0 _ = nu m 0 _
  congr 1
  funext a
  obtain rfl : a = 0 := Subsingleton.elim (α := Fin 1) _ _
  exact Subsingleton.elim (α := Fin 1) _ _

/-- A word that names an expert is below 32. -/
theorem named_lt (w : BitVec 32) (h : Experts.Named w) : w.toNat < 32 ∧ (Experts.expert w).val = w.toNat := by
  have h1 := h.1
  have h2 := (ofBool_decide_eq_one_iff _).1 ((cmpi_slt_eq _ _).symm.trans h.2)
  have h3 : (0 : Int) ≤ w.toInt := (ofBool_decide_eq_one_iff _).1 ((cmpi_sge_eq _ _).symm.trans h.1)
  have h4 : w.toInt < 32 := h2
  have h5 : w.toInt.toNat = w.toNat := by
    rw [BitVec.toInt_eq_toNat_cond] at h3 h4 ⊢
    split at h3 <;> split at h4 <;> split <;> omega
  have h6 : w.toNat < 32 := by omega
  refine ⟨h6, ?_⟩
  show min w.toInt.toNat 31 = w.toNat
  omega

/-- So every weight block lies inside its array. -/
theorem ok_of_named (h : ∀ b, Experts.Named (be m 0 b)) : Ok m := by
  have hw : ∀ i : grid0.Coords, (curWord (0 : Dev nD) i (tbl m 0)).toNat < 32 := fun i => by
    rw [cur_eq]; exact (named_lt _ (h _)).1
  refine ⟨fun i => ⟨fun a => ?_, Or.inl rfl⟩, fun i => ⟨fun a => ?_, Or.inl rfl⟩, fun i => ⟨fun a => ?_, Or.inl rfl⟩⟩
  · have := hw i
    match a with
    | ⟨0, _⟩ => show (0 + 1) * 1 ≤ 4; omega
    | ⟨1, _⟩ => show ((curWord (0 : Dev nD) i (tbl m 0)).toNat + 1) * 1 ≤ 32; omega
    | ⟨2, _⟩ => show (0 + 1) * 1024 ≤ 1024; omega
    | ⟨3, _⟩ => show (0 + 1) * 512 ≤ 512; omega
  · have := hw i
    match a with
    | ⟨0, _⟩ => show (0 + 1) * 1 ≤ 4; omega
    | ⟨1, _⟩ => show ((curWord (0 : Dev nD) i (tbl m 0)).toNat + 1) * 1 ≤ 32; omega
    | ⟨2, _⟩ => show (0 + 1) * 1024 ≤ 1024; omega
    | ⟨3, _⟩ => show (0 + 1) * 512 ≤ 512; omega
  · have := hw i
    match a with
    | ⟨0, _⟩ => show (0 + 1) * 1 ≤ 4; omega
    | ⟨1, _⟩ => show ((curWord (0 : Dev nD) i (tbl m 0)).toNat + 1) * 1 ≤ 32; omega
    | ⟨2, _⟩ => show (0 + 1) * 512 ≤ 512; omega
    | ⟨3, _⟩ => show (0 + 1) * 1024 ≤ 1024; omega

/-- The precondition says that every expert number names an expert. -/
theorem named_of_pre (h : Cert.Pre_Kernel4Ideal (hPre_expert_numbers := Cert.Pre_expert_numbers.Gen.facts) m) (c : Dev nD) (b : S162.Idx) : Experts.Named (be m c b) := by
  have andi_one (a b : BitVec 1) : IntOp.andi a b = 1#1 ↔ a = 1#1 ∧ b = 1#1 := by revert a b; decide
  have pre := congrFun (h c) b
  simp only [Cert.Pre_expert_numbers.fn, constantI, broadcastInDim, cmpi, andi, andi_one] at pre
  exact pre

end Cert.Kernel4Ideal.Hand
end
end
-- ==== Proof.ExpertsValue.lean ====
/-
  What the experts kernel leaves in its result array, over the reals with infinities: `Experts.out` of its arguments.
-/
module

public import proofs.«01_k».proof.Proof.ExpertsPreIdeal
public import Idealize.ShloMosaic.Lib.Pointwise

@[expose] public section

set_option maxRecDepth 16384
noncomputable section

namespace Cert.Kernel4Ideal.Hand
open Cert.Kernel4Ideal.Gen
open Idealize.ShloMosaic Idealize.ShloMosaic.TcCoe Idealize.SL.Sem Idealize.ShloMosaic.WordCmp
open Idealize.ShloMosaic.Pipeline (Dat)

variable (m : (ℓ : Loc nD τ sig) → Buf (Elt Ideal) ℓ) (hO : Ok m) (c : Dev nD)

/-- The assigned rows. -/
abbrev xs : Vec Ideal S41472x1024 .f32 := m ((c.tc : Thread nD τ).loc main_arg2)
/-- The experts' gate matrices. -/
abbrev wg : Vec Ideal S4x32x1024x512 .f32 := m ((c.tc : Thread nD τ).loc main_arg3)
/-- The experts' up matrices. -/
abbrev wu : Vec Ideal S4x32x1024x512 .f32 := m ((c.tc : Thread nD τ).loc main_arg4)
/-- The experts' down matrices. -/
abbrev wd : Vec Ideal S4x32x512x1024 .f32 := m ((c.tc : Thread nD τ).loc main_arg5)

/-- The function the kernel computes, of its own arguments. -/
abbrev res : Vec Ideal S41472x1024 .f32 := Experts.out (be m c) (nu m c) (xs m c) (wg m c) (wu m c) (wd m c)

theorem lt162 (t : Fin (cfgM m hO).N) : t.val < 162 := t.isLt

theorem index_0 : ∀ t : Fin grid0.N, cc0_transform_0 (grid0.coords t) 0 = t.val ∧ cc0_transform_0 (grid0.coords t) 1 = 0 := by decide +kernel
theorem index_4 : ∀ t : Fin grid0.N, cc0_transform_4 (grid0.coords t) 0 = t.val ∧ cc0_transform_4 (grid0.coords t) 1 = 0 := by decide +kernel

/-- The block of rows of point `t`. -/
theorem blk0 (t : Fin (cfgM m hO).N) (r : Fin 256) (d : Fin 1024) (n : Fin 41472) (hn : n.val = 256 * t.val + r.val) :
    (iblk m hO c 0 t : Vec Ideal S256x1024 .f32) (ix2 r d) = xs m c (ix2 n d) := by
  show xs m c _ = xs m c _
  congr 1
  funext a
  apply Fin.ext
  have hi := index_0 t
  match a with
  | ⟨0, _⟩ => show cc0_transform_0 (grid0.coords t) 0 * 256 + 1 * r.val = n.val; omega
  | ⟨1, _⟩ => show cc0_transform_0 (grid0.coords t) 1 * 1024 + 1 * d.val = d.val; omega

/-- The gate block of point `t`: the matrix of its expert. -/
theorem blk1 (t : Fin (cfgM m hO).N) (p : Fin 1024) (q : Fin 512) (e : Fin 32) (he : e.val = (curWord c (grid0.coords t) (tbl m 0)).toNat) :
    (iblk m hO c 1 t : Vec Ideal S1x1x1024x512 .f32) (ix4 0 0 p q) = wg m c (ix4 0 e p q) := by
  show wg m c _ = wg m c _
  congr 1
  funext a
  apply Fin.ext
  match a with
  | ⟨0, _⟩ => show 0 * 1 + 1 * 0 = 0; omega
  | ⟨1, _⟩ => show (curWord c (grid0.coords t) (tbl m 0)).toNat * 1 + 1 * 0 = e.val; omega
  | ⟨2, _⟩ => show 0 * 1024 + 1 * p.val = p.val; omega
  | ⟨3, _⟩ => show 0 * 512 + 1 * q.val = q.val; omega
/-- The up block. -/
theorem blk2 (t : Fin (cfgM m hO).N) (p : Fin 1024) (q : Fin 512) (e : Fin 32) (he : e.val = (curWord c (grid0.coords t) (tbl m 0)).toNat) :
    (iblk m hO c 2 t : Vec Ideal S1x1x1024x512 .f32) (ix4 0 0 p q) = wu m c (ix4 0 e p q) := by
  show wu m c _ = wu m c _
  congr 1
  funext a
  apply Fin.ext
  match a with
  | ⟨0, _⟩ => show 0 * 1 + 1 * 0 = 0; omega
  | ⟨1, _⟩ => show (curWord c (grid0.coords t) (tbl m 0)).toNat * 1 + 1 * 0 = e.val; omega
  | ⟨2, _⟩ => show 0 * 1024 + 1 * p.val = p.val; omega
  | ⟨3, _⟩ => show 0 * 512 + 1 * q.val = q.val; omega
/-- The down block. -/
theorem blk3 (t : Fin (cfgM m hO).N) (p : Fin 512) (q : Fin 1024) (e : Fin 32) (he : e.val = (curWord c (grid0.coords t) (tbl m 0)).toNat) :
    (iblk m hO c 3 t : Vec Ideal S1x1x512x1024 .f32) (ix4 0 0 p q) = wd m c (ix4 0 e p q) := by
  show wd m c _ = wd m c _
  congr 1
  funext a
  apply Fin.ext
  match a with
  | ⟨0, _⟩ => show 0 * 1 + 1 * 0 = 0; omega
  | ⟨1, _⟩ => show (curWord c (grid0.coords t) (tbl m 0)).toNat * 1 + 1 * 0 = e.val; omega
  | ⟨2, _⟩ => show 0 * 512 + 1 * p.val = p.val; omega
  | ⟨3, _⟩ => show 0 * 1024 + 1 * q.val = q.val; omega

/-- The body's product at an index, from the rounded weights. -/
theorem pay4_apply (v19 : Vec Ideal S256x1024 .f32) (v21 v23 : Vec Ideal S1024x512 .bf16) (v35 : Vec Ideal S512x1024 .bf16) (r : Fin 256) (k : Fin 1024) :
    k0_pay4 v19 v21 v23 v35 (ix2 r k) = ∑ h : Fin 512, (∑ d : Fin 1024, v19 (ix2 r d) * v21 (ix2 d h))
      * Ideal.div 1 (1 + Ideal.exp (0 - ∑ d : Fin 1024, v19 (ix2 r d) * v21 (ix2 d h))) * (∑ d : Fin 1024, v19 (ix2 r d) * v23 (ix2 d h)) * v35 (ix2 h k) := by
  pointwise [k0_pay4]
theorem pay1_apply (v : Vec Ideal S1x1x1024x512 .f32) (p : Fin 1024) (q : Fin 512) : k0_pay1 v (ix2 p q) = v (ix4 0 0 p q) := by
  pointwise [k0_pay1]
theorem pay2_apply (v : Vec Ideal S1x1x1024x512 .f32) (p : Fin 1024) (q : Fin 512) : k0_pay2 v (ix2 p q) = v (ix4 0 0 p q) := by
  pointwise [k0_pay2]
theorem pay3_apply (v : Vec Ideal S1x1x512x1024 .f32) (p : Fin 512) (q : Fin 1024) : k0_pay3 v (ix2 p q) = v (ix4 0 0 p q) := by
  pointwise [k0_pay3]
theorem pay5_apply (r : Fin 256) (k : Fin 1024) : (k0_pay5 (F := Ideal)) (ix2 r k) = (0 : EReal) := by
  pointwise [k0_pay5]

/-- A block's product at an index: the sum over the hidden units of `Experts.hidden`. -/
theorem product_congr (v19 : Vec Ideal S256x1024 .f32) (g u : Vec Ideal S1x1x1024x512 .f32) (w : Vec Ideal S1x1x512x1024 .f32)
    (X : Vec Ideal S41472x1024 .f32) (G U : Vec Ideal S4x32x1024x512 .f32) (W : Vec Ideal S4x32x512x1024 .f32) (n : Fin 41472) (e : Fin 32) (r : Fin 256) (k : Fin 1024)
    (hx : ∀ d, v19 (ix2 r d) = X (ix2 n d)) (hg : ∀ d h, g (ix4 0 0 d h) = G (ix4 0 e d h)) (hu : ∀ d h, u (ix4 0 0 d h) = U (ix4 0 e d h))
    (hw : ∀ h k, w (ix4 0 0 h k) = W (ix4 0 e h k)) :
    k0_pay4 v19 (k0_pay1 g) (k0_pay2 u) (k0_pay3 w) (ix2 r k) = ∑ h : Fin 512, Experts.hidden X G U n e h * W (ix4 0 e h k) := by
  rw [pay4_apply]
  refine Finset.sum_congr rfl fun h _ => ?_
  have hG : ∑ d : Fin 1024, v19 (ix2 r d) * k0_pay1 g (ix2 d h) = Experts.dot X G n e h :=
    Finset.sum_congr rfl fun d _ => by rw [hx, pay1_apply, hg]
  have hU : ∑ d : Fin 1024, v19 (ix2 r d) * k0_pay2 u (ix2 d h) = Experts.dot X U n e h :=
    Finset.sum_congr rfl fun d _ => by rw [hx, pay2_apply, hu]
  rw [hG, hU, pay3_apply, hw, zero_sub]
  rfl

/-- What point `t` leaves in the staging buffer, at an index, is the result at its row. -/
theorem block_at (hn : ∀ b, Experts.Named (be m c b)) (t : Fin (cfgM m hO).N) (r : Fin 256) (k : Fin 1024) (n : Fin 41472) (hr : n.val = 256 * t.val + r.val) :
    blockOut m hO c t (ix2 r k) = res m c (ix2 n k) := by
  have ht := lt162 m hO t
  have hq : n.val / 256 = t.val := by have := r.isLt; omega
  have hb : (⟨n.val / 256, by omega⟩ : Fin 162) = ⟨(grid0.coords t 0).val, (grid0.coords t 0).isLt⟩ :=
    Fin.ext (by show n.val / 256 = (grid0.coords t 0).val; rw [coords_val t]; exact hq)
  have hu : used m c t ↔ IntOp.cmpi .slt (BitVec.ofNat 32 (n.val / 256)) (nu m c (ix1 0)) = 1#1 := by
    show k0_cond2 (grid0.coords t) (nuWord c (tbl m 1)) = 1#1 ↔ _
    rw [cond2_eq, nu_eq, coords_val t, hq]
    rfl
  have he : (Experts.expert (be m c (ix1 ⟨n.val / 256, by omega⟩))).val = (curWord c (grid0.coords t) (tbl m 0)).toNat := by
    rw [cur_eq, hb]
    exact (named_lt _ (hn _)).2
  unfold blockOut res Experts.out
  show _ = if IntOp.cmpi .slt (BitVec.ofNat 32 (n.val / 256)) (nu m c (ix1 0)) = 1#1 then _ else _
  by_cases h : used m c t
  · rw [if_pos h, if_pos (hu.1 h)]
    exact product_congr _ _ _ _ (xs m c) (wg m c) (wu m c) (wd m c) n _ r k (fun d => blk0 m hO c t r d n hr)
      (fun d h => blk1 m hO c t d h _ he) (fun d h => blk2 m hO c t d h _ he) (fun h k => blk3 m hO c t h k _ he)
  · rw [if_neg h, if_neg (fun h' => h (hu.2 h'))]
    exact pay5_apply r k

/-- What a point writes back is its block of the result. -/
theorem flushed_eq (hn : ∀ b, Experts.Named (be m c b)) (t : Fin (cfgM m hO).N) (hf : ((cfgM m hO).win 4).flush t = true) :
    (dats m hO 0 c).flushed 4 t = (((cfgM m hO).win 4).blk t).view.read (Elt Ideal) (res m c) := by
  have ht := lt162 m hO t
  have hi := index_4 t
  have hfl : (dats m hO 0 c).flushed 4 t = blockOut m hO c t := after_4 m hO c t
  rw [hfl]
  funext y
  obtain ⟨r, k, rfl⟩ : ∃ (r : Fin 256) (k : Fin 1024), y = ix2 r k := ⟨y 0, y 1, eq_ix2 y⟩
  refine (block_at m hO c hn t r k ⟨256 * t.val + r.val, by omega⟩ rfl).trans ?_
  show res m c _ = res m c _
  refine congrArg (res m c) ?_
  funext a
  apply Fin.ext
  match a with
  | ⟨0, _⟩ => show 256 * t.val + r.val = cc0_transform_4 (grid0.coords t) 0 * 256 + 1 * r.val; omega
  | ⟨1, _⟩ => show k.val = cc0_transform_4 (grid0.coords t) 1 * 1024 + 1 * k.val; omega

/-- So the result array ends holding it: the points' blocks cover it. -/
theorem final (hn : ∀ b, Experts.Named (be m c b)) : (dats m hO 0 c).arrAt 4 (cfgM m hO).N = res m c :=
  (dats m hO 0 c).arrAt_eq_of_cover 4 _ (flushed_eq m hO c hn) fun (i : S41472x1024.Idx) => by
    have h0 : (i 0 : ℕ) < 41472 := (i 0).isLt
    have h1 : (i 1 : ℕ) < 1024 := (i 1).isLt
    have hb : (i 0).val / 256 < grid0.N := by show _ < 162; omega
    refine ⟨⟨(i 0).val / 256, hb⟩, flush_4 (adm m hO) _, ?_⟩
    have key : ∀ r : Rect main_v0.ty.shape, i ∈ r.set → i ∈ ((View.whole main_v0).slice r).set := fun r h => by
      rw [View.set_slice_whole]; exact h
    refine key (((cfgM m hO).win 4).rect ⟨(i 0).val / 256, hb⟩) (Rect.mem_set_unit.mpr fun a => ?_)
    have hi := index_4 ⟨(i 0).val / 256, hb⟩
    dsimp only at hi
    match a with
    | ⟨0, _⟩ => show cc0_transform_4 (grid0.coords ⟨(i 0).val / 256, hb⟩) 0 * 256 ≤ (i 0 : ℕ) ∧ (i 0 : ℕ) < cc0_transform_4 (grid0.coords ⟨(i 0).val / 256, hb⟩) 0 * 256 + 256; omega
    | ⟨1, _⟩ => show cc0_transform_4 (grid0.coords ⟨(i 0).val / 256, hb⟩) 1 * 1024 ≤ (i 1 : ℕ) ∧ (i 1 : ℕ) < cc0_transform_4 (grid0.coords ⟨(i 0).val / 256, hb⟩) 1 * 1024 + 1024; omega

end Cert.Kernel4Ideal.Hand
end
end
-- ==== Proof.Experts.lean ====
/-
  The claims of the experts call. Each is stated for expert numbers among the 32: another number names a weight block
  that does not exist.
-/
module

public import proofs.«01_k».proof.Proof.ExpertsPre
public import proofs.«01_k».proof.Proof.ExpertsValue

@[expose] public section

noncomputable section

namespace Cert.Proof

open Idealize.ShloMosaic Idealize.SL.Sem

/-- The experts call runs and leaves its arguments unchanged. -/
theorem frame_Kernel4 : Cert.quiescent_Kernel4 (hKernel4 := Cert.Kernel4.Gen.facts) (hPre_expert_numbers := Cert.Pre_expert_numbers.Gen.facts) :=
  fun m ρ h => Cert.Kernel4.Hand.frame_of_ok m ρ (Cert.Kernel4.Hand.ok_of_named m (Cert.Kernel4.Hand.named_of_pre m h 0))

/-- So does its idealization. -/
theorem frame_Kernel4Ideal : Cert.quiescent_Kernel4Ideal (hKernel4Ideal := Cert.Kernel4Ideal.Gen.facts) (hPre_expert_numbers := Cert.Pre_expert_numbers.Gen.facts) :=
  fun m ρ h => Cert.Kernel4Ideal.Hand.frame_of_ok m ρ (Cert.Kernel4Ideal.Hand.ok_of_named m (Cert.Kernel4Ideal.Hand.named_of_pre m h 0))

/-- So does the reference, of any expert numbers; it declares no semaphore. -/
theorem frame_Reference4Ideal : Cert.quiescent_Reference4Ideal (hReference4Ideal := Cert.Reference4Ideal.Gen.facts) := fun m ρ _ =>
  (θ_run Cert.Reference4Ideal.defs _ _).mono
    (fun r h => ⟨fun c => (h c).2, Idealize.ShloMosaic.sem_eq_zero_of_no_sems (by decide) r.2⟩)
    (Cert.Reference4Ideal.Value.run (F := Ideal) m ρ)

/-- The same, said of the expert numbers the kernel's claims are about. -/
theorem frame_Reference4Ideal_named : Cert.quiescent_Reference4Ideal_pre_expert_numbers
    (hReference4Ideal := Cert.Reference4Ideal.Gen.facts) (hPre_expert_numbers := Cert.Pre_expert_numbers.Gen.facts) :=
  fun m ρ _ => frame_Reference4Ideal m ρ trivial

/-- Both results are `Experts.out` of the arguments. -/
theorem algebraic_Kernel4 : Cert.algebraic_Kernel4Ideal_Reference4Ideal
    (hKernel4Ideal := Cert.Kernel4Ideal.Gen.facts) (hReference4Ideal := Cert.Reference4Ideal.Gen.facts) (hPre_expert_numbers := Cert.Pre_expert_numbers.Gen.facts) := by
  intro m ρ m' ρ' hpre hagree
  have hn := Cert.Kernel4Ideal.Hand.named_of_pre m hpre
  have hO := Cert.Kernel4Ideal.Hand.ok_of_named m (hn 0)
  refine ⟨fun c => Cert.Kernel4Ideal.Hand.res m c, ?_, ?_⟩
  · exact (θ_run Cert.Kernel4Ideal.defs _ _).mono
      (fun r h c => ⟨(h.1 c).1.trans (Cert.Kernel4Ideal.Hand.final m hO c (hn c)), (h.1 c).2⟩) (Cert.Kernel4Ideal.Hand.run_blocks m ρ hO)
  · refine (θ_run Cert.Reference4Ideal.defs _ _).mono (fun r h c => ⟨?_, (h c).2⟩) (Cert.Reference4Ideal.Value.run (F := Ideal) m' ρ')
    obtain ⟨h0, h1, h2, h3, h4, h5⟩ := hagree c
    refine ((h c).1.trans ((Cert.Reference4Ideal.Read.val_main_v39_eq (F := Ideal) _ _ _ _ _ _).trans
      (Cert.Reference4Ideal.Layer.result_eq _ _ _ _ _ _ (by rw [h0]; exact hn c)))).trans ?_
    rw [h0, h1, h2, h3, h4, h5]

end Cert.Proof
end
end
-- ==== Proof.Proj.lean ====
/-
  The modulated tokens that the input projections of the recurrent layers multiply with their weights, named by no
  program.
-/
module

public import proofs.«01_k».proof.Proof.Mixer

@[expose] public section

noncomputable section

open Idealize.ShloMosaic

namespace Cert.Proj

/-- The row of the modulation table that token `n` uses: 0 for the context, 1 for the latent tokens. -/
def stream (n : ℕ) : Fin 8 := if n < 256 then 0 else 1

/-- A row of 1024 features, normalised, scaled by one plus `scale` and shifted. -/
def modulate (x g shift scale : Fin 1024 → EReal) (k : Fin 1024) : EReal := Mixer.rms x g k * (1 + scale k) + shift k

/-- Feature `k` of the modulated token `n`. -/
def token (s : Vec Ideal ⟨2, ![16640, 1024]⟩ .f32) (mods : Vec Ideal ⟨2, ![8, 6144]⟩ .f32) (norm : Vec Ideal ⟨1, ![1024]⟩ .f32)
    (n : Fin 16640) (k : Fin 1024) : EReal :=
  modulate (fun l => s (ix2 n l)) (fun l => norm (ix1 l)) (fun l => mods (ix2 (stream n.val) ⟨l, by omega⟩))
    (fun l => mods (ix2 (stream n.val) ⟨1024 + l, by omega⟩)) k

/-- The projection of token `n`: its modulated features times column `j` of the weights. -/
def proj {d : ℕ} (s : Vec Ideal ⟨2, ![16640, 1024]⟩ .f32) (mods : Vec Ideal ⟨2, ![8, 6144]⟩ .f32) (norm : Vec Ideal ⟨1, ![1024]⟩ .f32)
    (w : Vec Ideal ⟨2, ![1024, d]⟩ .f32) (n : Fin 16640) (j : Fin d) : EReal :=
  ∑ k : Fin 1024, token s mods norm n k * w (ix2 k j)

end Cert.Proj
end
end
-- ==== Proof.LruProj.lean ====
/-
  The input call of the RG-LRU layer: the modulated tokens times the input weights, the first half of the features sent
  through GELU; kernel and reference both compute `LruProj.gl` and `LruProj.xr`.
-/
module

public import proofs.«01_k».proof.Defs
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Proj
public import Idealize.ShloMosaic.Lib.Pointwise
public import Idealize.ShloMosaic.Lib.StableHlo.ReadAt

@[expose] public section

set_option maxRecDepth 16384
noncomputable section

namespace Cert.LruProj
open Idealize.ShloMosaic

/-- The gate: GELU of the first 1280 features of the projection. -/
def gl (s : Vec Ideal ⟨2, ![16640, 1024]⟩ .f32) (mods : Vec Ideal ⟨2, ![8, 6144]⟩ .f32) (norm : Vec Ideal ⟨1, ![1024]⟩ .f32) (w : Vec Ideal ⟨2, ![1024, 2560]⟩ .f32) (y : (⟨2, ![16640, 1280]⟩ : Shape).Idx) : EReal :=
  have h1 : (y 1).val < 1280 := (y 1).isLt
  Mixer.gelu (Proj.proj s mods norm w (y 0) ⟨(y 1).val, by omega⟩)

/-- The recurrence's input: the last 1280 features of the projection. -/
def xr (s : Vec Ideal ⟨2, ![16640, 1024]⟩ .f32) (mods : Vec Ideal ⟨2, ![8, 6144]⟩ .f32) (norm : Vec Ideal ⟨1, ![1024]⟩ .f32) (w : Vec Ideal ⟨2, ![1024, 2560]⟩ .f32) (y : (⟨2, ![16640, 1280]⟩ : Shape).Idx) : EReal :=
  have h1 : (y 1).val < 1280 := (y 1).isLt
  Proj.proj s mods norm w (y 0) ⟨1280 + (y 1).val, by omega⟩

end Cert.LruProj

namespace Cert.Kernel5Ideal.Array
open Idealize.ShloMosaic Idealize.ShloMosaic.TcCoe Idealize.SL.Sem Cert.Kernel5Ideal Cert.Kernel5Ideal.Gen
open Idealize.ShloMosaic.Pipeline (Dat)

theorem hz : (![0, 0] : Fin 2 → Nat) = fun _ => 0 := funext fun a => by fin_cases a <;> rfl

/-- The modulation row that a grid point loads. -/
abbrev modRow (i : grid0.Coords) (x1 : Vec Ideal S8x6144 .f32) : Vec Ideal S1x6144 .f32 :=
  View.ld x1 (Rect.unit (s := S8x6144) (k0_off1 i) S1x6144.size (k0_off1_inb i))

/-- What the body leaves in the block of window 4. -/
theorem out_4 (c : Dev nD) (i : grid0.Coords)
  (a1 : Memref sig .tc .vmem S256x1024 .f32) (h1 : a1.IsWhole)
  (a2 : Memref sig .tc .vmem S8x6144 .f32) (h2 : a2.IsWhole)
  (a3 : Memref sig .tc .vmem S1x1024 .f32) (h3 : a3.IsWhole)
  (a4 : Memref sig .tc .vmem S1024x2560 .bf16) (h4 : a4.IsWhole)
  (a5 : Memref sig .tc .vmem S256x1280 .f32) (h5 : a5.IsWhole)
  (a6 : Memref sig .tc .vmem S256x1280 .f32) (h6 : a6.IsWhole)
  (x0 : Vec Ideal S256x1024 .f32) (x1 : Vec Ideal S8x6144 .f32) (x2 : Vec Ideal S1x1024 .f32) (x3 : Vec Ideal S1024x2560 .bf16) :
    out0_A_4 c i a1 h1 a2 h2 a3 h3 a4 h4 a5 h5 a6 h6 x0 x1 x2 x3
      = k0_pay1 (k0_pay5 (modRow i x1) x0 x2 x3) (k0_pay6 (modRow i x1) x0 x2 x3) := by
  unfold out0_A_4
  rw [View.read_writes_eq_canon _ _ _ (cover0_A_4 c i a1 h1 a2 h2 a3 h3 a4 h4 a5 h5 a6 h6 x0 x1 x2 x3)]
  unfold kernelRun0_A
  dsimp only
  sl_unfold_words
  rw [View.canon_unit_zero hz]
  simp only [View.readAt_eq_ld, h1.read_unread, h2.read_unread, h3.read_unread, h4.read_unread, View.ld_unit_zero (S := S256x1024) hz, View.ld_unit_zero (S := S1x1024) hz, View.ld_unit_zero (S := S1024x2560) hz]
  rfl

/-- What the body leaves in the block of window 5. -/
theorem out_5 (c : Dev nD) (i : grid0.Coords)
  (a1 : Memref sig .tc .vmem S256x1024 .f32) (h1 : a1.IsWhole)
  (a2 : Memref sig .tc .vmem S8x6144 .f32) (h2 : a2.IsWhole)
  (a3 : Memref sig .tc .vmem S1x1024 .f32) (h3 : a3.IsWhole)
  (a4 : Memref sig .tc .vmem S1024x2560 .bf16) (h4 : a4.IsWhole)
  (a5 : Memref sig .tc .vmem S256x1280 .f32) (h5 : a5.IsWhole)
  (a6 : Memref sig .tc .vmem S256x1280 .f32) (h6 : a6.IsWhole)
  (x0 : Vec Ideal S256x1024 .f32) (x1 : Vec Ideal S8x6144 .f32) (x2 : Vec Ideal S1x1024 .f32) (x3 : Vec Ideal S1024x2560 .bf16) :
    out0_A_5 c i a1 h1 a2 h2 a3 h3 a4 h4 a5 h5 a6 h6 x0 x1 x2 x3
      = k0_pay2 (k0_pay3 (modRow i x1) x0 x2 x3) := by
  unfold out0_A_5
  rw [View.read_writes_eq_canon _ _ _ (cover0_A_5 c i a1 h1 a2 h2 a3 h3 a4 h4 a5 h5 a6 h6 x0 x1 x2 x3)]
  unfold kernelRun0_A
  dsimp only
  sl_unfold_words
  rw [View.canon_unit_zero hz]
  simp only [View.readAt_eq_ld, h1.read_unread, h2.read_unread, h3.read_unread, h4.read_unread, View.ld_unit_zero (S := S256x1024) hz, View.ld_unit_zero (S := S1x1024) hz, View.ld_unit_zero (S := S1024x2560) hz]
  rfl

/-- The body's projection at an index. -/
theorem proj_apply (v3 : Vec Ideal S1x6144 .f32) (v6 : Vec Ideal S256x1024 .f32) (v7 : Vec Ideal S1x1024 .f32) (v27 : Vec Ideal S1024x2560 .bf16)
    (r : Fin 256) (j : Fin 2560) :
    k0_pay3 v3 v6 v7 v27 (ix2 r j) = ∑ k : Fin 1024, Proj.modulate (fun l => v6 (ix2 r l)) (fun l => v7 (ix2 0 l))
      (fun l => v3 (ix2 0 ⟨l, by omega⟩)) (fun l => v3 (ix2 0 ⟨1024 + l, by omega⟩)) k * v27 (ix2 k j) := by
  unfold Proj.modulate Mixer.rms
  pointwise [k0_pay3]

/-- The first stored block: GELU of the first half. -/
theorem gl_apply (v3 : Vec Ideal S1x6144 .f32) (v6 : Vec Ideal S256x1024 .f32) (v7 : Vec Ideal S1x1024 .f32) (v27 : Vec Ideal S1024x2560 .bf16)
    (r : Fin 256) (j : Fin 1280) :
    k0_pay1 (k0_pay5 v3 v6 v7 v27) (k0_pay6 v3 v6 v7 v27) (ix2 r j) = Mixer.gelu (k0_pay3 v3 v6 v7 v27 (ix2 r ⟨j, by omega⟩)) := by
  unfold Mixer.gelu
  pointwise [k0_pay1, k0_pay5, k0_pay6, k0_pay4]

/-- The second stored block: the second half. -/
theorem xr_apply (z : FVec Ideal S256x2560 .f32) (r : Fin 256) (j : Fin 1280) : k0_pay2 z (ix2 r j) = z (ix2 r ⟨1280 + j, by omega⟩) := by
  pointwise [k0_pay2]

variable (m : (ℓ : Loc nD τ sig) → Buf (Elt Ideal) ℓ) (c : Dev nD)

/-- Argument 0. -/
abbrev s : Vec Ideal S16640x1024 .f32 := m ((c : Thread nD τ).loc main_arg0)
/-- Argument 1. -/
abbrev mods : Vec Ideal S8x6144 .f32 := m ((c : Thread nD τ).loc main_arg1)
/-- Argument 2. -/
abbrev norm : Vec Ideal S1024 .f32 := m ((c : Thread nD τ).loc main_arg2)
/-- Argument 3. -/
abbrev w : Vec Ideal S1024x2560 .f32 := m ((c : Thread nD τ).loc main_arg3)

theorem V_v0 (r : Fin 1) (k : Fin 1024) : (V m c main_v0 : Vec Ideal S1x1024 .f32) (ix2 r k) = norm m c (ix1 k) := by
  unfold V
  after_reads_at

theorem V_v1 (r : Fin 1024) (k : Fin 2560) : (V m c main_v1 : Vec Ideal S1024x2560 .bf16) (ix2 r k) = w m c (ix2 r k) := by
  unfold V
  after_reads_at

theorem lt65 (t : Fin cfg0.N) : t.val < 65 := lt_of_lt_of_eq t.isLt Gen.N_0

/-- The block indices: the token blocks at the point, everything else whole. -/
theorem idx : ∀ t : Fin cfg0.N, win0_0.index t 0 = t.val
    ∧ win0_0.index t 1 = 0
    ∧ win0_1.index t 0 = 0
    ∧ win0_1.index t 1 = 0
    ∧ win0_2.index t 0 = 0
    ∧ win0_2.index t 1 = 0
    ∧ win0_3.index t 0 = 0
    ∧ win0_3.index t 1 = 0
    ∧ win0_4.index t 0 = t.val
    ∧ win0_4.index t 1 = 0
    ∧ win0_5.index t 0 = t.val
    ∧ win0_5.index t 1 = 0 := by decide +kernel

/-- The row of the modulation table at a grid point. -/
theorem coord : ∀ t : Fin cfg0.N, k0_off1 (grid0.coords t) 0 = (if t.val < 1 then 0 else 1) ∧ k0_off1 (grid0.coords t) 1 = 0 := by
  decide +kernel

theorem blk0 (t : Fin cfg0.N) (r : Fin 256) (k : Fin 1024) (n : Fin 16640) (hn : n.val = 256 * t.val + r.val) :
    (iblk m c 0 t : Vec Ideal S256x1024 .f32) (ix2 r k) = s m c (ix2 n k) := by
  refine Eq.trans ?_ (congrFun (V_main_arg0 m c) _)
  unfold iblk
  rw [View.read_apply]
  show V m c main_arg0 _ = V m c main_arg0 _
  congr 1
  funext a
  apply Fin.ext
  match a with
  | ⟨0, _⟩ => show win0_0.index t 0 * 256 + 1 * r.val = n.val; have := idx t; omega
  | ⟨1, _⟩ => show win0_0.index t 1 * 1024 + 1 * k.val = k.val; have := idx t; omega

theorem blk1 (t : Fin cfg0.N) (r : Fin 8) (k : Fin 6144) :
    (iblk m c 1 t : Vec Ideal S8x6144 .f32) (ix2 r k) = mods m c (ix2 r k) := by
  refine Eq.trans ?_ (congrFun (V_main_arg1 m c) _)
  unfold iblk
  rw [View.read_apply]
  show V m c main_arg1 _ = V m c main_arg1 _
  congr 1
  funext a
  apply Fin.ext
  match a with
  | ⟨0, _⟩ => show win0_1.index t 0 * 8 + 1 * r.val = r.val; have := idx t; omega
  | ⟨1, _⟩ => show win0_1.index t 1 * 6144 + 1 * k.val = k.val; have := idx t; omega

theorem blk2 (t : Fin cfg0.N) (r : Fin 1) (k : Fin 1024) :
    (iblk m c 2 t : Vec Ideal S1x1024 .f32) (ix2 r k) = norm m c (ix1 k) := by
  rw [← V_v0 m c r k]
  unfold iblk
  rw [View.read_apply]
  show V m c main_v0 _ = V m c main_v0 _
  congr 1
  funext a
  apply Fin.ext
  match a with
  | ⟨0, _⟩ => show win0_2.index t 0 * 1 + 1 * r.val = r.val; have := idx t; omega
  | ⟨1, _⟩ => show win0_2.index t 1 * 1024 + 1 * k.val = k.val; have := idx t; omega

theorem blk3 (t : Fin cfg0.N) (r : Fin 1024) (k : Fin 2560) :
    (iblk m c 3 t : Vec Ideal S1024x2560 .bf16) (ix2 r k) = w m c (ix2 r k) := by
  rw [← V_v1 m c r k]
  unfold iblk
  rw [View.read_apply]
  show V m c main_v1 _ = V m c main_v1 _
  congr 1
  funext a
  apply Fin.ext
  match a with
  | ⟨0, _⟩ => show win0_3.index t 0 * 1024 + 1 * r.val = r.val; have := idx t; omega
  | ⟨1, _⟩ => show win0_3.index t 1 * 2560 + 1 * k.val = k.val; have := idx t; omega

/-- The modulation row the body loads. -/
theorem row_apply (t : Fin cfg0.N) (x1 : Vec Ideal S8x6144 .f32) (n : ℕ) (hn : n / 256 = t.val) (k : Fin 6144) :
    modRow (grid0.coords t) x1 (ix2 0 k) = x1 (ix2 (Proj.stream n) k) := by
  have hc := coord t
  have hs : (Proj.stream n).val = if t.val < 1 then 0 else 1 := by
    unfold Proj.stream
    by_cases h : n < 256
    · rw [if_pos h, if_pos (by omega)]; rfl
    · rw [if_neg h, if_neg (by omega)]; rfl
  show x1 _ = x1 _
  congr 1
  funext a
  apply Fin.ext
  match a with
  | ⟨0, _⟩ => show k0_off1 (grid0.coords t) 0 + 1 * 0 = (Proj.stream n).val; omega
  | ⟨1, _⟩ => show k0_off1 (grid0.coords t) 1 + 1 * k.val = k.val; omega

/-- The modulated features that the body computes from the blocks of a point. -/
theorem token_eq (t : Fin cfg0.N) (r : Fin 256) (n : Fin 16640) (hn : n.val = 256 * t.val + r.val) (k : Fin 1024) :
    Proj.modulate (fun l => (iblk m c 0 t : Vec Ideal S256x1024 .f32) (ix2 r l)) (fun l => (iblk m c 2 t : Vec Ideal S1x1024 .f32) (ix2 0 l))
      (fun l => modRow (grid0.coords t) (iblk m c 1 t) (ix2 0 ⟨l, by omega⟩)) (fun l => modRow (grid0.coords t) (iblk m c 1 t) (ix2 0 ⟨1024 + l, by omega⟩)) k
      = Proj.token (s m c) (mods m c) (norm m c) n k := by
  have e0 : (fun l => (iblk m c 0 t : Vec Ideal S256x1024 .f32) (ix2 r l)) = fun l => s m c (ix2 n l) := funext fun l => blk0 m c t r l n hn
  have e2 : (fun l => (iblk m c 2 t : Vec Ideal S1x1024 .f32) (ix2 0 l)) = fun l => norm m c (ix1 l) := funext fun l => blk2 m c t 0 l
  have e1 : ∀ q : Fin 6144, modRow (grid0.coords t) (iblk m c 1 t) (ix2 0 q) = mods m c (ix2 (Proj.stream n.val) q) :=
    fun q => (row_apply t _ n.val (by omega) q).trans (blk1 m c t _ q)
  rw [e0, e2]
  simp only [e1]
  rfl

/-- The projection that the body computes from the blocks of a point. -/
theorem proj_eq (t : Fin cfg0.N) (r : Fin 256) (n : Fin 16640) (hn : n.val = 256 * t.val + r.val) (j : Fin 2560) :
    k0_pay3 (modRow (grid0.coords t) (iblk m c 1 t)) (iblk m c 0 t) (iblk m c 2 t) (iblk m c 3 t) (ix2 r j)
      = Proj.proj (s m c) (mods m c) (norm m c) (w m c) n j :=
  (proj_apply _ _ _ _ r j).trans (Finset.sum_congr rfl fun k _ => congrArg₂ (· * ·) (token_eq m c t r n hn k) (blk3 m c t k j))

/-- What a point writes back through window 4 is its block of the result. -/
theorem flushed_4 (t : Fin cfg0.N) (hf' : (cfg0.win 4).flush t = true) :
    (Gen.dats m 0 c).flushed 4 t = ((cfg0.win 4).blk t).view.read (Elt Ideal) (LruProj.gl (s m c) (mods m c) (norm m c) (w m c)) := by
  have hN := lt65 t
  have hrd : ∀ (r : Fin 256) (k : Fin 1280) (n : Fin 16640), n.val = 256 * t.val + r.val →
      ((cfg0.win 4).blk t).view.read (Elt Ideal) (LruProj.gl (s m c) (mods m c) (norm m c) (w m c)) (ix2 r k) = (LruProj.gl (s m c) (mods m c) (norm m c) (w m c)) (ix2 n k) := by
    intro r k n hn
    rw [View.read_apply]
    refine congrArg (LruProj.gl (s m c) (mods m c) (norm m c) (w m c)) ?_
    funext a
    apply Fin.ext
    match a with
    | ⟨0, _⟩ => show win0_4.index t 0 * 256 + 1 * r.val = n.val; have := idx t; omega
    | ⟨1, _⟩ => show win0_4.index t 1 * 1280 + 1 * k.val = k.val; have := idx t; omega
  funext y
  obtain ⟨r, k, rfl⟩ : ∃ (r : Fin 256) (k : Fin 1280), y = ix2 r k := ⟨y 0, y 1, eq_ix2 y⟩
  rw [hrd r k ⟨256 * t.val + r.val, by omega⟩ rfl, Value.flushed4_A m c t, out_4]
  refine (gl_apply _ _ _ _ r k).trans ?_
  rw [proj_eq m c t r ⟨256 * t.val + r.val, by omega⟩ rfl]
  rfl

/-- So the result array ends holding it: the points' blocks cover it. -/
theorem final_4 : (Gen.dats m 0 c).arrAt 4 cfg0.N = (LruProj.gl (s m c) (mods m c) (norm m c) (w m c)) :=
  (Gen.dats m 0 c).arrAt_eq_of_cover 4 _ (flushed_4 m c) fun i => by
    have h0 : (i 0 : ℕ) < 16640 := (i 0).isLt
    have h1 : (i 1 : ℕ) < 1280 := (i 1).isLt
    have hb : (i 0).val / 256 < cfg0.N := by show _ < grid0.N; rw [Gen.N_0]; omega
    refine ⟨⟨(i 0).val / 256, hb⟩, (by decide +kernel : ∀ t : Fin cfg0.N, (cfg0.win 4).flush t = true) _, ?_⟩
    show i ∈ ((View.whole main_v2_0).slice (win0_4.rect ⟨(i 0).val / 256, hb⟩)).set
    rw [View.set_slice_whole, Rect.mem_set_unit]
    intro a
    have hi := idx ⟨(i 0).val / 256, hb⟩
    dsimp only at hi
    match a with
    | ⟨0, _⟩ => show win0_4.index ⟨(i 0).val / 256, hb⟩ 0 * 256 ≤ (i 0 : ℕ) ∧ (i 0 : ℕ) < win0_4.index ⟨(i 0).val / 256, hb⟩ 0 * 256 + 256; omega
    | ⟨1, _⟩ => show win0_4.index ⟨(i 0).val / 256, hb⟩ 1 * 1280 ≤ (i 1 : ℕ) ∧ (i 1 : ℕ) < win0_4.index ⟨(i 0).val / 256, hb⟩ 1 * 1280 + 1280; omega

/-- What a point writes back through window 5 is its block of the result. -/
theorem flushed_5 (t : Fin cfg0.N) (hf' : (cfg0.win 5).flush t = true) :
    (Gen.dats m 0 c).flushed 5 t = ((cfg0.win 5).blk t).view.read (Elt Ideal) (LruProj.xr (s m c) (mods m c) (norm m c) (w m c)) := by
  have hN := lt65 t
  have hrd : ∀ (r : Fin 256) (k : Fin 1280) (n : Fin 16640), n.val = 256 * t.val + r.val →
      ((cfg0.win 5).blk t).view.read (Elt Ideal) (LruProj.xr (s m c) (mods m c) (norm m c) (w m c)) (ix2 r k) = (LruProj.xr (s m c) (mods m c) (norm m c) (w m c)) (ix2 n k) := by
    intro r k n hn
    rw [View.read_apply]
    refine congrArg (LruProj.xr (s m c) (mods m c) (norm m c) (w m c)) ?_
    funext a
    apply Fin.ext
    match a with
    | ⟨0, _⟩ => show win0_5.index t 0 * 256 + 1 * r.val = n.val; have := idx t; omega
    | ⟨1, _⟩ => show win0_5.index t 1 * 1280 + 1 * k.val = k.val; have := idx t; omega
  funext y
  obtain ⟨r, k, rfl⟩ : ∃ (r : Fin 256) (k : Fin 1280), y = ix2 r k := ⟨y 0, y 1, eq_ix2 y⟩
  rw [hrd r k ⟨256 * t.val + r.val, by omega⟩ rfl, Value.flushed5_A m c t, out_5]
  refine (xr_apply _ r k).trans ?_
  rw [proj_eq m c t r ⟨256 * t.val + r.val, by omega⟩ rfl]
  rfl

/-- So the result array ends holding it: the points' blocks cover it. -/
theorem final_5 : (Gen.dats m 0 c).arrAt 5 cfg0.N = (LruProj.xr (s m c) (mods m c) (norm m c) (w m c)) :=
  (Gen.dats m 0 c).arrAt_eq_of_cover 5 _ (flushed_5 m c) fun i => by
    have h0 : (i 0 : ℕ) < 16640 := (i 0).isLt
    have h1 : (i 1 : ℕ) < 1280 := (i 1).isLt
    have hb : (i 0).val / 256 < cfg0.N := by show _ < grid0.N; rw [Gen.N_0]; omega
    refine ⟨⟨(i 0).val / 256, hb⟩, (by decide +kernel : ∀ t : Fin cfg0.N, (cfg0.win 5).flush t = true) _, ?_⟩
    show i ∈ ((View.whole main_v2_1).slice (win0_5.rect ⟨(i 0).val / 256, hb⟩)).set
    rw [View.set_slice_whole, Rect.mem_set_unit]
    intro a
    have hi := idx ⟨(i 0).val / 256, hb⟩
    dsimp only at hi
    match a with
    | ⟨0, _⟩ => show win0_5.index ⟨(i 0).val / 256, hb⟩ 0 * 256 ≤ (i 0 : ℕ) ∧ (i 0 : ℕ) < win0_5.index ⟨(i 0).val / 256, hb⟩ 0 * 256 + 256; omega
    | ⟨1, _⟩ => show win0_5.index ⟨(i 0).val / 256, hb⟩ 1 * 1280 ≤ (i 1 : ℕ) ∧ (i 1 : ℕ) < win0_5.index ⟨(i 0).val / 256, hb⟩ 1 * 1280 + 1280; omega

end Cert.Kernel5Ideal.Array

namespace Cert.Reference5Ideal.Layer
open Idealize.ShloMosaic Idealize.ShloMosaic.TcCoe Idealize.SL.Sem Cert.Reference5Ideal Cert.Reference5Ideal.Gen Cert.Reference5Ideal.Read

variable (x0 : Vec Ideal S16640x1024 .f32) (x1 : Vec Ideal S8x6144 .f32) (x2 : Vec Ideal S1024 .f32) (x3 : Vec Ideal S1024x2560 .f32)

/-- The modulated tokens in the reference. -/
theorem token_eq (r : Fin 16640) (k : Fin 1024) : (val_main_v54 (F := Ideal) x0 x1 x2) (ix2 r k) = Proj.token x0 x1 x2 r k := by
  unfold Proj.token Proj.modulate Mixer.rms Proj.stream
  by_cases h : r.val < 256
  on_goal 1 => simp only [if_pos h]
  on_goal 2 => simp only [if_neg h]
  all_goals pointwise [val_main_v54, val_main_v33, val_main_v31, val_main_v27, val_main_v24, val_main_v14, val_main_v23, val_main_v22, val_main_v21, val_main_v19, val_main_v17, val_main_v16, val_main_v15, val_main_cst, val_main_v18, val_main_cst_0, val_main_v20, val_main_cst_1, val_main_v26, val_main_v25, val_main_v30, val_main_v29, val_main_v28, val_main_cst_2, val_main_v9, val_main_v7, val_main_v32, val_main_v8, val_main_v53, val_main_v51, val_main_v47, val_main_v44, val_main_v34, val_main_v43, val_main_v42, val_main_v41, val_main_v39, val_main_v37, val_main_v36, val_main_v35, val_main_cst_3, val_main_v38, val_main_cst_4, val_main_v40, val_main_cst_5, val_main_v46, val_main_v45, val_main_v50, val_main_v49, val_main_v48, val_main_cst_6, val_main_v2, val_main_v0, val_main_v52, val_main_v1]
  · rw [dif_pos h]
  · have e : (⟨256 + (r.val - 256), by omega⟩ : Fin 16640) = r := Fin.ext (by show 256 + (r.val - 256) = r.val; omega)
    rw [dif_neg h]
    simp only [e]

/-- Their projection. -/
theorem proj_eq (r : Fin 16640) (j : Fin 2560) : (val_main_v55 (F := Ideal) x0 x1 x2 x3) (ix2 r j) = Proj.proj x0 x1 x2 x3 r j := by
  unfold Proj.proj
  simp only [← token_eq]
  pointwise [val_main_v55]

/-- The gate. -/
theorem gl_eq : (val_main_v69 (F := Ideal) x0 x1 x2 x3) = LruProj.gl x0 x1 x2 x3 := by
  funext y
  obtain ⟨r, k, rfl⟩ : ∃ (r : Fin 16640) (k : Fin 1280), y = ix2 r k := ⟨y 0, y 1, eq_ix2 y⟩
  show _ = Mixer.gelu (Proj.proj x0 x1 x2 x3 r ⟨k.val, by omega⟩)
  rw [← Mixer.gelu_comm, ← proj_eq]
  pointwise [val_main_v69, val_main_v56, val_main_v68, val_main_v67, val_main_cst_10, val_main_v66, val_main_v65, val_main_cst_9, val_main_v64, val_main_v63, val_main_v62, val_main_cst_8, val_main_v61, val_main_v60, val_main_v59, val_main_cst_7, val_main_v58, val_main_v57]

/-- The recurrence's input. -/
theorem xr_eq : (val_main_v70 (F := Ideal) x0 x1 x2 x3) = LruProj.xr x0 x1 x2 x3 := by
  funext y
  obtain ⟨r, k, rfl⟩ : ∃ (r : Fin 16640) (k : Fin 1280), y = ix2 r k := ⟨y 0, y 1, eq_ix2 y⟩
  show _ = Proj.proj x0 x1 x2 x3 r ⟨1280 + k.val, by omega⟩
  rw [← proj_eq]
  pointwise [val_main_v70]

end Cert.Reference5Ideal.Layer

namespace Cert.Proof

open Idealize.ShloMosaic Idealize.SL.Sem

/-- The input call of the RG-LRU layer runs and leaves its arguments unchanged. -/
theorem frame_Kernel5 : Cert.quiescent_Kernel5 (hKernel5 := Cert.Kernel5.Gen.facts) := fun m ρ _ => Cert.Kernel5.Gen.frame m ρ

/-- So does its idealization. -/
theorem frame_Kernel5Ideal : Cert.quiescent_Kernel5Ideal (hKernel5Ideal := Cert.Kernel5Ideal.Gen.facts) :=
  fun m ρ _ => Cert.Kernel5Ideal.Gen.frame m ρ

/-- So does the reference; it declares no semaphore. -/
theorem frame_Reference5Ideal : Cert.quiescent_Reference5Ideal (hReference5Ideal := Cert.Reference5Ideal.Gen.facts) := fun m ρ _ =>
  (θ_run Cert.Reference5Ideal.defs _ _).mono
    (fun r h => ⟨fun c => (h c).2.2, Idealize.ShloMosaic.sem_eq_zero_of_no_sems (by decide) r.2⟩)
    (Cert.Reference5Ideal.Value.run (F := Ideal) m ρ)

/-- Both programs end with `LruProj.gl` and `LruProj.xr` of the arguments. -/
theorem algebraic_Kernel5 : Cert.algebraic_Kernel5Ideal_Reference5Ideal
    (hKernel5Ideal := Cert.Kernel5Ideal.Gen.facts) (hReference5Ideal := Cert.Reference5Ideal.Gen.facts) := by
  intro m ρ m' ρ' _ hagree
  refine ⟨fun c => LruProj.gl (m ((c.tc : Thread _ _).loc Cert.Kernel5Ideal.main_arg0)) (m ((c.tc : Thread _ _).loc Cert.Kernel5Ideal.main_arg1)) (m ((c.tc : Thread _ _).loc Cert.Kernel5Ideal.main_arg2)) (m ((c.tc : Thread _ _).loc Cert.Kernel5Ideal.main_arg3)), fun c => LruProj.xr (m ((c.tc : Thread _ _).loc Cert.Kernel5Ideal.main_arg0)) (m ((c.tc : Thread _ _).loc Cert.Kernel5Ideal.main_arg1)) (m ((c.tc : Thread _ _).loc Cert.Kernel5Ideal.main_arg2)) (m ((c.tc : Thread _ _).loc Cert.Kernel5Ideal.main_arg3)), ?_, ?_⟩
  · exact (θ_run Cert.Kernel5Ideal.defs _ _).mono
      (fun r h c => ⟨(h c).1.trans (Cert.Kernel5Ideal.Array.final_4 m c), (h c).2.1.trans (Cert.Kernel5Ideal.Array.final_5 m c), (h c).2.2⟩) (Cert.Kernel5Ideal.Value.run_blocks m ρ)
  · refine (θ_run Cert.Reference5Ideal.defs _ _).mono (fun r h c => ⟨?_, ?_, (h c).2.2⟩) (Cert.Reference5Ideal.Value.run (F := Ideal) m' ρ')
    · obtain ⟨h0, h1, h2, h3⟩ := hagree c
      refine ((h c).1.trans ((Cert.Reference5Ideal.Read.val_main_v69_eq (F := Ideal) m' c).trans
        (Cert.Reference5Ideal.Layer.gl_eq _ _ _ _))).trans ?_
      rw [h0, h1, h2, h3]
    · obtain ⟨h0, h1, h2, h3⟩ := hagree c
      refine ((h c).2.1.trans ((Cert.Reference5Ideal.Read.val_main_v70_eq (F := Ideal) _ _ _ _).trans
        (Cert.Reference5Ideal.Layer.xr_eq _ _ _ _))).trans ?_
      rw [h0, h1, h2, h3]

end Cert.Proof
end
end
-- ==== Proof.MlProj.lean ====
/-
  The input call of the mLSTM layer: the modulated tokens times the input weights, and its gates; kernel and reference
  both compute `MlProj.qk`, `MlProj.val`, `MlProj.og` and `MlProj.gates`.
-/
module

public import proofs.«01_k».proof.Defs
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Proj
public import Idealize.ShloMosaic.Lib.Pointwise
public import Idealize.ShloMosaic.Lib.StableHlo.ReadAt

@[expose] public section

set_option maxRecDepth 16384
noncomputable section

namespace Cert.MlProj
open Idealize.ShloMosaic

/-- The query and key features: the first 1024 of the projection. -/
def qk (s : Vec Ideal ⟨2, ![16640, 1024]⟩ .f32) (mods : Vec Ideal ⟨2, ![8, 6144]⟩ .f32) (norm : Vec Ideal ⟨1, ![1024]⟩ .f32) (w : Vec Ideal ⟨2, ![1024, 3088]⟩ .f32) (y : (⟨2, ![16640, 1024]⟩ : Shape).Idx) : EReal :=
  have h1 : (y 1).val < 1024 := (y 1).isLt
  Proj.proj s mods norm w (y 0) ⟨(y 1).val, by omega⟩

/-- The value features: the next 1024. -/
def val (s : Vec Ideal ⟨2, ![16640, 1024]⟩ .f32) (mods : Vec Ideal ⟨2, ![8, 6144]⟩ .f32) (norm : Vec Ideal ⟨1, ![1024]⟩ .f32) (w : Vec Ideal ⟨2, ![1024, 3088]⟩ .f32) (y : (⟨2, ![16640, 1024]⟩ : Shape).Idx) : EReal :=
  have h1 : (y 1).val < 1024 := (y 1).isLt
  Proj.proj s mods norm w (y 0) ⟨1024 + (y 1).val, by omega⟩

/-- The output gate's features: the next 1024. -/
def og (s : Vec Ideal ⟨2, ![16640, 1024]⟩ .f32) (mods : Vec Ideal ⟨2, ![8, 6144]⟩ .f32) (norm : Vec Ideal ⟨1, ![1024]⟩ .f32) (w : Vec Ideal ⟨2, ![1024, 3088]⟩ .f32) (y : (⟨2, ![16640, 1024]⟩ : Shape).Idx) : EReal :=
  have h1 : (y 1).val < 1024 := (y 1).isLt
  Proj.proj s mods norm w (y 0) ⟨2048 + (y 1).val, by omega⟩

/-- The logarithm of the logistic function: `-(max (-x) 0 + log (1 + exp (-|-x|)))`. -/
def logSigmoid (x : EReal) : EReal :=
  -(max (-x) 0 + Ideal.log (1 + Ideal.exp (-(max (-x) (-(-x))))))

/-- The gate pre-activation in lane `j`: the last 16 features plus the bias, and zero in the lanes after them. -/
def pre (s : Vec Ideal ⟨2, ![16640, 1024]⟩ .f32) (mods : Vec Ideal ⟨2, ![8, 6144]⟩ .f32) (norm : Vec Ideal ⟨1, ![1024]⟩ .f32) (w : Vec Ideal ⟨2, ![1024, 3088]⟩ .f32) (gb : Vec Ideal ⟨3, ![2, 2, 4]⟩ .f32) (n : Fin 16640) (j : Fin 128) : EReal :=
  if h : j.val < 16 then Proj.proj s mods norm w n ⟨3072 + j.val, by omega⟩ + gb (ix3 ⟨j.val / 8, by omega⟩ ⟨j.val / 4 % 2, by omega⟩ ⟨j.val % 4, by omega⟩)
  else 0

/-- The gates: of every eight lanes the first four hold the input gate and the last four the logarithm of the forget gate. -/
def gates (s : Vec Ideal ⟨2, ![16640, 1024]⟩ .f32) (mods : Vec Ideal ⟨2, ![8, 6144]⟩ .f32) (norm : Vec Ideal ⟨1, ![1024]⟩ .f32) (w : Vec Ideal ⟨2, ![1024, 3088]⟩ .f32) (gb : Vec Ideal ⟨3, ![2, 2, 4]⟩ .f32) (y : (⟨2, ![16640, 128]⟩ : Shape).Idx) : EReal :=
  if (y 1).val / 4 % 2 = 1 then logSigmoid (pre s mods norm w gb (y 0) (y 1)) else pre s mods norm w gb (y 0) (y 1)

/-- The gate weights with zero columns added up to 128. -/
def padw (w : Vec Ideal ⟨2, ![1024, 3088]⟩ .f32) (k : Fin 1024) (j : Fin 128) : EReal :=
  if h : j.val < 16 then w (ix2 k ⟨3072 + j.val, by omega⟩) else 0

/-- The gate bias with zeros added up to 128. -/
def padb (gb : Vec Ideal ⟨3, ![2, 2, 4]⟩ .f32) (j : Fin 128) : EReal :=
  if h : j.val < 16 then gb (ix3 ⟨j.val / 8, by omega⟩ ⟨j.val / 4 % 2, by omega⟩ ⟨j.val % 4, by omega⟩) else 0

/-- The product with the padded weights plus the padded bias is the pre-activation. -/
theorem pre_eq (s : Vec Ideal ⟨2, ![16640, 1024]⟩ .f32) (mods : Vec Ideal ⟨2, ![8, 6144]⟩ .f32) (norm : Vec Ideal ⟨1, ![1024]⟩ .f32) (w : Vec Ideal ⟨2, ![1024, 3088]⟩ .f32) (gb : Vec Ideal ⟨3, ![2, 2, 4]⟩ .f32) (n : Fin 16640) (j : Fin 128) :
    (∑ k : Fin 1024, Proj.token s mods norm n k * padw w k j) + padb gb j = pre s mods norm w gb n j := by
  unfold padw padb pre Proj.proj
  by_cases h : j.val < 16
  · simp only [dif_pos h]
  · simp only [dif_neg h, mul_zero, Finset.sum_const_zero, add_zero]

end Cert.MlProj

namespace Cert.Kernel6Ideal.Array
open Idealize.ShloMosaic Idealize.ShloMosaic.TcCoe Idealize.SL.Sem Cert.Kernel6Ideal Cert.Kernel6Ideal.Gen
open Idealize.ShloMosaic.Pipeline (Dat)

theorem hz : (![0, 0] : Fin 2 → Nat) = fun _ => 0 := funext fun a => by fin_cases a <;> rfl

/-- The modulation row that a grid point loads. -/
abbrev modRow (i : grid0.Coords) (x1 : Vec Ideal S8x6144 .f32) : Vec Ideal S1x6144 .f32 :=
  View.ld x1 (Rect.unit (s := S8x6144) (k0_off1 i) S1x6144.size (k0_off1_inb i))

/-- What the body leaves in the block of window 6. -/
theorem out_6 (c : Dev nD) (i : grid0.Coords)
  (a1 : Memref sig .tc .vmem S256x1024 .f32) (h1 : a1.IsWhole)
  (a2 : Memref sig .tc .vmem S8x6144 .f32) (h2 : a2.IsWhole)
  (a3 : Memref sig .tc .vmem S1x1024 .f32) (h3 : a3.IsWhole)
  (a4 : Memref sig .tc .vmem S1024x3072 .bf16) (h4 : a4.IsWhole)
  (a5 : Memref sig .tc .vmem S1024x128 .f32) (h5 : a5.IsWhole)
  (a6 : Memref sig .tc .vmem S1x128 .f32) (h6 : a6.IsWhole)
  (a7 : Memref sig .tc .vmem S256x1024 .f32) (h7 : a7.IsWhole)
  (a8 : Memref sig .tc .vmem S256x1024 .bf16) (h8 : a8.IsWhole)
  (a9 : Memref sig .tc .vmem S256x1024 .f32) (h9 : a9.IsWhole)
  (a10 : Memref sig .tc .vmem S256x128 .f32) (h10 : a10.IsWhole)
  (x0 : Vec Ideal S256x1024 .f32) (x1 : Vec Ideal S8x6144 .f32) (x2 : Vec Ideal S1x1024 .f32) (x3 : Vec Ideal S1024x3072 .bf16) (x4 : Vec Ideal S1024x128 .f32) (x5 : Vec Ideal S1x128 .f32) :
    out0_A_6 c i a1 h1 a2 h2 a3 h3 a4 h4 a5 h5 a6 h6 a7 h7 a8 h8 a9 h9 a10 h10 x0 x1 x2 x3 x4 x5
      = k0_pay4 (modRow i x1) x0 x2 x3 := by
  unfold out0_A_6
  rw [View.read_writes_eq_canon _ _ _ (cover0_A_6 c i a1 h1 a2 h2 a3 h3 a4 h4 a5 h5 a6 h6 a7 h7 a8 h8 a9 h9 a10 h10 x0 x1 x2 x3 x4 x5)]
  unfold kernelRun0_A
  dsimp only
  sl_unfold_words
  rw [View.canon_unit_zero hz]
  simp only [View.readAt_eq_ld, h1.read_unread, h2.read_unread, h3.read_unread, h4.read_unread, h5.read_unread, h6.read_unread, View.ld_unit_zero (S := S256x1024) hz, View.ld_unit_zero (S := S1x1024) hz, View.ld_unit_zero (S := S1024x3072) hz, View.ld_unit_zero (S := S1024x128) hz, View.ld_unit_zero (S := S1x128) hz]
  rfl

/-- What the body leaves in the block of window 7. -/
theorem out_7 (c : Dev nD) (i : grid0.Coords)
  (a1 : Memref sig .tc .vmem S256x1024 .f32) (h1 : a1.IsWhole)
  (a2 : Memref sig .tc .vmem S8x6144 .f32) (h2 : a2.IsWhole)
  (a3 : Memref sig .tc .vmem S1x1024 .f32) (h3 : a3.IsWhole)
  (a4 : Memref sig .tc .vmem S1024x3072 .bf16) (h4 : a4.IsWhole)
  (a5 : Memref sig .tc .vmem S1024x128 .f32) (h5 : a5.IsWhole)
  (a6 : Memref sig .tc .vmem S1x128 .f32) (h6 : a6.IsWhole)
  (a7 : Memref sig .tc .vmem S256x1024 .f32) (h7 : a7.IsWhole)
  (a8 : Memref sig .tc .vmem S256x1024 .bf16) (h8 : a8.IsWhole)
  (a9 : Memref sig .tc .vmem S256x1024 .f32) (h9 : a9.IsWhole)
  (a10 : Memref sig .tc .vmem S256x128 .f32) (h10 : a10.IsWhole)
  (x0 : Vec Ideal S256x1024 .f32) (x1 : Vec Ideal S8x6144 .f32) (x2 : Vec Ideal S1x1024 .f32) (x3 : Vec Ideal S1024x3072 .bf16) (x4 : Vec Ideal S1024x128 .f32) (x5 : Vec Ideal S1x128 .f32) :
    out0_A_7 c i a1 h1 a2 h2 a3 h3 a4 h4 a5 h5 a6 h6 a7 h7 a8 h8 a9 h9 a10 h10 x0 x1 x2 x3 x4 x5
      = k0_pay5 (modRow i x1) x0 x2 x3 := by
  unfold out0_A_7
  rw [View.read_writes_eq_canon _ _ _ (cover0_A_7 c i a1 h1 a2 h2 a3 h3 a4 h4 a5 h5 a6 h6 a7 h7 a8 h8 a9 h9 a10 h10 x0 x1 x2 x3 x4 x5)]
  unfold kernelRun0_A
  dsimp only
  sl_unfold_words
  rw [View.canon_unit_zero hz]
  simp only [View.readAt_eq_ld, h1.read_unread, h2.read_unread, h3.read_unread, h4.read_unread, h5.read_unread, h6.read_unread, View.ld_unit_zero (S := S256x1024) hz, View.ld_unit_zero (S := S1x1024) hz, View.ld_unit_zero (S := S1024x3072) hz, View.ld_unit_zero (S := S1024x128) hz, View.ld_unit_zero (S := S1x128) hz]
  rfl

/-- What the body leaves in the block of window 8. -/
theorem out_8 (c : Dev nD) (i : grid0.Coords)
  (a1 : Memref sig .tc .vmem S256x1024 .f32) (h1 : a1.IsWhole)
  (a2 : Memref sig .tc .vmem S8x6144 .f32) (h2 : a2.IsWhole)
  (a3 : Memref sig .tc .vmem S1x1024 .f32) (h3 : a3.IsWhole)
  (a4 : Memref sig .tc .vmem S1024x3072 .bf16) (h4 : a4.IsWhole)
  (a5 : Memref sig .tc .vmem S1024x128 .f32) (h5 : a5.IsWhole)
  (a6 : Memref sig .tc .vmem S1x128 .f32) (h6 : a6.IsWhole)
  (a7 : Memref sig .tc .vmem S256x1024 .f32) (h7 : a7.IsWhole)
  (a8 : Memref sig .tc .vmem S256x1024 .bf16) (h8 : a8.IsWhole)
  (a9 : Memref sig .tc .vmem S256x1024 .f32) (h9 : a9.IsWhole)
  (a10 : Memref sig .tc .vmem S256x128 .f32) (h10 : a10.IsWhole)
  (x0 : Vec Ideal S256x1024 .f32) (x1 : Vec Ideal S8x6144 .f32) (x2 : Vec Ideal S1x1024 .f32) (x3 : Vec Ideal S1024x3072 .bf16) (x4 : Vec Ideal S1024x128 .f32) (x5 : Vec Ideal S1x128 .f32) :
    out0_A_8 c i a1 h1 a2 h2 a3 h3 a4 h4 a5 h5 a6 h6 a7 h7 a8 h8 a9 h9 a10 h10 x0 x1 x2 x3 x4 x5
      = k0_pay6 (modRow i x1) x0 x2 x3 := by
  unfold out0_A_8
  rw [View.read_writes_eq_canon _ _ _ (cover0_A_8 c i a1 h1 a2 h2 a3 h3 a4 h4 a5 h5 a6 h6 a7 h7 a8 h8 a9 h9 a10 h10 x0 x1 x2 x3 x4 x5)]
  unfold kernelRun0_A
  dsimp only
  sl_unfold_words
  rw [View.canon_unit_zero hz]
  simp only [View.readAt_eq_ld, h1.read_unread, h2.read_unread, h3.read_unread, h4.read_unread, h5.read_unread, h6.read_unread, View.ld_unit_zero (S := S256x1024) hz, View.ld_unit_zero (S := S1x1024) hz, View.ld_unit_zero (S := S1024x3072) hz, View.ld_unit_zero (S := S1024x128) hz, View.ld_unit_zero (S := S1x128) hz]
  rfl

/-- What the body leaves in the block of window 9. -/
theorem out_9 (c : Dev nD) (i : grid0.Coords)
  (a1 : Memref sig .tc .vmem S256x1024 .f32) (h1 : a1.IsWhole)
  (a2 : Memref sig .tc .vmem S8x6144 .f32) (h2 : a2.IsWhole)
  (a3 : Memref sig .tc .vmem S1x1024 .f32) (h3 : a3.IsWhole)
  (a4 : Memref sig .tc .vmem S1024x3072 .bf16) (h4 : a4.IsWhole)
  (a5 : Memref sig .tc .vmem S1024x128 .f32) (h5 : a5.IsWhole)
  (a6 : Memref sig .tc .vmem S1x128 .f32) (h6 : a6.IsWhole)
  (a7 : Memref sig .tc .vmem S256x1024 .f32) (h7 : a7.IsWhole)
  (a8 : Memref sig .tc .vmem S256x1024 .bf16) (h8 : a8.IsWhole)
  (a9 : Memref sig .tc .vmem S256x1024 .f32) (h9 : a9.IsWhole)
  (a10 : Memref sig .tc .vmem S256x128 .f32) (h10 : a10.IsWhole)
  (x0 : Vec Ideal S256x1024 .f32) (x1 : Vec Ideal S8x6144 .f32) (x2 : Vec Ideal S1x1024 .f32) (x3 : Vec Ideal S1024x3072 .bf16) (x4 : Vec Ideal S1024x128 .f32) (x5 : Vec Ideal S1x128 .f32) :
    out0_A_9 c i a1 h1 a2 h2 a3 h3 a4 h4 a5 h5 a6 h6 a7 h7 a8 h8 a9 h9 a10 h10 x0 x1 x2 x3 x4 x5
      = k0_pay1 (k0_pay2 (modRow i x1) x0 x2) x4 x5 := by
  unfold out0_A_9
  rw [View.read_writes_eq_canon _ _ _ (cover0_A_9 c i a1 h1 a2 h2 a3 h3 a4 h4 a5 h5 a6 h6 a7 h7 a8 h8 a9 h9 a10 h10 x0 x1 x2 x3 x4 x5)]
  unfold kernelRun0_A
  dsimp only
  sl_unfold_words
  rw [View.canon_unit_zero hz]
  simp only [View.readAt_eq_ld, h1.read_unread, h2.read_unread, h3.read_unread, h4.read_unread, h5.read_unread, h6.read_unread, View.ld_unit_zero (S := S256x1024) hz, View.ld_unit_zero (S := S1x1024) hz, View.ld_unit_zero (S := S1024x3072) hz, View.ld_unit_zero (S := S1024x128) hz, View.ld_unit_zero (S := S1x128) hz]
  rfl

/-- The modulated features in the body. -/
theorem token_apply (v3 : Vec Ideal S1x6144 .f32) (v6 : Vec Ideal S256x1024 .f32) (v7 : Vec Ideal S1x1024 .f32) (r : Fin 256) (k : Fin 1024) :
    k0_pay2 v3 v6 v7 (ix2 r k) = Proj.modulate (fun l => v6 (ix2 r l)) (fun l => v7 (ix2 0 l))
      (fun l => v3 (ix2 0 ⟨l, by omega⟩)) (fun l => v3 (ix2 0 ⟨1024 + l, by omega⟩)) k := by
  unfold Proj.modulate Mixer.rms
  pointwise [k0_pay2]

/-- The body's main projection at an index. -/
theorem proj_apply (v3 : Vec Ideal S1x6144 .f32) (v6 : Vec Ideal S256x1024 .f32) (v7 : Vec Ideal S1x1024 .f32) (v27 : Vec Ideal S1024x3072 .bf16)
    (r : Fin 256) (j : Fin 3072) :
    k0_pay3 v3 v6 v7 v27 (ix2 r j) = ∑ k : Fin 1024, Proj.modulate (fun l => v6 (ix2 r l)) (fun l => v7 (ix2 0 l))
      (fun l => v3 (ix2 0 ⟨l, by omega⟩)) (fun l => v3 (ix2 0 ⟨1024 + l, by omega⟩)) k * v27 (ix2 k j) := by
  simp only [← token_apply]
  pointwise [k0_pay3]

theorem qk_apply (v3 : Vec Ideal S1x6144 .f32) (v6 : Vec Ideal S256x1024 .f32) (v7 : Vec Ideal S1x1024 .f32) (v27 : Vec Ideal S1024x3072 .bf16)
    (r : Fin 256) (j : Fin 1024) : k0_pay4 v3 v6 v7 v27 (ix2 r j) = k0_pay3 v3 v6 v7 v27 (ix2 r ⟨j, by omega⟩) := by
  pointwise [k0_pay4]

theorem val_apply (v3 : Vec Ideal S1x6144 .f32) (v6 : Vec Ideal S256x1024 .f32) (v7 : Vec Ideal S1x1024 .f32) (v27 : Vec Ideal S1024x3072 .bf16)
    (r : Fin 256) (j : Fin 1024) : k0_pay5 v3 v6 v7 v27 (ix2 r j) = k0_pay3 v3 v6 v7 v27 (ix2 r ⟨1024 + j, by omega⟩) := by
  pointwise [k0_pay5]

theorem og_apply (v3 : Vec Ideal S1x6144 .f32) (v6 : Vec Ideal S256x1024 .f32) (v7 : Vec Ideal S1x1024 .f32) (v27 : Vec Ideal S1024x3072 .bf16)
    (r : Fin 256) (j : Fin 1024) : k0_pay6 v3 v6 v7 v27 (ix2 r j) = k0_pay3 v3 v6 v7 v27 (ix2 r ⟨2048 + j, by omega⟩) := by
  pointwise [k0_pay6]

/-- The body's test of bit 2 of a lane number. -/
theorem lane : ∀ j : Fin 128, IntOp.cmpi CmpIPredicate.eq (IntOp.andi (IntOp.shrsi ArithUnit.vector (BitVec.ofNat 32 j.val) 2#32) 1#32) 1#32
    = if j.val / 4 % 2 = 1 then 1#1 else 0#1 := by decide +kernel

/-- The gates that the body stores. -/
theorem gates_apply (x : FVec Ideal S256x1024 .f32) (w : Vec Ideal S1024x128 .f32) (b : Vec Ideal S1x128 .f32) (r : Fin 256) (j : Fin 128) :
    k0_pay1 x w b (ix2 r j) = if j.val / 4 % 2 = 1 then MlProj.logSigmoid ((∑ k : Fin 1024, x (ix2 r k) * w (ix2 k j)) + b (ix2 0 j))
      else (∑ k : Fin 1024, x (ix2 r k) * w (ix2 k j)) + b (ix2 0 j) := by
  unfold MlProj.logSigmoid
  pointwise [k0_pay1]
  rw [lane j]
  by_cases h : j.val / 4 % 2 = 1
  · rw [if_pos h, if_pos h]
    simp only [zero_sub]
    rfl
  · rw [if_neg h, if_neg h]
    rfl

variable (m : (ℓ : Loc nD τ sig) → Buf (Elt Ideal) ℓ) (c : Dev nD)

/-- Argument 0. -/
abbrev s : Vec Ideal S16640x1024 .f32 := m ((c : Thread nD τ).loc main_arg0)
/-- Argument 1. -/
abbrev mods : Vec Ideal S8x6144 .f32 := m ((c : Thread nD τ).loc main_arg1)
/-- Argument 2. -/
abbrev norm : Vec Ideal S1024 .f32 := m ((c : Thread nD τ).loc main_arg2)
/-- Argument 3. -/
abbrev w : Vec Ideal S1024x3088 .f32 := m ((c : Thread nD τ).loc main_arg3)
/-- Argument 4. -/
abbrev gb : Vec Ideal S2x2x4 .f32 := m ((c : Thread nD τ).loc main_arg4)

theorem V_v9 (r : Fin 1) (k : Fin 1024) : (V m c main_v9 : Vec Ideal S1x1024 .f32) (ix2 r k) = norm m c (ix1 k) := by
  unfold V
  after_reads_at

theorem V_v1 (r : Fin 1024) (k : Fin 3072) : (V m c main_v1 : Vec Ideal S1024x3072 .bf16) (ix2 r k) = w m c (ix2 r ⟨k, by omega⟩) := by
  unfold V
  after_reads_at

/-- The gate weights that the call is given. -/
theorem V_v4 (r : Fin 1024) (k : Fin 128) : (V m c main_v4 : Vec Ideal S1024x128 .f32) (ix2 r k) = MlProj.padw (w m c) r k := by
  unfold V MlProj.padw
  after_reads_at

/-- The gate bias that the call is given. -/
theorem V_v8 (r : Fin 1) (k : Fin 128) : (V m c main_v8 : Vec Ideal S1x128 .f32) (ix2 r k) = MlProj.padb (gb m c) k := by
  unfold V MlProj.padb
  after_reads_at
  by_cases h : k.val < 16
  · rw [dif_pos h, dif_pos h]
    after_reads_at
  · rw [dif_neg h, dif_neg h]
    after_reads_at

theorem lt65 (t : Fin cfg0.N) : t.val < 65 := lt_of_lt_of_eq t.isLt Gen.N_0

/-- The block indices: the token blocks at the point, everything else whole. -/
theorem idx : ∀ t : Fin cfg0.N, win0_0.index t 0 = t.val
    ∧ win0_0.index t 1 = 0
    ∧ win0_1.index t 0 = 0
    ∧ win0_1.index t 1 = 0
    ∧ win0_2.index t 0 = 0
    ∧ win0_2.index t 1 = 0
    ∧ win0_3.index t 0 = 0
    ∧ win0_3.index t 1 = 0
    ∧ win0_4.index t 0 = 0
    ∧ win0_4.index t 1 = 0
    ∧ win0_5.index t 0 = 0
    ∧ win0_5.index t 1 = 0
    ∧ win0_6.index t 0 = t.val
    ∧ win0_6.index t 1 = 0
    ∧ win0_7.index t 0 = t.val
    ∧ win0_7.index t 1 = 0
    ∧ win0_8.index t 0 = t.val
    ∧ win0_8.index t 1 = 0
    ∧ win0_9.index t 0 = t.val
    ∧ win0_9.index t 1 = 0 := by decide +kernel

/-- The row of the modulation table at a grid point. -/
theorem coord : ∀ t : Fin cfg0.N, k0_off1 (grid0.coords t) 0 = (if t.val < 1 then 0 else 1) ∧ k0_off1 (grid0.coords t) 1 = 0 := by
  decide +kernel

theorem blk0 (t : Fin cfg0.N) (r : Fin 256) (k : Fin 1024) (n : Fin 16640) (hn : n.val = 256 * t.val + r.val) :
    (iblk m c 0 t : Vec Ideal S256x1024 .f32) (ix2 r k) = s m c (ix2 n k) := by
  refine Eq.trans ?_ (congrFun (V_main_arg0 m c) _)
  unfold iblk
  rw [View.read_apply]
  show V m c main_arg0 _ = V m c main_arg0 _
  congr 1
  funext a
  apply Fin.ext
  match a with
  | ⟨0, _⟩ => show win0_0.index t 0 * 256 + 1 * r.val = n.val; have := idx t; omega
  | ⟨1, _⟩ => show win0_0.index t 1 * 1024 + 1 * k.val = k.val; have := idx t; omega

theorem blk1 (t : Fin cfg0.N) (r : Fin 8) (k : Fin 6144) :
    (iblk m c 1 t : Vec Ideal S8x6144 .f32) (ix2 r k) = mods m c (ix2 r k) := by
  refine Eq.trans ?_ (congrFun (V_main_arg1 m c) _)
  unfold iblk
  rw [View.read_apply]
  show V m c main_arg1 _ = V m c main_arg1 _
  congr 1
  funext a
  apply Fin.ext
  match a with
  | ⟨0, _⟩ => show win0_1.index t 0 * 8 + 1 * r.val = r.val; have := idx t; omega
  | ⟨1, _⟩ => show win0_1.index t 1 * 6144 + 1 * k.val = k.val; have := idx t; omega

theorem blk2 (t : Fin cfg0.N) (r : Fin 1) (k : Fin 1024) :
    (iblk m c 2 t : Vec Ideal S1x1024 .f32) (ix2 r k) = norm m c (ix1 k) := by
  rw [← V_v9 m c r k]
  unfold iblk
  rw [View.read_apply]
  show V m c main_v9 _ = V m c main_v9 _
  congr 1
  funext a
  apply Fin.ext
  match a with
  | ⟨0, _⟩ => show win0_2.index t 0 * 1 + 1 * r.val = r.val; have := idx t; omega
  | ⟨1, _⟩ => show win0_2.index t 1 * 1024 + 1 * k.val = k.val; have := idx t; omega

theorem blk3 (t : Fin cfg0.N) (r : Fin 1024) (k : Fin 3072) :
    (iblk m c 3 t : Vec Ideal S1024x3072 .bf16) (ix2 r k) = w m c (ix2 r ⟨k, by omega⟩) := by
  rw [← V_v1 m c r k]
  unfold iblk
  rw [View.read_apply]
  show V m c main_v1 _ = V m c main_v1 _
  congr 1
  funext a
  apply Fin.ext
  match a with
  | ⟨0, _⟩ => show win0_3.index t 0 * 1024 + 1 * r.val = r.val; have := idx t; omega
  | ⟨1, _⟩ => show win0_3.index t 1 * 3072 + 1 * k.val = k.val; have := idx t; omega

theorem blk4 (t : Fin cfg0.N) (r : Fin 1024) (k : Fin 128) :
    (iblk m c 4 t : Vec Ideal S1024x128 .f32) (ix2 r k) = MlProj.padw (w m c) r k := by
  rw [← V_v4 m c r k]
  unfold iblk
  rw [View.read_apply]
  show V m c main_v4 _ = V m c main_v4 _
  congr 1
  funext a
  apply Fin.ext
  match a with
  | ⟨0, _⟩ => show win0_4.index t 0 * 1024 + 1 * r.val = r.val; have := idx t; omega
  | ⟨1, _⟩ => show win0_4.index t 1 * 128 + 1 * k.val = k.val; have := idx t; omega

theorem blk5 (t : Fin cfg0.N) (r : Fin 1) (k : Fin 128) :
    (iblk m c 5 t : Vec Ideal S1x128 .f32) (ix2 r k) = MlProj.padb (gb m c) k := by
  rw [← V_v8 m c r k]
  unfold iblk
  rw [View.read_apply]
  show V m c main_v8 _ = V m c main_v8 _
  congr 1
  funext a
  apply Fin.ext
  match a with
  | ⟨0, _⟩ => show win0_5.index t 0 * 1 + 1 * r.val = r.val; have := idx t; omega
  | ⟨1, _⟩ => show win0_5.index t 1 * 128 + 1 * k.val = k.val; have := idx t; omega

/-- The modulation row the body loads. -/
theorem row_apply (t : Fin cfg0.N) (x1 : Vec Ideal S8x6144 .f32) (n : ℕ) (hn : n / 256 = t.val) (k : Fin 6144) :
    modRow (grid0.coords t) x1 (ix2 0 k) = x1 (ix2 (Proj.stream n) k) := by
  have hc := coord t
  have hs : (Proj.stream n).val = if t.val < 1 then 0 else 1 := by
    unfold Proj.stream
    by_cases h : n < 256
    · rw [if_pos h, if_pos (by omega)]; rfl
    · rw [if_neg h, if_neg (by omega)]; rfl
  show x1 _ = x1 _
  congr 1
  funext a
  apply Fin.ext
  match a with
  | ⟨0, _⟩ => show k0_off1 (grid0.coords t) 0 + 1 * 0 = (Proj.stream n).val; omega
  | ⟨1, _⟩ => show k0_off1 (grid0.coords t) 1 + 1 * k.val = k.val; omega

/-- The modulated features that the body computes from the blocks of a point. -/
theorem token_eq (t : Fin cfg0.N) (r : Fin 256) (n : Fin 16640) (hn : n.val = 256 * t.val + r.val) (k : Fin 1024) :
    Proj.modulate (fun l => (iblk m c 0 t : Vec Ideal S256x1024 .f32) (ix2 r l)) (fun l => (iblk m c 2 t : Vec Ideal S1x1024 .f32) (ix2 0 l))
      (fun l => modRow (grid0.coords t) (iblk m c 1 t) (ix2 0 ⟨l, by omega⟩)) (fun l => modRow (grid0.coords t) (iblk m c 1 t) (ix2 0 ⟨1024 + l, by omega⟩)) k
      = Proj.token (s m c) (mods m c) (norm m c) n k := by
  have e0 : (fun l => (iblk m c 0 t : Vec Ideal S256x1024 .f32) (ix2 r l)) = fun l => s m c (ix2 n l) := funext fun l => blk0 m c t r l n hn
  have e2 : (fun l => (iblk m c 2 t : Vec Ideal S1x1024 .f32) (ix2 0 l)) = fun l => norm m c (ix1 l) := funext fun l => blk2 m c t 0 l
  have e1 : ∀ q : Fin 6144, modRow (grid0.coords t) (iblk m c 1 t) (ix2 0 q) = mods m c (ix2 (Proj.stream n.val) q) :=
    fun q => (row_apply t _ n.val (by omega) q).trans (blk1 m c t _ q)
  rw [e0, e2]
  simp only [e1]
  rfl

/-- The projection that the body computes from the blocks of a point. -/
theorem proj_eq (t : Fin cfg0.N) (r : Fin 256) (n : Fin 16640) (hn : n.val = 256 * t.val + r.val) (j : Fin 3072) :
    k0_pay3 (modRow (grid0.coords t) (iblk m c 1 t)) (iblk m c 0 t) (iblk m c 2 t) (iblk m c 3 t) (ix2 r j)
      = Proj.proj (s m c) (mods m c) (norm m c) (w m c) n ⟨j, by omega⟩ :=
  (proj_apply _ _ _ _ r j).trans (Finset.sum_congr rfl fun k _ => congrArg₂ (· * ·) (token_eq m c t r n hn k) (blk3 m c t k j))

/-- The gate pre-activation that the body computes from the blocks of a point. -/
theorem pre_eq (t : Fin cfg0.N) (r : Fin 256) (n : Fin 16640) (hn : n.val = 256 * t.val + r.val) (j : Fin 128) :
    (∑ k : Fin 1024, k0_pay2 (modRow (grid0.coords t) (iblk m c 1 t)) (iblk m c 0 t) (iblk m c 2 t) (ix2 r k)
        * (iblk m c 4 t : Vec Ideal S1024x128 .f32) (ix2 k j)) + (iblk m c 5 t : Vec Ideal S1x128 .f32) (ix2 0 j)
      = MlProj.pre (s m c) (mods m c) (norm m c) (w m c) (gb m c) n j := by
  rw [← MlProj.pre_eq]
  exact congrArg₂ (· + ·) (Finset.sum_congr rfl fun k _ =>
    congrArg₂ (· * ·) ((token_apply _ _ _ r k).trans (token_eq m c t r n hn k)) (blk4 m c t k j)) (blk5 m c t 0 j)

/-- What a point writes back through window 6 is its block of the result. -/
theorem flushed_6 (t : Fin cfg0.N) (hf' : (cfg0.win 6).flush t = true) :
    (Gen.dats m 0 c).flushed 6 t = ((cfg0.win 6).blk t).view.read (Elt Ideal) (MlProj.qk (s m c) (mods m c) (norm m c) (w m c)) := by
  have hN := lt65 t
  have hrd : ∀ (r : Fin 256) (k : Fin 1024) (n : Fin 16640), n.val = 256 * t.val + r.val →
      ((cfg0.win 6).blk t).view.read (Elt Ideal) (MlProj.qk (s m c) (mods m c) (norm m c) (w m c)) (ix2 r k) = (MlProj.qk (s m c) (mods m c) (norm m c) (w m c)) (ix2 n k) := by
    intro r k n hn
    rw [View.read_apply]
    refine congrArg (MlProj.qk (s m c) (mods m c) (norm m c) (w m c)) ?_
    funext a
    apply Fin.ext
    match a with
    | ⟨0, _⟩ => show win0_6.index t 0 * 256 + 1 * r.val = n.val; have := idx t; omega
    | ⟨1, _⟩ => show win0_6.index t 1 * 1024 + 1 * k.val = k.val; have := idx t; omega
  funext y
  obtain ⟨r, k, rfl⟩ : ∃ (r : Fin 256) (k : Fin 1024), y = ix2 r k := ⟨y 0, y 1, eq_ix2 y⟩
  rw [hrd r k ⟨256 * t.val + r.val, by omega⟩ rfl, Value.flushed6_A m c t, out_6]
  refine (qk_apply _ _ _ _ r k).trans ?_
  rw [proj_eq m c t r ⟨256 * t.val + r.val, by omega⟩ rfl]
  rfl

/-- So the result array ends holding it: the points' blocks cover it. -/
theorem final_6 : (Gen.dats m 0 c).arrAt 6 cfg0.N = (MlProj.qk (s m c) (mods m c) (norm m c) (w m c)) :=
  (Gen.dats m 0 c).arrAt_eq_of_cover 6 _ (flushed_6 m c) fun i => by
    have h0 : (i 0 : ℕ) < 16640 := (i 0).isLt
    have h1 : (i 1 : ℕ) < 1024 := (i 1).isLt
    have hb : (i 0).val / 256 < cfg0.N := by show _ < grid0.N; rw [Gen.N_0]; omega
    refine ⟨⟨(i 0).val / 256, hb⟩, (by decide +kernel : ∀ t : Fin cfg0.N, (cfg0.win 6).flush t = true) _, ?_⟩
    show i ∈ ((View.whole main_v10_0).slice (win0_6.rect ⟨(i 0).val / 256, hb⟩)).set
    rw [View.set_slice_whole, Rect.mem_set_unit]
    intro a
    have hi := idx ⟨(i 0).val / 256, hb⟩
    dsimp only at hi
    match a with
    | ⟨0, _⟩ => show win0_6.index ⟨(i 0).val / 256, hb⟩ 0 * 256 ≤ (i 0 : ℕ) ∧ (i 0 : ℕ) < win0_6.index ⟨(i 0).val / 256, hb⟩ 0 * 256 + 256; omega
    | ⟨1, _⟩ => show win0_6.index ⟨(i 0).val / 256, hb⟩ 1 * 1024 ≤ (i 1 : ℕ) ∧ (i 1 : ℕ) < win0_6.index ⟨(i 0).val / 256, hb⟩ 1 * 1024 + 1024; omega

/-- What a point writes back through window 7 is its block of the result. -/
theorem flushed_7 (t : Fin cfg0.N) (hf' : (cfg0.win 7).flush t = true) :
    (Gen.dats m 0 c).flushed 7 t = ((cfg0.win 7).blk t).view.read (Elt Ideal) (MlProj.val (s m c) (mods m c) (norm m c) (w m c)) := by
  have hN := lt65 t
  have hrd : ∀ (r : Fin 256) (k : Fin 1024) (n : Fin 16640), n.val = 256 * t.val + r.val →
      ((cfg0.win 7).blk t).view.read (Elt Ideal) (MlProj.val (s m c) (mods m c) (norm m c) (w m c)) (ix2 r k) = (MlProj.val (s m c) (mods m c) (norm m c) (w m c)) (ix2 n k) := by
    intro r k n hn
    rw [View.read_apply]
    refine congrArg (MlProj.val (s m c) (mods m c) (norm m c) (w m c)) ?_
    funext a
    apply Fin.ext
    match a with
    | ⟨0, _⟩ => show win0_7.index t 0 * 256 + 1 * r.val = n.val; have := idx t; omega
    | ⟨1, _⟩ => show win0_7.index t 1 * 1024 + 1 * k.val = k.val; have := idx t; omega
  funext y
  obtain ⟨r, k, rfl⟩ : ∃ (r : Fin 256) (k : Fin 1024), y = ix2 r k := ⟨y 0, y 1, eq_ix2 y⟩
  rw [hrd r k ⟨256 * t.val + r.val, by omega⟩ rfl, Value.flushed7_A m c t, out_7]
  refine (val_apply _ _ _ _ r k).trans ?_
  rw [proj_eq m c t r ⟨256 * t.val + r.val, by omega⟩ rfl]
  rfl

/-- So the result array ends holding it: the points' blocks cover it. -/
theorem final_7 : (Gen.dats m 0 c).arrAt 7 cfg0.N = (MlProj.val (s m c) (mods m c) (norm m c) (w m c)) :=
  (Gen.dats m 0 c).arrAt_eq_of_cover 7 _ (flushed_7 m c) fun i => by
    have h0 : (i 0 : ℕ) < 16640 := (i 0).isLt
    have h1 : (i 1 : ℕ) < 1024 := (i 1).isLt
    have hb : (i 0).val / 256 < cfg0.N := by show _ < grid0.N; rw [Gen.N_0]; omega
    refine ⟨⟨(i 0).val / 256, hb⟩, (by decide +kernel : ∀ t : Fin cfg0.N, (cfg0.win 7).flush t = true) _, ?_⟩
    show i ∈ ((View.whole main_v10_1).slice (win0_7.rect ⟨(i 0).val / 256, hb⟩)).set
    rw [View.set_slice_whole, Rect.mem_set_unit]
    intro a
    have hi := idx ⟨(i 0).val / 256, hb⟩
    dsimp only at hi
    match a with
    | ⟨0, _⟩ => show win0_7.index ⟨(i 0).val / 256, hb⟩ 0 * 256 ≤ (i 0 : ℕ) ∧ (i 0 : ℕ) < win0_7.index ⟨(i 0).val / 256, hb⟩ 0 * 256 + 256; omega
    | ⟨1, _⟩ => show win0_7.index ⟨(i 0).val / 256, hb⟩ 1 * 1024 ≤ (i 1 : ℕ) ∧ (i 1 : ℕ) < win0_7.index ⟨(i 0).val / 256, hb⟩ 1 * 1024 + 1024; omega

/-- What a point writes back through window 8 is its block of the result. -/
theorem flushed_8 (t : Fin cfg0.N) (hf' : (cfg0.win 8).flush t = true) :
    (Gen.dats m 0 c).flushed 8 t = ((cfg0.win 8).blk t).view.read (Elt Ideal) (MlProj.og (s m c) (mods m c) (norm m c) (w m c)) := by
  have hN := lt65 t
  have hrd : ∀ (r : Fin 256) (k : Fin 1024) (n : Fin 16640), n.val = 256 * t.val + r.val →
      ((cfg0.win 8).blk t).view.read (Elt Ideal) (MlProj.og (s m c) (mods m c) (norm m c) (w m c)) (ix2 r k) = (MlProj.og (s m c) (mods m c) (norm m c) (w m c)) (ix2 n k) := by
    intro r k n hn
    rw [View.read_apply]
    refine congrArg (MlProj.og (s m c) (mods m c) (norm m c) (w m c)) ?_
    funext a
    apply Fin.ext
    match a with
    | ⟨0, _⟩ => show win0_8.index t 0 * 256 + 1 * r.val = n.val; have := idx t; omega
    | ⟨1, _⟩ => show win0_8.index t 1 * 1024 + 1 * k.val = k.val; have := idx t; omega
  funext y
  obtain ⟨r, k, rfl⟩ : ∃ (r : Fin 256) (k : Fin 1024), y = ix2 r k := ⟨y 0, y 1, eq_ix2 y⟩
  rw [hrd r k ⟨256 * t.val + r.val, by omega⟩ rfl, Value.flushed8_A m c t, out_8]
  refine (og_apply _ _ _ _ r k).trans ?_
  rw [proj_eq m c t r ⟨256 * t.val + r.val, by omega⟩ rfl]
  rfl

/-- So the result array ends holding it: the points' blocks cover it. -/
theorem final_8 : (Gen.dats m 0 c).arrAt 8 cfg0.N = (MlProj.og (s m c) (mods m c) (norm m c) (w m c)) :=
  (Gen.dats m 0 c).arrAt_eq_of_cover 8 _ (flushed_8 m c) fun i => by
    have h0 : (i 0 : ℕ) < 16640 := (i 0).isLt
    have h1 : (i 1 : ℕ) < 1024 := (i 1).isLt
    have hb : (i 0).val / 256 < cfg0.N := by show _ < grid0.N; rw [Gen.N_0]; omega
    refine ⟨⟨(i 0).val / 256, hb⟩, (by decide +kernel : ∀ t : Fin cfg0.N, (cfg0.win 8).flush t = true) _, ?_⟩
    show i ∈ ((View.whole main_v10_2).slice (win0_8.rect ⟨(i 0).val / 256, hb⟩)).set
    rw [View.set_slice_whole, Rect.mem_set_unit]
    intro a
    have hi := idx ⟨(i 0).val / 256, hb⟩
    dsimp only at hi
    match a with
    | ⟨0, _⟩ => show win0_8.index ⟨(i 0).val / 256, hb⟩ 0 * 256 ≤ (i 0 : ℕ) ∧ (i 0 : ℕ) < win0_8.index ⟨(i 0).val / 256, hb⟩ 0 * 256 + 256; omega
    | ⟨1, _⟩ => show win0_8.index ⟨(i 0).val / 256, hb⟩ 1 * 1024 ≤ (i 1 : ℕ) ∧ (i 1 : ℕ) < win0_8.index ⟨(i 0).val / 256, hb⟩ 1 * 1024 + 1024; omega

/-- What a point writes back through window 9 is its block of the result. -/
theorem flushed_9 (t : Fin cfg0.N) (hf' : (cfg0.win 9).flush t = true) :
    (Gen.dats m 0 c).flushed 9 t = ((cfg0.win 9).blk t).view.read (Elt Ideal) (MlProj.gates (s m c) (mods m c) (norm m c) (w m c) (gb m c)) := by
  have hN := lt65 t
  have hrd : ∀ (r : Fin 256) (k : Fin 128) (n : Fin 16640), n.val = 256 * t.val + r.val →
      ((cfg0.win 9).blk t).view.read (Elt Ideal) (MlProj.gates (s m c) (mods m c) (norm m c) (w m c) (gb m c)) (ix2 r k) = (MlProj.gates (s m c) (mods m c) (norm m c) (w m c) (gb m c)) (ix2 n k) := by
    intro r k n hn
    rw [View.read_apply]
    refine congrArg (MlProj.gates (s m c) (mods m c) (norm m c) (w m c) (gb m c)) ?_
    funext a
    apply Fin.ext
    match a with
    | ⟨0, _⟩ => show win0_9.index t 0 * 256 + 1 * r.val = n.val; have := idx t; omega
    | ⟨1, _⟩ => show win0_9.index t 1 * 128 + 1 * k.val = k.val; have := idx t; omega
  funext y
  obtain ⟨r, k, rfl⟩ : ∃ (r : Fin 256) (k : Fin 128), y = ix2 r k := ⟨y 0, y 1, eq_ix2 y⟩
  rw [hrd r k ⟨256 * t.val + r.val, by omega⟩ rfl, Value.flushed9_A m c t, out_9]
  refine (gates_apply _ _ _ r k).trans ?_
  rw [pre_eq m c t r ⟨256 * t.val + r.val, by omega⟩ rfl]
  rfl

/-- So the result array ends holding it: the points' blocks cover it. -/
theorem final_9 : (Gen.dats m 0 c).arrAt 9 cfg0.N = (MlProj.gates (s m c) (mods m c) (norm m c) (w m c) (gb m c)) :=
  (Gen.dats m 0 c).arrAt_eq_of_cover 9 _ (flushed_9 m c) fun i => by
    have h0 : (i 0 : ℕ) < 16640 := (i 0).isLt
    have h1 : (i 1 : ℕ) < 128 := (i 1).isLt
    have hb : (i 0).val / 256 < cfg0.N := by show _ < grid0.N; rw [Gen.N_0]; omega
    refine ⟨⟨(i 0).val / 256, hb⟩, (by decide +kernel : ∀ t : Fin cfg0.N, (cfg0.win 9).flush t = true) _, ?_⟩
    show i ∈ ((View.whole main_v10_3).slice (win0_9.rect ⟨(i 0).val / 256, hb⟩)).set
    rw [View.set_slice_whole, Rect.mem_set_unit]
    intro a
    have hi := idx ⟨(i 0).val / 256, hb⟩
    dsimp only at hi
    match a with
    | ⟨0, _⟩ => show win0_9.index ⟨(i 0).val / 256, hb⟩ 0 * 256 ≤ (i 0 : ℕ) ∧ (i 0 : ℕ) < win0_9.index ⟨(i 0).val / 256, hb⟩ 0 * 256 + 256; omega
    | ⟨1, _⟩ => show win0_9.index ⟨(i 0).val / 256, hb⟩ 1 * 128 ≤ (i 1 : ℕ) ∧ (i 1 : ℕ) < win0_9.index ⟨(i 0).val / 256, hb⟩ 1 * 128 + 128; omega

end Cert.Kernel6Ideal.Array

namespace Cert.Reference6Ideal.Layer
open Idealize.ShloMosaic Idealize.ShloMosaic.TcCoe Idealize.SL.Sem Cert.Reference6Ideal Cert.Reference6Ideal.Gen Cert.Reference6Ideal.Read

variable (x0 : Vec Ideal S16640x1024 .f32) (x1 : Vec Ideal S8x6144 .f32) (x2 : Vec Ideal S1024 .f32) (x3 : Vec Ideal S1024x3088 .f32) (x4 : Vec Ideal S2x2x4 .f32)

/-- The modulated tokens in the reference. -/
theorem token_eq (r : Fin 16640) (k : Fin 1024) : (val_main_v54 (F := Ideal) x0 x1 x2) (ix2 r k) = Proj.token x0 x1 x2 r k := by
  unfold Proj.token Proj.modulate Mixer.rms Proj.stream
  by_cases h : r.val < 256
  on_goal 1 => simp only [if_pos h]
  on_goal 2 => simp only [if_neg h]
  all_goals pointwise [val_main_v54, val_main_v33, val_main_v31, val_main_v27, val_main_v24, val_main_v14, val_main_v23, val_main_v22, val_main_v21, val_main_v19, val_main_v17, val_main_v16, val_main_v15, val_main_cst, val_main_v18, val_main_cst_0, val_main_v20, val_main_cst_1, val_main_v26, val_main_v25, val_main_v30, val_main_v29, val_main_v28, val_main_cst_2, val_main_v9, val_main_v7, val_main_v32, val_main_v8, val_main_v53, val_main_v51, val_main_v47, val_main_v44, val_main_v34, val_main_v43, val_main_v42, val_main_v41, val_main_v39, val_main_v37, val_main_v36, val_main_v35, val_main_cst_3, val_main_v38, val_main_cst_4, val_main_v40, val_main_cst_5, val_main_v46, val_main_v45, val_main_v50, val_main_v49, val_main_v48, val_main_cst_6, val_main_v2, val_main_v0, val_main_v52, val_main_v1]
  · rw [dif_pos h]
  · have e : (⟨256 + (r.val - 256), by omega⟩ : Fin 16640) = r := Fin.ext (by show 256 + (r.val - 256) = r.val; omega)
    rw [dif_neg h]
    simp only [e]

/-- Their projection. -/
theorem proj_eq (r : Fin 16640) (j : Fin 3088) : (val_main_v55 (F := Ideal) x0 x1 x2 x3) (ix2 r j) = Proj.proj x0 x1 x2 x3 r j := by
  unfold Proj.proj
  simp only [← token_eq]
  pointwise [val_main_v55]

/-- The query and key features. -/
theorem qk_eq : (val_main_v71 (F := Ideal) x0 x1 x2 x3) = MlProj.qk x0 x1 x2 x3 := by
  funext y
  obtain ⟨r, k, rfl⟩ : ∃ (r : Fin 16640) (k : Fin 1024), y = ix2 r k := ⟨y 0, y 1, eq_ix2 y⟩
  show _ = Proj.proj x0 x1 x2 x3 r ⟨k.val, by omega⟩
  rw [← proj_eq]
  pointwise [val_main_v71]

/-- The value features. -/
theorem val_eq : (val_main_v73 (F := Ideal) x0 x1 x2 x3) = MlProj.val x0 x1 x2 x3 := by
  funext y
  obtain ⟨r, k, rfl⟩ : ∃ (r : Fin 16640) (k : Fin 1024), y = ix2 r k := ⟨y 0, y 1, eq_ix2 y⟩
  show _ = Proj.proj x0 x1 x2 x3 r ⟨1024 + k.val, by omega⟩
  rw [← proj_eq]
  pointwise [val_main_v73, val_main_v72]

/-- The output gate's features. -/
theorem og_eq : (val_main_v74 (F := Ideal) x0 x1 x2 x3) = MlProj.og x0 x1 x2 x3 := by
  funext y
  obtain ⟨r, k, rfl⟩ : ∃ (r : Fin 16640) (k : Fin 1024), y = ix2 r k := ⟨y 0, y 1, eq_ix2 y⟩
  show _ = Proj.proj x0 x1 x2 x3 r ⟨2048 + k.val, by omega⟩
  rw [← proj_eq]
  pointwise [val_main_v74]

/-- The padded gate pre-activation. -/
theorem pre_eq (r : Fin 16640) (j : Fin 128) : (val_main_v61 (F := Ideal) x0 x1 x2 x3 x4) (ix2 r j) = MlProj.pre x0 x1 x2 x3 x4 r j := by
  unfold MlProj.pre
  simp only [← proj_eq]
  pointwise [val_main_v61, val_main_v60, val_main_v56, val_main_v59, val_main_v58, val_main_v57, val_main_call0_v0, val_main_c]
  by_cases h : j.val < 16
  · rw [dif_pos h, dif_pos h]
  · rw [dif_neg h, dif_neg h]
    show (((0#32 : BitVec 32).toInt : ℝ) : EReal) = 0
    simp

/-- The gates. -/
theorem gates_eq : (val_main_v75 (F := Ideal) x0 x1 x2 x3 x4) = MlProj.gates x0 x1 x2 x3 x4 := by
  funext y
  obtain ⟨r, k, rfl⟩ : ∃ (r : Fin 16640) (k : Fin 128), y = ix2 r k := ⟨y 0, y 1, eq_ix2 y⟩
  show _ = if k.val / 4 % 2 = 1 then MlProj.logSigmoid (MlProj.pre x0 x1 x2 x3 x4 r k) else MlProj.pre x0 x1 x2 x3 x4 r k
  simp only [← pre_eq]
  unfold MlProj.logSigmoid
  by_cases h : k.val / 4 % 2 = 1
  on_goal 1 => rw [if_pos h]
  on_goal 2 => rw [if_neg h]
  all_goals pointwise [val_main_v75, val_main_v70, val_main_v68, val_main_v64, val_main_v63, val_main_v62, val_main_v69, val_main_v67, val_main_call1_v1, val_main_call1_call0_v4, val_main_call1_call0_v3, val_main_call1_v0, val_main_v66, val_main_v65, val_main_call1_call0_v2, val_main_call1_call0_cst, val_main_call1_call0_v6, val_main_call1_call0_v5, val_main_call1_call0_v11, val_main_call1_call0_v1, val_main_call1_call0_v0, val_main_call1_call0_v10, val_main_call1_call0_v9, val_main_call1_call0_v8, val_main_call1_call0_v7]
  · have e : ∀ p, (⟨k.val / 8 * 8 + 4 + k.val % 4, p⟩ : Fin 128) = k := fun p => Fin.ext (by show k.val / 8 * 8 + 4 + k.val % 4 = k.val; omega)
    rw [dif_neg (by omega)]
    simp only [e]
    rw [if_neg (fun h' => h' rfl)]
    rfl
  · have e : ∀ p, (⟨k.val / 8 * 8 + k.val % 4, p⟩ : Fin 128) = k := fun p => Fin.ext (by show k.val / 8 * 8 + k.val % 4 = k.val; omega)
    rw [dif_pos (by omega)]
    simp only [e]

end Cert.Reference6Ideal.Layer

namespace Cert.Proof

open Idealize.ShloMosaic Idealize.SL.Sem

/-- The input call of the mLSTM layer runs and leaves its arguments unchanged. -/
theorem frame_Kernel6 : Cert.quiescent_Kernel6 (hKernel6 := Cert.Kernel6.Gen.facts) := fun m ρ _ => Cert.Kernel6.Gen.frame m ρ

/-- So does its idealization. -/
theorem frame_Kernel6Ideal : Cert.quiescent_Kernel6Ideal (hKernel6Ideal := Cert.Kernel6Ideal.Gen.facts) :=
  fun m ρ _ => Cert.Kernel6Ideal.Gen.frame m ρ

/-- So does the reference; it declares no semaphore. -/
theorem frame_Reference6Ideal : Cert.quiescent_Reference6Ideal (hReference6Ideal := Cert.Reference6Ideal.Gen.facts) := fun m ρ _ =>
  (θ_run Cert.Reference6Ideal.defs _ _).mono
    (fun r h => ⟨fun c => (h c).2.2.2.2, Idealize.ShloMosaic.sem_eq_zero_of_no_sems (by decide) r.2⟩)
    (Cert.Reference6Ideal.Value.run (F := Ideal) m ρ)

/-- Both programs end with `MlProj.qk`, `MlProj.val`, `MlProj.og` and `MlProj.gates` of the arguments. -/
theorem algebraic_Kernel6 : Cert.algebraic_Kernel6Ideal_Reference6Ideal
    (hKernel6Ideal := Cert.Kernel6Ideal.Gen.facts) (hReference6Ideal := Cert.Reference6Ideal.Gen.facts) := by
  intro m ρ m' ρ' _ hagree
  refine ⟨fun c => MlProj.qk (m ((c.tc : Thread _ _).loc Cert.Kernel6Ideal.main_arg0)) (m ((c.tc : Thread _ _).loc Cert.Kernel6Ideal.main_arg1)) (m ((c.tc : Thread _ _).loc Cert.Kernel6Ideal.main_arg2)) (m ((c.tc : Thread _ _).loc Cert.Kernel6Ideal.main_arg3)), fun c => MlProj.val (m ((c.tc : Thread _ _).loc Cert.Kernel6Ideal.main_arg0)) (m ((c.tc : Thread _ _).loc Cert.Kernel6Ideal.main_arg1)) (m ((c.tc : Thread _ _).loc Cert.Kernel6Ideal.main_arg2)) (m ((c.tc : Thread _ _).loc Cert.Kernel6Ideal.main_arg3)), fun c => MlProj.og (m ((c.tc : Thread _ _).loc Cert.Kernel6Ideal.main_arg0)) (m ((c.tc : Thread _ _).loc Cert.Kernel6Ideal.main_arg1)) (m ((c.tc : Thread _ _).loc Cert.Kernel6Ideal.main_arg2)) (m ((c.tc : Thread _ _).loc Cert.Kernel6Ideal.main_arg3)), fun c => MlProj.gates (m ((c.tc : Thread _ _).loc Cert.Kernel6Ideal.main_arg0)) (m ((c.tc : Thread _ _).loc Cert.Kernel6Ideal.main_arg1)) (m ((c.tc : Thread _ _).loc Cert.Kernel6Ideal.main_arg2)) (m ((c.tc : Thread _ _).loc Cert.Kernel6Ideal.main_arg3)) (m ((c.tc : Thread _ _).loc Cert.Kernel6Ideal.main_arg4)), ?_, ?_⟩
  · exact (θ_run Cert.Kernel6Ideal.defs _ _).mono
      (fun r h c => ⟨(h c).1.trans (Cert.Kernel6Ideal.Array.final_6 m c), (h c).2.1.trans (Cert.Kernel6Ideal.Array.final_7 m c), (h c).2.2.1.trans (Cert.Kernel6Ideal.Array.final_8 m c), (h c).2.2.2.1.trans (Cert.Kernel6Ideal.Array.final_9 m c), (h c).2.2.2.2⟩) (Cert.Kernel6Ideal.Value.run_blocks m ρ)
  · refine (θ_run Cert.Reference6Ideal.defs _ _).mono (fun r h c => ⟨?_, ?_, ?_, ?_, (h c).2.2.2.2⟩) (Cert.Reference6Ideal.Value.run (F := Ideal) m' ρ')
    · obtain ⟨h0, h1, h2, h3, h4⟩ := hagree c
      refine ((h c).1.trans ((Cert.Reference6Ideal.Read.val_main_v71_eq (F := Ideal) _ _ _ _).trans
        (Cert.Reference6Ideal.Layer.qk_eq _ _ _ _))).trans ?_
      rw [h0, h1, h2, h3]
    · obtain ⟨h0, h1, h2, h3, h4⟩ := hagree c
      refine ((h c).2.1.trans ((Cert.Reference6Ideal.Read.val_main_v73_eq (F := Ideal) _ _ _ _).trans
        (Cert.Reference6Ideal.Layer.val_eq _ _ _ _))).trans ?_
      rw [h0, h1, h2, h3]
    · obtain ⟨h0, h1, h2, h3, h4⟩ := hagree c
      refine ((h c).2.2.1.trans ((Cert.Reference6Ideal.Read.val_main_v74_eq (F := Ideal) _ _ _ _).trans
        (Cert.Reference6Ideal.Layer.og_eq _ _ _ _))).trans ?_
      rw [h0, h1, h2, h3]
    · obtain ⟨h0, h1, h2, h3, h4⟩ := hagree c
      refine ((h c).2.2.2.1.trans ((Cert.Reference6Ideal.Read.val_main_v75_eq (F := Ideal) m' c).trans
        (Cert.Reference6Ideal.Layer.gates_eq _ _ _ _ _))).trans ?_
      rw [h0, h1, h2, h3, h4]

end Cert.Proof
end
end
-- ==== Proof.FnOutRunIdeal.lean ====
/- The Fourier layer's output projection (`Kernel7Ideal`): one run of its kernel body, from what its loop leaves in the staging
   rows to the eight slices of the output block. -/
module

public import proofs.«01_k».proof.Proof.Gen.Kernel7Ideal.Frame
public import proofs.«01_k».proof.Proof.Gen.Kernel7Ideal.Loops
public import Idealize.ShloMosaic.Lib.Pipeline.Value
public import Idealize.ShloMosaic.Lib.WholeRead
public import Idealize.ShloMosaic.Lib.Pointwise

@[expose] public section

set_option maxRecDepth 16384

noncomputable section

namespace Cert.Kernel7Ideal.Hand

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The loop: channel `m` of the block goes to row `m` of each of eight slabs -/

/-- The rectangle that trip `k` stores through: row `k` of each slab, the slabs 1024 rows apart. -/
abbrev rowRect (k : Fin k0_t1_loop.trips) : Rect S8192x128 :=
  ⟨(⟨k0_off3 k, S8x128.size, ![1024, 1], (k0_off3_inb k)⟩ : LoadRect S8192x128), spos_1024_1⟩

/-- What trip `k` stores: channel `k` of the block, eight rows of 128. -/
abbrev piece (arg1 : Memref sig .tc .vmem S1024x8x128 .f32) (X : BufTy.Contents (Elt F) arg1.view.ty) (k : Fin k0_t1_loop.trips) :
    View.Piece (Elt F) S8192x128 .f32 :=
  ⟨rowRect k, k0_pay5 (arg1.view.readAt (Elt F) (Rect.unit (s := S1024x8x128) (k0_off2 k) S1x8x128.size (k0_off2_inb k)).toLoadRect X)⟩

/-- The stores of the trips before `k`, the newest first. -/
def rows (arg1 : Memref sig .tc .vmem S1024x8x128 .f32) (X : BufTy.Contents (Elt F) arg1.view.ty) :
    ℕ → List (View.Piece (Elt F) S8192x128 .f32)
  | 0 => []
  | k + 1 => if h : k < k0_t1_loop.trips then piece arg1 X ⟨k, h⟩ :: rows arg1 X k else rows arg1 X k

theorem rows_succ (arg1 : Memref sig .tc .vmem S1024x8x128 .f32) (X : BufTy.Contents (Elt F) arg1.view.ty) (k : Fin k0_t1_loop.trips) :
    rows arg1 X (k.val + 1) = piece arg1 X k :: rows arg1 X k.val := by
  rw [rows, dif_pos k.isLt]

/-- Every store made before trip `n` is that of some trip. -/
theorem mem_rows (arg1 : Memref sig .tc .vmem S1024x8x128 .f32) (X : BufTy.Contents (Elt F) arg1.view.ty) (n : ℕ)
    (p : View.Piece (Elt F) S8192x128 .f32) (hp : p ∈ rows arg1 X n) : ∃ k, p = piece arg1 X k := by
  induction n with
  | zero => rw [rows] at hp; exact absurd hp List.not_mem_nil
  | succ n ih =>
    rw [rows] at hp
    split at hp
    · rcases List.mem_cons.mp hp with rfl | hp
      · exact ⟨_, rfl⟩
      · exact ih hp
    · exact ih hp

/-- Every trip before `n` has made its store. -/
theorem rows_mem (arg1 : Memref sig .tc .vmem S1024x8x128 .f32) (X : BufTy.Contents (Elt F) arg1.view.ty) (n : ℕ)
    (k : Fin k0_t1_loop.trips) (hk : k.val < n) : piece arg1 X k ∈ rows arg1 X n := by
  induction n with
  | zero => exact absurd hk (Nat.not_lt_zero _)
  | succ n ih =>
    rw [rows]
    by_cases h : n < k0_t1_loop.trips
    · rw [dif_pos h]
      by_cases e : k.val = n
      · obtain ⟨k, hk'⟩ := k
        obtain rfl : k = n := e
        exact List.mem_cons_self
      · exact List.mem_cons_of_mem _ (ih (by omega))
    · rw [dif_neg h]
      exact ih (by have := k.isLt; omega)

set_option warn.classDefReducibility false in
/-- The loop by its invariant: the block is only read, and before trip `k` the staging rows hold the stores of the trips
    before it over what they held at first. -/
@[sl_loop] def loopInv (𝒱 : Variants) (c : Dev nD) (bd : Option 𝒱.V) (E : Set ℕ) (i : grid0.Coords) (arg1 : Memref sig .tc .vmem S1024x8x128 .f32) (harg1 : arg1.IsWhole) (arg2 : Memref sig .tc .vmem S1024x1024 .bf16) (harg2 : arg2.IsWhole) (arg3 : Memref sig .tc .vmem S1024x1024 .f32) (harg3 : arg3.IsWhole) (arg4 : Memref sig .tc .vmem S8x6144 .f32) (harg4 : arg4.IsWhole) (arg5 : Memref sig .tc .vmem S1024x1024 .f32) (harg5 : arg5.IsWhole) (arg6 : Memref sig .tc .vmem S8192x128 .f32) (harg6 : arg6.IsWhole)
    (X : BufTy.Contents (Elt F) arg1.view.ty) (G : BufTy.Contents (Elt F) arg6.view.ty) :
    LoopInvTy_k0_t1 (F := F) Unit ℕ (UR sig nD τ) ℕ 𝒱 c bd E i arg1 harg1 arg2 harg2 arg3 harg3 arg4 harg4 arg5 harg5 arg6 harg6 where
  inv k _ := iprop((arg1.view.loc (c : Thread nD τ) ↦[arg1.view.set]{fullShare} X)
    ∗ (∃ f, (arg6.view.loc (c : Thread nD τ) ↦[arg6.view.set]{fullShare} f) ∗ ⌜f = arg6.view.writes (Elt F) G (rows arg1 X k)⌝))
  step k acc := by
    have hk : k.val < 1024 := Nat.lt_of_lt_of_le k.isLt k0_t1_abs.2.1
    unfold k0_t1_body
    iintro ⟨HX, ⟨%f, HD, %hf⟩⟩
    subst hf
    sl_exec
    sl_step
    isplitl [HX]; · iexact HX
    iexists _; isplitl [HD]; · iexact HD
    ipureintro
    rw [rows_succ]

/-! ## What the slabs hold after the loop -/

/-- The loop makes 1024 trips. -/
theorem trips_eq : k0_t1_loop.trips = 1024 := by decide

/-- The trip whose channel row `n` of a slab belongs to (a row past the 1024th is never asked for). -/
def trip (n : ℕ) : Fin k0_t1_loop.trips := ⟨n % 1024 % 1024, (Nat.mod_lt _ (by decide)).trans_eq trips_eq.symm⟩

/-- Channel `k` of the block, as trip `k` reads it. -/
def chan (x0 : Vec F S1024x8x128 .f32) (k : Fin k0_t1_loop.trips) : Vec F S1x8x128 .f32 := fun z =>
  x0 ((Rect.unit (s := S1024x8x128) (k0_off2 k) S1x8x128.size (k0_off2_inb k)).idx z)

/-- What the staging rows are meant to hold: row `1024 j + m` is row `j` of channel `m`. -/
def stag (x0 : Vec F S1024x8x128 .f32) : S8192x128.Idx → Elt F .f32 := fun y =>
  k0_pay5 (chan x0 (trip (y 0).val))
    (ix2 ⟨(y 0).val / 1024, by have : (y 0).val < 8192 := (y 0).isLt; omega⟩ (y 1))

theorem row_coord (k : Fin k0_t1_loop.trips) (x : S8x128.Idx) :
    ((rowRect k).emb x 0).val = k.val + 1024 * (x 0).val ∧ ((rowRect k).emb x 1).val = (x 1).val := by
  constructor
  · show k0_off3 k 0 + 1024 * (x 0).val = _
    rw [k0_off3_eq]; rfl
  · show k0_off3 k 1 + 1 * (x 1).val = _
    rw [k0_off3_eq]; show 0 + 1 * (x 1).val = _; omega

/-- After the loop a staging row that some trip names holds what it is meant to. -/
theorem read_rows (arg1 : Memref sig .tc .vmem S1024x8x128 .f32) (harg1 : arg1.IsWhole)
    (arg6 : Memref sig .tc .vmem S8192x128 .f32) (x0 : Vec F S1024x8x128 .f32) (G : BufTy.Contents (Elt F) arg6.view.ty)
    (n : ℕ) (hn : n = k0_t1_loop.trips) (y : S8192x128.Idx) (hy : (y 0).val % 1024 < 1024) :
    arg6.view.read (Elt F) (arg6.view.writes (Elt F) G (rows arg1 (harg1.unread x0) n)) y = stag x0 y := by
  have h0 : (y 0).val < 8192 := (y 0).isLt
  have ht : k0_t1_loop.trips = 1024 := trips_eq
  refine View.read_writes_apply_of_pieces _ _ (stag x0) _ ?_ y ?_
  · intro p hp x
    obtain ⟨k, rfl⟩ := mem_rows _ _ _ _ hp
    have hk : k.val < 1024 := Nat.lt_of_lt_of_le k.isLt k0_t1_abs.2.1
    have hx0 : ((x : S8x128.Idx) 0).val < 8 := (x 0).isLt
    obtain ⟨e0, e1⟩ := row_coord k x
    have et : trip ((rowRect k).emb x 0).val = k := Fin.ext (by show _ % 1024 % 1024 = _; rw [e0]; omega)
    have ex : (x : S8x128.Idx) = ix2 ⟨((rowRect k).emb x 0).val / 1024, by rw [e0]; omega⟩ ((rowRect k).emb x 1) := by
      funext a
      match a with
      | ⟨0, _⟩ => exact Fin.ext (by show (x 0).val = _ / 1024; rw [e0]; omega)
      | ⟨1, _⟩ => exact Fin.ext e1.symm
    have hr : arg1.view.readAt (Elt F) (Rect.unit (s := S1024x8x128) (k0_off2 k) S1x8x128.size (k0_off2_inb k)).toLoadRect (harg1.unread x0)
        = chan x0 k :=
      funext fun z => harg1.readAt_unread x0 _ z
    show k0_pay5 (arg1.view.readAt (Elt F) (Rect.unit (s := S1024x8x128) (k0_off2 k) S1x8x128.size (k0_off2_inb k)).toLoadRect (harg1.unread x0)) x
      = k0_pay5 (chan x0 (trip ((rowRect k).emb x 0).val)) _
    rw [hr, et]
    exact congrArg _ ex
  · obtain ⟨k, hk⟩ : ∃ k : Fin k0_t1_loop.trips, k.val = (y 0).val % 1024 := ⟨⟨_, lt_of_lt_of_eq hy ht.symm⟩, rfl⟩
    refine ⟨piece arg1 (harg1.unread x0) k,
      rows_mem _ _ _ _ (show k.val < n by omega), ?_⟩
    rw [LoadRect.mem_set]
    intro a
    match a with
    | ⟨0, _⟩ =>
      refine ⟨(y 0).val / 1024, show (y 0).val / 1024 < 8 by omega, ?_⟩
      show (y 0).val = k0_off3 k 0 + 1024 * _
      rw [k0_off3_eq]; show (y 0).val = k.val + 1024 * ((y 0).val / 1024); omega
    | ⟨1, _⟩ =>
      refine ⟨(y 1).val, (y 1).isLt, ?_⟩
      show (y 1).val = k0_off3 k 1 + 1 * _
      rw [k0_off3_eq]; show (y 1).val = 0 + 1 * (y 1).val; omega

/-- Slab `j` after the loop: the 1024 staging rows from row `o = 1024 j`. -/
def slab (x0 : Vec F S1024x8x128 .f32) (o : ℕ) (inb : ∀ a, (![o, 0] : Fin 2 → ℕ) a + S1024x128.size a ≤ S8192x128.size a) :
    Vec F S1024x128 .f32 := fun x => stag x0 ((Rect.unit (s := S8192x128) ![o, 0] S1024x128.size inb).idx x)

/-- The modulation row that the kernel reads. -/
def moda (x3 : Vec F S8x6144 .f32) : Vec F S1x6144 .f32 := fun x => x3 ((Rect.unit (s := S8x6144) k0_off1 S1x6144.size k0_off1_inb).idx x)

/-- The weights as read whole. -/
def wts (x1 : Vec F S1024x1024 .bf16) : Vec F S1024x1024 .bf16 := fun x =>
  x1 ((Rect.unit (s := S1024x1024) ![0, 0] S1024x1024.size inb_S1024x1024_S1024x1024_0_0).idx x)

/-- The 128 rows from row `o` of the residual block. -/
def rows128 (x2 : Vec F S1024x1024 .f32) (o : ℕ) (inb : ∀ a, (![o, 0] : Fin 2 → ℕ) a + S128x1024.size a ≤ S1024x1024.size a) :
    Vec F S128x1024 .f32 := fun x => x2 ((Rect.unit (s := S1024x1024) ![o, 0] S128x1024.size inb).idx x)

theorem slab_read (arg1 : Memref sig .tc .vmem S1024x8x128 .f32) (harg1 : arg1.IsWhole)
    (arg6 : Memref sig .tc .vmem S8192x128 .f32) (x0 : Vec F S1024x8x128 .f32) (G : BufTy.Contents (Elt F) arg6.view.ty)
    (o : ℕ) (ho : o % 1024 = 0) (inb : ∀ a, (![o, 0] : Fin 2 → ℕ) a + S1024x128.size a ≤ S8192x128.size a) :
    arg6.view.readAt (Elt F) (Rect.unit (s := S8192x128) ![o, 0] S1024x128.size inb).toLoadRect
        (arg6.view.writes (Elt F) G (rows arg1 (harg1.unread x0) (Scf.trips k0_t1_loop.lb k0_t1_loop.ub k0_t1_loop.st)))
      = slab x0 o inb := by
  funext x
  refine read_rows arg1 harg1 arg6 x0 G _ rfl _ ?_
  show (o + 1 * (x 0).val) % 1024 < 1024
  have : (x 0).val < 1024 := (x 0).isLt
  omega

theorem moda_read (arg4 : Memref sig .tc .vmem S8x6144 .f32) (harg4 : arg4.IsWhole) (x3 : Vec F S8x6144 .f32) :
    arg4.view.readAt (Elt F) (Rect.unit (s := S8x6144) k0_off1 S1x6144.size k0_off1_inb).toLoadRect (harg4.unread x3) = moda x3 :=
  funext fun x => harg4.readAt_unread x3 _ x

theorem wts_read (arg2 : Memref sig .tc .vmem S1024x1024 .bf16) (harg2 : arg2.IsWhole) (x1 : Vec F S1024x1024 .bf16) :
    arg2.view.readAt (Elt F) (Rect.unit (s := S1024x1024) ![0, 0] S1024x1024.size inb_S1024x1024_S1024x1024_0_0).toLoadRect (harg2.unread x1)
      = wts x1 := funext fun x => harg2.readAt_unread x1 _ x

theorem rows128_read (arg3 : Memref sig .tc .vmem S1024x1024 .f32) (harg3 : arg3.IsWhole) (x2 : Vec F S1024x1024 .f32)
    (o : ℕ) (inb : ∀ a, (![o, 0] : Fin 2 → ℕ) a + S128x1024.size a ≤ S1024x1024.size a) :
    arg3.view.readAt (Elt F) (Rect.unit (s := S1024x1024) ![o, 0] S128x1024.size inb).toLoadRect (harg3.unread x2) = rows128 x2 o inb :=
  funext fun x => harg3.readAt_unread x2 _ x

/-- The eight slices that the body stores into the output block, the last first. -/
def pieces (x0 : Vec F S1024x8x128 .f32) (x1 : Vec F S1024x1024 .bf16) (x2 : Vec F S1024x1024 .f32) (x3 : Vec F S8x6144 .f32) :
    List (View.Piece (Elt F) S1024x1024 .f32) :=
  [⟨Rect.unit (s := S1024x1024) ![896, 0] S128x1024.size inb_S1024x1024_S128x1024_896_0, k0_pay3 (k0_pay4 (moda x3)) (slab x0 7168 inb_S8192x128_S1024x128_7168_0) (wts x1) (rows128 x2 896 inb_S1024x1024_S128x1024_896_0)⟩,
    ⟨Rect.unit (s := S1024x1024) ![768, 0] S128x1024.size inb_S1024x1024_S128x1024_768_0, k0_pay2 (k0_pay4 (moda x3)) (slab x0 6144 inb_S8192x128_S1024x128_6144_0) (wts x1) (rows128 x2 768 inb_S1024x1024_S128x1024_768_0)⟩,
    ⟨Rect.unit (s := S1024x1024) ![640, 0] S128x1024.size inb_S1024x1024_S128x1024_640_0, k0_pay1 (k0_pay4 (moda x3)) (k0_pay12 (slab x0 5120 inb_S8192x128_S1024x128_5120_0)) (wts x1) (rows128 x2 640 inb_S1024x1024_S128x1024_640_0)⟩,
    ⟨Rect.unit (s := S1024x1024) ![512, 0] S128x1024.size inb_S1024x1024_S128x1024_512_0, k0_pay11 (k0_pay4 (moda x3)) (slab x0 4096 inb_S8192x128_S1024x128_4096_0) (wts x1) (rows128 x2 512 inb_S1024x1024_S128x1024_512_0)⟩,
    ⟨Rect.unit (s := S1024x1024) ![384, 0] S128x1024.size inb_S1024x1024_S128x1024_384_0, k0_pay10 (k0_pay4 (moda x3)) (slab x0 3072 inb_S8192x128_S1024x128_3072_0) (wts x1) (rows128 x2 384 inb_S1024x1024_S128x1024_384_0)⟩,
    ⟨Rect.unit (s := S1024x1024) ![256, 0] S128x1024.size inb_S1024x1024_S128x1024_256_0, k0_pay9 (k0_pay4 (moda x3)) (k0_pay8 (slab x0 2048 inb_S8192x128_S1024x128_2048_0)) (wts x1) (rows128 x2 256 inb_S1024x1024_S128x1024_256_0)⟩,
    ⟨Rect.unit (s := S1024x1024) ![128, 0] S128x1024.size inb_S1024x1024_S128x1024_128_0, k0_pay7 (moda x3) (slab x0 1024 inb_S8192x128_S1024x128_1024_0) (wts x1) (rows128 x2 128 inb_S1024x1024_S128x1024_128_0)⟩,
    ⟨Rect.unit (s := S1024x1024) ![0, 0] S128x1024.size inb_S1024x1024_S128x1024_0_0, k0_pay6 (moda x3) (slab x0 0 inb_S8192x128_S1024x128_0_0) (wts x1) (rows128 x2 0 inb_S1024x1024_S128x1024_0_0)⟩]

/-- The slab that is read first, through the loop's stores alone. -/
theorem slab_cov (arg1 : Memref sig .tc .vmem S1024x8x128 .f32) (harg1 : arg1.IsWhole)
    (arg6 : Memref sig .tc .vmem S8192x128 .f32) (x0 : Vec F S1024x8x128 .f32) :
    arg6.view.readCov (rows arg1 (harg1.unread x0) (Scf.trips k0_t1_loop.lb k0_t1_loop.ub k0_t1_loop.st))
        (Rect.unit (s := S8192x128) ![0, 0] S1024x128.size inb_S8192x128_S1024x128_0_0).toLoadRect
      = slab x0 0 inb_S8192x128_S1024x128_0_0 := by
  unfold View.readCov
  exact slab_read arg1 harg1 arg6 x0 _ 0 rfl _

/-- The slices as the run of the body spells them, each operand read from the buffer that holds it. -/
theorem pieces_eq (arg1 : Memref sig .tc .vmem S1024x8x128 .f32) (harg1 : arg1.IsWhole) (arg2 : Memref sig .tc .vmem S1024x1024 .bf16) (harg2 : arg2.IsWhole) (arg3 : Memref sig .tc .vmem S1024x1024 .f32) (harg3 : arg3.IsWhole) (arg4 : Memref sig .tc .vmem S8x6144 .f32) (harg4 : arg4.IsWhole) (arg5 : Memref sig .tc .vmem S1024x1024 .f32) (harg5 : arg5.IsWhole) (arg6 : Memref sig .tc .vmem S8192x128 .f32) (harg6 : arg6.IsWhole)
    (x0 : Vec F S1024x8x128 .f32) (x1 : Vec F S1024x1024 .bf16) (x2 : Vec F S1024x1024 .f32) (x3 : Vec F S8x6144 .f32)
    (G : BufTy.Contents (Elt F) arg6.view.ty)
    {M W R} (hM : M = arg4.view.readAt (Elt F) (Rect.unit (s := S8x6144) k0_off1 S1x6144.size k0_off1_inb).toLoadRect (harg4.unread x3)) (hW : W = arg2.view.readAt (Elt F) (Rect.unit (s := S1024x1024) ![0, 0] S1024x1024.size inb_S1024x1024_S1024x1024_0_0).toLoadRect (harg2.unread x1)) (hR : R = rows arg1 (harg1.unread x0) (Scf.trips k0_t1_loop.lb k0_t1_loop.ub k0_t1_loop.st)) :
    [⟨Rect.unit (s := S1024x1024) ![896, 0] S128x1024.size inb_S1024x1024_S128x1024_896_0, k0_pay3 (k0_pay4 M) (arg6.view.readAt (Elt F) (Rect.unit (s := S8192x128) ![7168, 0] S1024x128.size inb_S8192x128_S1024x128_7168_0).toLoadRect (arg6.view.writes (Elt F) G R)) W (arg3.view.readAt (Elt F) (Rect.unit (s := S1024x1024) ![896, 0] S128x1024.size inb_S1024x1024_S128x1024_896_0).toLoadRect (harg3.unread x2))⟩,
      ⟨Rect.unit (s := S1024x1024) ![768, 0] S128x1024.size inb_S1024x1024_S128x1024_768_0, k0_pay2 (k0_pay4 M) (arg6.view.readAt (Elt F) (Rect.unit (s := S8192x128) ![6144, 0] S1024x128.size inb_S8192x128_S1024x128_6144_0).toLoadRect (arg6.view.writes (Elt F) G R)) W (arg3.view.readAt (Elt F) (Rect.unit (s := S1024x1024) ![768, 0] S128x1024.size inb_S1024x1024_S128x1024_768_0).toLoadRect (harg3.unread x2))⟩,
      ⟨Rect.unit (s := S1024x1024) ![640, 0] S128x1024.size inb_S1024x1024_S128x1024_640_0, k0_pay1 (k0_pay4 M) (k0_pay12 (arg6.view.readAt (Elt F) (Rect.unit (s := S8192x128) ![5120, 0] S1024x128.size inb_S8192x128_S1024x128_5120_0).toLoadRect (arg6.view.writes (Elt F) G R))) W (arg3.view.readAt (Elt F) (Rect.unit (s := S1024x1024) ![640, 0] S128x1024.size inb_S1024x1024_S128x1024_640_0).toLoadRect (harg3.unread x2))⟩,
      ⟨Rect.unit (s := S1024x1024) ![512, 0] S128x1024.size inb_S1024x1024_S128x1024_512_0, k0_pay11 (k0_pay4 M) (arg6.view.readAt (Elt F) (Rect.unit (s := S8192x128) ![4096, 0] S1024x128.size inb_S8192x128_S1024x128_4096_0).toLoadRect (arg6.view.writes (Elt F) G R)) W (arg3.view.readAt (Elt F) (Rect.unit (s := S1024x1024) ![512, 0] S128x1024.size inb_S1024x1024_S128x1024_512_0).toLoadRect (harg3.unread x2))⟩,
      ⟨Rect.unit (s := S1024x1024) ![384, 0] S128x1024.size inb_S1024x1024_S128x1024_384_0, k0_pay10 (k0_pay4 M) (arg6.view.readAt (Elt F) (Rect.unit (s := S8192x128) ![3072, 0] S1024x128.size inb_S8192x128_S1024x128_3072_0).toLoadRect (arg6.view.writes (Elt F) G R)) W (arg3.view.readAt (Elt F) (Rect.unit (s := S1024x1024) ![384, 0] S128x1024.size inb_S1024x1024_S128x1024_384_0).toLoadRect (harg3.unread x2))⟩,
      ⟨Rect.unit (s := S1024x1024) ![256, 0] S128x1024.size inb_S1024x1024_S128x1024_256_0, k0_pay9 (k0_pay4 M) (k0_pay8 (arg6.view.readAt (Elt F) (Rect.unit (s := S8192x128) ![2048, 0] S1024x128.size inb_S8192x128_S1024x128_2048_0).toLoadRect (arg6.view.writes (Elt F) G R))) W (arg3.view.readAt (Elt F) (Rect.unit (s := S1024x1024) ![256, 0] S128x1024.size inb_S1024x1024_S128x1024_256_0).toLoadRect (harg3.unread x2))⟩,
      ⟨Rect.unit (s := S1024x1024) ![128, 0] S128x1024.size inb_S1024x1024_S128x1024_128_0, k0_pay7 M (arg6.view.readAt (Elt F) (Rect.unit (s := S8192x128) ![1024, 0] S1024x128.size inb_S8192x128_S1024x128_1024_0).toLoadRect (arg6.view.writes (Elt F) G R)) W (arg3.view.readAt (Elt F) (Rect.unit (s := S1024x1024) ![128, 0] S128x1024.size inb_S1024x1024_S128x1024_128_0).toLoadRect (harg3.unread x2))⟩,
      ⟨Rect.unit (s := S1024x1024) ![0, 0] S128x1024.size inb_S1024x1024_S128x1024_0_0, k0_pay6 M (arg6.view.readCov R (Rect.unit (s := S8192x128) ![0, 0] S1024x128.size inb_S8192x128_S1024x128_0_0).toLoadRect) W (arg3.view.readAt (Elt F) (Rect.unit (s := S1024x1024) ![0, 0] S128x1024.size inb_S1024x1024_S128x1024_0_0).toLoadRect (harg3.unread x2))⟩] = pieces x0 x1 x2 x3 := by
  subst hM hW hR
  rw [slab_read arg1 harg1 arg6 x0 G 1024 (by decide) inb_S8192x128_S1024x128_1024_0,
    slab_read arg1 harg1 arg6 x0 G 2048 (by decide) inb_S8192x128_S1024x128_2048_0,
    slab_read arg1 harg1 arg6 x0 G 3072 (by decide) inb_S8192x128_S1024x128_3072_0,
    slab_read arg1 harg1 arg6 x0 G 4096 (by decide) inb_S8192x128_S1024x128_4096_0,
    slab_read arg1 harg1 arg6 x0 G 5120 (by decide) inb_S8192x128_S1024x128_5120_0,
    slab_read arg1 harg1 arg6 x0 G 6144 (by decide) inb_S8192x128_S1024x128_6144_0,
    slab_read arg1 harg1 arg6 x0 G 7168 (by decide) inb_S8192x128_S1024x128_7168_0, slab_cov arg1 harg1 arg6 x0, moda_read arg4 harg4 x3, wts_read arg2 harg2 x1,
    rows128_read arg3 harg3 x2 0 inb_S1024x1024_S128x1024_0_0,
    rows128_read arg3 harg3 x2 128 inb_S1024x1024_S128x1024_128_0,
    rows128_read arg3 harg3 x2 256 inb_S1024x1024_S128x1024_256_0,
    rows128_read arg3 harg3 x2 384 inb_S1024x1024_S128x1024_384_0,
    rows128_read arg3 harg3 x2 512 inb_S1024x1024_S128x1024_512_0,
    rows128_read arg3 harg3 x2 640 inb_S1024x1024_S128x1024_640_0,
    rows128_read arg3 harg3 x2 768 inb_S1024x1024_S128x1024_768_0,
    rows128_read arg3 harg3 x2 896 inb_S1024x1024_S128x1024_896_0]
  rfl

/-! ## The run of the body -/

set_option maxHeartbeats 1000000 in
/-- The body, on whole buffers: the inputs are left as they were, the output block receives the eight slices. -/
theorem run0 (c : Dev nD) (i : grid0.Coords) (arg1 : Memref sig .tc .vmem S1024x8x128 .f32) (harg1 : arg1.IsWhole) (arg2 : Memref sig .tc .vmem S1024x1024 .bf16) (harg2 : arg2.IsWhole) (arg3 : Memref sig .tc .vmem S1024x1024 .f32) (harg3 : arg3.IsWhole) (arg4 : Memref sig .tc .vmem S8x6144 .f32) (harg4 : arg4.IsWhole) (arg5 : Memref sig .tc .vmem S1024x1024 .f32) (harg5 : arg5.IsWhole) (arg6 : Memref sig .tc .vmem S8192x128 .f32) (harg6 : arg6.IsWhole)
    (x0 : Vec F S1024x8x128 .f32) (x1 : Vec F S1024x1024 .bf16) (x2 : Vec F S1024x1024 .f32) (x3 : Vec F S8x6144 .f32)
    (E : Set ℕ) (K : PUnit → sProp (MT nD τ sig Unit (Elt F) ℕ (UR sig nD τ) ℕ)) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ (∃ f, arg5.view.loc (c : Thread nD τ) ↦[arg5.view.set]{fullShare} arg5.view.writes (Elt F) f (pieces x0 x1 x2 x3))
            ∗ (∃ d, owns (c : Thread nD τ) arg6 fullShare d)) -∗ K ⟨⟩))
      ⊢ wp frame (wpE (defs₀ (F := F)) Variants.none c none) E (cc0_fourier_out i arg1 harg1 arg2 harg2 arg3 harg3 arg4 harg4 arg5 harg5 arg6 harg6) K := by
  simp only [cc0_fourier_out_eq_skeleton]; unfold cc0_fourier_out_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  obtain rfl := harg1.eq_unread hf0; obtain rfl := harg2.eq_unread hf1; obtain rfl := harg3.eq_unread hf2; obtain rfl := harg4.eq_unread hf3
  sl_exec
  sl_step
  iapply Hk
  unfold run0.sl.r run0.sl.v75 run0.sl.v65 run0.sl.r_2 run0.sl.r_1 run0.sl.v5
  rw [← pieces_eq arg1 harg1 arg2 harg2 arg3 harg3 arg4 harg4 arg5 harg5 arg6 harg6 x0 x1 x2 x3 f5 rfl rfl rfl]
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]; · iexists _; iexact H4
  iexists _; iexists _; isplitr
  swap; · iexact H5
  ipureintro; rfl

end Cert.Kernel7Ideal.Hand

end
-- ==== Proof.FnOutFrameIdeal.lean ====
/-
  The output call of the Fourier layer: the frame. What a grid point leaves in its blocks is read from the run of the body; the launch then runs
  and leaves its arguments as they were, and each block of a result array is what its point wrote back.
-/
module

public import proofs.«01_k».proof.Defs
public import proofs.«01_k».proof.Proof.FnOutRunIdeal
public import proofs.«01_k».proof.Proof.Gen.Kernel7Ideal.Frame
public import Idealize.ShloMosaic.Lib.Claim
public import Idealize.ShloMosaic.Lib.Pipeline.Value

@[expose] public section

set_option maxRecDepth 16384
noncomputable section

namespace Cert.Kernel7Ideal.Hand

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-- The slices stored into output window 4's block cover it. -/
theorem cover4 (x0 : Vec F S1024x8x128 .f32) (x1 : Vec F S1024x1024 .bf16) (x2 : Vec F S1024x1024 .f32) (x3 : Vec F S8x6144 .f32) (y : S1024x1024.Idx) : ∃ pc ∈ pieces x0 x1 x2 x3, y ∈ pc.1.set :=
  View.cover_of_tiledL (pieces x0 x1 x2 x3) S128x1024.size (by sl_kernel_rfl) y

/-- What the body leaves in output window 4's block at point `t`. -/
def outsAt4 (c : Dev nD) (t : Fin cfg0.N) : Vec F S1024x1024 .f32 := View.canon (pieces (iblk m c 0 t) (iblk m c 1 t) (iblk m c 2 t) (iblk m c 3 t))

/-- The proof data of the pipeline: each input's buffer keeps its block, each output's ends at what the body leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outsAt4 m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outsAt4 m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The invariant that passes from point to point: the scratch at some contents, and the generator register. -/
theorem PhiA_eq (c : Dev nD) :
    (Pipeline.ΦA spec0 c : sProp (MT nD τ sig Unit (Elt F) ℕ (UR sig nD τ) ℕ))
      = iprop(iprop((∃ d, owns (c : Thread nD τ) (Memref.whole cc0_scratch0) fullShare d)) ∗ (∃ r, prngReg c r)) := by
  unfold Pipeline.ΦA; rw [scopedRest0_eq]; simp only [owns_whole]; try rfl

/-- What the body is called with at point `t`, -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t))

set_option maxHeartbeats 800000 in
/-- The body at a point: its run, on the point's buffers. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA_eq]
  unfold outsAt4
  iintro ⟨⟨HS0, Hg⟩, Ho, ⟨%d0, H0⟩, ⟨%d1, H1⟩, ⟨%d2, H2⟩, ⟨%d3, H3⟩, ⟨%d4, H4⟩⟩
  iapply (run0 c (grid0.coords t) _ _ _ _ _ _ _ _ _ _ _ _ (iblk m c 0 t) (iblk m c 1 t) (iblk m c 2 t) (iblk m c 3 t) Set.univ _)
  isplitl [H0]; · iexact H0
  isplitl [H1]; · iexact H1
  isplitl [H2]; · iexact H2
  isplitl [H3]; · iexact H3
  isplitl [H4]; · iexists _; iexact H4
  isplitl [HS0]; · iexact HS0
  iintro ⟨H0, H1, H2, H3, ⟨%e4, H4⟩, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_eq_canon _ _ _ (cover4 _ _ _ _)

theorem defs_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs_row]
  exact triple_restated (sound_body m c t) rfl .rfl fun _ => .rfl

set_option backward.isDefEq.respectTransparency.types false in
/-- The launch terminates with every array at what the proof data says and every semaphore at zero. -/
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_launch : θ_run defs (onTc (τ := τ) (main (F := F))) (s₀ m ρ) (Pipeline.FramePost cfgs (dats m) 0 (V m)) :=
  (θ_run defs _ _).mono (fun _ h => h.1) (run_quiescent m ρ)

theorem kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_launch m ρ)

/-- The frame: the arguments end unchanged and no semaphore is left raised. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (kept m ρ) ((θ_run defs _ _).mono (fun _ h => h.2) (run_quiescent m ρ))

/-- What point `t` writes back to output window 4. -/
theorem flushed4 (c : Dev nD) (t : Fin cfg0.N) :
    (dats m 0 c).flushed 4 t = (cfg0.win 4).cut (grid0.coords t) (outsAt4 m c t) := by
  show (cfg0.win 4).cut (grid0.coords t) ((dats m 0 c).after 4 t) = _
  rw [after0_4]

/-- The launch with its result arrays named, the arguments unchanged. -/
theorem run_blocks : θ_run defs (onTc (τ := τ) (main (F := F))) ⟨m, fun _ => 0, ρ⟩ fun r => ∀ c : Dev nD,
      r.2.mem ((c : Thread nD τ).loc main_v1) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1 4,
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).1 3).trans (((dats m 0 c).arrAt_in 3 rfl _).trans ((A_eq m c 3).trans (V_main_arg2 m c))),
      ((h c).2 main_arg3 (Pipeline.mem_restRefs_of main_arg3 (by decide) (by decide))).trans (V_main_arg3 m c)⟩)
    (run_launch m ρ)

end Cert.Kernel7Ideal.Hand

end
end
-- ==== Proof.FnOut.lean ====
/-
  The output call of the Fourier layer: the mixed features, kept by channel, are brought back to tokens, projected, scaled by
  the modulation and added to the tokens; kernel and reference both compute `FnOut.out`.
-/
module

public import proofs.«01_k».proof.Defs
public import proofs.«01_k».proof.Proof.FnOutFrame
public import proofs.«01_k».proof.Proof.FnOutFrameIdeal
public import proofs.«01_k».proof.Proof.Gen.Reference7Ideal.Run
public import proofs.«01_k».proof.Proof.Gen.Reference7Ideal.Read
public import Idealize.ShloMosaic.Lib.Pointwise
public import Idealize.ShloMosaic.Lib.StableHlo.ReadAt

@[expose] public section

set_option maxRecDepth 16384
noncomputable section

namespace Cert.FnOut
open Idealize.ShloMosaic

/-- Token `n` after the layer: `s + gate · (f W)`, where channel `j` of the features of token `n` is `ft` at row `n / 128`,
    column `n mod 128` of channel `j`. -/
def out (ft : Vec Ideal ⟨3, ![1024, 128, 128]⟩ .f32) (s : Vec Ideal ⟨2, ![16384, 1024]⟩ .f32) (mods : Vec Ideal ⟨2, ![8, 6144]⟩ .f32) (wout : Vec Ideal ⟨2, ![1024, 1024]⟩ .f32) (y : (⟨2, ![16384, 1024]⟩ : Shape).Idx) : EReal :=
  have h0 : (y 0).val < 16384 := (y 0).isLt
  have h1 : (y 1).val < 1024 := (y 1).isLt
  s y + mods (ix2 1 ⟨2048 + (y 1).val, by omega⟩) *
    ∑ j : Fin 1024, ft (ix3 j ⟨(y 0).val / 128, by omega⟩ ⟨(y 0).val % 128, by omega⟩) * wout (ix2 j (y 1))

end Cert.FnOut

namespace Cert.Kernel7Ideal.Array
open Idealize.ShloMosaic Idealize.ShloMosaic.TcCoe Idealize.SL.Sem Cert.Kernel7Ideal Cert.Kernel7Ideal.Gen Cert.Kernel7Ideal.Hand
open Idealize.ShloMosaic.Pipeline (Dat)

/-- A block's result: `FnOut.out` of the block's operands. -/
def block (x0 : Vec Ideal S1024x8x128 .f32) (x1 : Vec Ideal S1024x1024 .bf16) (x2 : Vec Ideal S1024x1024 .f32) (x3 : Vec Ideal S8x6144 .f32) (y : S1024x1024.Idx) : EReal :=
  have h0 : (y 0).val < 1024 := (y 0).isLt
  have h1 : (y 1).val < 1024 := (y 1).isLt
  x2 y + x3 (ix2 1 ⟨2048 + (y 1).val, by omega⟩) *
    ∑ j : Fin 1024, x0 (ix3 j ⟨(y 0).val / 128, by omega⟩ ⟨(y 0).val % 128, by omega⟩) * x1 (ix2 j (y 1))

/-- The relayout at an index: row `1024 b + j` of the staging rows is row `b` of channel `j`. -/
theorem stag_apply (x0 : Vec Ideal S1024x8x128 .f32) (b : Fin 8) (j : Fin 1024) (q : Fin 128) (n : Fin 8192) (hn : n.val = 1024 * b.val + j.val) :
    stag x0 (ix2 n q) = x0 (ix3 j b q) := by
  have e : (⟨n.val / 1024, by omega⟩ : Fin 8) = b := Fin.ext (by show n.val / 1024 = b.val; omega)
  have hv : (trip n.val).val = j.val := by show n.val % 1024 % 1024 = j.val; omega
  show k0_pay5 (chan x0 (trip n.val)) (ix2 ⟨n.val / 1024, _⟩ q) = _
  rw [e]
  refine Eq.trans (b := chan x0 (trip n.val) (ix3 0 b q)) ?_ ?_
  · pointwise [k0_pay5]
  · show x0 _ = x0 _
    congr 1
    funext a
    apply Fin.ext
    match a with
    | ⟨0, _⟩ => show k0_off2 (trip n.val) 0 + 1 * 0 = j.val; rw [k0_off2_eq]; show (trip n.val).val + 1 * 0 = j.val; omega
    | ⟨1, _⟩ => show k0_off2 (trip n.val) 1 + 1 * b.val = b.val; rw [k0_off2_eq]; show 0 + 1 * b.val = b.val; omega
    | ⟨2, _⟩ => show k0_off2 (trip n.val) 2 + 1 * q.val = q.val; rw [k0_off2_eq]; show 0 + 1 * q.val = q.val; omega

theorem slab_apply (x0 : Vec Ideal S1024x8x128 .f32) (o : ℕ) (inb : ∀ a, (![o, 0] : Fin 2 → ℕ) a + S1024x128.size a ≤ S8192x128.size a)
    (b : Fin 8) (ho : o = 1024 * b.val) (j : Fin 1024) (q : Fin 128) : slab x0 o inb (ix2 j q) = x0 (ix3 j b q) := by
  have e : (Rect.unit (s := S8192x128) ![o, 0] S1024x128.size inb).idx (ix2 j q) = ix2 (⟨o + j.val, by omega⟩ : Fin 8192) q := by
    funext a; apply Fin.ext
    match a with
    | ⟨0, _⟩ => show o + 1 * j.val = o + j.val; omega
    | ⟨1, _⟩ => show 0 + 1 * q.val = q.val; omega
  unfold slab
  rw [e]
  exact stag_apply x0 b j q _ (by show o + j.val = _; omega)

theorem moda_apply (x3 : Vec Ideal S8x6144 .f32) (k : Fin 6144) : moda x3 (ix2 0 k) = x3 (ix2 1 k) := by
  show x3 _ = x3 _
  congr 1
  funext a
  apply Fin.ext
  match a with
  | ⟨0, _⟩ => rfl
  | ⟨1, _⟩ => show 0 + 1 * k.val = k.val; omega

theorem wts_apply (x1 : Vec Ideal S1024x1024 .bf16) (r k : Fin 1024) : wts x1 (ix2 r k) = x1 (ix2 r k) := by
  show x1 _ = x1 _
  congr 1
  funext a
  apply Fin.ext
  match a with
  | ⟨0, _⟩ => show 0 + 1 * r.val = r.val; omega
  | ⟨1, _⟩ => show 0 + 1 * k.val = k.val; omega

theorem rows128_apply (x2 : Vec Ideal S1024x1024 .f32) (o : ℕ) (inb : ∀ a, (![o, 0] : Fin 2 → ℕ) a + S128x1024.size a ≤ S1024x1024.size a)
    (r : Fin 128) (k : Fin 1024) (n : Fin 1024) (hn : n.val = o + r.val) : rows128 x2 o inb (ix2 r k) = x2 (ix2 n k) := by
  show x2 _ = x2 _
  congr 1
  funext a
  apply Fin.ext
  match a with
  | ⟨0, _⟩ => show o + 1 * r.val = n.val; omega
  | ⟨1, _⟩ => show 0 + 1 * k.val = k.val; omega

/-- One slice's arithmetic is the block's result at the slice's rows. -/
theorem slice_eq (x0 : Vec Ideal S1024x8x128 .f32) (x1 : Vec Ideal S1024x1024 .bf16) (x2 : Vec Ideal S1024x1024 .f32) (x3 : Vec Ideal S8x6144 .f32) (b : Fin 8) (r : Fin 128) (k : Fin 1024) (n : Fin 1024) (hn : n.val = 128 * b.val + r.val)
    (M : Vec Ideal S1x6144 .f32) (hM : M = moda x3) (Sl : Vec Ideal S1024x128 .f32) (hS : ∀ j q, Sl (ix2 j q) = x0 (ix3 j b q))
    (Rw : Vec Ideal S128x1024 .f32) (hR : Rw (ix2 r k) = x2 (ix2 n k)) :
    Rw (ix2 r k) + M (ix2 0 ⟨2048 + k.val, by omega⟩) * ∑ j : Fin 1024, Sl (ix2 j r) * wts x1 (ix2 j k) = block x0 x1 x2 x3 (ix2 n k) := by
  have e1 : (⟨n.val / 128, by omega⟩ : Fin 8) = b := Fin.ext (by show n.val / 128 = b.val; omega)
  have e2 : (⟨n.val % 128, by omega⟩ : Fin 128) = r := Fin.ext (by show n.val % 128 = r.val; omega)
  show _ = x2 (ix2 n k) + x3 (ix2 1 ⟨2048 + k.val, _⟩) * ∑ j : Fin 1024, x0 (ix3 j ⟨n.val / 128, _⟩ ⟨n.val % 128, _⟩) * x1 (ix2 j k)
  rw [e1, e2, hM, hR, moda_apply]
  refine congrArg (_ + _ * ·) (Finset.sum_congr rfl fun j _ => ?_)
  rw [hS, wts_apply]

theorem slice0 (M : Vec Ideal S1x6144 .f32) (Sl : Vec Ideal S1024x128 .f32) (Wt : Vec Ideal S1024x1024 .bf16) (Rw : Vec Ideal S128x1024 .f32) (r : Fin 128) (k : Fin 1024) :
    k0_pay6 M Sl Wt Rw (ix2 r k) = Rw (ix2 r k) + M (ix2 0 ⟨2048 + k.val, by omega⟩) * ∑ j : Fin 1024, Sl (ix2 j r) * Wt (ix2 j k) := by
  pointwise [k0_pay6, k0_pay4]

theorem slice1 (M : Vec Ideal S1x6144 .f32) (Sl : Vec Ideal S1024x128 .f32) (Wt : Vec Ideal S1024x1024 .bf16) (Rw : Vec Ideal S128x1024 .f32) (r : Fin 128) (k : Fin 1024) :
    k0_pay7 M Sl Wt Rw (ix2 r k) = Rw (ix2 r k) + M (ix2 0 ⟨2048 + k.val, by omega⟩) * ∑ j : Fin 1024, Sl (ix2 j r) * Wt (ix2 j k) := by
  pointwise [k0_pay7, k0_pay4]

theorem slice2 (M : Vec Ideal S1x6144 .f32) (Sl : Vec Ideal S1024x128 .f32) (Wt : Vec Ideal S1024x1024 .bf16) (Rw : Vec Ideal S128x1024 .f32) (r : Fin 128) (k : Fin 1024) :
    k0_pay9 (k0_pay4 M) (k0_pay8 Sl) Wt Rw (ix2 r k) = Rw (ix2 r k) + M (ix2 0 ⟨2048 + k.val, by omega⟩) * ∑ j : Fin 1024, Sl (ix2 j r) * Wt (ix2 j k) := by
  pointwise [k0_pay9, k0_pay8, k0_pay4]

theorem slice3 (M : Vec Ideal S1x6144 .f32) (Sl : Vec Ideal S1024x128 .f32) (Wt : Vec Ideal S1024x1024 .bf16) (Rw : Vec Ideal S128x1024 .f32) (r : Fin 128) (k : Fin 1024) :
    k0_pay10 (k0_pay4 M) Sl Wt Rw (ix2 r k) = Rw (ix2 r k) + M (ix2 0 ⟨2048 + k.val, by omega⟩) * ∑ j : Fin 1024, Sl (ix2 j r) * Wt (ix2 j k) := by
  pointwise [k0_pay10, k0_pay4]

theorem slice4 (M : Vec Ideal S1x6144 .f32) (Sl : Vec Ideal S1024x128 .f32) (Wt : Vec Ideal S1024x1024 .bf16) (Rw : Vec Ideal S128x1024 .f32) (r : Fin 128) (k : Fin 1024) :
    k0_pay11 (k0_pay4 M) Sl Wt Rw (ix2 r k) = Rw (ix2 r k) + M (ix2 0 ⟨2048 + k.val, by omega⟩) * ∑ j : Fin 1024, Sl (ix2 j r) * Wt (ix2 j k) := by
  pointwise [k0_pay11, k0_pay4]

theorem slice5 (M : Vec Ideal S1x6144 .f32) (Sl : Vec Ideal S1024x128 .f32) (Wt : Vec Ideal S1024x1024 .bf16) (Rw : Vec Ideal S128x1024 .f32) (r : Fin 128) (k : Fin 1024) :
    k0_pay1 (k0_pay4 M) (k0_pay12 Sl) Wt Rw (ix2 r k) = Rw (ix2 r k) + M (ix2 0 ⟨2048 + k.val, by omega⟩) * ∑ j : Fin 1024, Sl (ix2 j r) * Wt (ix2 j k) := by
  pointwise [k0_pay1, k0_pay12, k0_pay4]

theorem slice6 (M : Vec Ideal S1x6144 .f32) (Sl : Vec Ideal S1024x128 .f32) (Wt : Vec Ideal S1024x1024 .bf16) (Rw : Vec Ideal S128x1024 .f32) (r : Fin 128) (k : Fin 1024) :
    k0_pay2 (k0_pay4 M) Sl Wt Rw (ix2 r k) = Rw (ix2 r k) + M (ix2 0 ⟨2048 + k.val, by omega⟩) * ∑ j : Fin 1024, Sl (ix2 j r) * Wt (ix2 j k) := by
  pointwise [k0_pay2, k0_pay4]

theorem slice7 (M : Vec Ideal S1x6144 .f32) (Sl : Vec Ideal S1024x128 .f32) (Wt : Vec Ideal S1024x1024 .bf16) (Rw : Vec Ideal S128x1024 .f32) (r : Fin 128) (k : Fin 1024) :
    k0_pay3 (k0_pay4 M) Sl Wt Rw (ix2 r k) = Rw (ix2 r k) + M (ix2 0 ⟨2048 + k.val, by omega⟩) * ∑ j : Fin 1024, Sl (ix2 j r) * Wt (ix2 j k) := by
  pointwise [k0_pay3, k0_pay4]

/-- Read back, the eight slices are the block's result. -/
theorem pieces_canon (x0 : Vec Ideal S1024x8x128 .f32) (x1 : Vec Ideal S1024x1024 .bf16) (x2 : Vec Ideal S1024x1024 .f32) (x3 : Vec Ideal S8x6144 .f32) (y : S1024x1024.Idx) :
    View.canon (pieces x0 x1 x2 x3) y = block x0 x1 x2 x3 y := by
  refine View.canon_apply_of_pieces (block x0 x1 x2 x3) (pieces x0 x1 x2 x3) ?_ y (cover4 x0 x1 x2 x3 y)
  intro p hp
  simp only [pieces, List.mem_cons, List.mem_singleton, List.not_mem_nil, or_false] at hp
  rcases hp with rfl | rfl | rfl | rfl | rfl | rfl | rfl | rfl
  · intro x
    obtain ⟨r, k, rfl⟩ : ∃ (r : Fin 128) (k : Fin 1024), x = ix2 r k := ⟨x 0, x 1, eq_ix2 x⟩
    have he : (Rect.unit (s := S1024x1024) ![896, 0] S128x1024.size inb_S1024x1024_S128x1024_896_0).emb (ix2 r k)
        = ix2 (⟨896 + r, by omega⟩ : Fin 1024) k := by
      funext a; apply Fin.ext
      match a with
      | ⟨0, _⟩ => show 896 + 1 * r.val = 896 + r.val; omega
      | ⟨1, _⟩ => show 0 + 1 * k.val = k.val; omega
    refine Eq.trans ?_ (congrArg (block x0 x1 x2 x3) he).symm
    refine (slice7 _ _ _ _ r k).trans ?_
    exact slice_eq x0 x1 x2 x3 7 r k _ (by show 896 + r.val = 128 * 7 + r.val; omega) _ rfl _ (fun j q => slab_apply x0 7168 _ 7 rfl j q)
      _ (rows128_apply x2 896 _ r k _ rfl)
  · intro x
    obtain ⟨r, k, rfl⟩ : ∃ (r : Fin 128) (k : Fin 1024), x = ix2 r k := ⟨x 0, x 1, eq_ix2 x⟩
    have he : (Rect.unit (s := S1024x1024) ![768, 0] S128x1024.size inb_S1024x1024_S128x1024_768_0).emb (ix2 r k)
        = ix2 (⟨768 + r, by omega⟩ : Fin 1024) k := by
      funext a; apply Fin.ext
      match a with
      | ⟨0, _⟩ => show 768 + 1 * r.val = 768 + r.val; omega
      | ⟨1, _⟩ => show 0 + 1 * k.val = k.val; omega
    refine Eq.trans ?_ (congrArg (block x0 x1 x2 x3) he).symm
    refine (slice6 _ _ _ _ r k).trans ?_
    exact slice_eq x0 x1 x2 x3 6 r k _ (by show 768 + r.val = 128 * 6 + r.val; omega) _ rfl _ (fun j q => slab_apply x0 6144 _ 6 rfl j q)
      _ (rows128_apply x2 768 _ r k _ rfl)
  · intro x
    obtain ⟨r, k, rfl⟩ : ∃ (r : Fin 128) (k : Fin 1024), x = ix2 r k := ⟨x 0, x 1, eq_ix2 x⟩
    have he : (Rect.unit (s := S1024x1024) ![640, 0] S128x1024.size inb_S1024x1024_S128x1024_640_0).emb (ix2 r k)
        = ix2 (⟨640 + r, by omega⟩ : Fin 1024) k := by
      funext a; apply Fin.ext
      match a with
      | ⟨0, _⟩ => show 640 + 1 * r.val = 640 + r.val; omega
      | ⟨1, _⟩ => show 0 + 1 * k.val = k.val; omega
    refine Eq.trans ?_ (congrArg (block x0 x1 x2 x3) he).symm
    refine (slice5 _ _ _ _ r k).trans ?_
    exact slice_eq x0 x1 x2 x3 5 r k _ (by show 640 + r.val = 128 * 5 + r.val; omega) _ rfl _ (fun j q => slab_apply x0 5120 _ 5 rfl j q)
      _ (rows128_apply x2 640 _ r k _ rfl)
  · intro x
    obtain ⟨r, k, rfl⟩ : ∃ (r : Fin 128) (k : Fin 1024), x = ix2 r k := ⟨x 0, x 1, eq_ix2 x⟩
    have he : (Rect.unit (s := S1024x1024) ![512, 0] S128x1024.size inb_S1024x1024_S128x1024_512_0).emb (ix2 r k)
        = ix2 (⟨512 + r, by omega⟩ : Fin 1024) k := by
      funext a; apply Fin.ext
      match a with
      | ⟨0, _⟩ => show 512 + 1 * r.val = 512 + r.val; omega
      | ⟨1, _⟩ => show 0 + 1 * k.val = k.val; omega
    refine Eq.trans ?_ (congrArg (block x0 x1 x2 x3) he).symm
    refine (slice4 _ _ _ _ r k).trans ?_
    exact slice_eq x0 x1 x2 x3 4 r k _ (by show 512 + r.val = 128 * 4 + r.val; omega) _ rfl _ (fun j q => slab_apply x0 4096 _ 4 rfl j q)
      _ (rows128_apply x2 512 _ r k _ rfl)
  · intro x
    obtain ⟨r, k, rfl⟩ : ∃ (r : Fin 128) (k : Fin 1024), x = ix2 r k := ⟨x 0, x 1, eq_ix2 x⟩
    have he : (Rect.unit (s := S1024x1024) ![384, 0] S128x1024.size inb_S1024x1024_S128x1024_384_0).emb (ix2 r k)
        = ix2 (⟨384 + r, by omega⟩ : Fin 1024) k := by
      funext a; apply Fin.ext
      match a with
      | ⟨0, _⟩ => show 384 + 1 * r.val = 384 + r.val; omega
      | ⟨1, _⟩ => show 0 + 1 * k.val = k.val; omega
    refine Eq.trans ?_ (congrArg (block x0 x1 x2 x3) he).symm
    refine (slice3 _ _ _ _ r k).trans ?_
    exact slice_eq x0 x1 x2 x3 3 r k _ (by show 384 + r.val = 128 * 3 + r.val; omega) _ rfl _ (fun j q => slab_apply x0 3072 _ 3 rfl j q)
      _ (rows128_apply x2 384 _ r k _ rfl)
  · intro x
    obtain ⟨r, k, rfl⟩ : ∃ (r : Fin 128) (k : Fin 1024), x = ix2 r k := ⟨x 0, x 1, eq_ix2 x⟩
    have he : (Rect.unit (s := S1024x1024) ![256, 0] S128x1024.size inb_S1024x1024_S128x1024_256_0).emb (ix2 r k)
        = ix2 (⟨256 + r, by omega⟩ : Fin 1024) k := by
      funext a; apply Fin.ext
      match a with
      | ⟨0, _⟩ => show 256 + 1 * r.val = 256 + r.val; omega
      | ⟨1, _⟩ => show 0 + 1 * k.val = k.val; omega
    refine Eq.trans ?_ (congrArg (block x0 x1 x2 x3) he).symm
    refine (slice2 _ _ _ _ r k).trans ?_
    exact slice_eq x0 x1 x2 x3 2 r k _ (by show 256 + r.val = 128 * 2 + r.val; omega) _ rfl _ (fun j q => slab_apply x0 2048 _ 2 rfl j q)
      _ (rows128_apply x2 256 _ r k _ rfl)
  · intro x
    obtain ⟨r, k, rfl⟩ : ∃ (r : Fin 128) (k : Fin 1024), x = ix2 r k := ⟨x 0, x 1, eq_ix2 x⟩
    have he : (Rect.unit (s := S1024x1024) ![128, 0] S128x1024.size inb_S1024x1024_S128x1024_128_0).emb (ix2 r k)
        = ix2 (⟨128 + r, by omega⟩ : Fin 1024) k := by
      funext a; apply Fin.ext
      match a with
      | ⟨0, _⟩ => show 128 + 1 * r.val = 128 + r.val; omega
      | ⟨1, _⟩ => show 0 + 1 * k.val = k.val; omega
    refine Eq.trans ?_ (congrArg (block x0 x1 x2 x3) he).symm
    refine (slice1 _ _ _ _ r k).trans ?_
    exact slice_eq x0 x1 x2 x3 1 r k _ (by show 128 + r.val = 128 * 1 + r.val; omega) _ rfl _ (fun j q => slab_apply x0 1024 _ 1 rfl j q)
      _ (rows128_apply x2 128 _ r k _ rfl)
  · intro x
    obtain ⟨r, k, rfl⟩ : ∃ (r : Fin 128) (k : Fin 1024), x = ix2 r k := ⟨x 0, x 1, eq_ix2 x⟩
    have he : (Rect.unit (s := S1024x1024) ![0, 0] S128x1024.size inb_S1024x1024_S128x1024_0_0).emb (ix2 r k)
        = ix2 (⟨0 + r, by omega⟩ : Fin 1024) k := by
      funext a; apply Fin.ext
      match a with
      | ⟨0, _⟩ => show 0 + 1 * r.val = 0 + r.val; omega
      | ⟨1, _⟩ => show 0 + 1 * k.val = k.val; omega
    refine Eq.trans ?_ (congrArg (block x0 x1 x2 x3) he).symm
    refine (slice0 _ _ _ _ r k).trans ?_
    exact slice_eq x0 x1 x2 x3 0 r k _ (by show 0 + r.val = 128 * 0 + r.val; omega) _ rfl _ (fun j q => slab_apply x0 0 _ 0 rfl j q)
      _ (rows128_apply x2 0 _ r k _ rfl)

/-- A block's result is the call's, when the block's operands are the arrays' blocks. -/
theorem block_congr (x0 : Vec Ideal S1024x8x128 .f32) (x1 : Vec Ideal S1024x1024 .bf16) (x2 : Vec Ideal S1024x1024 .f32) (x3 : Vec Ideal S8x6144 .f32)
    (ft : Vec Ideal S1024x128x128 .f32) (s : Vec Ideal S16384x1024 .f32) (mods : Vec Ideal S8x6144 .f32) (wout : Vec Ideal S1024x1024 .f32)
    (t : ℕ) (r k : Fin 1024) (n : Fin 16384) (hn : n.val = 1024 * t + r.val)
    (h0 : ∀ (j : Fin 1024) (p : Fin 8) (q : Fin 128) (n' : Fin 128), n'.val = 8 * t + p.val → x0 (ix3 j p q) = ft (ix3 j n' q))
    (h1 : ∀ j : Fin 1024, x1 (ix2 j k) = wout (ix2 j k)) (h2 : x2 (ix2 r k) = s (ix2 n k))
    (h3 : ∀ j : Fin 6144, x3 (ix2 1 j) = mods (ix2 1 j)) :
    block x0 x1 x2 x3 (ix2 r k) = FnOut.out ft s mods wout (ix2 n k) := by
  have e : (⟨n.val % 128, by omega⟩ : Fin 128) = ⟨r.val % 128, by omega⟩ := Fin.ext (by show n.val % 128 = r.val % 128; omega)
  show x2 (ix2 r k) + x3 (ix2 1 ⟨2048 + k.val, _⟩) * ∑ j : Fin 1024, x0 (ix3 j ⟨r.val / 128, _⟩ ⟨r.val % 128, _⟩) * x1 (ix2 j k)
    = s (ix2 n k) + mods (ix2 1 ⟨2048 + k.val, _⟩) * ∑ j : Fin 1024, ft (ix3 j ⟨n.val / 128, _⟩ ⟨n.val % 128, _⟩) * wout (ix2 j k)
  rw [h2, h3, e]
  refine congrArg (_ + _ * ·) (Finset.sum_congr rfl fun j _ => ?_)
  rw [h1, h0 j _ _ ⟨n.val / 128, by omega⟩ (by show n.val / 128 = 8 * t + r.val / 128; omega)]

variable (m : (ℓ : Loc nD τ sig) → Buf (Elt Ideal) ℓ) (ρ : Dev nD → PrngReg) (c : Dev nD)

/-- Argument 0. -/
abbrev ft : Vec Ideal S1024x128x128 .f32 := m ((c : Thread nD τ).loc main_arg0)
/-- Argument 1. -/
abbrev s : Vec Ideal S16384x1024 .f32 := m ((c : Thread nD τ).loc main_arg1)
/-- Argument 2. -/
abbrev mods : Vec Ideal S8x6144 .f32 := m ((c : Thread nD τ).loc main_arg2)
/-- Argument 3. -/
abbrev wout : Vec Ideal S1024x1024 .f32 := m ((c : Thread nD τ).loc main_arg3)

theorem V0 (r : Fin 1024) (k : Fin 1024) : (V m c main_v0 : Vec Ideal S1024x1024 .bf16) (ix2 r k) = wout m c (ix2 r k) := by
  unfold V
  after_reads_at

theorem lt16 (t : Fin cfg0.N) : t.val < 16 := lt_of_lt_of_eq t.isLt Gen.N_0

/-- The block indices. -/
theorem idx : ∀ t : Fin cfg0.N, win0_0.index t 0 = 0
    ∧ win0_0.index t 1 = t.val
    ∧ win0_0.index t 2 = 0
    ∧ win0_1.index t 0 = 0
    ∧ win0_1.index t 1 = 0
    ∧ win0_2.index t 0 = t.val
    ∧ win0_2.index t 1 = 0
    ∧ win0_3.index t 0 = 0
    ∧ win0_3.index t 1 = 0
    ∧ win0_4.index t 0 = t.val
    ∧ win0_4.index t 1 = 0 := by decide +kernel

theorem blk0 (t : Fin cfg0.N) (r : Fin 1024) (k : Fin 8) (j : Fin 128) (n : Fin 128) (hn : n.val = 8 * t.val + k.val) :
    (iblk m c 0 t : Vec Ideal S1024x8x128 .f32) (ix3 r k j) = ft m c (ix3 r n j) := by
  refine Eq.trans ?_ (congrFun (V_main_arg0 m c) _)
  unfold iblk
  rw [View.read_apply]
  show V m c main_arg0 _ = V m c main_arg0 _
  congr 1
  funext a
  apply Fin.ext
  match a with
  | ⟨0, _⟩ => show win0_0.index t 0 * 1024 + 1 * r.val = r.val; have := idx t; omega
  | ⟨1, _⟩ => show win0_0.index t 1 * 8 + 1 * k.val = n.val; have := idx t; omega
  | ⟨2, _⟩ => show win0_0.index t 2 * 128 + 1 * j.val = j.val; have := idx t; omega

theorem blk1 (t : Fin cfg0.N) (r : Fin 1024) (k : Fin 1024) :
    (iblk m c 1 t : Vec Ideal S1024x1024 .bf16) (ix2 r k) = wout m c (ix2 r k) := by
  rw [← V0 m c r k]
  unfold iblk
  rw [View.read_apply]
  show V m c main_v0 _ = V m c main_v0 _
  congr 1
  funext a
  apply Fin.ext
  match a with
  | ⟨0, _⟩ => show win0_1.index t 0 * 1024 + 1 * r.val = r.val; have := idx t; omega
  | ⟨1, _⟩ => show win0_1.index t 1 * 1024 + 1 * k.val = k.val; have := idx t; omega

theorem blk2 (t : Fin cfg0.N) (r : Fin 1024) (k : Fin 1024) (n : Fin 16384) (hn : n.val = 1024 * t.val + r.val) :
    (iblk m c 2 t : Vec Ideal S1024x1024 .f32) (ix2 r k) = s m c (ix2 n k) := by
  refine Eq.trans ?_ (congrFun (V_main_arg1 m c) _)
  unfold iblk
  rw [View.read_apply]
  show V m c main_arg1 _ = V m c main_arg1 _
  congr 1
  funext a
  apply Fin.ext
  match a with
  | ⟨0, _⟩ => show win0_2.index t 0 * 1024 + 1 * r.val = n.val; have := idx t; omega
  | ⟨1, _⟩ => show win0_2.index t 1 * 1024 + 1 * k.val = k.val; have := idx t; omega

theorem blk3 (t : Fin cfg0.N) (r : Fin 8) (k : Fin 6144) :
    (iblk m c 3 t : Vec Ideal S8x6144 .f32) (ix2 r k) = mods m c (ix2 r k) := by
  refine Eq.trans ?_ (congrFun (V_main_arg2 m c) _)
  unfold iblk
  rw [View.read_apply]
  show V m c main_arg2 _ = V m c main_arg2 _
  congr 1
  funext a
  apply Fin.ext
  match a with
  | ⟨0, _⟩ => show win0_3.index t 0 * 8 + 1 * r.val = r.val; have := idx t; omega
  | ⟨1, _⟩ => show win0_3.index t 1 * 6144 + 1 * k.val = k.val; have := idx t; omega

/-- What a point writes back is its block of the result. -/
theorem flushed_eq (t : Fin cfg0.N) (hf' : (cfg0.win 4).flush t = true) :
    (Hand.dats m 0 c).flushed 4 t = ((cfg0.win 4).blk t).view.read (Elt Ideal) (FnOut.out (ft m c) (s m c) (mods m c) (wout m c)) := by
  have hN := lt16 t
  have hrd : ∀ (r : Fin 1024) (k : Fin 1024) (n : Fin 16384), n.val = 1024 * t.val + r.val →
      ((cfg0.win 4).blk t).view.read (Elt Ideal) (FnOut.out (ft m c) (s m c) (mods m c) (wout m c)) (ix2 r k) = FnOut.out (ft m c) (s m c) (mods m c) (wout m c) (ix2 n k) := by
    intro r k n hn
    rw [View.read_apply]
    refine congrArg (FnOut.out (ft m c) (s m c) (mods m c) (wout m c)) ?_
    funext a
    apply Fin.ext
    match a with
    | ⟨0, _⟩ => show win0_4.index t 0 * 1024 + 1 * r.val = n.val; have := idx t; omega
    | ⟨1, _⟩ => show win0_4.index t 1 * 1024 + 1 * k.val = k.val; have := idx t; omega
  funext y
  obtain ⟨r, k, rfl⟩ : ∃ (r : Fin 1024) (k : Fin 1024), y = ix2 r k := ⟨y 0, y 1, eq_ix2 y⟩
  rw [hrd r k ⟨1024 * t.val + r.val, by omega⟩ rfl, Hand.flushed4 m c t]
  refine (pieces_canon _ _ _ _ (ix2 r k)).trans ?_
  exact block_congr _ _ _ _ (ft m c) (s m c) (mods m c) (wout m c) t.val r k _ rfl (fun j p q n hn => blk0 m c t j p q n hn) (fun j => blk1 m c t j k)
    (blk2 m c t r k _ rfl) (fun j => blk3 m c t 1 j)

/-- So the result array ends holding it: the points' blocks cover it. -/
theorem final : (Hand.dats m 0 c).arrAt 4 cfg0.N = FnOut.out (ft m c) (s m c) (mods m c) (wout m c) :=
  (Hand.dats m 0 c).arrAt_eq_of_cover 4 _ (flushed_eq m c) fun i => by
    have h0 : (i 0 : ℕ) < 16384 := (i 0).isLt
    have h1 : (i 1 : ℕ) < 1024 := (i 1).isLt
    have hb : (i 0).val / 1024 < cfg0.N := by show _ < grid0.N; rw [Gen.N_0]; omega
    refine ⟨⟨(i 0).val / 1024, hb⟩, (by decide +kernel : ∀ t : Fin cfg0.N, (cfg0.win 4).flush t = true) _, ?_⟩
    show i ∈ ((View.whole main_v1).slice (win0_4.rect ⟨(i 0).val / 1024, hb⟩)).set
    rw [View.set_slice_whole, Rect.mem_set_unit]
    intro a
    have hi := idx ⟨(i 0).val / 1024, hb⟩
    dsimp only at hi
    match a with
    | ⟨0, _⟩ => show win0_4.index ⟨(i 0).val / 1024, hb⟩ 0 * 1024 ≤ (i 0 : ℕ) ∧ (i 0 : ℕ) < win0_4.index ⟨(i 0).val / 1024, hb⟩ 0 * 1024 + 1024; omega
    | ⟨1, _⟩ => show win0_4.index ⟨(i 0).val / 1024, hb⟩ 1 * 1024 ≤ (i 1 : ℕ) ∧ (i 1 : ℕ) < win0_4.index ⟨(i 0).val / 1024, hb⟩ 1 * 1024 + 1024; omega

end Cert.Kernel7Ideal.Array

namespace Cert.Reference7Ideal.Layer
open Idealize.ShloMosaic Idealize.ShloMosaic.TcCoe Idealize.SL.Sem Cert.Reference7Ideal Cert.Reference7Ideal.Gen Cert.Reference7Ideal.Read

variable (x0 : Vec Ideal S1024x128x128 .f32) (x1 : Vec Ideal S16384x1024 .f32) (x2 : Vec Ideal S8x6144 .f32) (x3 : Vec Ideal S1024x1024 .f32)

/-- The reference's result is the same function. -/
theorem result_eq : (val_main_v12 (F := Ideal) x0 x1 x2 x3) = FnOut.out x0 x1 x2 x3 := by
  funext y
  obtain ⟨r, k, rfl⟩ : ∃ (r : Fin 16384) (k : Fin 1024), y = ix2 r k := ⟨y 0, y 1, eq_ix2 y⟩
  unfold FnOut.out
  pointwise [val_main_v12, val_main_v11, val_main_v10, val_main_v3, val_main_v0, val_main_v9, val_main_v8, val_main_v7]

end Cert.Reference7Ideal.Layer

namespace Cert.Proof

open Idealize.ShloMosaic Idealize.SL.Sem

/-- The output call of the Fourier layer runs and leaves its arguments unchanged. -/
theorem frame_Kernel7 : Cert.quiescent_Kernel7 (hKernel7 := Cert.Kernel7.Gen.facts) := fun m ρ _ => Cert.Kernel7.Hand.frame_run m ρ

/-- So does its idealization. -/
theorem frame_Kernel7Ideal : Cert.quiescent_Kernel7Ideal (hKernel7Ideal := Cert.Kernel7Ideal.Gen.facts) :=
  fun m ρ _ => Cert.Kernel7Ideal.Hand.frame_run m ρ

/-- So does the reference; it declares no semaphore. -/
theorem frame_Reference7Ideal : Cert.quiescent_Reference7Ideal (hReference7Ideal := Cert.Reference7Ideal.Gen.facts) := fun m ρ _ =>
  (θ_run Cert.Reference7Ideal.defs _ _).mono
    (fun r h => ⟨fun c => (h c).2, Idealize.ShloMosaic.sem_eq_zero_of_no_sems (by decide) r.2⟩)
    (Cert.Reference7Ideal.Value.run (F := Ideal) m ρ)

/-- Both results are `FnOut.out` of the arguments. -/
theorem algebraic_Kernel7 : Cert.algebraic_Kernel7Ideal_Reference7Ideal
    (hKernel7Ideal := Cert.Kernel7Ideal.Gen.facts) (hReference7Ideal := Cert.Reference7Ideal.Gen.facts) := by
  intro m ρ m' ρ' _ hagree
  refine ⟨fun c => FnOut.out (m ((c.tc : Thread _ _).loc Cert.Kernel7Ideal.main_arg0)) (m ((c.tc : Thread _ _).loc Cert.Kernel7Ideal.main_arg1)) (m ((c.tc : Thread _ _).loc Cert.Kernel7Ideal.main_arg2)) (m ((c.tc : Thread _ _).loc Cert.Kernel7Ideal.main_arg3)), ?_, ?_⟩
  · exact (θ_run Cert.Kernel7Ideal.defs _ _).mono
      (fun r h c => ⟨(h c).1.trans (Cert.Kernel7Ideal.Array.final m c), (h c).2⟩) (Cert.Kernel7Ideal.Hand.run_blocks m ρ)
  · refine (θ_run Cert.Reference7Ideal.defs _ _).mono (fun r h c => ⟨?_, (h c).2⟩) (Cert.Reference7Ideal.Value.run (F := Ideal) m' ρ')
    obtain ⟨h0, h1, h2, h3⟩ := hagree c
    refine ((h c).1.trans ((Cert.Reference7Ideal.Read.val_main_v12_eq (F := Ideal) _ _ _ _).trans
      (Cert.Reference7Ideal.Layer.result_eq _ _ _ _))).trans ?_
    rw [h0, h1, h2, h3]

end Cert.Proof
end
end
-- ==== Proof.FnProjKitIdeal.lean ====
/- The first call of the Fourier layer: the call up to its launch — what its arrays hold there, each window's block at a grid point, and the
   frame from any run to the pipeline's final contents. -/
module

public import proofs.«01_k».proof.Proof.Gen.Kernel8Ideal.Launch
public import proofs.«01_k».proof.Proof.Gen.Kernel8Ideal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel8Ideal.Hand

open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame: a run to the pipeline's final contents leaves every argument array as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 4).trans (((dats 0 c).arrAt_in 4 rfl _).trans ((hA c 4).trans (V_main_arg4 m c)))⟩) h

end Cert.Kernel8Ideal.Hand

end
-- ==== Proof.FnProjRunIdeal.lean ====
/- The Fourier layer's first call (`Kernel8Ideal`): one run of its kernel body, from what its first loop leaves in the two staging
   buffers to what its second loop stores into the two output blocks. -/
module

public import proofs.«01_k».proof.Proof.FnProjKitIdeal
public import proofs.«01_k».proof.Proof.Gen.Kernel8Ideal.Skeleton
public import Idealize.ShloMosaic.Lib.Pipeline.Value
public import Idealize.ShloMosaic.Lib.WholeRead
public import Idealize.ShloMosaic.Lib.Pointwise

@[expose] public section

set_option maxRecDepth 16384

noncomputable section

namespace Cert.Kernel8Ideal.Hand

open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem trips1_eq : k0_t1_loop.trips = 4 := by decide

theorem trips2_eq : k0_t2_loop.trips = 1024 := by decide

/-! ## The first loop: trip `k` transforms 256 tokens, and stages them in two slabs of 1024 rows -/

/-- Where a trip stores group `g` of its tokens' half `q`: 256 rows of slab `2 k + q`, from row `256 g`. -/
abbrev rect3 (k : Fin k0_t1_loop.trips) (q : Fin 2) (g : Fin 4) : Rect S8192x128 :=
  Rect.unit (s := S8192x128) (k0_off3 k (BitVec.ofNat 32 q.val) (BitVec.ofNat 32 (256 * g.val))) S256x128.size (k0_off3_inb k q g)

/-- The cosine rows of the transform of group `g`, of half `q` of the trip's tokens. -/
def valA (v2 : Vec F S1x6144 .f32) (v5 : Vec F S512x256 .f32) (v12 : Vec F S256x1024 .f32) (v13 : Vec F S1x1024 .f32)
    (v33 : Vec F S1024x1024 .bf16) (q : Fin 2) (g : Fin 4) : Vec F S256x128 .f32 :=
  match q, g with
  | 0, 0 => k0_pay8 (k0_pay1 v2) (k0_pay2 v2) (k0_pay3 v5) v12 v13 v33
  | 1, 0 => k0_pay10 (k0_pay7 (k0_pay1 v2) (k0_pay2 v2) (k0_pay3 v5) v12 v13 v33)
  | 0, 1 => k0_pay13 (k0_pay3 v5) (k0_pay6 (k0_pay1 v2) (k0_pay2 v2) v12 v13 v33)
  | 1, 1 => k0_pay15 (k0_pay12 (k0_pay3 v5) (k0_pay6 (k0_pay1 v2) (k0_pay2 v2) v12 v13 v33))
  | 0, 2 => k0_pay18 (k0_pay3 v5) (k0_pay6 (k0_pay1 v2) (k0_pay2 v2) v12 v13 v33)
  | 1, 2 => k0_pay20 (k0_pay3 v5) (k0_pay6 (k0_pay1 v2) (k0_pay2 v2) v12 v13 v33)
  | 0, 3 => k0_pay23 (k0_pay3 v5) (k0_pay6 (k0_pay1 v2) (k0_pay2 v2) v12 v13 v33)
  | 1, 3 => k0_pay25 (k0_pay3 v5) (k0_pay6 (k0_pay1 v2) (k0_pay2 v2) v12 v13 v33)

/-- The sine rows. -/
def valB (v2 : Vec F S1x6144 .f32) (v5 : Vec F S512x256 .f32) (v12 : Vec F S256x1024 .f32) (v13 : Vec F S1x1024 .f32)
    (v33 : Vec F S1024x1024 .bf16) (q : Fin 2) (g : Fin 4) : Vec F S256x128 .f32 :=
  match q, g with
  | 0, 0 => k0_pay9 (k0_pay7 (k0_pay1 v2) (k0_pay2 v2) (k0_pay3 v5) v12 v13 v33)
  | 1, 0 => k0_pay11 (k0_pay7 (k0_pay1 v2) (k0_pay2 v2) (k0_pay3 v5) v12 v13 v33)
  | 0, 1 => k0_pay14 (k0_pay3 v5) (k0_pay6 (k0_pay1 v2) (k0_pay2 v2) v12 v13 v33)
  | 1, 1 => k0_pay16 (k0_pay12 (k0_pay3 v5) (k0_pay6 (k0_pay1 v2) (k0_pay2 v2) v12 v13 v33))
  | 0, 2 => k0_pay19 (k0_pay3 v5) (k0_pay6 (k0_pay1 v2) (k0_pay2 v2) v12 v13 v33)
  | 1, 2 => k0_pay21 (k0_pay17 (k0_pay3 v5) (k0_pay6 (k0_pay1 v2) (k0_pay2 v2) v12 v13 v33))
  | 0, 3 => k0_pay24 (k0_pay3 v5) (k0_pay6 (k0_pay1 v2) (k0_pay2 v2) v12 v13 v33)
  | 1, 3 => k0_pay26 (k0_pay3 v5) (k0_pay6 (k0_pay1 v2) (k0_pay2 v2) v12 v13 v33)

/-- The eight (half, group) pairs of a trip, in the reverse of the order in which they are stored. -/
def order : List (Fin 2 × Fin 4) := [(1, 3), (0, 3), (1, 2), (0, 2), (1, 1), (0, 1), (1, 0), (0, 0)]

theorem mem_order (q : Fin 2) (g : Fin 4) : (q, g) ∈ order := by revert q g; decide

/-- The stores of trip `k`, the newest first, of values `val`. -/
def slice (val : Fin 2 → Fin 4 → Vec F S256x128 .f32) (k : Fin k0_t1_loop.trips) : List (View.Piece (Elt F) S8192x128 .f32) :=
  order.map fun p => ⟨rect3 k p.1 p.2, val p.1 p.2⟩

/-- The stores of the trips before `n`, the newest first, when trip `k` stores the values `val k`. -/
def rows (val : Fin k0_t1_loop.trips → Fin 2 → Fin 4 → Vec F S256x128 .f32) : ℕ → List (View.Piece (Elt F) S8192x128 .f32)
  | 0 => []
  | n + 1 => if h : n < k0_t1_loop.trips then slice (val ⟨n, h⟩) ⟨n, h⟩ ++ rows val n else rows val n

theorem rows_succ (val : Fin k0_t1_loop.trips → Fin 2 → Fin 4 → Vec F S256x128 .f32) (k : Fin k0_t1_loop.trips) :
    rows val (k.val + 1) = slice (val k) k ++ rows val k.val := by
  rw [rows, dif_pos k.isLt]

theorem mem_rows (val : Fin k0_t1_loop.trips → Fin 2 → Fin 4 → Vec F S256x128 .f32) (n : ℕ)
    (p : View.Piece (Elt F) S8192x128 .f32) (hp : p ∈ rows val n) : ∃ k q g, p = ⟨rect3 k q g, val k q g⟩ := by
  induction n with
  | zero => exact absurd hp List.not_mem_nil
  | succ n ih =>
    rw [rows] at hp
    split at hp
    · rcases List.mem_append.mp hp with hp | hp
      · obtain ⟨qg, -, rfl⟩ := List.mem_map.mp hp
        exact ⟨_, _, _, rfl⟩
      · exact ih hp
    · exact ih hp

/-- Every trip before `n` has made its stores. -/
theorem rows_mem (val : Fin k0_t1_loop.trips → Fin 2 → Fin 4 → Vec F S256x128 .f32) (n : ℕ)
    (k : Fin k0_t1_loop.trips) (hk : k.val < n) (q : Fin 2) (g : Fin 4) :
    (⟨rect3 k q g, val k q g⟩ : View.Piece (Elt F) S8192x128 .f32) ∈ rows val n := by
  induction n with
  | zero => exact absurd hk (Nat.not_lt_zero _)
  | succ n ih =>
    rw [rows]
    by_cases h : n < k0_t1_loop.trips
    · rw [dif_pos h]
      by_cases e : k.val = n
      · obtain ⟨k, hk'⟩ := k
        obtain rfl : k = n := e
        exact List.mem_append_left _ (List.mem_map.mpr ⟨(q, g), mem_order q g, rfl⟩)
      · exact List.mem_append_right _ (ih (by omega))
    · rw [dif_neg h]
      exact ih (by have := k.isLt; omega)

/-- Trip `k`'s values, its operands read from the buffers that hold them. -/
abbrev readVal (val : Vec F S1x6144 .f32 → Vec F S512x256 .f32 → Vec F S256x1024 .f32 → Vec F S1x1024 .f32 → Vec F S1024x1024 .bf16 →
      Fin 2 → Fin 4 → Vec F S256x128 .f32)
    (arg1 : Memref sig .tc .vmem S1024x1024 .f32) (arg3 : Memref sig .tc .vmem S1x1024 .f32) (arg4 : Memref sig .tc .vmem S1024x1024 .bf16)
    (v2 : Vec F S1x6144 .f32) (v5 : Vec F S512x256 .f32)
    (X1 : BufTy.Contents (Elt F) arg1.view.ty) (X3 : BufTy.Contents (Elt F) arg3.view.ty) (X4 : BufTy.Contents (Elt F) arg4.view.ty)
    (k : Fin k0_t1_loop.trips) : Fin 2 → Fin 4 → Vec F S256x128 .f32 :=
  val v2 v5 (arg1.view.readAt (Elt F) (Rect.unit (s := S1024x1024) (k0_off2 k) S256x1024.size (k0_off2_inb k)).toLoadRect X1)
    (arg3.view.readAt (Elt F) (Rect.unit (s := S1x1024) ![0, 0] S1x1024.size inb_S1x1024_S1x1024_0_0).toLoadRect X3)
    (arg4.view.readAt (Elt F) (Rect.unit (s := S1024x1024) ![0, 0] S1024x1024.size inb_S1024x1024_S1024x1024_0_0).toLoadRect X4)

set_option maxHeartbeats 1000000 in
set_option warn.classDefReducibility false in
/-- The first loop by its invariant: the operands are only read, and before trip `k` the staging buffers hold the stores of the
    trips before it over what they held at first. -/
@[sl_loop] def loopInv1 (𝒱 : Variants) (c : Dev nD) (bd : Option 𝒱.V) (E : Set ℕ) (i : grid0.Coords) (arg1 : Memref sig .tc .vmem S1024x1024 .f32) (harg1 : arg1.IsWhole) (arg2 : Memref sig .tc .vmem S8x6144 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S512x256 .f32) (harg5 : arg5.IsWhole) (arg6 : Memref sig .tc .vmem S1024x8x128 .f32) (harg6 : arg6.IsWhole) (arg7 : Memref sig .tc .vmem S1024x8x128 .f32) (harg7 : arg7.IsWhole) (arg8 : Memref sig .tc .vmem S8192x128 .f32) (harg8 : arg8.IsWhole) (arg9 : Memref sig .tc .vmem S8192x128 .f32) (harg9 : arg9.IsWhole)
    (v2 : Vec F S1x6144 .f32) (v5 : Vec F S512x256 .f32)
    (X1 : BufTy.Contents (Elt F) arg1.view.ty) (X3 : BufTy.Contents (Elt F) arg3.view.ty) (X4 : BufTy.Contents (Elt F) arg4.view.ty)
    (G8 : BufTy.Contents (Elt F) arg8.view.ty) (G9 : BufTy.Contents (Elt F) arg9.view.ty) :
    Idealize.ShloMosaic.LoopInv (M := MT nD τ sig Unit (Elt F) ℕ (UR sig nD τ) ℕ) Idealize.ShloMosaic.frame (wpE defs₀ 𝒱 (c : Thread nD τ) bd) E
      k0_t1_loop.lb k0_t1_loop.ub k0_t1_loop.st k0_t1_ok () (k0_t1_body (F := F) i arg1 harg1 arg2 harg2 arg3 harg3 arg4 harg4 arg5 harg5 arg6 harg6 arg7 harg7 arg8 harg8 arg9 harg9 v2 v5) where
  inv k _ := iprop((arg1.view.loc (c : Thread nD τ) ↦[arg1.view.set]{fullShare} X1)
    ∗ (arg3.view.loc (c : Thread nD τ) ↦[arg3.view.set]{fullShare} X3)
    ∗ (arg4.view.loc (c : Thread nD τ) ↦[arg4.view.set]{fullShare} X4)
    ∗ (∃ f, (arg8.view.loc (c : Thread nD τ) ↦[arg8.view.set]{fullShare} f)
        ∗ ⌜f = arg8.view.writes (Elt F) G8 (rows (readVal valA arg1 arg3 arg4 v2 v5 X1 X3 X4) k)⌝)
    ∗ (∃ f, (arg9.view.loc (c : Thread nD τ) ↦[arg9.view.set]{fullShare} f)
        ∗ ⌜f = arg9.view.writes (Elt F) G9 (rows (readVal valB arg1 arg3 arg4 v2 v5 X1 X3 X4) k)⌝))
  step k acc := by
    have hk : k.val < 4 := Nat.lt_of_lt_of_le k.isLt k0_t1_abs.2.1
    unfold k0_t1_body
    simp only [k0_part4_eq_skeleton]; unfold k0_part4_skel
    simp only [k0_part1_eq_skeleton, k0_part2_eq_skeleton, k0_part3_eq_skeleton]
    iintro ⟨HX1, HX3, HX4, ⟨%f8, HA, %hA⟩, ⟨%f9, HB, %hB⟩⟩
    subst hA
    subst hB
    sl_exec
    sl_step
    isplitl [HX1]; · iexact HX1
    isplitl [HX3]; · iexact HX3
    isplitl [HX4]; · iexact HX4
    isplitl [HA]
    · iexists _; isplitl [HA]; · iexact HA
      ipureintro
      rw [rows_succ]
      rfl
    · iexists _; isplitl [HB]; · iexact HB
      ipureintro
      rw [rows_succ]
      rfl

/-! ## What the staging buffers hold after the first loop -/

/-- The trip, half and group that row `n` of a staging buffer belongs to (the last eight rows of a slab are never asked for). -/
def trip1 (n : ℕ) : Fin k0_t1_loop.trips := ⟨n / 2048 % 4, (Nat.mod_lt _ (by decide)).trans_eq trips1_eq.symm⟩

def half (n : ℕ) : Fin 2 := ⟨n / 1024 % 2, Nat.mod_lt _ (by decide)⟩

def group (n : ℕ) : Fin 4 := ⟨n % 1024 / 256 % 4, Nat.mod_lt _ (by decide)⟩

/-- What a staging buffer is meant to hold, trip `k` having stored the values `val k`. -/
def stag (val : Fin k0_t1_loop.trips → Fin 2 → Fin 4 → Vec F S256x128 .f32) : S8192x128.Idx → Elt F .f32 := fun y =>
  val (trip1 (y 0).val) (half (y 0).val) (group (y 0).val) (ix2 ⟨(y 0).val % 1024 % 256, Nat.mod_lt _ (by decide)⟩ (y 1))

theorem coord3 (k : Fin k0_t1_loop.trips) (q : Fin 2) (g : Fin 4) (x : S256x128.Idx) :
    ((rect3 k q g).emb x 0).val = 2048 * k.val + 1024 * q.val + 256 * g.val + (x 0).val ∧ ((rect3 k q g).emb x 1).val = (x 1).val := by
  constructor
  · show k0_off3 k (BitVec.ofNat 32 q.val) (BitVec.ofNat 32 (256 * g.val)) 0 + 1 * (x 0).val = _
    rw [k0_off3_eq]; show 2048 * k.val + 1024 * q.val + 256 * g.val + 1 * (x 0).val = _; omega
  · show k0_off3 k (BitVec.ofNat 32 q.val) (BitVec.ofNat 32 (256 * g.val)) 1 + 1 * (x 1).val = _
    rw [k0_off3_eq]; show 0 + 1 * (x 1).val = _; omega

/-- A staging row's trip, half, group and row within the group. -/
theorem row_arith (k q g d n : ℕ) (hn : n = 2048 * k + 1024 * q + 256 * g + d) (hk : k < 4) (hq : q < 2) (hg : g < 4) (hd : d < 256) :
    n / 2048 % 4 = k ∧ n / 1024 % 2 = q ∧ n % 1024 / 256 % 4 = g ∧ n % 1024 % 256 = d := by
  have a1 : n / 1024 = 2 * k + q := by
    rw [hn, show 2048 * k + 1024 * q + 256 * g + d = 1024 * (2 * k + q) + (256 * g + d) by omega, Nat.mul_add_div (by decide),
      Nat.div_eq_of_lt (by omega : 256 * g + d < 1024), Nat.add_zero]
  have a2 : n % 1024 = 256 * g + d := by
    rw [hn, show 2048 * k + 1024 * q + 256 * g + d = 1024 * (2 * k + q) + (256 * g + d) by omega, Nat.mul_add_mod,
      Nat.mod_eq_of_lt (by omega : 256 * g + d < 1024)]
  have a3 : n / 2048 = k := by
    rw [show n / 2048 = n / 1024 / 2 by rw [Nat.div_div_eq_div_mul], a1]; omega
  rw [a1, a2, a3]
  refine ⟨by omega, by omega, by omega, by omega⟩

/-- At an index that a store reaches, it is what the store holds there. -/
theorem stag_emb (val : Fin k0_t1_loop.trips → Fin 2 → Fin 4 → Vec F S256x128 .f32) (k : Fin k0_t1_loop.trips) (q : Fin 2) (g : Fin 4)
    (x : S256x128.Idx) : stag val ((rect3 k q g).emb x) = val k q g x := by
  obtain ⟨e0, e1⟩ := coord3 k q g x
  have hk : k.val < 4 := lt_of_lt_of_eq k.isLt trips1_eq
  have hx : (x 0).val < 256 := (x 0).isLt
  obtain ⟨b1, b2, b3, b4⟩ := row_arith k.val q.val g.val (x 0).val _ e0 hk q.isLt g.isLt hx
  have a1 : trip1 ((rect3 k q g).emb x 0).val = k := Fin.ext b1
  have a2 : half ((rect3 k q g).emb x 0).val = q := Fin.ext b2
  have a3 : group ((rect3 k q g).emb x 0).val = g := Fin.ext b3
  have a4 : (ix2 (⟨((rect3 k q g).emb x 0).val % 1024 % 256, Nat.mod_lt _ (by decide)⟩ : Fin 256) ((rect3 k q g).emb x 1 : Fin 128)) = x := by
    funext a
    match a with
    | ⟨0, _⟩ => exact Fin.ext b4
    | ⟨1, _⟩ => exact Fin.ext e1
  show val (trip1 ((rect3 k q g).emb x 0).val) (half ((rect3 k q g).emb x 0).val) (group ((rect3 k q g).emb x 0).val) _ = _
  rw [a1, a2, a3]
  exact congrArg (val k q g) a4

/-- After the loop a staging row that some store reaches holds what it is meant to. -/
theorem read_rows (arg : Memref sig .tc .vmem S8192x128 .f32) (val : Fin k0_t1_loop.trips → Fin 2 → Fin 4 → Vec F S256x128 .f32)
    (G : BufTy.Contents (Elt F) arg.view.ty) (n : ℕ) (hn : n = k0_t1_loop.trips) (y : S8192x128.Idx) (hy : (y 0).val % 1024 < 1024) :
    arg.view.read (Elt F) (arg.view.writes (Elt F) G (rows val n)) y = stag val y := by
  have h0 : (y 0).val < 8192 := (y 0).isLt
  have ht : k0_t1_loop.trips = 4 := trips1_eq
  refine View.read_writes_apply_of_pieces _ _ (stag val) _ ?_ y ?_
  · intro p hp x
    obtain ⟨k, q, g, rfl⟩ := mem_rows _ _ _ hp
    exact (stag_emb val k q g x).symm
  · obtain ⟨k, hk⟩ : ∃ k : Fin k0_t1_loop.trips, k.val = (y 0).val / 2048 := ⟨⟨(y 0).val / 2048, by omega⟩, rfl⟩
    obtain ⟨q, hq⟩ : ∃ q : Fin 2, q.val = (y 0).val / 1024 % 2 := ⟨⟨(y 0).val / 1024 % 2, by omega⟩, rfl⟩
    obtain ⟨g, hg⟩ : ∃ g : Fin 4, g.val = (y 0).val % 1024 / 256 := ⟨⟨(y 0).val % 1024 / 256, by omega⟩, rfl⟩
    refine ⟨_, rows_mem val n k (by have := k.isLt; omega) q g, ?_⟩
    rw [Rect.mem_set_unit]
    intro a
    match a with
    | ⟨0, _⟩ =>
      show k0_off3 k (BitVec.ofNat 32 q.val) (BitVec.ofNat 32 (256 * g.val)) 0 ≤ (y 0).val ∧ (y 0).val < k0_off3 k (BitVec.ofNat 32 q.val) (BitVec.ofNat 32 (256 * g.val)) 0 + 256
      rw [k0_off3_eq]
      show 2048 * k.val + 1024 * q.val + 256 * g.val ≤ (y 0).val ∧ (y 0).val < 2048 * k.val + 1024 * q.val + 256 * g.val + 256
      omega
    | ⟨1, _⟩ =>
      have h1 : (y 1).val < 128 := (y 1).isLt
      show k0_off3 k (BitVec.ofNat 32 q.val) (BitVec.ofNat 32 (256 * g.val)) 1 ≤ (y 1).val ∧ (y 1).val < k0_off3 k (BitVec.ofNat 32 q.val) (BitVec.ofNat 32 (256 * g.val)) 1 + 128
      rw [k0_off3_eq]
      show 0 ≤ (y 1).val ∧ (y 1).val < 0 + 128
      omega

/-! ## The second loop: trip `m` gathers row `m` of each of the eight slabs into channel `m` of the output block -/

/-- What trip `k` gathers. -/
abbrev gather (arg : Memref sig .tc .vmem S8192x128 .f32) (A : BufTy.Contents (Elt F) arg.view.ty) (k : Fin k0_t2_loop.trips) : Vec F S8x128 .f32 :=
  arg.view.readAt (Elt F) (⟨k0_off4 k, S8x128.size, ![1024, 1], (k0_off4_inb k)⟩ : LoadRect S8192x128) A

abbrev rect5 (k : Fin k0_t2_loop.trips) : Rect S1024x8x128 := Rect.unit (s := S1024x8x128) (k0_off5 k) S1x8x128.size (k0_off5_inb k)

/-- The stores of the trips before `n`, the newest first. -/
def chans (pay : Vec F S8x128 .f32 → FVec F S1x8x128 .f32) (arg : Memref sig .tc .vmem S8192x128 .f32) (A : BufTy.Contents (Elt F) arg.view.ty) :
    ℕ → List (View.Piece (Elt F) S1024x8x128 .f32)
  | 0 => []
  | n + 1 => if h : n < k0_t2_loop.trips then ⟨rect5 ⟨n, h⟩, pay (gather arg A ⟨n, h⟩)⟩ :: chans pay arg A n else chans pay arg A n

theorem chans_succ (pay : Vec F S8x128 .f32 → FVec F S1x8x128 .f32) (arg : Memref sig .tc .vmem S8192x128 .f32) (A : BufTy.Contents (Elt F) arg.view.ty)
    (k : Fin k0_t2_loop.trips) : chans pay arg A (k.val + 1) = ⟨rect5 k, pay (gather arg A k)⟩ :: chans pay arg A k.val := by
  rw [chans, dif_pos k.isLt]

theorem mem_chans (pay : Vec F S8x128 .f32 → FVec F S1x8x128 .f32) (arg : Memref sig .tc .vmem S8192x128 .f32) (A : BufTy.Contents (Elt F) arg.view.ty) (n : ℕ)
    (p : View.Piece (Elt F) S1024x8x128 .f32) (hp : p ∈ chans pay arg A n) : ∃ k, p = ⟨rect5 k, pay (gather arg A k)⟩ := by
  induction n with
  | zero => exact absurd hp List.not_mem_nil
  | succ n ih =>
    rw [chans] at hp
    split at hp
    · rcases List.mem_cons.mp hp with rfl | hp
      · exact ⟨_, rfl⟩
      · exact ih hp
    · exact ih hp

theorem chans_mem (pay : Vec F S8x128 .f32 → FVec F S1x8x128 .f32) (arg : Memref sig .tc .vmem S8192x128 .f32) (A : BufTy.Contents (Elt F) arg.view.ty) (n : ℕ)
    (k : Fin k0_t2_loop.trips) (hk : k.val < n) :
    (⟨rect5 k, pay (gather arg A k)⟩ : View.Piece (Elt F) S1024x8x128 .f32) ∈ chans pay arg A n := by
  induction n with
  | zero => exact absurd hk (Nat.not_lt_zero _)
  | succ n ih =>
    rw [chans]
    by_cases h : n < k0_t2_loop.trips
    · rw [dif_pos h]
      by_cases e : k.val = n
      · obtain ⟨k, hk'⟩ := k
        obtain rfl : k = n := e
        exact List.mem_cons_self
      · exact List.mem_cons_of_mem _ (ih (by omega))
    · rw [dif_neg h]
      exact ih (by have := k.isLt; omega)

set_option warn.classDefReducibility false in
/-- The second loop by its invariant: the staging buffers are only read, and before trip `k` the output blocks hold the stores
    of the trips before it over what they held at first. -/
@[sl_loop] def loopInv2 (𝒱 : Variants) (c : Dev nD) (bd : Option 𝒱.V) (E : Set ℕ) (i : grid0.Coords) (arg1 : Memref sig .tc .vmem S1024x1024 .f32) (harg1 : arg1.IsWhole) (arg2 : Memref sig .tc .vmem S8x6144 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S512x256 .f32) (harg5 : arg5.IsWhole) (arg6 : Memref sig .tc .vmem S1024x8x128 .f32) (harg6 : arg6.IsWhole) (arg7 : Memref sig .tc .vmem S1024x8x128 .f32) (harg7 : arg7.IsWhole) (arg8 : Memref sig .tc .vmem S8192x128 .f32) (harg8 : arg8.IsWhole) (arg9 : Memref sig .tc .vmem S8192x128 .f32) (harg9 : arg9.IsWhole)
    (A : BufTy.Contents (Elt F) arg8.view.ty) (B : BufTy.Contents (Elt F) arg9.view.ty)
    (G6 : BufTy.Contents (Elt F) arg6.view.ty) (G7 : BufTy.Contents (Elt F) arg7.view.ty) :
    Idealize.ShloMosaic.LoopInv (M := MT nD τ sig Unit (Elt F) ℕ (UR sig nD τ) ℕ) Idealize.ShloMosaic.frame (wpE defs₀ 𝒱 (c : Thread nD τ) bd) E
      k0_t2_loop.lb k0_t2_loop.ub k0_t2_loop.st k0_t2_ok () (k0_t2_body (F := F) i arg1 harg1 arg2 harg2 arg3 harg3 arg4 harg4 arg5 harg5 arg6 harg6 arg7 harg7 arg8 harg8 arg9 harg9) where
  inv k _ := iprop((arg8.view.loc (c : Thread nD τ) ↦[arg8.view.set]{fullShare} A)
    ∗ (arg9.view.loc (c : Thread nD τ) ↦[arg9.view.set]{fullShare} B)
    ∗ (∃ f, (arg6.view.loc (c : Thread nD τ) ↦[arg6.view.set]{fullShare} f) ∗ ⌜f = arg6.view.writes (Elt F) G6 (chans k0_pay4 arg8 A k)⌝)
    ∗ (∃ f, (arg7.view.loc (c : Thread nD τ) ↦[arg7.view.set]{fullShare} f) ∗ ⌜f = arg7.view.writes (Elt F) G7 (chans k0_pay5 arg9 B k)⌝))
  step k acc := by
    have hk : k.val < 1024 := Nat.lt_of_lt_of_le k.isLt k0_t2_abs.2.1
    unfold k0_t2_body
    iintro ⟨HA, HB, ⟨%f6, H6, %h6⟩, ⟨%f7, H7, %h7⟩⟩
    subst h6
    subst h7
    sl_exec
    sl_step
    isplitl [HA]; · iexact HA
    isplitl [HB]; · iexact HB
    isplitl [H6]
    · iexists _; isplitl [H6]; · iexact H6
      ipureintro
      rw [chans_succ]
    · iexists _; isplitl [H7]; · iexact H7
      ipureintro
      rw [chans_succ]

/-- What an output block is meant to hold, from what the staging buffer holds: channel `m` gathers row `m` of the slabs. -/
def outOf (pay : Vec F S8x128 .f32 → FVec F S1x8x128 .f32) (S : S8192x128.Idx → Elt F .f32) : Vec F S1024x8x128 .f32 := fun y =>
  pay (fun z => S (ix2 ⟨1024 * (z 0).val + (y 0).val, by
    have h0 : (z 0).val < 8 := (z 0).isLt
    have h1 : (y 0).val < 1024 := (y 0).isLt
    omega⟩ (z 1))) (ix3 0 (y 1) (y 2))

theorem coord5 (k : Fin k0_t2_loop.trips) (x : S1x8x128.Idx) :
    ((rect5 k).emb x 0).val = k.val ∧ ((rect5 k).emb x 1).val = (x 1).val ∧ ((rect5 k).emb x 2).val = (x 2).val := by
  have hx : (x 0).val < 1 := (x 0).isLt
  refine ⟨?_, ?_, ?_⟩
  · show k0_off5 k 0 + 1 * (x 0).val = _
    rw [k0_off5_eq]; show k.val + 1 * (x 0).val = _; omega
  · show k0_off5 k 1 + 1 * (x 1).val = _
    rw [k0_off5_eq]; show 0 + 1 * (x 1).val = _; omega
  · show k0_off5 k 2 + 1 * (x 2).val = _
    rw [k0_off5_eq]; show 0 + 1 * (x 2).val = _; omega

theorem gather_eq (arg : Memref sig .tc .vmem S8192x128 .f32) (A : BufTy.Contents (Elt F) arg.view.ty) (S : S8192x128.Idx → Elt F .f32)
    (hS : ∀ y : S8192x128.Idx, (y 0).val % 1024 < 1024 → arg.view.read (Elt F) A y = S y) (k : Fin k0_t2_loop.trips) (n : Fin 1024) (hn : n.val = k.val) :
    gather arg A k = fun z => S (ix2 ⟨1024 * (z 0).val + n.val, by
      have h0 : (z 0).val < 8 := (z 0).isLt
      omega⟩ (z 1)) := by
  funext z
  have h0 : (z 0).val < 8 := (z 0).isLt
  have hz : (⟨k0_off4 k, S8x128.size, ![1024, 1], (k0_off4_inb k)⟩ : LoadRect S8192x128).idx z
      = ix2 (⟨1024 * (z 0).val + n.val, by omega⟩ : Fin 8192) (z 1 : Fin 128) := by
    funext a
    apply Fin.ext
    match a with
    | ⟨0, _⟩ =>
      show k0_off4 k 0 + 1024 * (z 0).val = 1024 * (z 0).val + n.val
      rw [k0_off4_eq]; show k.val + 1024 * (z 0).val = _; omega
    | ⟨1, _⟩ =>
      show k0_off4 k 1 + 1 * (z 1).val = (z 1).val
      rw [k0_off4_eq]; show 0 + 1 * (z 1).val = _; omega
  refine Eq.trans (b := arg.view.read (Elt F) A ((⟨k0_off4 k, S8x128.size, ![1024, 1], (k0_off4_inb k)⟩ : LoadRect S8192x128).idx z)) rfl ?_
  rw [hz]
  refine hS _ ?_
  show (1024 * (z 0).val + n.val) % 1024 < 1024
  have := n.isLt
  omega

/-- After the loop the output block holds what it is meant to. -/
theorem read_chans (pay : Vec F S8x128 .f32 → FVec F S1x8x128 .f32) (arg : Memref sig .tc .vmem S8192x128 .f32) (A : BufTy.Contents (Elt F) arg.view.ty)
    (S : S8192x128.Idx → Elt F .f32) (hS : ∀ y : S8192x128.Idx, (y 0).val % 1024 < 1024 → arg.view.read (Elt F) A y = S y)
    (out : Memref sig .tc .vmem S1024x8x128 .f32) (G : BufTy.Contents (Elt F) out.view.ty) (n : ℕ) (hn : n = k0_t2_loop.trips) :
    out.view.read (Elt F) (out.view.writes (Elt F) G (chans pay arg A n)) = outOf pay S := by
  funext y
  have h0 : (y 0).val < 1024 := (y 0).isLt
  have h1 : (y 1).val < 8 := (y 1).isLt
  have h2 : (y 2).val < 128 := (y 2).isLt
  have ht : k0_t2_loop.trips = 1024 := trips2_eq
  refine View.read_writes_apply_of_pieces _ _ (outOf pay S) _ ?_ y ?_
  · intro p hp x
    obtain ⟨k, rfl⟩ := mem_chans _ _ _ _ _ hp
    obtain ⟨e0, e1, e2⟩ := coord5 k x
    have hx : (x : S1x8x128.Idx) = ix3 0 ((rect5 k).emb x 1) ((rect5 k).emb x 2) := by
      funext a
      match a with
      | ⟨0, _⟩ => exact Fin.ext (by have hx0 : ((x : S1x8x128.Idx) 0).val < 1 := (x 0).isLt; show (x 0).val = 0; omega)
      | ⟨1, _⟩ => exact Fin.ext e1.symm
      | ⟨2, _⟩ => exact Fin.ext e2.symm
    show pay (gather arg A k) x = pay _ (ix3 0 ((rect5 k).emb x 1) ((rect5 k).emb x 2))
    rw [gather_eq arg A S hS k ((rect5 k).emb x 0) e0]
    exact congrArg _ hx
  · obtain ⟨k, hk⟩ : ∃ k : Fin k0_t2_loop.trips, k.val = (y 0).val := ⟨⟨(y 0).val, by omega⟩, rfl⟩
    refine ⟨_, chans_mem pay arg A n k (by have := k.isLt; omega), ?_⟩
    rw [Rect.mem_set_unit]
    intro a
    match a with
    | ⟨0, _⟩ =>
      show k0_off5 k 0 ≤ (y 0).val ∧ (y 0).val < k0_off5 k 0 + 1
      rw [k0_off5_eq]; show k.val ≤ (y 0).val ∧ (y 0).val < k.val + 1; omega
    | ⟨1, _⟩ =>
      show k0_off5 k 1 ≤ (y 1).val ∧ (y 1).val < k0_off5 k 1 + 8
      rw [k0_off5_eq]; show 0 ≤ (y 1).val ∧ (y 1).val < 0 + 8; omega
    | ⟨2, _⟩ =>
      show k0_off5 k 2 ≤ (y 2).val ∧ (y 2).val < k0_off5 k 2 + 128
      rw [k0_off5_eq]; show 0 ≤ (y 2).val ∧ (y 2).val < 0 + 128; omega

/-! ## The run of the body -/

/-- The modulation row that the kernel reads. -/
def moda (x1 : Vec F S8x6144 .f32) : Vec F S1x6144 .f32 := fun x => x1 ((Rect.unit (s := S8x6144) k0_off1 S1x6144.size k0_off1_inb).idx x)

/-- The table as read whole. -/
def table (x4 : Vec F S512x256 .f32) : Vec F S512x256 .f32 := fun x =>
  x4 ((Rect.unit (s := S512x256) ![0, 0] S512x256.size inb_S512x256_S512x256_0_0).idx x)

/-- The gain as read whole. -/
def gain (x2 : Vec F S1x1024 .f32) : Vec F S1x1024 .f32 := fun x =>
  x2 ((Rect.unit (s := S1x1024) ![0, 0] S1x1024.size inb_S1x1024_S1x1024_0_0).idx x)

/-- The weights as read whole. -/
def wts (x3 : Vec F S1024x1024 .bf16) : Vec F S1024x1024 .bf16 := fun x =>
  x3 ((Rect.unit (s := S1024x1024) ![0, 0] S1024x1024.size inb_S1024x1024_S1024x1024_0_0).idx x)

/-- The 256 tokens that trip `k` reads. -/
def toks (x0 : Vec F S1024x1024 .f32) (k : Fin k0_t1_loop.trips) : Vec F S256x1024 .f32 := fun x =>
  x0 ((Rect.unit (s := S1024x1024) (k0_off2 k) S256x1024.size (k0_off2_inb k)).idx x)

/-- Trip `k`'s values, from the blocks. -/
abbrev tripVal (val : Vec F S1x6144 .f32 → Vec F S512x256 .f32 → Vec F S256x1024 .f32 → Vec F S1x1024 .f32 → Vec F S1024x1024 .bf16 →
      Fin 2 → Fin 4 → Vec F S256x128 .f32) (x0 : Vec F S1024x1024 .f32) (x1 : Vec F S8x6144 .f32) (x2 : Vec F S1x1024 .f32) (x3 : Vec F S1024x1024 .bf16) (x4 : Vec F S512x256 .f32) (k : Fin k0_t1_loop.trips) : Fin 2 → Fin 4 → Vec F S256x128 .f32 :=
  val (moda x1) (table x4) (toks x0 k) (gain x2) (wts x3)

/-- What the body leaves in the first output block (the cosine sums), -/
def resA (x0 : Vec F S1024x1024 .f32) (x1 : Vec F S8x6144 .f32) (x2 : Vec F S1x1024 .f32) (x3 : Vec F S1024x1024 .bf16) (x4 : Vec F S512x256 .f32) : Vec F S1024x8x128 .f32 := outOf k0_pay4 (stag (tripVal valA x0 x1 x2 x3 x4))

/-- and in the second (the sine sums). -/
def resB (x0 : Vec F S1024x1024 .f32) (x1 : Vec F S8x6144 .f32) (x2 : Vec F S1x1024 .f32) (x3 : Vec F S1024x1024 .bf16) (x4 : Vec F S512x256 .f32) : Vec F S1024x8x128 .f32 := outOf k0_pay5 (stag (tripVal valB x0 x1 x2 x3 x4))

section
variable (c : Dev nD) (i : grid0.Coords) (val : Vec F S1x6144 .f32 → Vec F S512x256 .f32 → Vec F S256x1024 .f32 → Vec F S1x1024 .f32 → Vec F S1024x1024 .bf16 →
      Fin 2 → Fin 4 → Vec F S256x128 .f32)
  (arg1 : Memref sig .tc .vmem S1024x1024 .f32) (harg1 : arg1.IsWhole) (arg2 : Memref sig .tc .vmem S8x6144 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S512x256 .f32) (harg5 : arg5.IsWhole) (arg6 : Memref sig .tc .vmem S1024x8x128 .f32) (harg6 : arg6.IsWhole) (arg7 : Memref sig .tc .vmem S1024x8x128 .f32) (harg7 : arg7.IsWhole) (arg8 : Memref sig .tc .vmem S8192x128 .f32) (harg8 : arg8.IsWhole) (arg9 : Memref sig .tc .vmem S8192x128 .f32) (harg9 : arg9.IsWhole) (x0 : Vec F S1024x1024 .f32) (x1 : Vec F S8x6144 .f32) (x2 : Vec F S1x1024 .f32) (x3 : Vec F S1024x1024 .bf16) (x4 : Vec F S512x256 .f32)
include arg1 harg1 arg2 harg2 arg3 harg3 arg4 harg4 arg5 harg5 arg6 harg6 arg7 harg7 arg8 harg8 arg9 harg9 x0 x1 x2 x3 x4

theorem readVal_eq :
    readVal val arg1 arg3 arg4 (arg2.view.readAt (Elt F) (Rect.unit (s := S8x6144) k0_off1 S1x6144.size k0_off1_inb).toLoadRect (harg2.unread x1))
        (arg5.view.readAt (Elt F) (Rect.unit (s := S512x256) ![0, 0] S512x256.size inb_S512x256_S512x256_0_0).toLoadRect (harg5.unread x4))
        (harg1.unread x0) (harg3.unread x2) (harg4.unread x3)
      = tripVal val x0 x1 x2 x3 x4 := by
  have e1 : arg2.view.readAt (Elt F) (Rect.unit (s := S8x6144) k0_off1 S1x6144.size k0_off1_inb).toLoadRect (harg2.unread x1) = moda x1 :=
    funext fun x => harg2.readAt_unread x1 _ x
  have e4 : arg5.view.readAt (Elt F) (Rect.unit (s := S512x256) ![0, 0] S512x256.size inb_S512x256_S512x256_0_0).toLoadRect (harg5.unread x4) = table x4 :=
    funext fun x => harg5.readAt_unread x4 _ x
  have e2 : arg3.view.readAt (Elt F) (Rect.unit (s := S1x1024) ![0, 0] S1x1024.size inb_S1x1024_S1x1024_0_0).toLoadRect (harg3.unread x2) = gain x2 :=
    funext fun x => harg3.readAt_unread x2 _ x
  have e3 : arg4.view.readAt (Elt F) (Rect.unit (s := S1024x1024) ![0, 0] S1024x1024.size inb_S1024x1024_S1024x1024_0_0).toLoadRect (harg4.unread x3) = wts x3 :=
    funext fun x => harg4.readAt_unread x3 _ x
  funext k
  have e0 : arg1.view.readAt (Elt F) (Rect.unit (s := S1024x1024) (k0_off2 k) S256x1024.size (k0_off2_inb k)).toLoadRect (harg1.unread x0) = toks x0 k :=
    funext fun x => harg1.readAt_unread x0 _ x
  show val _ _ _ _ _ = val _ _ _ _ _
  rw [e0, e1, e2, e3, e4]

/-- What the first output block reads after both loops. -/
theorem readA (G8 : BufTy.Contents (Elt F) arg8.view.ty) (G6 : BufTy.Contents (Elt F) arg6.view.ty) :
    arg6.view.read (Elt F) (arg6.view.writes (Elt F) G6 (chans k0_pay4 arg8 (arg8.view.writes (Elt F) G8
      (rows (readVal valA arg1 arg3 arg4 (arg2.view.readAt (Elt F) (Rect.unit (s := S8x6144) k0_off1 S1x6144.size k0_off1_inb).toLoadRect (harg2.unread x1))
        (arg5.view.readAt (Elt F) (Rect.unit (s := S512x256) ![0, 0] S512x256.size inb_S512x256_S512x256_0_0).toLoadRect (harg5.unread x4))
        (harg1.unread x0) (harg3.unread x2) (harg4.unread x3)) (Scf.trips k0_t1_loop.lb k0_t1_loop.ub k0_t1_loop.st)))
      (Scf.trips k0_t2_loop.lb k0_t2_loop.ub k0_t2_loop.st))) = resA x0 x1 x2 x3 x4 := by
  rw [readVal_eq valA arg1 harg1 arg2 harg2 arg3 harg3 arg4 harg4 arg5 harg5 arg6 harg6 arg7 harg7 arg8 harg8 arg9 harg9 x0 x1 x2 x3 x4]
  exact read_chans k0_pay4 arg8 _ _ (fun y hy => read_rows arg8 _ G8 _ rfl y hy) arg6 G6 _ rfl

/-- What the second does. -/
theorem readB (G9 : BufTy.Contents (Elt F) arg9.view.ty) (G7 : BufTy.Contents (Elt F) arg7.view.ty) :
    arg7.view.read (Elt F) (arg7.view.writes (Elt F) G7 (chans k0_pay5 arg9 (arg9.view.writes (Elt F) G9
      (rows (readVal valB arg1 arg3 arg4 (arg2.view.readAt (Elt F) (Rect.unit (s := S8x6144) k0_off1 S1x6144.size k0_off1_inb).toLoadRect (harg2.unread x1))
        (arg5.view.readAt (Elt F) (Rect.unit (s := S512x256) ![0, 0] S512x256.size inb_S512x256_S512x256_0_0).toLoadRect (harg5.unread x4))
        (harg1.unread x0) (harg3.unread x2) (harg4.unread x3)) (Scf.trips k0_t1_loop.lb k0_t1_loop.ub k0_t1_loop.st)))
      (Scf.trips k0_t2_loop.lb k0_t2_loop.ub k0_t2_loop.st))) = resB x0 x1 x2 x3 x4 := by
  rw [readVal_eq valB arg1 harg1 arg2 harg2 arg3 harg3 arg4 harg4 arg5 harg5 arg6 harg6 arg7 harg7 arg8 harg8 arg9 harg9 x0 x1 x2 x3 x4]
  exact read_chans k0_pay5 arg9 _ _ (fun y hy => read_rows arg9 _ G9 _ rfl y hy) arg7 G7 _ rfl

set_option maxHeartbeats 1000000 in
/-- The body, on whole buffers: the inputs are left as they were, the output blocks hold the two results. -/
theorem run0
    (E : Set ℕ) (K : PUnit → sProp (MT nD τ sig Unit (Elt F) ℕ (UR sig nD τ) ℕ)) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (resA x0 x1 x2 x3 x4) ∗ owns (c : Thread nD τ) arg7 fullShare (resB x0 x1 x2 x3 x4)
            ∗ (∃ d, owns (c : Thread nD τ) arg8 fullShare d) ∗ (∃ d, owns (c : Thread nD τ) arg9 fullShare d)) -∗ K ⟨⟩))
      ⊢ wp frame (wpE (defs₀ (F := F)) Variants.none c none) E (cc0_fourier_proj i arg1 harg1 arg2 harg2 arg3 harg3 arg4 harg4 arg5 harg5 arg6 harg6 arg7 harg7 arg8 harg8 arg9 harg9) K := by
  simp only [cc0_fourier_proj_eq_skeleton]; unfold cc0_fourier_proj_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, Hk⟩
  obtain rfl := harg1.eq_unread hf0; obtain rfl := harg2.eq_unread hf1; obtain rfl := harg3.eq_unread hf2; obtain rfl := harg4.eq_unread hf3; obtain rfl := harg5.eq_unread hf4
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro; exact readA arg1 harg1 arg2 harg2 arg3 harg3 arg4 harg4 arg5 harg5 arg6 harg6 arg7 harg7 arg8 harg8 arg9 harg9 x0 x1 x2 x3 x4 _ _
  isplitl [H6]
  · iexists _; isplitr
    swap; · iexact H6
    ipureintro; exact readB arg1 harg1 arg2 harg2 arg3 harg3 arg4 harg4 arg5 harg5 arg6 harg6 arg7 harg7 arg8 harg8 arg9 harg9 x0 x1 x2 x3 x4 _ _
  isplitl [H7]
  · iexists _; iexists _; isplitr
    swap; · iexact H7
    ipureintro; rfl
  iexists _; iexists _; isplitr
  swap; · iexact H8
  ipureintro; rfl

end

end Cert.Kernel8Ideal.Hand

end
-- ==== Proof.FnProjFrameIdeal.lean ====
/-
  The first call of the Fourier layer: the frame. What a grid point leaves in its blocks is read from the run of the body; the launch then runs
  and leaves its arguments as they were, and each block of a result array is what its point wrote back.
-/
module

public import proofs.«01_k».proof.Defs
public import proofs.«01_k».proof.Proof.FnProjRunIdeal
public import proofs.«01_k».proof.Proof.FnProjKitIdeal
public import Idealize.ShloMosaic.Lib.Claim
public import Idealize.ShloMosaic.Lib.Pipeline.Value

@[expose] public section

set_option maxRecDepth 16384
noncomputable section

namespace Cert.Kernel8Ideal.Hand

open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-- What the body leaves in output window 5's block at point `t`. -/
def outsAt5 (c : Dev nD) (t : Fin cfg0.N) : Vec F S1024x8x128 .f32 := resA (iblk m c 0 t) (iblk m c 1 t) (iblk m c 2 t) (iblk m c 3 t) (iblk m c 4 t)

/-- What the body leaves in output window 6's block at point `t`. -/
def outsAt6 (c : Dev nD) (t : Fin cfg0.N) : Vec F S1024x8x128 .f32 := resB (iblk m c 0 t) (iblk m c 1 t) (iblk m c 2 t) (iblk m c 3 t) (iblk m c 4 t)

/-- The proof data of the pipeline: each input's buffer keeps its block, each output's ends at what the body leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outsAt5 m c t
    | ⟨6, _⟩ => outsAt6 m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outsAt5 m c t := by dsimp only [dats]
theorem after0_6 (c : Dev nD) (t : Fin cfg0.N) : (dats m 0 c).after 6 t = outsAt6 m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- The invariant that passes from point to point: the scratch at some contents, and the generator register. -/
theorem PhiA_eq (c : Dev nD) :
    (Pipeline.ΦA spec0 c : sProp (MT nD τ sig Unit (Elt F) ℕ (UR sig nD τ) ℕ))
      = iprop(iprop((∃ d, owns (c : Thread nD τ) (Memref.whole cc0_scratch0) fullShare d) ∗ (∃ d, owns (c : Thread nD τ) (Memref.whole cc0_scratch1) fullShare d)) ∗ (∃ r, prngReg c r)) := by
  unfold Pipeline.ΦA; rw [scopedRest0_eq]; simp only [owns_whole]; try rfl

/-- What the body is called with at point `t`, -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t))

set_option maxHeartbeats 800000 in
/-- The body at a point: its run, on the point's buffers. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl, PhiA_eq]
  unfold outsAt5 outsAt6
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
  iapply (run0 c (grid0.coords t) _ _ _ _ _ _ _ _ _ _ _ _ _ _ _ _ _ _ (iblk m c 0 t) (iblk m c 1 t) (iblk m c 2 t) (iblk m c 3 t) (iblk m c 4 t) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [HS0]; · iexact HS0
  isplitl [HS1]; · iexact HS1
  iintro ⟨H0, H1, H2, H3, H4, H5, H6, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs_row]
  exact triple_restated (sound_body m c t) rfl .rfl fun _ => .rfl

set_option backward.isDefEq.respectTransparency.types false in
/-- The launch terminates with every array at what the proof data says and every semaphore at zero. -/
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_launch : θ_run defs (onTc (τ := τ) (main (F := F))) (s₀ m ρ) (Pipeline.FramePost cfgs (dats m) 0 (V m)) :=
  (θ_run defs _ _).mono (fun _ h => h.1) (run_quiescent m ρ)

theorem kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_launch m ρ)

/-- The frame: the arguments end unchanged and no semaphore is left raised. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (kept m ρ) ((θ_run defs _ _).mono (fun _ h => h.2) (run_quiescent m ρ))

/-- What point `t` writes back to output window 5. -/
theorem flushed5 (c : Dev nD) (t : Fin cfg0.N) :
    (dats m 0 c).flushed 5 t = (cfg0.win 5).cut (grid0.coords t) (outsAt5 m c t) := by
  show (cfg0.win 5).cut (grid0.coords t) ((dats m 0 c).after 5 t) = _
  rw [after0_5]

/-- What point `t` writes back to output window 6. -/
theorem flushed6 (c : Dev nD) (t : Fin cfg0.N) :
    (dats m 0 c).flushed 6 t = (cfg0.win 6).cut (grid0.coords t) (outsAt6 m c t) := by
  show (cfg0.win 6).cut (grid0.coords t) ((dats m 0 c).after 6 t) = _
  rw [after0_6]

/-- The launch with its result arrays named, the arguments unchanged. -/
theorem run_blocks : θ_run defs (onTc (τ := τ) (main (F := F))) ⟨m, fun _ => 0, ρ⟩ fun r => ∀ c : Dev nD,
      r.2.mem ((c : Thread nD τ).loc main_v3_0) = (dats m 0 c).arrAt 5 cfg0.N
      ∧ r.2.mem ((c : Thread nD τ).loc main_v3_1) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1 5, (h c).1 6,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 4).trans (((dats m 0 c).arrAt_in 4 rfl _).trans ((A_eq m c 4).trans (V_main_arg4 m c)))⟩)
    (run_launch m ρ)

end Cert.Kernel8Ideal.Hand

end
end
-- ==== Proof.FnProj.lean ====
/-
  The first call of the Fourier layer: a token is normalised, modulated and projected, and each of the four groups of 256
  channels is transformed by the two halves of a table; the results are kept by channel. Kernel and reference both compute
  `FnProj.out`.
-/
module

public import proofs.«01_k».proof.Defs
public import proofs.«01_k».proof.Proof.FnProjFrame
public import proofs.«01_k».proof.Proof.FnProjFrameIdeal
public import proofs.«01_k».proof.Proof.Mixer
public import proofs.«01_k».proof.Proof.Gen.Reference8Ideal.Run
public import proofs.«01_k».proof.Proof.Gen.Reference8Ideal.Read
public import Idealize.ShloMosaic.Lib.Pointwise
public import Idealize.ShloMosaic.Lib.StableHlo.ReadAt

@[expose] public section

set_option maxRecDepth 16384
noncomputable section

namespace Cert.FnProj
open Idealize.ShloMosaic

/-- A token after the layer's normalisation and modulation: `rms x · g · (1 + scale) + shift`. -/
def hidden (x g : Fin 1024 → EReal) (scale shift : Fin 1024 → EReal) (d : Fin 1024) : EReal :=
  Mixer.rms x g d * (1 + scale d) + shift d

/-- Channel `j` of token `n` after the projection. -/
def proj (s : Vec Ideal ⟨2, ![16384, 1024]⟩ .f32) (mods : Vec Ideal ⟨2, ![8, 6144]⟩ .f32) (norm : Vec Ideal ⟨1, ![1024]⟩ .f32)
    (win : Vec Ideal ⟨2, ![1024, 1024]⟩ .f32) (n : Fin 16384) (j : Fin 1024) : EReal :=
  ∑ d : Fin 1024, hidden (fun l => s (ix2 n l)) (fun l => norm (ix1 l)) (fun l => mods (ix2 1 ⟨1024 + l.val, by omega⟩))
    (fun l => mods (ix2 1 ⟨l.val, by omega⟩)) d * win (ix2 d j)

/-- The transform: channel `y 0 = 256 g + k` at token `128 (y 1) + y 2` is the sum over `c` of channel `256 g + c` of the
    projected token times entry `c` of row `256 o + k` of the table; `o` is 0 for the first result and 1 for the second. -/
def out (o : Fin 2) (s : Vec Ideal ⟨2, ![16384, 1024]⟩ .f32) (mods : Vec Ideal ⟨2, ![8, 6144]⟩ .f32) (norm : Vec Ideal ⟨1, ![1024]⟩ .f32) (win : Vec Ideal ⟨2, ![1024, 1024]⟩ .f32) (cs : Vec Ideal ⟨2, ![512, 256]⟩ .f32) (y : (⟨3, ![1024, 128, 128]⟩ : Shape).Idx) : EReal :=
  have h0 : (y 0).val < 1024 := (y 0).isLt
  have h1 : (y 1).val < 128 := (y 1).isLt
  have h2 : (y 2).val < 128 := (y 2).isLt
  ∑ c : Fin 256, proj s mods norm win ⟨128 * (y 1).val + (y 2).val, by omega⟩ ⟨256 * ((y 0).val / 256) + c.val, by omega⟩
    * cs (ix2 ⟨256 * o.val + (y 0).val % 256, by omega⟩ c)

end Cert.FnProj

namespace Cert.Kernel8Ideal.Array
open Idealize.ShloMosaic Idealize.ShloMosaic.TcCoe Idealize.SL.Sem Cert.Kernel8Ideal Cert.Kernel8Ideal.Gen Cert.Kernel8Ideal.Hand
open Idealize.ShloMosaic.Pipeline (Dat)

/-- A block's result at channel `m` of its token `128 b + p`. -/
def block (o : Fin 2) (x0 : Vec Ideal S1024x1024 .f32) (x1 : Vec Ideal S8x6144 .f32) (x2 : Vec Ideal S1x1024 .f32) (x3 : Vec Ideal S1024x1024 .bf16) (x4 : Vec Ideal S512x256 .f32) (k : Fin 1024) (b : Fin 8) (p : Fin 128) : EReal :=
  ∑ c : Fin 256, x4 (ix2 ⟨256 * o.val + k.val % 256, by omega⟩ c) * ∑ d : Fin 1024, x3 (ix2 ⟨256 * (k.val / 256) + c.val, by omega⟩ d)
    * FnProj.hidden (fun l => x0 (ix2 ⟨128 * b.val + p.val, by omega⟩ l)) (fun l => x2 (ix2 0 l)) (fun l => x1 (ix2 1 ⟨1024 + l.val, by omega⟩))
      (fun l => x1 (ix2 1 ⟨l.val, by omega⟩)) d

/-- The projected tokens of a trip, channel by token. -/
theorem zt_apply (v2 : Vec Ideal S1x6144 .f32) (v5 : Vec Ideal S512x256 .f32) (v12 : Vec Ideal S256x1024 .f32) (v13 : Vec Ideal S1x1024 .f32) (v33 : Vec Ideal S1024x1024 .bf16) (j : Fin 1024) (t : Fin 256) :
    k0_pay6 (k0_pay1 v2) (k0_pay2 v2) v12 v13 v33 (ix2 j t) = ∑ d : Fin 1024, v33 (ix2 j d)
      * FnProj.hidden (fun l => v12 (ix2 t l)) (fun l => v13 (ix2 0 l)) (fun l => v2 (ix2 0 ⟨1024 + l.val, by omega⟩)) (fun l => v2 (ix2 0 ⟨l.val, by omega⟩)) d := by
  unfold FnProj.hidden Mixer.rms
  pointwise [k0_pay6, k0_pay1, k0_pay2]

theorem table_apply (v5 : Vec Ideal S512x256 .f32) (r : Fin 512) (c : Fin 256) : k0_pay3 v5 (ix2 r c) = v5 (ix2 r c) := by
  pointwise [k0_pay3]

/-- The table times group `g` of the projected tokens. -/
theorem mm0 (v3 v4 : FVec Ideal S1x1024 .f32) (v6 : FVec Ideal S512x256 .bf16) (v12 : Vec Ideal S256x1024 .f32) (v13 : Vec Ideal S1x1024 .f32) (v33 : Vec Ideal S1024x1024 .bf16)
    (r : Fin 512) (t : Fin 256) : k0_pay7 v3 v4 v6 v12 v13 v33 (ix2 r t)
      = ∑ c : Fin 256, v6 (ix2 r c) * k0_pay6 v3 v4 v12 v13 v33 (ix2 ⟨256 * 0 + c.val, by omega⟩ t) := by
  pointwise [k0_pay7]

theorem mm1 (v6 : FVec Ideal S512x256 .bf16) (Z : FVec Ideal S1024x256 .bf16) (r : Fin 512) (t : Fin 256) : k0_pay12 v6 Z (ix2 r t)
      = ∑ c : Fin 256, v6 (ix2 r c) * Z (ix2 ⟨256 * 1 + c.val, by omega⟩ t) := by
  pointwise [k0_pay12]

theorem mm2 (v6 : FVec Ideal S512x256 .bf16) (Z : FVec Ideal S1024x256 .bf16) (r : Fin 512) (t : Fin 256) : k0_pay17 v6 Z (ix2 r t)
      = ∑ c : Fin 256, v6 (ix2 r c) * Z (ix2 ⟨256 * 2 + c.val, by omega⟩ t) := by
  pointwise [k0_pay17]

theorem mm3 (v6 : FVec Ideal S512x256 .bf16) (Z : FVec Ideal S1024x256 .bf16) (r : Fin 512) (t : Fin 256) : k0_pay22 v6 Z (ix2 r t)
      = ∑ c : Fin 256, v6 (ix2 r c) * Z (ix2 ⟨256 * 3 + c.val, by omega⟩ t) := by
  pointwise [k0_pay22]

theorem k0_pay10_apply (Y : FVec Ideal S512x256 .f32) (r : Fin 256) (t : Fin 128) :
    k0_pay10 Y (ix2 r t) = Y (ix2 ⟨256 * 0 + r.val, by omega⟩ ⟨128 * 1 + t.val, by omega⟩) := by
  pointwise [k0_pay10]

theorem k0_pay15_apply (Y : FVec Ideal S512x256 .f32) (r : Fin 256) (t : Fin 128) :
    k0_pay15 Y (ix2 r t) = Y (ix2 ⟨256 * 0 + r.val, by omega⟩ ⟨128 * 1 + t.val, by omega⟩) := by
  pointwise [k0_pay15]

theorem k0_pay9_apply (Y : FVec Ideal S512x256 .f32) (r : Fin 256) (t : Fin 128) :
    k0_pay9 Y (ix2 r t) = Y (ix2 ⟨256 * 1 + r.val, by omega⟩ ⟨128 * 0 + t.val, by omega⟩) := by
  pointwise [k0_pay9]

theorem k0_pay11_apply (Y : FVec Ideal S512x256 .f32) (r : Fin 256) (t : Fin 128) :
    k0_pay11 Y (ix2 r t) = Y (ix2 ⟨256 * 1 + r.val, by omega⟩ ⟨128 * 1 + t.val, by omega⟩) := by
  pointwise [k0_pay11]

theorem k0_pay16_apply (Y : FVec Ideal S512x256 .f32) (r : Fin 256) (t : Fin 128) :
    k0_pay16 Y (ix2 r t) = Y (ix2 ⟨256 * 1 + r.val, by omega⟩ ⟨128 * 1 + t.val, by omega⟩) := by
  pointwise [k0_pay16]

theorem k0_pay21_apply (Y : FVec Ideal S512x256 .f32) (r : Fin 256) (t : Fin 128) :
    k0_pay21 Y (ix2 r t) = Y (ix2 ⟨256 * 1 + r.val, by omega⟩ ⟨128 * 1 + t.val, by omega⟩) := by
  pointwise [k0_pay21]

theorem k0_pay8_apply (v3 v4 : FVec Ideal S1x1024 .f32) (v6 : FVec Ideal S512x256 .bf16) (v12 : Vec Ideal S256x1024 .f32) (v13 : Vec Ideal S1x1024 .f32) (v33 : Vec Ideal S1024x1024 .bf16) (r : Fin 256) (t : Fin 128) :
    k0_pay8 v3 v4 v6 v12 v13 v33 (ix2 r t) = k0_pay7 v3 v4 v6 v12 v13 v33 (ix2 ⟨256 * 0 + r.val, by omega⟩ ⟨128 * 0 + t.val, by omega⟩) := by
  pointwise [k0_pay8]

theorem k0_pay13_apply (v6 : FVec Ideal S512x256 .bf16) (Z : FVec Ideal S1024x256 .bf16) (r : Fin 256) (t : Fin 128) :
    k0_pay13 v6 Z (ix2 r t) = k0_pay12 v6 Z (ix2 ⟨256 * 0 + r.val, by omega⟩ ⟨128 * 0 + t.val, by omega⟩) := by
  pointwise [k0_pay13]

theorem k0_pay14_apply (v6 : FVec Ideal S512x256 .bf16) (Z : FVec Ideal S1024x256 .bf16) (r : Fin 256) (t : Fin 128) :
    k0_pay14 v6 Z (ix2 r t) = k0_pay12 v6 Z (ix2 ⟨256 * 1 + r.val, by omega⟩ ⟨128 * 0 + t.val, by omega⟩) := by
  pointwise [k0_pay14]

theorem k0_pay18_apply (v6 : FVec Ideal S512x256 .bf16) (Z : FVec Ideal S1024x256 .bf16) (r : Fin 256) (t : Fin 128) :
    k0_pay18 v6 Z (ix2 r t) = k0_pay17 v6 Z (ix2 ⟨256 * 0 + r.val, by omega⟩ ⟨128 * 0 + t.val, by omega⟩) := by
  pointwise [k0_pay18]

theorem k0_pay20_apply (v6 : FVec Ideal S512x256 .bf16) (Z : FVec Ideal S1024x256 .bf16) (r : Fin 256) (t : Fin 128) :
    k0_pay20 v6 Z (ix2 r t) = k0_pay17 v6 Z (ix2 ⟨256 * 0 + r.val, by omega⟩ ⟨128 * 1 + t.val, by omega⟩) := by
  pointwise [k0_pay20]

theorem k0_pay19_apply (v6 : FVec Ideal S512x256 .bf16) (Z : FVec Ideal S1024x256 .bf16) (r : Fin 256) (t : Fin 128) :
    k0_pay19 v6 Z (ix2 r t) = k0_pay17 v6 Z (ix2 ⟨256 * 1 + r.val, by omega⟩ ⟨128 * 0 + t.val, by omega⟩) := by
  pointwise [k0_pay19]

theorem k0_pay23_apply (v6 : FVec Ideal S512x256 .bf16) (Z : FVec Ideal S1024x256 .bf16) (r : Fin 256) (t : Fin 128) :
    k0_pay23 v6 Z (ix2 r t) = k0_pay22 v6 Z (ix2 ⟨256 * 0 + r.val, by omega⟩ ⟨128 * 0 + t.val, by omega⟩) := by
  pointwise [k0_pay23]

theorem k0_pay25_apply (v6 : FVec Ideal S512x256 .bf16) (Z : FVec Ideal S1024x256 .bf16) (r : Fin 256) (t : Fin 128) :
    k0_pay25 v6 Z (ix2 r t) = k0_pay22 v6 Z (ix2 ⟨256 * 0 + r.val, by omega⟩ ⟨128 * 1 + t.val, by omega⟩) := by
  pointwise [k0_pay25]

theorem k0_pay24_apply (v6 : FVec Ideal S512x256 .bf16) (Z : FVec Ideal S1024x256 .bf16) (r : Fin 256) (t : Fin 128) :
    k0_pay24 v6 Z (ix2 r t) = k0_pay22 v6 Z (ix2 ⟨256 * 1 + r.val, by omega⟩ ⟨128 * 0 + t.val, by omega⟩) := by
  pointwise [k0_pay24]

theorem k0_pay26_apply (v6 : FVec Ideal S512x256 .bf16) (Z : FVec Ideal S1024x256 .bf16) (r : Fin 256) (t : Fin 128) :
    k0_pay26 v6 Z (ix2 r t) = k0_pay22 v6 Z (ix2 ⟨256 * 1 + r.val, by omega⟩ ⟨128 * 1 + t.val, by omega⟩) := by
  pointwise [k0_pay26]

/-- What a trip stores for half `q`, group `g`: the first 256 rows of the table, times the group. -/
theorem valA_apply (v2 : Vec Ideal S1x6144 .f32) (v5 : Vec Ideal S512x256 .f32) (v12 : Vec Ideal S256x1024 .f32) (v13 : Vec Ideal S1x1024 .f32) (v33 : Vec Ideal S1024x1024 .bf16) (q : Fin 2) (g : Fin 4) (r : Fin 256) (t : Fin 128) :
    valA v2 v5 v12 v13 v33 q g (ix2 r t) = ∑ c : Fin 256, k0_pay3 v5 (ix2 ⟨256 * 0 + r.val, by omega⟩ c)
      * k0_pay6 (k0_pay1 v2) (k0_pay2 v2) v12 v13 v33 (ix2 ⟨256 * g.val + c.val, by omega⟩ ⟨128 * q.val + t.val, by omega⟩) := by
  match q, g with
  | 0, 0 => exact (k0_pay8_apply _ _ _ _ _ _ r t).trans (mm0 _ _ _ _ _ _ _ _)
  | 1, 0 => exact (k0_pay10_apply _ r t).trans (mm0 _ _ _ _ _ _ _ _)
  | 0, 1 => exact (k0_pay13_apply _ _ r t).trans (mm1 _ _ _ _)
  | 1, 1 => exact (k0_pay15_apply _ r t).trans (mm1 _ _ _ _)
  | 0, 2 => exact (k0_pay18_apply _ _ r t).trans (mm2 _ _ _ _)
  | 1, 2 => exact (k0_pay20_apply _ _ r t).trans (mm2 _ _ _ _)
  | 0, 3 => exact (k0_pay23_apply _ _ r t).trans (mm3 _ _ _ _)
  | 1, 3 => exact (k0_pay25_apply _ _ r t).trans (mm3 _ _ _ _)

/-- What a trip stores for half `q`, group `g`: the second 256 rows of the table, times the group. -/
theorem valB_apply (v2 : Vec Ideal S1x6144 .f32) (v5 : Vec Ideal S512x256 .f32) (v12 : Vec Ideal S256x1024 .f32) (v13 : Vec Ideal S1x1024 .f32) (v33 : Vec Ideal S1024x1024 .bf16) (q : Fin 2) (g : Fin 4) (r : Fin 256) (t : Fin 128) :
    valB v2 v5 v12 v13 v33 q g (ix2 r t) = ∑ c : Fin 256, k0_pay3 v5 (ix2 ⟨256 * 1 + r.val, by omega⟩ c)
      * k0_pay6 (k0_pay1 v2) (k0_pay2 v2) v12 v13 v33 (ix2 ⟨256 * g.val + c.val, by omega⟩ ⟨128 * q.val + t.val, by omega⟩) := by
  match q, g with
  | 0, 0 => exact (k0_pay9_apply _ r t).trans (mm0 _ _ _ _ _ _ _ _)
  | 1, 0 => exact (k0_pay11_apply _ r t).trans (mm0 _ _ _ _ _ _ _ _)
  | 0, 1 => exact (k0_pay14_apply _ _ r t).trans (mm1 _ _ _ _)
  | 1, 1 => exact (k0_pay16_apply _ r t).trans (mm1 _ _ _ _)
  | 0, 2 => exact (k0_pay19_apply _ _ r t).trans (mm2 _ _ _ _)
  | 1, 2 => exact (k0_pay21_apply _ r t).trans (mm2 _ _ _ _)
  | 0, 3 => exact (k0_pay24_apply _ _ r t).trans (mm3 _ _ _ _)
  | 1, 3 => exact (k0_pay26_apply _ _ r t).trans (mm3 _ _ _ _)

theorem moda_apply (x1 : Vec Ideal S8x6144 .f32) (k : Fin 6144) : moda x1 (ix2 0 k) = x1 (ix2 1 k) := by
  show x1 _ = x1 _
  congr 1
  funext a
  apply Fin.ext
  match a with
  | ⟨0, _⟩ => rfl
  | ⟨1, _⟩ => show 0 + 1 * k.val = k.val; omega

theorem wts_at (x3 : Vec Ideal S1024x1024 .bf16) (r : Fin 1024) (k : Fin 1024) : wts x3 (ix2 r k) = x3 (ix2 r k) := by
  show x3 _ = x3 _
  congr 1
  funext a
  apply Fin.ext
  match a with
  | ⟨0, _⟩ => show 0 + 1 * r.val = r.val; omega
  | ⟨1, _⟩ => show 0 + 1 * k.val = k.val; omega

theorem table_at (x4 : Vec Ideal S512x256 .f32) (r : Fin 512) (k : Fin 256) : table x4 (ix2 r k) = x4 (ix2 r k) := by
  show x4 _ = x4 _
  congr 1
  funext a
  apply Fin.ext
  match a with
  | ⟨0, _⟩ => show 0 + 1 * r.val = r.val; omega
  | ⟨1, _⟩ => show 0 + 1 * k.val = k.val; omega

theorem gain_at (x2 : Vec Ideal S1x1024 .f32) (r : Fin 1) (k : Fin 1024) : gain x2 (ix2 r k) = x2 (ix2 r k) := by
  show x2 _ = x2 _
  congr 1
  funext a
  apply Fin.ext
  match a with
  | ⟨0, _⟩ => show 0 + 1 * r.val = r.val; omega
  | ⟨1, _⟩ => show 0 + 1 * k.val = k.val; omega

theorem toks_apply (x0 : Vec Ideal S1024x1024 .f32) (k : Fin k0_t1_loop.trips) (t : Fin 256) (l : Fin 1024) (n : Fin 1024)
    (hn : n.val = 256 * k.val + t.val) : toks x0 k (ix2 t l) = x0 (ix2 n l) := by
  show x0 _ = x0 _
  congr 1
  funext a
  apply Fin.ext
  match a with
  | ⟨0, _⟩ => show k0_off2 k 0 + 1 * t.val = n.val; rw [k0_off2_eq]; show 256 * k.val + 1 * t.val = n.val; omega
  | ⟨1, _⟩ => show k0_off2 k 1 + 1 * l.val = l.val; rw [k0_off2_eq]; show 0 + 1 * l.val = l.val; omega

theorem pay4_apply (v : Vec Ideal S8x128 .f32) (b : Fin 8) (p : Fin 128) : k0_pay4 v (ix3 0 b p) = v (ix2 b p) := by
  pointwise [k0_pay4]

theorem pay5_apply (v : Vec Ideal S8x128 .f32) (b : Fin 8) (p : Fin 128) : k0_pay5 v (ix3 0 b p) = v (ix2 b p) := by
  pointwise [k0_pay5]

/-- The relayout at an index: channel `k` of the block's token row `b` is staged in row `1024 b + k`. -/
theorem stag_apply (val : Fin k0_t1_loop.trips → Fin 2 → Fin 4 → Vec Ideal S256x128 .f32) (k : Fin 1024) (b : Fin 8) (p : Fin 128) (n : Fin 8192)
    (hn : n.val = 1024 * b.val + k.val) (tr : Fin k0_t1_loop.trips) (htr : tr.val = b.val / 2) :
    stag val (ix2 n p) = val tr ⟨b.val % 2, by omega⟩ ⟨k.val / 256, by omega⟩ (ix2 ⟨k.val % 256, by omega⟩ p) := by
  obtain ⟨b1, b2, b3, b4⟩ := row_arith (b.val / 2) (b.val % 2) (k.val / 256) (k.val % 256) n.val (by omega) (by omega) (by omega) (by omega) (by omega)
  have a1 : trip1 n.val = tr := Fin.ext (b1.trans htr.symm)
  have a2 : half n.val = ⟨b.val % 2, by omega⟩ := Fin.ext b2
  have a3 : group n.val = ⟨k.val / 256, by omega⟩ := Fin.ext b3
  have a4 : (⟨n.val % 1024 % 256, Nat.mod_lt _ (by decide)⟩ : Fin 256) = ⟨k.val % 256, by omega⟩ := Fin.ext b4
  show val (trip1 n.val) (half n.val) (group n.val) (ix2 ⟨n.val % 1024 % 256, _⟩ p) = _
  rw [a1, a2, a3, a4]

/-- One entry of a trip's transform is the block's result there. -/
theorem entry_eq (o : Fin 2) (x0 : Vec Ideal S1024x1024 .f32) (x1 : Vec Ideal S8x6144 .f32) (x2 : Vec Ideal S1x1024 .f32) (x3 : Vec Ideal S1024x1024 .bf16) (x4 : Vec Ideal S512x256 .f32) (k : Fin 1024) (b : Fin 8) (p : Fin 128) (tr : Fin k0_t1_loop.trips) (htr : tr.val = b.val / 2)
    (row : Fin 512) (hrow : row.val = 256 * o.val + k.val % 256) :
    (∑ c : Fin 256, k0_pay3 (table x4) (ix2 row c) * k0_pay6 (k0_pay1 (moda x1)) (k0_pay2 (moda x1)) (toks x0 tr) (gain x2) (wts x3)
      (ix2 ⟨256 * (k.val / 256) + c.val, by omega⟩ ⟨128 * (b.val % 2) + p.val, by omega⟩)) = block o x0 x1 x2 x3 x4 k b p := by
  unfold block
  have e : row = ⟨256 * o.val + k.val % 256, by omega⟩ := Fin.ext hrow
  refine Finset.sum_congr rfl fun c _ => ?_
  rw [table_apply, table_at, zt_apply _ x4 _ _ _ _ _, e]
  refine congrArg (_ * ·) (Finset.sum_congr rfl fun d _ => ?_)
  have h0 : (fun l => toks x0 tr (ix2 (⟨128 * (b.val % 2) + p.val, by omega⟩ : Fin 256) l)) = fun l => x0 (ix2 ⟨128 * b.val + p.val, by omega⟩ l) :=
    funext fun l => toks_apply x0 tr _ l _ (by show 128 * b.val + p.val = 256 * tr.val + (128 * (b.val % 2) + p.val); omega)
  have h2 : (fun l => gain x2 (ix2 0 l)) = fun l => x2 (ix2 0 l) := funext fun l => gain_at x2 0 l
  have h1 : (fun l : Fin 1024 => moda x1 (ix2 0 (⟨1024 + l.val, by omega⟩ : Fin 6144))) = fun l => x1 (ix2 1 ⟨1024 + l.val, by omega⟩) := funext fun l => moda_apply x1 _
  have h3 : (fun l : Fin 1024 => moda x1 (ix2 0 (⟨l.val, by omega⟩ : Fin 6144))) = fun l => x1 (ix2 1 ⟨l.val, by omega⟩) := funext fun l => moda_apply x1 _
  rw [wts_at, h0, h1, h2, h3]

/-- The first output block at an index. -/
theorem resA_apply (x0 : Vec Ideal S1024x1024 .f32) (x1 : Vec Ideal S8x6144 .f32) (x2 : Vec Ideal S1x1024 .f32) (x3 : Vec Ideal S1024x1024 .bf16) (x4 : Vec Ideal S512x256 .f32) (k : Fin 1024) (b : Fin 8) (p : Fin 128) :
    resA x0 x1 x2 x3 x4 (ix3 k b p) = block 0 x0 x1 x2 x3 x4 k b p := by
  have ht : k0_t1_loop.trips = 4 := trips1_eq
  obtain ⟨tr, htr⟩ : ∃ tr : Fin k0_t1_loop.trips, tr.val = b.val / 2 := ⟨⟨b.val / 2, by omega⟩, rfl⟩
  show k0_pay4 (fun z : S8x128.Idx => stag (tripVal valA x0 x1 x2 x3 x4) (ix2 ⟨1024 * (z 0).val + k.val, _⟩ (z 1))) (ix3 0 b p) = _
  refine (pay4_apply _ b p).trans ?_
  refine (stag_apply _ k b p _ rfl tr htr).trans ?_
  refine (valA_apply _ _ _ _ _ _ _ _ p).trans ?_
  exact entry_eq 0 x0 x1 x2 x3 x4 k b p tr htr _ rfl

/-- The second output block at an index. -/
theorem resB_apply (x0 : Vec Ideal S1024x1024 .f32) (x1 : Vec Ideal S8x6144 .f32) (x2 : Vec Ideal S1x1024 .f32) (x3 : Vec Ideal S1024x1024 .bf16) (x4 : Vec Ideal S512x256 .f32) (k : Fin 1024) (b : Fin 8) (p : Fin 128) :
    resB x0 x1 x2 x3 x4 (ix3 k b p) = block 1 x0 x1 x2 x3 x4 k b p := by
  have ht : k0_t1_loop.trips = 4 := trips1_eq
  obtain ⟨tr, htr⟩ : ∃ tr : Fin k0_t1_loop.trips, tr.val = b.val / 2 := ⟨⟨b.val / 2, by omega⟩, rfl⟩
  show k0_pay5 (fun z : S8x128.Idx => stag (tripVal valB x0 x1 x2 x3 x4) (ix2 ⟨1024 * (z 0).val + k.val, _⟩ (z 1))) (ix3 0 b p) = _
  refine (pay5_apply _ b p).trans ?_
  refine (stag_apply _ k b p _ rfl tr htr).trans ?_
  refine (valB_apply _ _ _ _ _ _ _ _ p).trans ?_
  exact entry_eq 1 x0 x1 x2 x3 x4 k b p tr htr _ rfl

/-- A block's result is the call's, when the block's operands are the arrays' blocks. -/
theorem block_congr (o : Fin 2) (x0 : Vec Ideal S1024x1024 .f32) (x1 : Vec Ideal S8x6144 .f32) (x2 : Vec Ideal S1x1024 .f32) (x3 : Vec Ideal S1024x1024 .bf16) (x4 : Vec Ideal S512x256 .f32)
    (s : Vec Ideal S16384x1024 .f32) (mods : Vec Ideal S8x6144 .f32) (norm : Vec Ideal S1024 .f32) (win : Vec Ideal S1024x1024 .f32) (cs : Vec Ideal S512x256 .f32)
    (t : ℕ) (ht : t < 16) (k : Fin 1024) (b : Fin 8) (p : Fin 128) (n : Fin 128) (hn : n.val = 8 * t + b.val)
    (h0 : ∀ (r : Fin 1024) (l : Fin 1024) (n' : Fin 16384), n'.val = 1024 * t + r.val → x0 (ix2 r l) = s (ix2 n' l))
    (h1 : ∀ j : Fin 6144, x1 (ix2 1 j) = mods (ix2 1 j)) (h2 : ∀ l : Fin 1024, x2 (ix2 0 l) = norm (ix1 l))
    (h3 : ∀ j d : Fin 1024, x3 (ix2 j d) = win (ix2 d j)) (h4 : ∀ (r : Fin 512) (j : Fin 256), x4 (ix2 r j) = cs (ix2 r j)) :
    block o x0 x1 x2 x3 x4 k b p = FnProj.out o s mods norm win cs (ix3 k n p) := by
  unfold block
  show _ = ∑ c : Fin 256, FnProj.proj s mods norm win ⟨128 * n.val + p.val, _⟩ ⟨256 * (k.val / 256) + c.val, _⟩
    * cs (ix2 ⟨256 * o.val + k.val % 256, _⟩ c)
  refine Finset.sum_congr rfl fun c _ => ?_
  rw [h4, mul_comm]
  refine congrArg (· * _) ?_
  unfold FnProj.proj
  refine Finset.sum_congr rfl fun d _ => ?_
  have e0 : (fun l => x0 (ix2 (⟨128 * b.val + p.val, by omega⟩ : Fin 1024) l)) = fun l => s (ix2 ⟨128 * n.val + p.val, by omega⟩ l) :=
    funext fun l => h0 _ l _ (by show 128 * n.val + p.val = 1024 * t + (128 * b.val + p.val); omega)
  have e2 : (fun l => x2 (ix2 0 l)) = fun l => norm (ix1 l) := funext h2
  have e1 : (fun l : Fin 1024 => x1 (ix2 1 (⟨1024 + l.val, by omega⟩ : Fin 6144))) = fun l => mods (ix2 1 ⟨1024 + l.val, by omega⟩) := funext fun l => h1 _
  have e3 : (fun l : Fin 1024 => x1 (ix2 1 (⟨l.val, by omega⟩ : Fin 6144))) = fun l => mods (ix2 1 ⟨l.val, by omega⟩) := funext fun l => h1 _
  rw [h3, e0, e1, e2, e3, mul_comm]

variable (m : (ℓ : Loc nD τ sig) → Buf (Elt Ideal) ℓ) (ρ : Dev nD → PrngReg) (c : Dev nD)

/-- Argument 0. -/
abbrev s : Vec Ideal S16384x1024 .f32 := m ((c : Thread nD τ).loc main_arg0)
/-- Argument 1. -/
abbrev mods : Vec Ideal S8x6144 .f32 := m ((c : Thread nD τ).loc main_arg1)
/-- Argument 2. -/
abbrev norm : Vec Ideal S1024 .f32 := m ((c : Thread nD τ).loc main_arg2)
/-- Argument 3. -/
abbrev win : Vec Ideal S1024x1024 .f32 := m ((c : Thread nD τ).loc main_arg3)
/-- Argument 4. -/
abbrev cs : Vec Ideal S512x256 .f32 := m ((c : Thread nD τ).loc main_arg4)

theorem V0 (r : Fin 1) (k : Fin 1024) : (V m c main_v0 : Vec Ideal S1x1024 .f32) (ix2 r k) = norm m c (ix1 k) := by
  unfold V
  after_reads_at

theorem V2 (r : Fin 1024) (k : Fin 1024) : (V m c main_v2 : Vec Ideal S1024x1024 .bf16) (ix2 r k) = win m c (ix2 k r) := by
  unfold V
  after_reads_at

theorem lt16 (t : Fin cfg0.N) : t.val < 16 := lt_of_lt_of_eq t.isLt Gen.N_0

/-- The block indices. -/
theorem idx : ∀ t : Fin cfg0.N, win0_0.index t 0 = t.val
    ∧ win0_0.index t 1 = 0
    ∧ win0_1.index t 0 = 0
    ∧ win0_1.index t 1 = 0
    ∧ win0_2.index t 0 = 0
    ∧ win0_2.index t 1 = 0
    ∧ win0_3.index t 0 = 0
    ∧ win0_3.index t 1 = 0
    ∧ win0_4.index t 0 = 0
    ∧ win0_4.index t 1 = 0
    ∧ win0_5.index t 0 = 0
    ∧ win0_5.index t 1 = t.val
    ∧ win0_5.index t 2 = 0
    ∧ win0_6.index t 0 = 0
    ∧ win0_6.index t 1 = t.val
    ∧ win0_6.index t 2 = 0 := by decide +kernel

theorem blk0 (t : Fin cfg0.N) (r : Fin 1024) (k : Fin 1024) (n : Fin 16384) (hn : n.val = 1024 * t.val + r.val) :
    (iblk m c 0 t : Vec Ideal S1024x1024 .f32) (ix2 r k) = s m c (ix2 n k) := by
  refine Eq.trans ?_ (congrFun (V_main_arg0 m c) _)
  unfold iblk
  rw [View.read_apply]
  show V m c main_arg0 _ = V m c main_arg0 _
  congr 1
  funext a
  apply Fin.ext
  match a with
  | ⟨0, _⟩ => show win0_0.index t 0 * 1024 + 1 * r.val = n.val; have := idx t; omega
  | ⟨1, _⟩ => show win0_0.index t 1 * 1024 + 1 * k.val = k.val; have := idx t; omega

theorem blk1 (t : Fin cfg0.N) (r : Fin 8) (k : Fin 6144) :
    (iblk m c 1 t : Vec Ideal S8x6144 .f32) (ix2 r k) = mods m c (ix2 r k) := by
  refine Eq.trans ?_ (congrFun (V_main_arg1 m c) _)
  unfold iblk
  rw [View.read_apply]
  show V m c main_arg1 _ = V m c main_arg1 _
  congr 1
  funext a
  apply Fin.ext
  match a with
  | ⟨0, _⟩ => show win0_1.index t 0 * 8 + 1 * r.val = r.val; have := idx t; omega
  | ⟨1, _⟩ => show win0_1.index t 1 * 6144 + 1 * k.val = k.val; have := idx t; omega

theorem blk2 (t : Fin cfg0.N) (r : Fin 1) (k : Fin 1024) :
    (iblk m c 2 t : Vec Ideal S1x1024 .f32) (ix2 r k) = norm m c (ix1 k) := by
  rw [← V0 m c r k]
  unfold iblk
  rw [View.read_apply]
  show V m c main_v0 _ = V m c main_v0 _
  congr 1
  funext a
  apply Fin.ext
  match a with
  | ⟨0, _⟩ => show win0_2.index t 0 * 1 + 1 * r.val = r.val; have := idx t; omega
  | ⟨1, _⟩ => show win0_2.index t 1 * 1024 + 1 * k.val = k.val; have := idx t; omega

theorem blk3 (t : Fin cfg0.N) (r : Fin 1024) (k : Fin 1024) :
    (iblk m c 3 t : Vec Ideal S1024x1024 .bf16) (ix2 r k) = win m c (ix2 k r) := by
  rw [← V2 m c r k]
  unfold iblk
  rw [View.read_apply]
  show V m c main_v2 _ = V m c main_v2 _
  congr 1
  funext a
  apply Fin.ext
  match a with
  | ⟨0, _⟩ => show win0_3.index t 0 * 1024 + 1 * r.val = r.val; have := idx t; omega
  | ⟨1, _⟩ => show win0_3.index t 1 * 1024 + 1 * k.val = k.val; have := idx t; omega

theorem blk4 (t : Fin cfg0.N) (r : Fin 512) (k : Fin 256) :
    (iblk m c 4 t : Vec Ideal S512x256 .f32) (ix2 r k) = cs m c (ix2 r k) := by
  refine Eq.trans ?_ (congrFun (V_main_arg4 m c) _)
  unfold iblk
  rw [View.read_apply]
  show V m c main_arg4 _ = V m c main_arg4 _
  congr 1
  funext a
  apply Fin.ext
  match a with
  | ⟨0, _⟩ => show win0_4.index t 0 * 512 + 1 * r.val = r.val; have := idx t; omega
  | ⟨1, _⟩ => show win0_4.index t 1 * 256 + 1 * k.val = k.val; have := idx t; omega

/-- What a point writes back to result 0 is its block of it. -/
theorem flushed5_eq (t : Fin cfg0.N) (hf' : (cfg0.win 5).flush t = true) :
    (Hand.dats m 0 c).flushed 5 t = ((cfg0.win 5).blk t).view.read (Elt Ideal) (FnProj.out 0 (s m c) (mods m c) (norm m c) (win m c) (cs m c)) := by
  have hN := lt16 t
  have hrd : ∀ (k : Fin 1024) (b : Fin 8) (p : Fin 128) (n : Fin 128), n.val = 8 * t.val + b.val →
      ((cfg0.win 5).blk t).view.read (Elt Ideal) (FnProj.out 0 (s m c) (mods m c) (norm m c) (win m c) (cs m c)) (ix3 k b p) = FnProj.out 0 (s m c) (mods m c) (norm m c) (win m c) (cs m c) (ix3 k n p) := by
    intro k b p n hn
    rw [View.read_apply]
    refine congrArg (FnProj.out 0 (s m c) (mods m c) (norm m c) (win m c) (cs m c)) ?_
    funext a
    apply Fin.ext
    match a with
    | ⟨0, _⟩ => show win0_5.index t 0 * 1024 + 1 * k.val = k.val; have := idx t; omega
    | ⟨1, _⟩ => show win0_5.index t 1 * 8 + 1 * b.val = n.val; have := idx t; omega
    | ⟨2, _⟩ => show win0_5.index t 2 * 128 + 1 * p.val = p.val; have := idx t; omega
  funext y
  obtain ⟨k, b, p, rfl⟩ : ∃ (k : Fin 1024) (b : Fin 8) (p : Fin 128), y = ix3 k b p := ⟨y 0, y 1, y 2, eq_ix3 y⟩
  rw [hrd k b p ⟨8 * t.val + b.val, by omega⟩ rfl, Hand.flushed5 m c t]
  refine (resA_apply _ _ _ _ _ k b p).trans ?_
  exact block_congr 0 _ _ _ _ _ (s m c) (mods m c) (norm m c) (win m c) (cs m c) t.val hN k b p _ rfl (fun r l n hn => blk0 m c t r l n hn) (fun j => blk1 m c t 1 j)
    (fun l => blk2 m c t 0 l) (fun j d => blk3 m c t j d) (fun r j => blk4 m c t r j)

/-- So the result array ends holding it: the points' blocks cover it. -/
theorem final0 : (Hand.dats m 0 c).arrAt 5 cfg0.N = FnProj.out 0 (s m c) (mods m c) (norm m c) (win m c) (cs m c) :=
  (Hand.dats m 0 c).arrAt_eq_of_cover 5 _ (flushed5_eq m c) fun i => by
    have h0 : (i 0 : ℕ) < 1024 := (i 0).isLt
    have h1 : (i 1 : ℕ) < 128 := (i 1).isLt
    have h2 : (i 2 : ℕ) < 128 := (i 2).isLt
    have hb : (i 1).val / 8 < cfg0.N := by show _ < grid0.N; rw [Gen.N_0]; omega
    refine ⟨⟨(i 1).val / 8, hb⟩, (by decide +kernel : ∀ t : Fin cfg0.N, (cfg0.win 5).flush t = true) _, ?_⟩
    show i ∈ ((View.whole main_v3_0).slice (win0_5.rect ⟨(i 1).val / 8, hb⟩)).set
    rw [View.set_slice_whole, Rect.mem_set_unit]
    intro a
    have hi := idx ⟨(i 1).val / 8, hb⟩
    dsimp only at hi
    match a with
    | ⟨0, _⟩ => show win0_5.index ⟨(i 1).val / 8, hb⟩ 0 * 1024 ≤ (i 0 : ℕ) ∧ (i 0 : ℕ) < win0_5.index ⟨(i 1).val / 8, hb⟩ 0 * 1024 + 1024; omega
    | ⟨1, _⟩ => show win0_5.index ⟨(i 1).val / 8, hb⟩ 1 * 8 ≤ (i 1 : ℕ) ∧ (i 1 : ℕ) < win0_5.index ⟨(i 1).val / 8, hb⟩ 1 * 8 + 8; omega
    | ⟨2, _⟩ => show win0_5.index ⟨(i 1).val / 8, hb⟩ 2 * 128 ≤ (i 2 : ℕ) ∧ (i 2 : ℕ) < win0_5.index ⟨(i 1).val / 8, hb⟩ 2 * 128 + 128; omega

/-- What a point writes back to result 1 is its block of it. -/
theorem flushed6_eq (t : Fin cfg0.N) (hf' : (cfg0.win 6).flush t = true) :
    (Hand.dats m 0 c).flushed 6 t = ((cfg0.win 6).blk t).view.read (Elt Ideal) (FnProj.out 1 (s m c) (mods m c) (norm m c) (win m c) (cs m c)) := by
  have hN := lt16 t
  have hrd : ∀ (k : Fin 1024) (b : Fin 8) (p : Fin 128) (n : Fin 128), n.val = 8 * t.val + b.val →
      ((cfg0.win 6).blk t).view.read (Elt Ideal) (FnProj.out 1 (s m c) (mods m c) (norm m c) (win m c) (cs m c)) (ix3 k b p) = FnProj.out 1 (s m c) (mods m c) (norm m c) (win m c) (cs m c) (ix3 k n p) := by
    intro k b p n hn
    rw [View.read_apply]
    refine congrArg (FnProj.out 1 (s m c) (mods m c) (norm m c) (win m c) (cs m c)) ?_
    funext a
    apply Fin.ext
    match a with
    | ⟨0, _⟩ => show win0_6.index t 0 * 1024 + 1 * k.val = k.val; have := idx t; omega
    | ⟨1, _⟩ => show win0_6.index t 1 * 8 + 1 * b.val = n.val; have := idx t; omega
    | ⟨2, _⟩ => show win0_6.index t 2 * 128 + 1 * p.val = p.val; have := idx t; omega
  funext y
  obtain ⟨k, b, p, rfl⟩ : ∃ (k : Fin 1024) (b : Fin 8) (p : Fin 128), y = ix3 k b p := ⟨y 0, y 1, y 2, eq_ix3 y⟩
  rw [hrd k b p ⟨8 * t.val + b.val, by omega⟩ rfl, Hand.flushed6 m c t]
  refine (resB_apply _ _ _ _ _ k b p).trans ?_
  exact block_congr 1 _ _ _ _ _ (s m c) (mods m c) (norm m c) (win m c) (cs m c) t.val hN k b p _ rfl (fun r l n hn => blk0 m c t r l n hn) (fun j => blk1 m c t 1 j)
    (fun l => blk2 m c t 0 l) (fun j d => blk3 m c t j d) (fun r j => blk4 m c t r j)

/-- So the result array ends holding it: the points' blocks cover it. -/
theorem final1 : (Hand.dats m 0 c).arrAt 6 cfg0.N = FnProj.out 1 (s m c) (mods m c) (norm m c) (win m c) (cs m c) :=
  (Hand.dats m 0 c).arrAt_eq_of_cover 6 _ (flushed6_eq m c) fun i => by
    have h0 : (i 0 : ℕ) < 1024 := (i 0).isLt
    have h1 : (i 1 : ℕ) < 128 := (i 1).isLt
    have h2 : (i 2 : ℕ) < 128 := (i 2).isLt
    have hb : (i 1).val / 8 < cfg0.N := by show _ < grid0.N; rw [Gen.N_0]; omega
    refine ⟨⟨(i 1).val / 8, hb⟩, (by decide +kernel : ∀ t : Fin cfg0.N, (cfg0.win 6).flush t = true) _, ?_⟩
    show i ∈ ((View.whole main_v3_1).slice (win0_6.rect ⟨(i 1).val / 8, hb⟩)).set
    rw [View.set_slice_whole, Rect.mem_set_unit]
    intro a
    have hi := idx ⟨(i 1).val / 8, hb⟩
    dsimp only at hi
    match a with
    | ⟨0, _⟩ => show win0_6.index ⟨(i 1).val / 8, hb⟩ 0 * 1024 ≤ (i 0 : ℕ) ∧ (i 0 : ℕ) < win0_6.index ⟨(i 1).val / 8, hb⟩ 0 * 1024 + 1024; omega
    | ⟨1, _⟩ => show win0_6.index ⟨(i 1).val / 8, hb⟩ 1 * 8 ≤ (i 1 : ℕ) ∧ (i 1 : ℕ) < win0_6.index ⟨(i 1).val / 8, hb⟩ 1 * 8 + 8; omega
    | ⟨2, _⟩ => show win0_6.index ⟨(i 1).val / 8, hb⟩ 2 * 128 ≤ (i 2 : ℕ) ∧ (i 2 : ℕ) < win0_6.index ⟨(i 1).val / 8, hb⟩ 2 * 128 + 128; omega

end Cert.Kernel8Ideal.Array

namespace Cert.Reference8Ideal.Layer
open Idealize.ShloMosaic Idealize.ShloMosaic.TcCoe Idealize.SL.Sem Cert.Reference8Ideal Cert.Reference8Ideal.Gen Cert.Reference8Ideal.Read

variable (x0 : Vec Ideal S16384x1024 .f32) (x1 : Vec Ideal S8x6144 .f32) (x2 : Vec Ideal S1024 .f32) (x3 : Vec Ideal S1024x1024 .f32) (x4 : Vec Ideal S512x256 .f32)

/-- The reference's projection at an index. -/
theorem proj_eq (n : Fin 16384) (j : Fin 1024) : (val_main_v26 (F := Ideal) x0 x1 x2 x3) (ix2 n j) = FnProj.proj x0 x1 x2 x3 n j := by
  unfold FnProj.proj FnProj.hidden Mixer.rms
  pointwise [val_main_v26, val_main_v25, val_main_v23, val_main_v19, val_main_v16, val_main_v15, val_main_v14, val_main_v13, val_main_v11, val_main_v9, val_main_v8, val_main_v7, val_main_cst, val_main_v10, val_main_cst_0, val_main_v12, val_main_cst_1, val_main_v18, val_main_v17, val_main_v22, val_main_v21, val_main_v20, val_main_cst_2, val_main_v2, val_main_v0, val_main_v24, val_main_v1]

/-- The reference's first result is the same function. -/
theorem result0_eq : (val_main_v33 (F := Ideal) x0 x1 x2 x3 x4) = FnProj.out 0 x0 x1 x2 x3 x4 := by
  funext y
  obtain ⟨k, n, p, rfl⟩ : ∃ (k : Fin 1024) (n p : Fin 128), y = ix3 k n p := ⟨y 0, y 1, y 2, eq_ix3 y⟩
  refine Eq.trans (b := ∑ c : Fin 256, (val_main_v26 (F := Ideal) x0 x1 x2 x3) (ix2 (⟨n.val * 128 + p.val, by omega⟩ : Fin 16384) (⟨k.val / 256 * 256 + c.val, by omega⟩ : Fin 1024))
    * x4 (ix2 (⟨256 * 0 + k.val % 256, by omega⟩ : Fin 512) c)) ?_ (Finset.sum_congr rfl fun c _ => congrArg (· * _) ?_)
  rotate_left
  · have e1 : (⟨n.val * 128 + p.val, by omega⟩ : Fin 16384) = ⟨128 * n.val + p.val, by omega⟩ := Fin.ext (by show n.val * 128 + p.val = 128 * n.val + p.val; omega)
    have e2 : (⟨k.val / 256 * 256 + c.val, by omega⟩ : Fin 1024) = ⟨256 * (k.val / 256) + c.val, by omega⟩ :=
      Fin.ext (by show k.val / 256 * 256 + c.val = 256 * (k.val / 256) + c.val; omega)
    rw [e1, e2]
    exact proj_eq x0 x1 x2 x3 _ _
  pointwise [val_main_v33, val_main_v32, val_main_v31, val_main_v30, val_main_v29, val_main_v27, val_main_v28]

/-- The reference's second result is the same function. -/
theorem result1_eq : (val_main_v37 (F := Ideal) x0 x1 x2 x3 x4) = FnProj.out 1 x0 x1 x2 x3 x4 := by
  funext y
  obtain ⟨k, n, p, rfl⟩ : ∃ (k : Fin 1024) (n p : Fin 128), y = ix3 k n p := ⟨y 0, y 1, y 2, eq_ix3 y⟩
  refine Eq.trans (b := ∑ c : Fin 256, (val_main_v26 (F := Ideal) x0 x1 x2 x3) (ix2 (⟨n.val * 128 + p.val, by omega⟩ : Fin 16384) (⟨k.val / 256 * 256 + c.val, by omega⟩ : Fin 1024))
    * x4 (ix2 (⟨256 * 1 + k.val % 256, by omega⟩ : Fin 512) c)) ?_ (Finset.sum_congr rfl fun c _ => congrArg (· * _) ?_)
  rotate_left
  · have e1 : (⟨n.val * 128 + p.val, by omega⟩ : Fin 16384) = ⟨128 * n.val + p.val, by omega⟩ := Fin.ext (by show n.val * 128 + p.val = 128 * n.val + p.val; omega)
    have e2 : (⟨k.val / 256 * 256 + c.val, by omega⟩ : Fin 1024) = ⟨256 * (k.val / 256) + c.val, by omega⟩ :=
      Fin.ext (by show k.val / 256 * 256 + c.val = 256 * (k.val / 256) + c.val; omega)
    rw [e1, e2]
    exact proj_eq x0 x1 x2 x3 _ _
  pointwise [val_main_v37, val_main_v36, val_main_v35, val_main_v34, val_main_v29, val_main_v27, val_main_v28]

end Cert.Reference8Ideal.Layer

namespace Cert.Proof

open Idealize.ShloMosaic Idealize.SL.Sem

/-- The first call of the Fourier layer runs and leaves its arguments unchanged. -/
theorem frame_Kernel8 : Cert.quiescent_Kernel8 (hKernel8 := Cert.Kernel8.Gen.facts) := fun m ρ _ => Cert.Kernel8.Hand.frame_run m ρ

/-- So does its idealization. -/
theorem frame_Kernel8Ideal : Cert.quiescent_Kernel8Ideal (hKernel8Ideal := Cert.Kernel8Ideal.Gen.facts) :=
  fun m ρ _ => Cert.Kernel8Ideal.Hand.frame_run m ρ

/-- So does the reference; it declares no semaphore. -/
theorem frame_Reference8Ideal : Cert.quiescent_Reference8Ideal (hReference8Ideal := Cert.Reference8Ideal.Gen.facts) := fun m ρ _ =>
  (θ_run Cert.Reference8Ideal.defs _ _).mono
    (fun r h => ⟨fun c => (h c).2.2, Idealize.ShloMosaic.sem_eq_zero_of_no_sems (by decide) r.2⟩)
    (Cert.Reference8Ideal.Value.run (F := Ideal) m ρ)

/-- The first results are `FnProj.out 0` of the arguments, the second `FnProj.out 1`. -/
theorem algebraic_Kernel8 : Cert.algebraic_Kernel8Ideal_Reference8Ideal
    (hKernel8Ideal := Cert.Kernel8Ideal.Gen.facts) (hReference8Ideal := Cert.Reference8Ideal.Gen.facts) := by
  intro m ρ m' ρ' _ hagree
  refine ⟨fun c => FnProj.out 0 (m ((c.tc : Thread _ _).loc Cert.Kernel8Ideal.main_arg0)) (m ((c.tc : Thread _ _).loc Cert.Kernel8Ideal.main_arg1)) (m ((c.tc : Thread _ _).loc Cert.Kernel8Ideal.main_arg2)) (m ((c.tc : Thread _ _).loc Cert.Kernel8Ideal.main_arg3)) (m ((c.tc : Thread _ _).loc Cert.Kernel8Ideal.main_arg4)), fun c => FnProj.out 1 (m ((c.tc : Thread _ _).loc Cert.Kernel8Ideal.main_arg0)) (m ((c.tc : Thread _ _).loc Cert.Kernel8Ideal.main_arg1)) (m ((c.tc : Thread _ _).loc Cert.Kernel8Ideal.main_arg2)) (m ((c.tc : Thread _ _).loc Cert.Kernel8Ideal.main_arg3)) (m ((c.tc : Thread _ _).loc Cert.Kernel8Ideal.main_arg4)), ?_, ?_⟩
  · exact (θ_run Cert.Kernel8Ideal.defs _ _).mono
      (fun r h c => ⟨(h c).1.trans (Cert.Kernel8Ideal.Array.final0 m c), (h c).2.1.trans (Cert.Kernel8Ideal.Array.final1 m c), (h c).2.2⟩)
      (Cert.Kernel8Ideal.Hand.run_blocks m ρ)
  · refine (θ_run Cert.Reference8Ideal.defs _ _).mono (fun r h c => ⟨?_, ?_, (h c).2.2⟩) (Cert.Reference8Ideal.Value.run (F := Ideal) m' ρ')
    · obtain ⟨h0, h1, h2, h3, h4⟩ := hagree c
      refine ((h c).1.trans ((Cert.Reference8Ideal.Read.val_main_v33_eq (F := Ideal) _ _ _ _ _).trans
        (Cert.Reference8Ideal.Layer.result0_eq _ _ _ _ _))).trans ?_
      rw [h0, h1, h2, h3, h4]
    · obtain ⟨h0, h1, h2, h3, h4⟩ := hagree c
      refine ((h c).2.1.trans ((Cert.Reference8Ideal.Read.val_main_v37_eq (F := Ideal) _ _ _ _ _).trans
        (Cert.Reference8Ideal.Layer.result1_eq _ _ _ _ _))).trans ?_
      rw [h0, h1, h2, h3, h4]

end Cert.Proof
end
end
-- ==== Proof.AdaTable.lean ====
/-
  The modulation table: silu of the two conditioning rows (and six zero rows) times each layer's weights plus its bias;
  kernel and reference both compute `AdaTable.out`.
-/
module

public import proofs.«01_k».proof.Defs
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Reference9Ideal.Read
public import Idealize.ShloMosaic.Lib.Pointwise
public import Idealize.ShloMosaic.Lib.StableHlo.ReadAt

@[expose] public section

set_option maxRecDepth 16384
noncomputable section

namespace Cert.AdaTable
open Idealize.ShloMosaic

/-- `silu(x) = x / (1 + exp (-x))`. -/
def act (x : EReal) : EReal := x * Ideal.div 1 (1 + Ideal.exp (-x))

theorem act_zero : act 0 = 0 := zero_mul _

/-- The conditioning rows: row 0 for the context, row 1 for the latent tokens, the others zero. -/
def row (cond : Vec Ideal ⟨2, ![1, 1024]⟩ .f32) (ctx : Vec Ideal ⟨1, ![1024]⟩ .f32) (r : Fin 8) (k : Fin 1024) : EReal :=
  if r.val < 1 then ctx (ix1 k) else if r.val - 1 < 1 then cond (ix2 0 k) else 0

/-- Entry `(i, r, n)` of the table: row `r` through layer `i`'s weights and bias. -/
def out (cond : Vec Ideal ⟨2, ![1, 1024]⟩ .f32) (ctx : Vec Ideal ⟨1, ![1024]⟩ .f32) (w : Vec Ideal ⟨3, ![4, 1024, 6144]⟩ .f32)
    (b : Vec Ideal ⟨2, ![4, 6144]⟩ .f32) (y : (⟨3, ![4, 8, 6144]⟩ : Shape).Idx) : EReal :=
  (∑ k : Fin 1024, act (row cond ctx (y 1) k) * w (ix3 (y 0) k (y 2))) + b (ix2 (y 0) (y 2))

end Cert.AdaTable

namespace Cert.Kernel9Ideal.Array
open Idealize.ShloMosaic Idealize.ShloMosaic.TcCoe Idealize.SL.Sem Cert.Kernel9Ideal Cert.Kernel9Ideal.Gen
open Idealize.ShloMosaic.Pipeline (Dat)

variable (m : (ℓ : Loc nD τ sig) → Buf (Elt Ideal) ℓ) (ρ : Dev nD → PrngReg) (c : Dev nD)

/-- Argument 0. -/
abbrev cond : Vec Ideal S1x1024 .f32 := m ((c : Thread nD τ).loc main_arg0)
/-- Argument 1. -/
abbrev ctx : Vec Ideal S1024 .f32 := m ((c : Thread nD τ).loc main_arg1)
/-- Argument 2. -/
abbrev w : Vec Ideal S4x1024x6144 .f32 := m ((c : Thread nD τ).loc main_arg2)
/-- Argument 3. -/
abbrev b : Vec Ideal S4x6144 .f32 := m ((c : Thread nD τ).loc main_arg3)

theorem hz : (![0, 0] : Fin 2 → Nat) = fun _ => 0 := funext fun a => by fin_cases a <;> rfl
theorem hz3 : (![0, 0, 0] : Fin 3 → Nat) = fun _ => 0 := funext fun a => by fin_cases a <;> rfl

theorem V_v2 (r : Fin 8) (k : Fin 1024) : (V m c main_v2 : Vec Ideal S8x1024 .f32) (ix2 r k) = AdaTable.row (cond m c) (ctx m c) r k := by
  unfold V AdaTable.row
  after_reads_at
  by_cases h : r.val < 1
  · rw [dif_pos h, if_pos h]
    after_reads_at
  · rw [dif_neg h, if_neg h]
    by_cases h1 : r.val - 1 < 1
    · rw [dif_pos h1, if_pos h1]
      rw [show (⟨r.val - 1, h1⟩ : Fin 1) = 0 from Subsingleton.elim _ _]
    · rw [dif_neg h1, if_neg h1]
      after_reads_at

theorem V_v3 (i : Fin 4) (k : Fin 6144) : (V m c main_v3 : Vec Ideal S4x1x6144 .f32) (ix3 i 0 k) = b m c (ix2 i k) := by
  unfold V
  after_reads_at

theorem lt24 (t : Fin cfg0.N) : t.val < 24 := lt_of_lt_of_eq t.isLt Gen.N_0

/-- The block indices: six column blocks for each layer. -/
theorem idx : ∀ t : Fin cfg0.N, win0_0.index t 0 = 0
    ∧ win0_0.index t 1 = 0
    ∧ win0_1.index t 0 = t.val / 6
    ∧ win0_1.index t 1 = 0
    ∧ win0_1.index t 2 = t.val % 6
    ∧ win0_2.index t 0 = t.val / 6
    ∧ win0_2.index t 1 = 0
    ∧ win0_2.index t 2 = t.val % 6
    ∧ win0_3.index t 0 = t.val / 6
    ∧ win0_3.index t 1 = 0
    ∧ win0_3.index t 2 = t.val % 6 := by decide +kernel

theorem blk0 (t : Fin cfg0.N) (r : Fin 8) (k : Fin 1024) :
    (iblk m c 0 t : Vec Ideal S8x1024 .f32) (ix2 r k) = AdaTable.row (cond m c) (ctx m c) r k := by
  rw [← V_v2]
  unfold iblk
  rw [View.read_apply]
  show V m c main_v2 _ = V m c main_v2 _
  congr 1
  funext a
  apply Fin.ext
  match a with
  | ⟨0, _⟩ => show win0_0.index t 0 * 8 + 1 * r.val = r.val; have := idx t; omega
  | ⟨1, _⟩ => show win0_0.index t 1 * 1024 + 1 * k.val = k.val; have := idx t; omega

theorem blk1 (t : Fin cfg0.N) (j k : Fin 1024) (i : Fin 4) (n : Fin 6144) (hi : i.val = t.val / 6) (hn : n.val = t.val % 6 * 1024 + k.val) :
    (iblk m c 1 t : Vec Ideal S1x1024x1024 .f32) (ix3 0 j k) = w m c (ix3 i j n) := by
  refine Eq.trans ?_ (congrFun (V_main_arg2 m c) _)
  unfold iblk
  rw [View.read_apply]
  show V m c main_arg2 _ = V m c main_arg2 _
  congr 1
  funext a
  apply Fin.ext
  have := idx t
  match a with
  | ⟨0, _⟩ => show win0_1.index t 0 * 1 + 1 * 0 = i.val; omega
  | ⟨1, _⟩ => show win0_1.index t 1 * 1024 + 1 * j.val = j.val; omega
  | ⟨2, _⟩ => show win0_1.index t 2 * 1024 + 1 * k.val = n.val; omega

theorem blk2 (t : Fin cfg0.N) (k : Fin 1024) (i : Fin 4) (n : Fin 6144) (hi : i.val = t.val / 6) (hn : n.val = t.val % 6 * 1024 + k.val) :
    (iblk m c 2 t : Vec Ideal S1x1x1024 .f32) (ix3 0 0 k) = b m c (ix2 i n) := by
  rw [← V_v3]
  unfold iblk
  rw [View.read_apply]
  show V m c main_v3 _ = V m c main_v3 _
  congr 1
  funext a
  apply Fin.ext
  have := idx t
  match a with
  | ⟨0, _⟩ => show win0_2.index t 0 * 1 + 1 * 0 = i.val; omega
  | ⟨1, _⟩ => show win0_2.index t 1 * 1 + 1 * 0 = 0; omega
  | ⟨2, _⟩ => show win0_2.index t 2 * 1024 + 1 * k.val = n.val; omega

theorem ld_0 (x : Vec Ideal S8x1024 .f32) : View.ld x r0_0 = x := View.ld_unit_zero (S := S8x1024) hz _ x
theorem ld_1 (x : Vec Ideal S1x1024x1024 .f32) : View.ld x r0_1 = x := View.ld_unit_zero (S := S1x1024x1024) hz3 _ x
theorem ld_2 (x : Vec Ideal S1x1x1024 .f32) : View.ld x r0_2 = x := View.ld_unit_zero (S := S1x1x1024) hz3 _ x

/-- The body's result at an index. -/
theorem pay_apply (v0 : Vec Ideal S8x1024 .f32) (v10 : Vec Ideal S1x1024x1024 .f32) (v13 : Vec Ideal S1x1x1024 .f32) (r : Fin 8) (k : Fin 1024) :
    k0_pay1 v0 v10 v13 (ix3 0 r k)
      = (∑ j : Fin 1024, AdaTable.act (v0 (ix2 r j)) * v10 (ix3 0 j k)) + v13 (ix3 0 0 k) := by
  unfold AdaTable.act
  pointwise [k0_pay1]
  simp only [zero_sub]

/-- What a point writes back is its block of the result. -/
theorem flushed_eq (t : Fin cfg0.N) (hf' : (cfg0.win 3).flush t = true) :
    (Gen.dats m 0 c).flushed 3 t = ((cfg0.win 3).blk t).view.read (Elt Ideal) (AdaTable.out (cond m c) (ctx m c) (w m c) (b m c)) := by
  have hN := lt24 t
  have hrd : ∀ (r : Fin 8) (k : Fin 1024) (i : Fin 4) (n : Fin 6144), i.val = t.val / 6 → n.val = t.val % 6 * 1024 + k.val →
      ((cfg0.win 3).blk t).view.read (Elt Ideal) (AdaTable.out (cond m c) (ctx m c) (w m c) (b m c)) (ix3 0 r k)
        = AdaTable.out (cond m c) (ctx m c) (w m c) (b m c) (ix3 i r n) := by
    intro r k i n hi hn
    rw [View.read_apply]
    refine congrArg (AdaTable.out (cond m c) (ctx m c) (w m c) (b m c)) ?_
    funext a
    apply Fin.ext
    have := idx t
    match a with
    | ⟨0, _⟩ => show win0_3.index t 0 * 1 + 1 * 0 = i.val; omega
    | ⟨1, _⟩ => show win0_3.index t 1 * 8 + 1 * r.val = r.val; omega
    | ⟨2, _⟩ => show win0_3.index t 2 * 1024 + 1 * k.val = n.val; omega
  funext y
  obtain ⟨q, r, k, rfl⟩ : ∃ (q : Fin 1) (r : Fin 8) (k : Fin 1024), y = ix3 q r k := ⟨y 0, y 1, y 2, eq_ix3 y⟩
  obtain rfl : q = 0 := Subsingleton.elim _ _
  rw [hrd r k ⟨t.val / 6, by omega⟩ ⟨t.val % 6 * 1024 + k.val, by omega⟩ rfl rfl, Value.flushed3 m c t]
  unfold out0_3
  rw [View.canon_unit_zero hz3]
  refine (pay_apply _ _ _ r k).trans ?_
  rw [ld_0, ld_1, ld_2]
  rw [blk2 m c t k ⟨t.val / 6, by omega⟩ ⟨t.val % 6 * 1024 + k.val, by omega⟩ rfl rfl]
  refine congrArg (· + _) (Finset.sum_congr rfl fun j _ => ?_)
  rw [blk0 m c t, blk1 m c t j k ⟨t.val / 6, by omega⟩ ⟨t.val % 6 * 1024 + k.val, by omega⟩ rfl rfl]
  rfl

/-- So the result array ends holding it: the points' blocks cover it. -/
theorem final : (Gen.dats m 0 c).arrAt 3 cfg0.N = AdaTable.out (cond m c) (ctx m c) (w m c) (b m c) :=
  (Gen.dats m 0 c).arrAt_eq_of_cover 3 _ (flushed_eq m c) fun i => by
    have h0 : (i 0 : ℕ) < 4 := (i 0).isLt
    have h1 : (i 1 : ℕ) < 8 := (i 1).isLt
    have h2 : (i 2 : ℕ) < 6144 := (i 2).isLt
    have hb : (i 0).val * 6 + (i 2).val / 1024 < cfg0.N := by show _ < grid0.N; rw [Gen.N_0]; omega
    refine ⟨⟨(i 0).val * 6 + (i 2).val / 1024, hb⟩, (by decide +kernel : ∀ t : Fin cfg0.N, (cfg0.win 3).flush t = true) _, ?_⟩
    show i ∈ ((View.whole main_v4).slice (win0_3.rect ⟨(i 0).val * 6 + (i 2).val / 1024, hb⟩)).set
    rw [View.set_slice_whole, Rect.mem_set_unit]
    intro a
    have hi := idx ⟨(i 0).val * 6 + (i 2).val / 1024, hb⟩
    dsimp only at hi
    match a with
    | ⟨0, _⟩ => show win0_3.index ⟨(i 0).val * 6 + (i 2).val / 1024, hb⟩ 0 * 1 ≤ (i 0 : ℕ) ∧ (i 0 : ℕ) < win0_3.index ⟨(i 0).val * 6 + (i 2).val / 1024, hb⟩ 0 * 1 + 1; omega
    | ⟨1, _⟩ => show win0_3.index ⟨(i 0).val * 6 + (i 2).val / 1024, hb⟩ 1 * 8 ≤ (i 1 : ℕ) ∧ (i 1 : ℕ) < win0_3.index ⟨(i 0).val * 6 + (i 2).val / 1024, hb⟩ 1 * 8 + 8; omega
    | ⟨2, _⟩ => show win0_3.index ⟨(i 0).val * 6 + (i 2).val / 1024, hb⟩ 2 * 1024 ≤ (i 2 : ℕ) ∧ (i 2 : ℕ) < win0_3.index ⟨(i 0).val * 6 + (i 2).val / 1024, hb⟩ 2 * 1024 + 1024; omega

end Cert.Kernel9Ideal.Array

namespace Cert.Reference9Ideal.Layer
open Idealize.ShloMosaic Idealize.ShloMosaic.TcCoe Idealize.SL.Sem Cert.Reference9Ideal Cert.Reference9Ideal.Gen Cert.Reference9Ideal.Read

variable (x0 : Vec Ideal S1x1024 .f32) (x1 : Vec Ideal S1024 .f32) (x2 : Vec Ideal S4x1024x6144 .f32) (x3 : Vec Ideal S4x6144 .f32)

/-- The reference takes silu before it joins the rows; silu of a zero row is zero. -/
theorem rows (r : Fin 8) (k : Fin 1024) : val_main_v4 (F := Ideal) x0 x1 (ix2 r k) = AdaTable.act (AdaTable.row x0 x1 r k) := by
  unfold AdaTable.row
  by_cases h : r.val < 1
  · rw [if_pos h]
    unfold AdaTable.act
    pointwise [val_main_v4, val_main_v2, val_main_v1, val_main_call1_v0, val_main_call1_v1, val_main_call1_cst, val_main_call1_v2, val_main_call1_v3, val_main_call1_cst_0, val_main_call1_v4, val_main_call1_v5]
    rw [dif_pos h]
  · rw [if_neg h]
    by_cases h1 : r.val - 1 < 1
    · rw [if_pos h1]
      unfold AdaTable.act
      pointwise [val_main_v4, val_main_v0, val_main_call0_v0, val_main_call0_v1, val_main_call0_cst, val_main_call0_v2, val_main_call0_v3, val_main_call0_cst_0, val_main_call0_v4, val_main_call0_v5]
      rw [dif_neg h, dif_pos h1, show (⟨r.val - 1, h1⟩ : Fin 1) = 0 from Subsingleton.elim _ _]
    · rw [if_neg h1, AdaTable.act_zero]
      pointwise [val_main_v4, val_main_v3, val_main_cst]
      rw [dif_neg h, dif_neg h1]

/-- The reference's result is the same function. -/
theorem result_eq : (val_main_v9 (F := Ideal) x0 x1 x2 x3) = AdaTable.out x0 x1 x2 x3 := by
  funext y
  obtain ⟨i, r, n, rfl⟩ : ∃ (i : Fin 4) (r : Fin 8) (n : Fin 6144), y = ix3 i r n := ⟨y 0, y 1, y 2, eq_ix3 y⟩
  show _ = (∑ k : Fin 1024, AdaTable.act (AdaTable.row x0 x1 r k) * x2 (ix3 i k n)) + x3 (ix2 i n)
  simp only [← rows]
  pointwise [val_main_v9, val_main_v6, val_main_v5, val_main_v8, val_main_v7]
  exact congrArg (· + _) (Finset.sum_congr rfl fun j _ => mul_comm _ _)

end Cert.Reference9Ideal.Layer

namespace Cert.Proof

open Idealize.ShloMosaic Idealize.SL.Sem

/-- The modulation table's call runs and leaves its arguments unchanged. -/
theorem frame_Kernel9 : Cert.quiescent_Kernel9 (hKernel9 := Cert.Kernel9.Gen.facts) := fun m ρ _ => Cert.Kernel9.Gen.frame m ρ

/-- So does its idealization. -/
theorem frame_Kernel9Ideal : Cert.quiescent_Kernel9Ideal (hKernel9Ideal := Cert.Kernel9Ideal.Gen.facts) :=
  fun m ρ _ => Cert.Kernel9Ideal.Gen.frame m ρ

/-- So does the reference; it declares no semaphore. -/
theorem frame_Reference9Ideal : Cert.quiescent_Reference9Ideal (hReference9Ideal := Cert.Reference9Ideal.Gen.facts) := fun m ρ _ =>
  (θ_run Cert.Reference9Ideal.defs _ _).mono
    (fun r h => ⟨fun c => (h c).2, Idealize.ShloMosaic.sem_eq_zero_of_no_sems (by decide) r.2⟩)
    (Cert.Reference9Ideal.Value.run (F := Ideal) m ρ)

/-- Both results are `AdaTable.out` of the arguments. -/
theorem algebraic_Kernel9 : Cert.algebraic_Kernel9Ideal_Reference9Ideal
    (hKernel9Ideal := Cert.Kernel9Ideal.Gen.facts) (hReference9Ideal := Cert.Reference9Ideal.Gen.facts) := by
  intro m ρ m' ρ' _ hagree
  refine ⟨fun c => AdaTable.out (m ((c.tc : Thread _ _).loc Cert.Kernel9Ideal.main_arg0)) (m ((c.tc : Thread _ _).loc Cert.Kernel9Ideal.main_arg1)) (m ((c.tc : Thread _ _).loc Cert.Kernel9Ideal.main_arg2)) (m ((c.tc : Thread _ _).loc Cert.Kernel9Ideal.main_arg3)), ?_, ?_⟩
  · exact (θ_run Cert.Kernel9Ideal.defs _ _).mono
      (fun r h c => ⟨(h c).1.trans (Cert.Kernel9Ideal.Array.final m c), (h c).2⟩) (Cert.Kernel9Ideal.Value.run_blocks m ρ)
  · refine (θ_run Cert.Reference9Ideal.defs _ _).mono (fun r h c => ⟨?_, (h c).2⟩) (Cert.Reference9Ideal.Value.run (F := Ideal) m' ρ')
    obtain ⟨h0, h1, h2, h3⟩ := hagree c
    refine ((h c).1.trans ((Cert.Reference9Ideal.Read.val_main_v9_eq (F := Ideal) _ _ _ _).trans
      (Cert.Reference9Ideal.Layer.result_eq _ _ _ _))).trans ?_
    rw [h0, h1, h2, h3]

end Cert.Proof
end
end
-- ==== Proof.Prep.lean ====
/-
  The token stream: the context tokens, then the latent tokens with their position embedding added; kernel and reference
  both compute `Prep.out`.
-/
module

public import proofs.«01_k».proof.Defs
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Reference10Ideal.Read
public import Idealize.ShloMosaic.Lib.Pointwise
public import Idealize.ShloMosaic.Lib.StableHlo.ReadAt

@[expose] public section

set_option maxRecDepth 16384
noncomputable section

namespace Cert.Prep
open Idealize.ShloMosaic

/-- The number `n` as a float. -/
def num (n : ℕ) : EReal := FloatOps.sitofp (F := Ideal) .f32 (BitVec.ofNat 32 n)

/-- The angle of position `n` at frequency `q`: `n · exp (-log 10000 · q / 256)`. -/
def angle (n q : ℕ) : EReal :=
  num n * Ideal.exp (Ideal.div (Ideal.ofBits FTy.f32 0xC1135D8E#32 * num q) (Ideal.ofBits FTy.f32 0x43800000#32))

/-- The embedding of position `n`: 256 sines, then 256 cosines. -/
def trig (n k : ℕ) : EReal := if k < 256 then Ideal.sin (angle n k) else Ideal.cos (angle n (k - 256))

/-- The embedding of latent token `n`: that of its row (of 64 tokens), then that of its column. -/
def emb (n k : ℕ) : EReal := if k < 512 then trig (n / 64) k else trig (n % 64) (k - 512)

/-- The stream: 256 context tokens, then the latent tokens with their embedding added. -/
def out (x : Vec Ideal ⟨2, ![16384, 1024]⟩ .f32) (ctx : Vec Ideal ⟨2, ![256, 1024]⟩ .f32) (y : (⟨2, ![16640, 1024]⟩ : Shape).Idx) : EReal :=
  have h : (y 0).val < 16640 := (y 0).isLt
  if h0 : (y 0).val < 256 then ctx (ix2 ⟨(y 0).val, h0⟩ (y 1))
  else x (ix2 ⟨(y 0).val - 256, by omega⟩ (y 1)) + emb ((y 0).val - 256) (y 1).val

end Cert.Prep

namespace Cert.Kernel10Ideal.Array
open Idealize.ShloMosaic Idealize.ShloMosaic.TcCoe Idealize.SL.Sem Cert.Kernel10Ideal Cert.Kernel10Ideal.Gen
open Idealize.ShloMosaic.Pipeline (Dat)

variable (m : (ℓ : Loc nD τ sig) → Buf (Elt Ideal) ℓ) (ρ : Dev nD → PrngReg) (c : Dev nD)

/-- Argument 0. -/
abbrev x : Vec Ideal S16384x1024 .f32 := m ((c : Thread nD τ).loc main_arg0)
/-- Argument 1. -/
abbrev ctx : Vec Ideal S256x1024 .f32 := m ((c : Thread nD τ).loc main_arg1)

theorem hz : (![0, 0] : Fin 2 → Nat) = fun _ => 0 := funext fun a => by fin_cases a <;> rfl

/-- The table of the rows. -/
theorem V_v20 (r : Fin 256) (k : Fin 512) : (V m c main_v20 : Vec Ideal S256x512 .f32) (ix2 r k) = Prep.trig r.val k.val := by
  unfold V Prep.trig
  after_reads_at
  by_cases h : k.val < 256
  · rw [dif_pos h, if_pos h]
    rfl
  · rw [dif_neg h, if_neg h]
    rfl

/-- The table of the columns. -/
theorem V_v23 (r : Fin 64) (k : Fin 512) : (V m c main_v23 : Vec Ideal S64x512 .f32) (ix2 r k) = Prep.trig r.val k.val := by
  unfold V Prep.trig
  after_reads_at
  by_cases h : k.val < 256
  · rw [dif_pos h, if_pos h]
    rfl
  · rw [dif_neg h, if_neg h]
    rfl

theorem lt65 (t : Fin cfg0.N) : t.val < 65 := lt_of_lt_of_eq t.isLt Gen.N_0

/-- The block indices: the latent tokens one block before the point, the result at the point, everything else whole. -/
theorem idx : ∀ t : Fin cfg0.N, win0_0.index t 0 = t.val - 1
    ∧ win0_0.index t 1 = 0
    ∧ win0_1.index t 0 = 0
    ∧ win0_1.index t 1 = 0
    ∧ win0_2.index t 0 = 0
    ∧ win0_2.index t 1 = 0
    ∧ win0_3.index t 0 = 0
    ∧ win0_3.index t 1 = 0
    ∧ win0_4.index t 0 = t.val
    ∧ win0_4.index t 1 = 0 := by decide +kernel

/-- The rows of the table that a point loads. -/
theorem off : ∀ t : Fin cfg0.N, 1 ≤ t.val → ∀ j : Fin 4, k0_off1 (grid0.coords t) (BitVec.ofNat 32 j.val) 0 = 4 * (t.val - 1) + j.val
    ∧ k0_off1 (grid0.coords t) (BitVec.ofNat 32 j.val) 1 = 0 := by decide +kernel

theorem blk0 (t : Fin cfg0.N) (r : Fin 256) (k : Fin 1024) (n : Fin 16384) (hn : n.val = 256 * (t.val - 1) + r.val) :
    (iblk m c 0 t : Vec Ideal S256x1024 .f32) (ix2 r k) = x m c (ix2 n k) := by
  refine Eq.trans ?_ (congrFun (V_main_arg0 m c) _)
  unfold iblk
  rw [View.read_apply]
  show V m c main_arg0 _ = V m c main_arg0 _
  congr 1
  funext a
  apply Fin.ext
  match a with
  | ⟨0, _⟩ => show win0_0.index t 0 * 256 + 1 * r.val = n.val; have := idx t; omega
  | ⟨1, _⟩ => show win0_0.index t 1 * 1024 + 1 * k.val = k.val; have := idx t; omega

theorem blk1 (t : Fin cfg0.N) (r : Fin 256) (k : Fin 1024) :
    (iblk m c 1 t : Vec Ideal S256x1024 .f32) (ix2 r k) = ctx m c (ix2 r k) := by
  refine Eq.trans ?_ (congrFun (V_main_arg1 m c) _)
  unfold iblk
  rw [View.read_apply]
  show V m c main_arg1 _ = V m c main_arg1 _
  congr 1
  funext a
  apply Fin.ext
  match a with
  | ⟨0, _⟩ => show win0_1.index t 0 * 256 + 1 * r.val = r.val; have := idx t; omega
  | ⟨1, _⟩ => show win0_1.index t 1 * 1024 + 1 * k.val = k.val; have := idx t; omega

theorem blk2 (t : Fin cfg0.N) (r : Fin 256) (k : Fin 512) :
    (iblk m c 2 t : Vec Ideal S256x512 .f32) (ix2 r k) = Prep.trig r.val k.val := by
  rw [← V_v20 m c]
  unfold iblk
  rw [View.read_apply]
  show V m c main_v20 _ = V m c main_v20 _
  congr 1
  funext a
  apply Fin.ext
  match a with
  | ⟨0, _⟩ => show win0_2.index t 0 * 256 + 1 * r.val = r.val; have := idx t; omega
  | ⟨1, _⟩ => show win0_2.index t 1 * 512 + 1 * k.val = k.val; have := idx t; omega

theorem blk3 (t : Fin cfg0.N) (r : Fin 64) (k : Fin 512) :
    (iblk m c 3 t : Vec Ideal S64x512 .f32) (ix2 r k) = Prep.trig r.val k.val := by
  rw [← V_v23 m c]
  unfold iblk
  rw [View.read_apply]
  show V m c main_v23 _ = V m c main_v23 _
  congr 1
  funext a
  apply Fin.ext
  match a with
  | ⟨0, _⟩ => show win0_3.index t 0 * 64 + 1 * r.val = r.val; have := idx t; omega
  | ⟨1, _⟩ => show win0_3.index t 1 * 512 + 1 * k.val = k.val; have := idx t; omega

/-- A row of the table that a point loads. -/
abbrev tabRow (i : grid0.Coords) (h : k0_cond2 i = 1#1) (j : Fin 4) (x2 : Vec Ideal S256x512 .f32) : Vec Ideal S1x512 .f32 :=
  View.ld x2 (Rect.unit (s := S256x512) (k0_off1 i (BitVec.ofNat 32 j.val)) S1x512.size (k0_off1_inb i h j))

theorem tabRow_apply (t : Fin cfg0.N) (ht : 1 ≤ t.val) (h : k0_cond2 (grid0.coords t) = 1#1) (j : Fin 4) (k : Fin 512) :
    tabRow (grid0.coords t) h j (iblk m c 2 t) (ix2 0 k) = Prep.trig (4 * (t.val - 1) + j.val) k.val := by
  have hN := lt65 t
  have ho := off t ht j
  refine Eq.trans ?_ (blk2 m c t ⟨4 * (t.val - 1) + j.val, by omega⟩ k)
  show (iblk m c 2 t : Vec Ideal S256x512 .f32) _ = (iblk m c 2 t : Vec Ideal S256x512 .f32) _
  congr 1
  funext a
  apply Fin.ext
  match a with
  | ⟨0, _⟩ => show k0_off1 (grid0.coords t) (BitVec.ofNat 32 j.val) 0 + 1 * 0 = 4 * (t.val - 1) + j.val; omega
  | ⟨1, _⟩ => show k0_off1 (grid0.coords t) (BitVec.ofNat 32 j.val) 1 + 1 * k.val = k.val; omega

/-- The body's result at an index, from the table rows it loads. -/
theorem pay_apply (v10 v16 v22 v28 : Vec Ideal S1x512 .f32) (v33 : Vec Ideal S64x512 .f32) (v36 : Vec Ideal S256x1024 .f32) (b : ℕ)
    (h0 : ∀ k : Fin 512, v10 (ix2 0 k) = Prep.trig (4 * b + 0) k.val) (h1 : ∀ k : Fin 512, v16 (ix2 0 k) = Prep.trig (4 * b + 1) k.val)
    (h2 : ∀ k : Fin 512, v22 (ix2 0 k) = Prep.trig (4 * b + 2) k.val) (h3 : ∀ k : Fin 512, v28 (ix2 0 k) = Prep.trig (4 * b + 3) k.val)
    (hc : ∀ (q : Fin 64) (k : Fin 512), v33 (ix2 q k) = Prep.trig q.val k.val) (r : Fin 256) (k : Fin 1024) :
    k0_pay1 v10 v16 v22 v28 v33 v36 (ix2 r k) = v36 (ix2 r k) + Prep.emb (256 * b + r.val) k.val := by
  pointwise [k0_pay1]
  simp only [h0, h1, h2, h3, hc]
  refine congrArg (_ + ·) ?_
  unfold Prep.emb
  by_cases hk : k.val < 512
  · rw [dif_pos hk, if_pos hk]
    split_ifs <;> exact congrArg (Prep.trig · k.val) (by omega)
  · rw [dif_neg hk, if_neg hk]
    split_ifs <;> exact congrArg (Prep.trig · (k.val - 512)) (by omega)

/-- What the body leaves in the result's block at the first point. -/
theorem outA (c : Dev nD) (i : grid0.Coords)
  (a1 : Memref sig .tc .vmem S256x1024 .f32) (h1 : a1.IsWhole)
  (a2 : Memref sig .tc .vmem S256x1024 .f32) (h2 : a2.IsWhole)
  (a3 : Memref sig .tc .vmem S256x512 .f32) (h3 : a3.IsWhole)
  (a4 : Memref sig .tc .vmem S64x512 .f32) (h4 : a4.IsWhole)
  (a5 : Memref sig .tc .vmem S256x1024 .f32) (h5 : a5.IsWhole) (hc0 : cond0_0 i) (hc1 : ¬cond0_1 i)
  (x0 : Vec Ideal S256x1024 .f32) (x1 : Vec Ideal S256x1024 .f32) (x2 : Vec Ideal S256x512 .f32) (x3 : Vec Ideal S64x512 .f32) :
    out0_A_4 c i a1 h1 a2 h2 a3 h3 a4 h4 a5 h5 hc0 hc1 x0 x1 x2 x3 = x1 := by
  unfold out0_A_4
  rw [View.read_writes_eq_canon _ _ _ (cover0_A_4 c i a1 h1 a2 h2 a3 h3 a4 h4 a5 h5 hc0 hc1 x0 x1 x2 x3)]
  unfold kernelRun0_A
  dsimp only
  sl_unfold_words
  rw [View.canon_unit_zero hz]
  simp only [View.readAt_eq_ld, h2.read_unread, View.ld_unit_zero (S := S256x1024) hz]

/-- What it leaves there at the other points. -/
theorem outB (c : Dev nD) (i : grid0.Coords)
  (a1 : Memref sig .tc .vmem S256x1024 .f32) (h1 : a1.IsWhole)
  (a2 : Memref sig .tc .vmem S256x1024 .f32) (h2 : a2.IsWhole)
  (a3 : Memref sig .tc .vmem S256x512 .f32) (h3 : a3.IsWhole)
  (a4 : Memref sig .tc .vmem S64x512 .f32) (h4 : a4.IsWhole)
  (a5 : Memref sig .tc .vmem S256x1024 .f32) (h5 : a5.IsWhole) (hc0 : ¬cond0_0 i) (hc1 : cond0_1 i)
  (x0 : Vec Ideal S256x1024 .f32) (x1 : Vec Ideal S256x1024 .f32) (x2 : Vec Ideal S256x512 .f32) (x3 : Vec Ideal S64x512 .f32) :
    out0_B_4 c i a1 h1 a2 h2 a3 h3 a4 h4 a5 h5 hc0 hc1 x0 x1 x2 x3
      = k0_pay1 (tabRow i hc1 0 x2) (tabRow i hc1 1 x2) (tabRow i hc1 2 x2) (tabRow i hc1 3 x2) x3 x0 := by
  unfold out0_B_4
  rw [View.read_writes_eq_canon _ _ _ (cover0_B_4 c i a1 h1 a2 h2 a3 h3 a4 h4 a5 h5 hc0 hc1 x0 x1 x2 x3)]
  unfold kernelRun0_B
  dsimp only
  sl_unfold_words
  rw [View.canon_unit_zero hz]
  simp only [View.readAt_eq_ld, h1.read_unread, h3.read_unread, h4.read_unread, View.ld_unit_zero (S := S256x1024) hz, View.ld_unit_zero (S := S64x512) hz]
  rfl

/-- What a point writes back is its block of the result. -/
theorem flushed_eq (t : Fin cfg0.N) (hf' : (cfg0.win 4).flush t = true) :
    (Gen.dats m 0 c).flushed 4 t = ((cfg0.win 4).blk t).view.read (Elt Ideal) (Prep.out (x m c) (ctx m c)) := by
  have hN := lt65 t
  have hrd : ∀ (r : Fin 256) (k : Fin 1024) (n : Fin 16640), n.val = 256 * t.val + r.val →
      ((cfg0.win 4).blk t).view.read (Elt Ideal) (Prep.out (x m c) (ctx m c)) (ix2 r k) = Prep.out (x m c) (ctx m c) (ix2 n k) := by
    intro r k n hn
    rw [View.read_apply]
    refine congrArg (Prep.out (x m c) (ctx m c)) ?_
    funext a
    apply Fin.ext
    match a with
    | ⟨0, _⟩ => show win0_4.index t 0 * 256 + 1 * r.val = n.val; have := idx t; omega
    | ⟨1, _⟩ => show win0_4.index t 1 * 1024 + 1 * k.val = k.val; have := idx t; omega
  funext y
  obtain ⟨r, k, rfl⟩ : ∃ (r : Fin 256) (k : Fin 1024), y = ix2 r k := ⟨y 0, y 1, eq_ix2 y⟩
  rw [hrd r k ⟨256 * t.val + r.val, by omega⟩ rfl]
  show _ = if h0 : 256 * t.val + r.val < 256 then ctx m c (ix2 ⟨256 * t.val + r.val, h0⟩ k)
    else x m c (ix2 ⟨256 * t.val + r.val - 256, by omega⟩ k) + Prep.emb (256 * t.val + r.val - 256) k.val
  by_cases ht : 1 ≤ t.val
  · rw [dif_neg (by omega), Value.flushed4_B m c t (by omega) ht, outB]
    refine (pay_apply _ _ _ _ _ _ (t.val - 1) (tabRow_apply m c t ht _ 0) (tabRow_apply m c t ht _ 1) (tabRow_apply m c t ht _ 2)
      (tabRow_apply m c t ht _ 3) (blk3 m c t) r k).trans ?_
    rw [blk0 m c t r k ⟨256 * t.val + r.val - 256, by omega⟩ (by dsimp only; omega)]
    exact congrArg (_ + Prep.emb · k.val) (by omega)
  · rw [dif_pos (by omega), Value.flushed4_A m c t (by omega) ht, outA]
    refine (blk1 m c t r k).trans (congrArg (fun n => ctx m c (ix2 n k)) (Fin.ext ?_))
    show r.val = 256 * t.val + r.val
    omega

/-- So the result array ends holding it: the points' blocks cover it. -/
theorem final : (Gen.dats m 0 c).arrAt 4 cfg0.N = Prep.out (x m c) (ctx m c) :=
  (Gen.dats m 0 c).arrAt_eq_of_cover 4 _ (flushed_eq m c) fun i => by
    have h0 : (i 0 : ℕ) < 16640 := (i 0).isLt
    have h1 : (i 1 : ℕ) < 1024 := (i 1).isLt
    have hb : (i 0).val / 256 < cfg0.N := by show _ < grid0.N; rw [Gen.N_0]; omega
    refine ⟨⟨(i 0).val / 256, hb⟩, (by decide +kernel : ∀ t : Fin cfg0.N, (cfg0.win 4).flush t = true) _, ?_⟩
    show i ∈ ((View.whole main_v24).slice (win0_4.rect ⟨(i 0).val / 256, hb⟩)).set
    rw [View.set_slice_whole, Rect.mem_set_unit]
    intro a
    have hi := idx ⟨(i 0).val / 256, hb⟩
    dsimp only at hi
    match a with
    | ⟨0, _⟩ => show win0_4.index ⟨(i 0).val / 256, hb⟩ 0 * 256 ≤ (i 0 : ℕ) ∧ (i 0 : ℕ) < win0_4.index ⟨(i 0).val / 256, hb⟩ 0 * 256 + 256; omega
    | ⟨1, _⟩ => show win0_4.index ⟨(i 0).val / 256, hb⟩ 1 * 1024 ≤ (i 1 : ℕ) ∧ (i 1 : ℕ) < win0_4.index ⟨(i 0).val / 256, hb⟩ 1 * 1024 + 1024; omega

end Cert.Kernel10Ideal.Array

namespace Cert.Reference10Ideal.Layer
open Idealize.ShloMosaic Idealize.ShloMosaic.TcCoe Idealize.SL.Sem Cert.Reference10Ideal Cert.Reference10Ideal.Gen Cert.Reference10Ideal.Read

variable (x0 : Vec Ideal S16384x1024 .f32) (x1 : Vec Ideal S256x1024 .f32)

/-- The angles of the token rows. -/
theorem row_angle (n : Fin 16384) (q : Fin 256) : val_main_v17 (F := Ideal) (ix2 n q) = Prep.angle (n.val / 64) q.val := by
  pointwise [val_main_v17, val_main_v15, val_main_v13, val_main_v2, val_main_v1, val_main_v0, val_main_v16, val_main_v14, val_main_v12, val_main_v11, val_main_v10, val_main_v9, val_main_v8, val_main_v7, val_main_cst, val_main_cst_0]
  rfl

/-- The angles of the token columns. -/
theorem col_angle (n : Fin 16384) (q : Fin 256) : val_main_v22 (F := Ideal) (ix2 n q) = Prep.angle (n.val % 64) q.val := by
  pointwise [val_main_v22, val_main_v20, val_main_v18, val_main_v6, val_main_v5, val_main_v4, val_main_v3, val_main_v21, val_main_v19, val_main_v12, val_main_v11, val_main_v10, val_main_v9, val_main_v8, val_main_v7, val_main_cst, val_main_cst_0]
  rfl

/-- The reference's embedding of a token. -/
theorem emb_eq (n : Fin 16384) (k : Fin 1024) : val_main_v27 (F := Ideal) (ix2 n k) = Prep.emb n.val k.val := by
  pointwise [val_main_v27, val_main_v23, val_main_v24, val_main_v25, val_main_v26]
  simp only [row_angle, col_angle]
  unfold Prep.emb Prep.trig
  by_cases h0 : k.val < 256
  · rw [dif_pos h0, if_pos (by omega), if_pos h0]
  rw [dif_neg h0]
  by_cases h1 : k.val - 256 < 256
  · rw [dif_pos h1, if_pos (by omega), if_neg h0]
  rw [dif_neg h1, if_neg (show ¬ k.val < 512 by omega)]
  by_cases h2 : k.val - 256 - 256 < 256
  · rw [dif_pos h2, if_pos (by omega)]
    exact congrArg (fun q => Ideal.sin (Prep.angle (n.val % 64) q)) (show k.val - 256 - 256 = k.val - 512 by omega)
  · rw [dif_neg h2, if_neg (by omega)]
    exact congrArg (fun q => Ideal.cos (Prep.angle (n.val % 64) q)) (show k.val - 256 - 256 - 256 = k.val - 512 - 256 by omega)

/-- The reference's result is the same function. -/
theorem result_eq : (val_main_v29 (F := Ideal) x0 x1) = Prep.out x0 x1 := by
  funext y
  obtain ⟨r, k, rfl⟩ : ∃ (r : Fin 16640) (k : Fin 1024), y = ix2 r k := ⟨y 0, y 1, eq_ix2 y⟩
  show _ = if h0 : r.val < 256 then x1 (ix2 ⟨r.val, h0⟩ k) else x0 (ix2 ⟨r.val - 256, by omega⟩ k) + Prep.emb (r.val - 256) k.val
  pointwise [val_main_v29, val_main_v28]
  simp only [emb_eq]

end Cert.Reference10Ideal.Layer

namespace Cert.Proof

open Idealize.ShloMosaic Idealize.SL.Sem

/-- The token stream's call runs and leaves its arguments unchanged. -/
theorem frame_Kernel10 : Cert.quiescent_Kernel10 (hKernel10 := Cert.Kernel10.Gen.facts) := fun m ρ _ => Cert.Kernel10.Gen.frame m ρ

/-- So does its idealization. -/
theorem frame_Kernel10Ideal : Cert.quiescent_Kernel10Ideal (hKernel10Ideal := Cert.Kernel10Ideal.Gen.facts) :=
  fun m ρ _ => Cert.Kernel10Ideal.Gen.frame m ρ

/-- So does the reference; it declares no semaphore. -/
theorem frame_Reference10Ideal : Cert.quiescent_Reference10Ideal (hReference10Ideal := Cert.Reference10Ideal.Gen.facts) := fun m ρ _ =>
  (θ_run Cert.Reference10Ideal.defs _ _).mono
    (fun r h => ⟨fun c => (h c).2, Idealize.ShloMosaic.sem_eq_zero_of_no_sems (by decide) r.2⟩)
    (Cert.Reference10Ideal.Value.run (F := Ideal) m ρ)

/-- Both results are `Prep.out` of the arguments. -/
theorem algebraic_Kernel10 : Cert.algebraic_Kernel10Ideal_Reference10Ideal
    (hKernel10Ideal := Cert.Kernel10Ideal.Gen.facts) (hReference10Ideal := Cert.Reference10Ideal.Gen.facts) := by
  intro m ρ m' ρ' _ hagree
  refine ⟨fun c => Prep.out (m ((c.tc : Thread _ _).loc Cert.Kernel10Ideal.main_arg0)) (m ((c.tc : Thread _ _).loc Cert.Kernel10Ideal.main_arg1)), ?_, ?_⟩
  · exact (θ_run Cert.Kernel10Ideal.defs _ _).mono
      (fun r h c => ⟨(h c).1.trans (Cert.Kernel10Ideal.Array.final m c), (h c).2⟩) (Cert.Kernel10Ideal.Value.run_blocks m ρ)
  · refine (θ_run Cert.Reference10Ideal.defs _ _).mono (fun r h c => ⟨?_, (h c).2⟩) (Cert.Reference10Ideal.Value.run (F := Ideal) m' ρ')
    obtain ⟨h0, h1⟩ := hagree c
    refine ((h c).1.trans ((Cert.Reference10Ideal.Read.val_main_v29_eq (F := Ideal) _ _).trans
      (Cert.Reference10Ideal.Layer.result_eq _ _))).trans ?_
    rw [h0, h1]

end Cert.Proof
end
end
-- ==== Proof.Segments.lean ====
/-
  The call that finalizes the counts as a function of its arguments: where each expert's segment of the sorted rows
  starts and stops, and what is read from that.
-/
module

public import proofs.«01_k».proof.Defs
public import Idealize.ShloMosaic.Lib.Pointwise

@[expose] public section

noncomputable section

namespace Cert.Segments
open Idealize.ShloMosaic

/-- The counts, by expert number. -/
def counts (x : IVec ⟨1, ![32]⟩ 32) (k : Nat) : BitVec 32 := if h : k < 32 then x (ix1 ⟨k, h⟩) else 0#32

/-- The width of a segment: the count rounded up to whole blocks of 256 rows. -/
def width (c : BitVec 32) : BitVec 32 := ((c + 255#32) >>> 8) <<< 8

/-- Where the first `n` segments stop, which is where segment `n` starts. -/
def stop (c : Nat → BitVec 32) : Nat → BitVec 32
  | 0 => 0#32
  | n + 1 => stop c n + width (c n)

/-- Among the first `n` segments, the row with rank `r` in segment `e`; `0` where `e` is none of them. -/
def dest (c : Nat → BitVec 32) (e r : BitVec 32) : Nat → BitVec 32
  | 0 => 0#32
  | n + 1 => Scalar.select (IntOp.cmpi .eq e (BitVec.ofNat 32 n)) (stop c n + r) (dest c e r n)

/-- How many of the first `n` segments stop at or before row `s`. -/
def passed (c : Nat → BitVec 32) (s : BitVec 32) : Nat → BitVec 32
  | 0 => 0#32
  | n + 1 => passed c s n + (IntOp.cmpi .sge s (stop c (n + 1))).setWidth 32

/-- Among the first `n` segments, where segment `l` stops; `0` where `l` is none of them. -/
def ends (c : Nat → BitVec 32) (l : BitVec 32) : Nat → BitVec 32
  | 0 => 0#32
  | n + 1 => Scalar.select (IntOp.cmpi .eq l (BitVec.ofNat 32 n)) (stop c (n + 1)) (ends c l n)

/-- Entry `(q, l)` of the table: the expert of block `l`, where segment `l` stops, and the number of used blocks. -/
def table (c : Nat → BitVec 32) (q l : BitVec 32) : BitVec 32 :=
  Scalar.select (IntOp.cmpi .eq q 0#32) (IntOp.minsi (passed c (l * 256#32) 32) 31#32)
    (Scalar.select (IntOp.cmpi .eq q 1#32) (ends c l 32) (stop c 32 >>> 8))

end Cert.Segments
end
end
-- ==== Proof.Finalize.lean ====
/-
  The call that finalizes the counts, at one grid point: its results are `Segments.dest`, twice, and `Segments.table`
  of the counts it reads word by word from the table.
-/
module
public import proofs.«01_k».proof.Proof.Segments
public import proofs.«01_k».proof.Proof.Gen.Kernel11Ideal.Frame

@[expose] public section

set_option maxRecDepth 65536
noncomputable section

namespace Cert.Kernel11Ideal.Hand
open Cert.Kernel11Ideal Cert.Kernel11Ideal.Gen
open Idealize.ShloMosaic Idealize.ShloMosaic.TcCoe Idealize.SL.Sem
open Idealize.ShloMosaic.Pipeline (Dat)

variable (m : (ℓ : Loc nD τ sig) → Buf (Elt Ideal) ℓ) (hO : Ok m) (c : Dev nD)

section
variable (i : grid0.Coords) (a2 : Memref sig .tc .vmem S65x1x256 .i32) (h2 : a2.IsWhole) (a3 : Memref sig .tc .vmem S65x1x256 .i32) (h3 : a3.IsWhole)
  (a4 : Memref sig .tc .vmem S65x1x256 .i32) (h4 : a4.IsWhole) (a5 : Memref sig .tc .vmem S65x1x256 .i32) (h5 : a5.IsWhole)
  (a6 : Memref sig .tc .vmem S65x1x256 .i32) (h6 : a6.IsWhole) (a7 : Memref sig .tc .vmem S65x1x256 .i32) (h7 : a7.IsWhole)
  (a8 : Memref sig .tc .vmem S8x256 .i32) (h8 : a8.IsWhole) (x0 x1 x2 x3 : Vec Ideal S65x1x256 .i32) (tb : TbBuf0 (F := Ideal) c tbM0_0)

theorem word_inb (k : Nat) (h : k < 32) : ∀ a, (![k] : Fin 1 → Nat) a + S1.size a ≤ S32.size a := fun a => by
  match a with | ⟨0, _⟩ => exact h

/-- Word `k` of the table of counts, as the body reads it. -/
def word (k : Nat) : BitVec 32 := if h : k < 32 then
  tbM0_0.view.readAt (Elt Ideal) (Rect.unit (s := S32) ![k] S1.size (word_inb k h)).toLoadRect tb (Shape.Idx.first (numel1_S1.symm ▸ Nat.one_pos)) else 0#32

theorem arg (m2 : Memref sig .tc .vmem S65x1x256 .i32) (h : m2.IsWhole) (x : Vec Ideal S65x1x256 .i32) : m2.view.readAt (Elt Ideal)
    (Rect.unit (s := S65x1x256) ![0, 0, 0] S65x1x256.size inb_S65x1x256_S65x1x256_0_0_0).toLoadRect (h.unread x) = x := by
  rw [View.readAt_eq_ld, h.read_unread]
  exact View.ld_unit_zero (S := S65x1x256) (by decide) _ _

theorem run4 : out0_A_4 c i a2 h2 a3 h3 a4 h4 a5 h5 a6 h6 a7 h7 a8 h8 x0 x1 x2 x3 tb = fun y => Segments.dest (word c tb) (x0 y) (x2 y) 32 := by
  unfold out0_A_4
  rw [View.read_writes_eq_canon _ _ _ (cover0_A_4 c i a2 h2 a3 h3 a4 h4 a5 h5 a6 h6 a7 h7 a8 h8 x0 x1 x2 x3 tb)]
  unfold kernelRun0_A
  dsimp only
  rw [View.canon_unit_zero (S := S65x1x256) (by decide)]
  exact (show _ = fun y => Segments.dest (word c tb) (kernelRun0_A.sl.r_1 c a2 h2 x0 y) (kernelRun0_A.sl.r_3 c a4 h4 x2 y) 32 from rfl).trans
    (by rw [show kernelRun0_A.sl.r_1 c a2 h2 x0 = x0 from arg a2 h2 x0, show kernelRun0_A.sl.r_3 c a4 h4 x2 = x2 from arg a4 h4 x2]; rfl)

theorem run5 : out0_A_5 c i a2 h2 a3 h3 a4 h4 a5 h5 a6 h6 a7 h7 a8 h8 x0 x1 x2 x3 tb = fun y => Segments.dest (word c tb) (x1 y) (x3 y) 32 := by
  unfold out0_A_5
  rw [View.read_writes_eq_canon _ _ _ (cover0_A_5 c i a2 h2 a3 h3 a4 h4 a5 h5 a6 h6 a7 h7 a8 h8 x0 x1 x2 x3 tb)]
  unfold kernelRun0_A
  dsimp only
  rw [View.canon_unit_zero (S := S65x1x256) (by decide)]
  exact (show _ = fun y => Segments.dest (word c tb) (kernelRun0_A.sl.r_2 c a3 h3 x1 y) (kernelRun0_A.sl.r_4 c a5 h5 x3 y) 32 from rfl).trans
    (by rw [show kernelRun0_A.sl.r_2 c a3 h3 x1 = x1 from arg a3 h3 x1, show kernelRun0_A.sl.r_4 c a5 h5 x3 = x3 from arg a5 h5 x3]; rfl)

theorem run6 : out0_A_6 c i a2 h2 a3 h3 a4 h4 a5 h5 a6 h6 a7 h7 a8 h8 x0 x1 x2 x3 tb
    = fun y => Segments.table (word c tb) (BitVec.ofNat 32 (y 0).val) (BitVec.ofNat 32 (y 1).val) := by
  unfold out0_A_6
  rw [View.read_writes_eq_canon _ _ _ (cover0_A_6 c i a2 h2 a3 h3 a4 h4 a5 h5 a6 h6 a7 h7 a8 h8 x0 x1 x2 x3 tb)]
  unfold kernelRun0_A
  dsimp only
  rw [View.canon_unit_zero (S := S8x256) (by decide)]
  have hi : ∀ (d : Fin 2) (h) (y : S8x256.Idx), iota .tc S8x256 32 [d] h y = BitVec.ofNat 32 (y d).val := fun d h y => by
    show BitVec.ofNat 32 (0 * _ + (y d).val) = _
    rw [Nat.zero_mul, Nat.zero_add]
  refine (show _ = fun y => Segments.table (word c tb) (iota .tc S8x256 32 [0] iota_S8x256_d0_w32 y) (iota .tc S8x256 32 [1] iota_S8x256_d1_w32 y) from rfl).trans ?_
  funext y
  rw [hi, hi]
end

attribute [local irreducible] Segments.dest Segments.table out0_A_4 out0_A_5 out0_A_6

/-- The counts. -/
abbrev cn : IVec S32 32 := m ((c.tc : Thread nD τ).loc main_arg0)
abbrev xa (b : Ref sig .tc) : b.ty.Contents (Elt Ideal) := m ((c.tc : Thread nD τ).loc b)

/-- The three results, of the kernel's own arguments. -/
abbrev res0 : Vec Ideal S65x1x256 .i32 := fun y => Segments.dest (Segments.counts (cn m c)) (xa m c main_arg1 y) (xa m c main_arg3 y) 32
abbrev res1 : Vec Ideal S65x1x256 .i32 := fun y => Segments.dest (Segments.counts (cn m c)) (xa m c main_arg2 y) (xa m c main_arg4 y) 32
abbrev res2 : Vec Ideal S8x256 .i32 := fun y => Segments.table (Segments.counts (cn m c)) (BitVec.ofNat 32 (y 0).val) (BitVec.ofNat 32 (y 1).val)

theorem word_eq : word c (tbl m 0) = Segments.counts (cn m c) := by
  obtain rfl : c = 0 := Subsingleton.elim _ _
  funext k
  unfold word Segments.counts
  by_cases h : k < 32
  · rw [dif_pos h, dif_pos h]
    show cn m 0 _ = cn m 0 _
    congr 1
    funext a
    obtain rfl : a = 0 := Subsingleton.elim (α := Fin 1) _ _
    exact Fin.ext (show k + 1 * 0 = k by omega)
  · rw [dif_neg h, dif_neg h]

theorem idx3 (y i : S65x1x256.Idx) (h : ∀ a, (i a).val = 0 * S65x1x256.size a + 1 * (y a).val) : i = y := by
  funext a; apply Fin.ext; have := h a; omega
theorem idx2 (y i : S8x256.Idx) (h : ∀ a, (i a).val = 0 * S8x256.size a + 1 * (y a).val) : i = y := by
  funext a; apply Fin.ext; have := h a; omega

/-! Each input's block is its whole array. -/

theorem blk0 (t : Fin (cfgM m hO).N) : (iblk m hO c 0 t : S65x1x256.Idx → BitVec 32) = xa m c main_arg1 := by
  funext (y : S65x1x256.Idx)
  exact congrArg (xa m c main_arg1) (idx3 y _ fun a => by match a with | ⟨0, _⟩ => rfl | ⟨1, _⟩ => rfl | ⟨2, _⟩ => rfl)
theorem blk1 (t : Fin (cfgM m hO).N) : (iblk m hO c 1 t : S65x1x256.Idx → BitVec 32) = xa m c main_arg2 := by
  funext (y : S65x1x256.Idx)
  exact congrArg (xa m c main_arg2) (idx3 y _ fun a => by match a with | ⟨0, _⟩ => rfl | ⟨1, _⟩ => rfl | ⟨2, _⟩ => rfl)
theorem blk2 (t : Fin (cfgM m hO).N) : (iblk m hO c 2 t : S65x1x256.Idx → BitVec 32) = xa m c main_arg3 := by
  funext (y : S65x1x256.Idx)
  exact congrArg (xa m c main_arg3) (idx3 y _ fun a => by match a with | ⟨0, _⟩ => rfl | ⟨1, _⟩ => rfl | ⟨2, _⟩ => rfl)
theorem blk3 (t : Fin (cfgM m hO).N) : (iblk m hO c 3 t : S65x1x256.Idx → BitVec 32) = xa m c main_arg4 := by
  funext (y : S65x1x256.Idx)
  exact congrArg (xa m c main_arg4) (idx3 y _ fun a => by match a with | ⟨0, _⟩ => rfl | ⟨1, _⟩ => rfl | ⟨2, _⟩ => rfl)

/-! What the body leaves in the results' staging buffers. -/

theorem outs4 (t : Fin (cfgM m hO).N) : (outsAt0 m hO c t).1 = out0_A_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (iblk m hO c 0 t) (iblk m hO c 1 t) (iblk m hO c 2 t) (iblk m hO c 3 t) (tbl m 0) := rfl
theorem outs5 (t : Fin (cfgM m hO).N) : (outsAt0 m hO c t).2.1 = out0_A_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (iblk m hO c 0 t) (iblk m hO c 1 t) (iblk m hO c 2 t) (iblk m hO c 3 t) (tbl m 0) := rfl
theorem outs6 (t : Fin (cfgM m hO).N) : (outsAt0 m hO c t).2.2 = out0_A_6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (iblk m hO c 0 t) (iblk m hO c 1 t) (iblk m hO c 2 t) (iblk m hO c 3 t) (tbl m 0) := rfl

/-! So the result arrays end holding the results. -/

theorem flushed4 (t : Fin (cfgM m hO).N) : (dats m hO 0 c).flushed 4 t = (((cfgM m hO).win 4).blk t).view.read (Elt Ideal) (res0 m c) := by
  have hfl : (dats m hO 0 c).flushed 4 t = (outsAt0 m hO c t).1 := after0_4 m hO c t
  have hout : (outsAt0 m hO c t).1 = res0 m c := by
    refine ((outs4 m hO c t).trans (run4 c _ _ _ _ _ _ _ _ _ _ _ _ _ _ _ _ _ _ _ _)).trans ?_
    rw [word_eq]
    exact funext fun y => congrArg₂ (fun a b => Segments.dest (Segments.counts (cn m c)) a b 32) (congrFun (blk0 m hO c t) y) (congrFun (blk2 m hO c t) y)
  rw [hfl, hout]
  funext (y : S65x1x256.Idx)
  exact (congrArg (res0 m c) (idx3 y _ fun a => by match a with | ⟨0, _⟩ => rfl | ⟨1, _⟩ => rfl | ⟨2, _⟩ => rfl)).symm

theorem final4 : (dats m hO 0 c).arrAt 4 (cfgM m hO).N = res0 m c :=
  (dats m hO 0 c).arrAt_eq_of_cover 4 _ (fun t _ => flushed4 m hO c t) fun (i : S65x1x256.Idx) => by
    refine ⟨⟨0, Nat.one_pos⟩, flush0_4 (adm m hO) _, ?_⟩
    have key : ∀ r : Rect main_v0_0.ty.shape, i ∈ r.set → i ∈ ((View.whole main_v0_0).slice r).set := fun r h => by
      rw [View.set_slice_whole]; exact h
    refine key (((cfgM m hO).win 4).rect ⟨0, Nat.one_pos⟩) (Rect.mem_set_unit.mpr fun a => ?_)
    have h := (i a).isLt
    match a with
    | ⟨0, _⟩ => exact ⟨show 0 * 65 ≤ (i 0).val by omega, show (i 0).val < 0 * 65 + 65 from (Nat.zero_mul 65).symm ▸ (Nat.zero_add 65).symm ▸ h⟩
    | ⟨1, _⟩ => exact ⟨show 0 * 1 ≤ (i 1).val by omega, show (i 1).val < 0 * 1 + 1 from (Nat.zero_mul 1).symm ▸ (Nat.zero_add 1).symm ▸ h⟩
    | ⟨2, _⟩ => exact ⟨show 0 * 256 ≤ (i 2).val by omega, show (i 2).val < 0 * 256 + 256 from (Nat.zero_mul 256).symm ▸ (Nat.zero_add 256).symm ▸ h⟩

theorem flushed5 (t : Fin (cfgM m hO).N) : (dats m hO 0 c).flushed 5 t = (((cfgM m hO).win 5).blk t).view.read (Elt Ideal) (res1 m c) := by
  have hfl : (dats m hO 0 c).flushed 5 t = (outsAt0 m hO c t).2.1 := after0_5 m hO c t
  have hout : (outsAt0 m hO c t).2.1 = res1 m c := by
    refine ((outs5 m hO c t).trans (run5 c _ _ _ _ _ _ _ _ _ _ _ _ _ _ _ _ _ _ _ _)).trans ?_
    rw [word_eq]
    exact funext fun y => congrArg₂ (fun a b => Segments.dest (Segments.counts (cn m c)) a b 32) (congrFun (blk1 m hO c t) y) (congrFun (blk3 m hO c t) y)
  rw [hfl, hout]
  funext (y : S65x1x256.Idx)
  exact (congrArg (res1 m c) (idx3 y _ fun a => by match a with | ⟨0, _⟩ => rfl | ⟨1, _⟩ => rfl | ⟨2, _⟩ => rfl)).symm

theorem final5 : (dats m hO 0 c).arrAt 5 (cfgM m hO).N = res1 m c :=
  (dats m hO 0 c).arrAt_eq_of_cover 5 _ (fun t _ => flushed5 m hO c t) fun (i : S65x1x256.Idx) => by
    refine ⟨⟨0, Nat.one_pos⟩, flush0_5 (adm m hO) _, ?_⟩
    have key : ∀ r : Rect main_v0_1.ty.shape, i ∈ r.set → i ∈ ((View.whole main_v0_1).slice r).set := fun r h => by
      rw [View.set_slice_whole]; exact h
    refine key (((cfgM m hO).win 5).rect ⟨0, Nat.one_pos⟩) (Rect.mem_set_unit.mpr fun a => ?_)
    have h := (i a).isLt
    match a with
    | ⟨0, _⟩ => exact ⟨show 0 * 65 ≤ (i 0).val by omega, show (i 0).val < 0 * 65 + 65 from (Nat.zero_mul 65).symm ▸ (Nat.zero_add 65).symm ▸ h⟩
    | ⟨1, _⟩ => exact ⟨show 0 * 1 ≤ (i 1).val by omega, show (i 1).val < 0 * 1 + 1 from (Nat.zero_mul 1).symm ▸ (Nat.zero_add 1).symm ▸ h⟩
    | ⟨2, _⟩ => exact ⟨show 0 * 256 ≤ (i 2).val by omega, show (i 2).val < 0 * 256 + 256 from (Nat.zero_mul 256).symm ▸ (Nat.zero_add 256).symm ▸ h⟩

theorem flushed6 (t : Fin (cfgM m hO).N) : (dats m hO 0 c).flushed 6 t = (((cfgM m hO).win 6).blk t).view.read (Elt Ideal) (res2 m c) := by
  have hfl : (dats m hO 0 c).flushed 6 t = (outsAt0 m hO c t).2.2 := after0_6 m hO c t
  have hout : (outsAt0 m hO c t).2.2 = res2 m c := by
    refine ((outs6 m hO c t).trans (run6 c _ _ _ _ _ _ _ _ _ _ _ _ _ _ _ _ _ _ _ _)).trans ?_
    rw [word_eq]
  rw [hfl, hout]
  funext (y : S8x256.Idx)
  exact (congrArg (res2 m c) (idx2 y _ fun a => by match a with | ⟨0, _⟩ => rfl | ⟨1, _⟩ => rfl)).symm

theorem final6 : (dats m hO 0 c).arrAt 6 (cfgM m hO).N = res2 m c :=
  (dats m hO 0 c).arrAt_eq_of_cover 6 _ (fun t _ => flushed6 m hO c t) fun (i : S8x256.Idx) => by
    refine ⟨⟨0, Nat.one_pos⟩, flush0_6 (adm m hO) _, ?_⟩
    have key : ∀ r : Rect main_v0_2.ty.shape, i ∈ r.set → i ∈ ((View.whole main_v0_2).slice r).set := fun r h => by
      rw [View.set_slice_whole]; exact h
    refine key (((cfgM m hO).win 6).rect ⟨0, Nat.one_pos⟩) (Rect.mem_set_unit.mpr fun a => ?_)
    have h := (i a).isLt
    match a with
    | ⟨0, _⟩ => exact ⟨show 0 * 8 ≤ (i 0).val by omega, show (i 0).val < 0 * 8 + 8 from (Nat.zero_mul 8).symm ▸ (Nat.zero_add 8).symm ▸ h⟩
    | ⟨1, _⟩ => exact ⟨show 0 * 256 ≤ (i 1).val by omega, show (i 1).val < 0 * 256 + 256 from (Nat.zero_mul 256).symm ▸ (Nat.zero_add 256).symm ▸ h⟩

end Cert.Kernel11Ideal.Hand
end
end
-- ==== Proof.SegmentsFacts.lean ====
/-
  Facts about the segments of the expert rows: the kernel's selections are lookups and counts, and floor division by
  256 is a shift.
-/
module
public import proofs.«01_k».proof.Proof.Segments
public import Idealize.ShloMosaic.Lib.Routing.OpsOne
public import Idealize.ShloMosaic.Lib.Routing.Words

@[expose] public section

noncomputable section

namespace Cert.Segments
open Idealize.ShloMosaic

variable (c : Nat → BitVec 32)

theorem select_eq {α : Type} (a b : BitVec 32) (x y : α) : Scalar.select (IntOp.cmpi .eq a b) x y = if a = b then x else y := by
  unfold Scalar.select
  rw [WordCmp.cmpi_eq_eq]
  by_cases h : a = b
  · rw [if_pos h, if_pos]; simp [h]
  · rw [if_neg h, if_neg]; simp [h]

theorem eq_ofNat_iff (a : BitVec 32) (n : Nat) (hn : n < 2 ^ 32) : a = BitVec.ofNat 32 n ↔ a.toNat = n := by
  rw [← BitVec.toNat_inj, BitVec.toNat_ofNat, Nat.mod_eq_of_lt hn]

/-- The row with rank `r` in segment `e`. -/
theorem dest_eq (e r : BitVec 32) : ∀ n, n ≤ 32 → dest c e r n = if e.toNat < n then stop c e.toNat + r else 0#32
  | 0, _ => by rw [if_neg (Nat.not_lt_zero _)]; rfl
  | n + 1, h => by
    show Scalar.select _ _ _ = _
    rw [select_eq, dest_eq e r n (by omega)]
    by_cases he : e = BitVec.ofNat 32 n
    · have := (eq_ofNat_iff e n (by omega)).1 he
      rw [if_pos he, if_pos (by omega), this]
    · have : e.toNat ≠ n := fun h' => he ((eq_ofNat_iff e n (by omega)).2 h')
      rw [if_neg he]
      by_cases h1 : e.toNat < n
      · rw [if_pos h1, if_pos (by omega)]
      · rw [if_neg h1, if_neg (by omega)]

/-- Where segment `l` stops. -/
theorem ends_eq (l : BitVec 32) : ∀ n, n ≤ 32 → ends c l n = if l.toNat < n then stop c (l.toNat + 1) else 0#32
  | 0, _ => by rw [if_neg (Nat.not_lt_zero _)]; rfl
  | n + 1, h => by
    show Scalar.select _ _ _ = _
    rw [select_eq, ends_eq l n (by omega)]
    by_cases he : l = BitVec.ofNat 32 n
    · have := (eq_ofNat_iff l n (by omega)).1 he
      rw [if_pos he, if_pos (by omega), this]
    · have : l.toNat ≠ n := fun h' => he ((eq_ofNat_iff l n (by omega)).2 h')
      rw [if_neg he]
      by_cases h1 : l.toNat < n
      · rw [if_pos h1, if_pos (by omega)]
      · rw [if_neg h1, if_neg (by omega)]

/-- The number of segments passed is a count. -/
theorem passed_eq (s : BitVec 32) : ∀ n, passed c s n = BitVec.ofNat 32 (Nat.count (fun k => IntOp.cmpi .sge s (stop c (k + 1)) = 1#1) n)
  | 0 => rfl
  | n + 1 => by
    show passed c s n + _ = _
    rw [passed_eq s n, Nat.count_succ, BitVec.ofNat_add]
    congr 1
    have hb : ∀ b : BitVec 1, b.setWidth 32 = BitVec.ofNat 32 (if b = 1#1 then 1 else 0) := by decide
    exact hb _

/-- A stop is the sum of the widths before it. -/
theorem stop_sum (n : Nat) : stop c n = ∑ i ∈ Finset.range n, width (c i) := by
  induction n with
  | zero => rfl
  | succ n ih => rw [Finset.sum_range_succ, ← ih]; rfl

/-- So it is a running sum. -/
theorem stop_succ (j : Fin 32) : (∑ i : Fin 32, if i ≤ j then width (c i.val) else 0) = stop c (j.val + 1) := by
  rw [stop_sum]
  refine (Fin.sum_univ_eq_sum_range (fun i => if i ≤ j.val then width (c i) else 0) 32).trans ?_
  rw [← Finset.sum_filter]
  refine Finset.sum_congr (Finset.ext fun i => ?_) fun _ _ => rfl
  have := j.isLt
  simp only [Finset.mem_filter, Finset.mem_range]
  omega

/-- A width, as a number. -/
theorem width_toNat (x : BitVec 32) (hx : x.toNat ≤ 33280) : (width x).toNat = (x.toNat + 255) / 256 * 256 := by
  unfold width
  rw [BitVec.toNat_shiftLeft, BitVec.toNat_ushiftRight, BitVec.toNat_add, Nat.shiftLeft_eq, Nat.shiftRight_eq_div_pow]
  simp only [BitVec.toNat_ofNat]
  omega

/-- The stops do not overflow. -/
theorem stop_le (hc : ∀ k, (c k).toNat ≤ 33280) : ∀ n, n ≤ 32 → (stop c n).toNat ≤ n * 33536
  | 0, _ => Nat.zero_le _
  | n + 1, h => by
    have h1 := stop_le hc n (by omega)
    have h2 := width_toNat (c n) (hc n)
    have h3 := hc n
    show (stop c n + width (c n)).toNat ≤ _
    rw [BitVec.toNat_add, h2]
    omega

/-- The sign of a word. -/
def sign (x : BitVec 32) : BitVec 32 := if x = 0 then 0 else if x.msb then -1 else 1

/-- Floor division by 256, as it prints. -/
def floorDiv (x : BitVec 32) : BitVec 32 :=
  Scalar.select (IntOp.andi (IntOp.cmpi .ne (sign x) (sign 256#32)) (IntOp.cmpi .ne (IntOp.remsi .host x 256#32) 0#32))
    (IntOp.subi (IntOp.divsi .host x 256#32) 1#32) (IntOp.divsi .host x 256#32)

/-- Of a number that is not negative it is the quotient. -/
theorem floorDiv_eq (x : BitVec 32) (hx : x.toNat < 2 ^ 31) : floorDiv x = BitVec.ofNat 32 (x.toNat / 256) := by
  have hd : IntOp.divsi .host x 256#32 = BitVec.ofNat 32 (x.toNat / 256) := by
    conv_lhs => rw [← BitVec.setWidth_eq x, ← BitVec.ofNat_toNat]
    exact Routing.divsi_word .host hx (by omega) (by omega)
  unfold floorDiv
  by_cases h0 : x = 0
  · subst h0; rfl
  · have hm : x.msb = false := BitVec.msb_eq_false_iff_two_mul_lt.2 (by omega)
    have hs : sign x = 1 := by unfold sign; rw [if_neg h0, hm]; rfl
    have h1 : IntOp.cmpi .ne (sign x) (sign 256#32) = 0#1 := by rw [hs]; decide
    have h2 : ∀ b : BitVec 1, IntOp.andi 0#1 b = 0#1 := by decide
    rw [h1, h2, hd]
    rfl

theorem padded_eq (x : BitVec 32) (hx : x.toNat ≤ 33280) : floorDiv (x + 255#32) * 256#32 = width x := by
  have h : (x + 255#32).toNat = x.toNat + 255 := by
    rw [BitVec.toNat_add, BitVec.toNat_ofNat]; omega
  rw [floorDiv_eq _ (by omega), h]
  apply BitVec.eq_of_toNat_eq
  rw [width_toNat x hx, BitVec.toNat_mul, BitVec.toNat_ofNat, BitVec.toNat_ofNat]
  omega

theorem used_eq (hc : ∀ k, (c k).toNat ≤ 33280) : floorDiv (stop c 32) = stop c 32 >>> 8 := by
  have h := stop_le c hc 32 le_rfl
  rw [floorDiv_eq _ (by omega)]
  apply BitVec.eq_of_toNat_eq
  rw [BitVec.toNat_ushiftRight, Nat.shiftRight_eq_div_pow, BitVec.toNat_ofNat]
  omega

end Cert.Segments
end
end
-- ==== Proof.FinalizeRef.lean ====
/-
  The reference of the finalizing of the counts, read: of counts up to 33280 and segment numbers below 32 its results
  are `Segments.dest`, twice, and `Segments.table`.
-/
module
public import proofs.«01_k».proof.Proof.SegmentsFacts
public import proofs.«01_k».proof.Proof.Gen.Reference11Ideal.Run
public import proofs.«01_k».proof.Proof.Gen.Reference11Ideal.Read

@[expose] public section

set_option maxRecDepth 16384
noncomputable section

namespace Cert.Reference11Ideal.Layer
open Idealize.ShloMosaic Idealize.ShloMosaic.TcCoe Idealize.SL.Sem Cert.Reference11Ideal Cert.Reference11Ideal.Gen Cert.Reference11Ideal.Read

variable (x0 : IVec S32 32) (x1 x2 x3 x4 : IVec S65x1x256 32)

theorem counts_at (i : Fin 32) : x0 (ix1 i) = Segments.counts x0 i.val := by
  unfold Segments.counts
  rw [dif_pos i.isLt]

theorem counts_le (hc : ∀ i, (x0 i).toNat ≤ 33280) (k : Nat) : (Segments.counts x0 k).toNat ≤ 33280 := by
  unfold Segments.counts
  split
  · exact hc _
  · exact Nat.zero_le _

theorem padded (hc : ∀ i, (x0 i).toNat ≤ 33280) (i : Fin 32) : val_main_v4 (F := Ideal) x0 (ix1 i) = Segments.width (Segments.counts x0 i.val) := by
  rw [← counts_at, ← Segments.padded_eq _ (hc _)]
  rfl

theorem pad_end (hc : ∀ i, (x0 i).toNat ≤ 33280) (j : Fin 32) : val_main_v5 (F := Ideal) x0 (ix1 j) = Segments.stop (Segments.counts x0) (j.val + 1) := by
  refine (Routing.cumsum_vec (N := 32) (Nm1 := 31) rfl (val_main_v4 (F := Ideal) x0) _ rfl _ _ j).trans ?_
  rw [← Segments.stop_succ]
  exact Finset.sum_congr rfl fun i _ => congrArg (fun z => if i ≤ j then z else 0) (padded x0 hc i)

theorem pad_start (hc : ∀ i, (x0 i).toNat ≤ 33280) (j : Fin 32) : val_main_v6 (F := Ideal) x0 (ix1 j) = Segments.stop (Segments.counts x0) j.val := by
  rw [val_main_v6_apply, pad_end x0 hc, padded x0 hc]
  exact add_sub_cancel_right (Segments.stop (Segments.counts x0) j.val) _

/-- A number that names a segment is not wrapped. -/
theorem not_wrapped (w : BitVec 32) (h : w.toNat < 32) : Scalar.select (IntOp.cmpi .slt w 0#32) (IntOp.addi w 32#32) w = w := by
  have h0 : IntOp.cmpi .slt w 0#32 = 0#1 := by
    rw [WordCmp.cmpi_slt_of_lt (by omega) (by decide)]
    rfl
  rw [h0]; rfl

/-- The lookup of a segment's start by its number. -/
theorem take (x : IVec S32 32) (idx : IVec S65x1x256x1 32) (a : Fin 65) (b : Fin 1) (d : Fin 256) (h : (idx (ix4 a b d 0)).toNat < 32) :
    Host.gather gather_S32_S65x1x256x1_S65x1x256_n_0_n_n_0_3_1 x idx (ix3 a b d) = x (ix1 ⟨(idx (ix4 a b d 0)).toNat, h⟩) := by
  unfold Host.gather
  congr 1
  funext q
  refine Fin.ext ?_
  match q with
  | ⟨0, _⟩ =>
    show (gather_S32_S65x1x256x1_S65x1x256_n_0_n_n_0_3_1).start (ix3 a b d) idx 0 + (gather_S32_S65x1x256x1_S65x1x256_n_0_n_n_0_3_1).batchCoord (ix3 a b d) 0
      + (gather_S32_S65x1x256x1_S65x1x256_n_0_n_n_0_3_1).offCoord (ix3 a b d) 0 = (idx (ix4 a b d 0)).toNat
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 1) ∈ (gather_S32_S65x1x256x1_S65x1x256_n_0_n_n_0_3_1).startIndexMap from List.mem_singleton.mpr rfl)]
    have hsi : (gather_S32_S65x1x256x1_S65x1x256_n_0_n_n_0_3_1).siIdx (ix3 a b d)
        ⟨List.idxOf (0 : Fin 1) (gather_S32_S65x1x256x1_S65x1x256_n_0_n_n_0_3_1).startIndexMap, List.idxOf_lt_length_iff.2 (List.mem_singleton.mpr rfl)⟩ = ix4 a b d 0 := by
      funext b'; refine Fin.ext ?_
      match b' with
      | ⟨0, _⟩ => rfl
      | ⟨1, _⟩ => rfl
      | ⟨2, _⟩ => rfl
      | ⟨3, _⟩ => rfl
    rw [hsi]
    show min (idx (ix4 a b d 0)).toInt.toNat 31 + 0 + 0 = _
    have : (idx (ix4 a b d 0)).toInt = ((idx (ix4 a b d 0)).toNat : Int) := by
      rw [BitVec.toInt_eq_toNat_cond, if_pos (by omega)]
    omega

/-- The first and the second result. -/
theorem result0 (hc : ∀ i, (x0 i).toNat ≤ 33280) (h1 : ∀ y, (x1 y).toNat < 32) :
    val_main_v14 (F := Ideal) x0 x1 x3 = fun y => Segments.dest (Segments.counts x0) (x1 y) (x3 y) 32 := by
  funext y
  obtain ⟨a, b, d, rfl⟩ : ∃ (a : Fin 65) (b : Fin 1) (d : Fin 256), y = ix3 a b d := ⟨y 0, y 1, y 2, eq_ix3 y⟩
  have hw : val_main_v12 (F := Ideal) x1 (ix4 a b d 0) = x1 (ix3 a b d) := by
    obtain rfl : b = 0 := Subsingleton.elim _ _
    exact (show _ = Scalar.select (IntOp.cmpi .slt (x1 (ix3 a 0 d)) 0#32) (IntOp.addi (x1 (ix3 a 0 d)) 32#32) (x1 (ix3 a 0 d)) by
      pointwise [val_main_v12, val_main_v11, val_main_v10, val_main_v9, val_main_v8, val_main_v7, val_main_c_2, val_main_c_3]).trans (not_wrapped _ (h1 _))
  rw [val_main_v14_apply, Segments.dest_eq _ _ _ 32 le_rfl, if_pos (h1 _)]
  unfold val_main_v13
  rw [take _ _ a b d (by rw [hw]; exact h1 _), pad_start x0 hc]
  exact congrArg (fun w : BitVec 32 => Segments.stop (Segments.counts x0) w.toNat + x3 (ix3 a b d)) hw

theorem result1 (hc : ∀ i, (x0 i).toNat ≤ 33280) (h2 : ∀ y, (x2 y).toNat < 32) :
    val_main_v22 (F := Ideal) x0 x2 x4 = fun y => Segments.dest (Segments.counts x0) (x2 y) (x4 y) 32 := result0 x0 x2 x4 hc h2

/-- The rows of the third result. -/
theorem experts (hc : ∀ i, (x0 i).toNat ≤ 33280) (l : Fin 256) :
    val_main_v34 (F := Ideal) x0 (ix1 l) = IntOp.minsi (Segments.passed (Segments.counts x0) (BitVec.ofNat 32 l.val * 256#32) 32) 31#32 := by
  have hr : val_main_v32 (F := Ideal) x0 (ix1 l) = Segments.passed (Segments.counts x0) (BitVec.ofNat 32 l.val * 256#32) 32 := by
    rw [Segments.passed_eq]
    refine Routing.reduce_count (n := 256) (m := 32) (by decide) (val_main_v30 (F := Ideal) x0) _ _ _ l _ fun q => ?_
    have hb : val_main_v30 (F := Ideal) x0 (ix2 l q) = IntOp.cmpi .sle (val_main_v5 (F := Ideal) x0 (ix1 q)) (BitVec.ofNat 32 l.val * 256#32) := by
      rw [val_main_v30_apply, val_main_v28_apply, val_main_v26_apply, val_main_v29_apply, val_main_v27_apply]
      have e : idx_main_v26 (idx_main_v28 (ix2 l q)) = ix1 q := by
        funext a
        match a with | ⟨0, _⟩ => rfl
      rw [e]
      generalize val_main_v5 (F := Ideal) x0 = z
      rfl
    refine Eq.to_iff (congrArg (· = 1#1) (hb.trans ?_))
    rw [pad_end x0 hc]
    rfl
  rw [val_main_v34_apply, hr]
  generalize Segments.passed _ _ _ = z
  rfl

theorem stops (hc : ∀ i, (x0 i).toNat ≤ 33280) (l : Fin 256) :
    val_main_v36 (F := Ideal) x0 (ix1 l) = Segments.ends (Segments.counts x0) (BitVec.ofNat 32 l.val) 32 := by
  have hl : (BitVec.ofNat 32 l.val).toNat = l.val := by have := l.isLt; rw [BitVec.toNat_ofNat]; omega
  rw [Segments.ends_eq _ _ 32 le_rfl, hl]
  by_cases h : l.val < 32
  · rw [if_pos h, ← pad_end x0 hc ⟨l.val, h⟩]
    pointwise [val_main_v36]
    simp [h]
  · rw [if_neg h]
    pointwise [val_main_v36, val_main_v35, val_main_c_9]
    simp [h]

theorem blocks (hc : ∀ i, (x0 i).toNat ≤ 33280) (i : S256.Idx) :
    val_main_v40 (F := Ideal) x0 i = Segments.stop (Segments.counts x0) 32 >>> 8 := by
  have h37 : ∀ i, val_main_v37 (F := Ideal) x0 i = Segments.stop (Segments.counts x0) 32 := fun i => by
    have e : idx_main_v37 i = ix1 31 := by
      funext a
      match a with
      | ⟨0, _⟩ =>
        refine Fin.ext ?_
        have : (i 0).val < 1 := (i 0).isLt
        show 31 + (i 0).val = 31
        omega
    rw [val_main_v37_apply, e, pad_end x0 hc]
    rfl
  have h38 : ∀ i, val_main_v38 (F := Ideal) x0 i = Segments.stop (Segments.counts x0) 32 := fun i => by
    unfold val_main_v38 shapeCast
    exact h37 _
  have h39 : ∀ i, val_main_v39 (F := Ideal) x0 i = Segments.floorDiv (val_main_v38 (F := Ideal) x0 i) := fun i => by
    unfold val_main_v39 val_main_call2_v7 val_main_call2_v8 val_main_call2_v6 val_main_call2_v5 val_main_call2_v4 val_main_call2_v3 val_main_call2_v2 val_main_call2_v1
    generalize val_main_v38 (F := Ideal) x0 = z
    rfl
  rw [← Segments.used_eq _ (counts_le x0 hc), val_main_v40_apply, h39, h38]

theorem result2 (hc : ∀ i, (x0 i).toNat ≤ 33280) :
    val_main_v49 (F := Ideal) x0 = fun y => Segments.table (Segments.counts x0) (BitVec.ofNat 32 (y 0).val) (BitVec.ofNat 32 (y 1).val) := by
  funext y
  obtain ⟨q, l, rfl⟩ : ∃ (q : Fin 8) (l : Fin 256), y = ix2 q l := ⟨y 0, y 1, eq_ix2 y⟩
  show _ = Segments.table (Segments.counts x0) (BitVec.ofNat 32 q.val) (BitVec.ofNat 32 l.val)
  unfold Segments.table
  rw [← experts x0 hc, ← stops x0 hc, ← blocks x0 hc (ix1 l)]
  fin_cases q
  all_goals pointwise [val_main_v49, val_main_v41, val_main_v42, val_main_v43, val_main_v44, val_main_v45, val_main_v46, val_main_v47, val_main_v48]
  all_goals rfl

end Cert.Reference11Ideal.Layer
end
end
-- ==== Proof.FinalizeClaims.lean ====
/-
  The claims of the call that finalizes the counts. Kernel and reference both compute `Segments.dest`, twice, and
  `Segments.table`, of segment numbers below 32 and counts up to 33280.
-/
module

public import proofs.«01_k».proof.Defs
public import proofs.«01_k».proof.Proof.Gen.Kernel11.Frame
public import proofs.«01_k».proof.Proof.Gen.Pre_routed
public import proofs.«01_k».proof.Proof.Finalize
public import proofs.«01_k».proof.Proof.FinalizeRef

@[expose] public section

set_option maxRecDepth 16384
noncomputable section

namespace Cert.Kernel11Ideal.Hand
open Cert.Kernel11Ideal Cert.Kernel11Ideal.Gen
open Idealize.ShloMosaic Idealize.ShloMosaic.TcCoe Idealize.SL.Sem Idealize.ShloMosaic.WordCmp

variable (m : (ℓ : Loc nD τ sig) → Buf (Elt Ideal) ℓ) (ρ : Dev nD → PrngReg)

/-- What the run leaves: the three results as the grid point wrote them, and the arguments. -/
theorem run_blocks (hO : Ok m) : θ_run defs (onTc (τ := τ) (main (F := Ideal))) ⟨m, fun _ => 0, ρ⟩ (fun r => ∀ c : Dev nD,
      r.2.mem ((c.tc : Thread nD τ).loc main_v0_0) = (dats m hO 0 c).arrAt 4 (cfgM m hO).N
      ∧ r.2.mem ((c.tc : Thread nD τ).loc main_v0_1) = (dats m hO 0 c).arrAt 5 (cfgM m hO).N
      ∧ r.2.mem ((c.tc : Thread nD τ).loc main_v0_2) = (dats m hO 0 c).arrAt 6 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h.1 c).1 4, (h.1 c).1 5, (h.1 c).1 6,
      (h.1 c).2 main_arg0 (by decide : main_arg0 ∈ Pipeline.restRefs sig spec0),
      ((h.1 c).1 0).trans (((dats m hO 0 c).arrAt_in 0 rfl _).trans (A_eq m hO c 0)),
      ((h.1 c).1 1).trans (((dats m hO 0 c).arrAt_in 1 rfl _).trans (A_eq m hO c 1)),
      ((h.1 c).1 2).trans (((dats m hO 0 c).arrAt_in 2 rfl _).trans (A_eq m hO c 2)),
      ((h.1 c).1 3).trans (((dats m hO 0 c).arrAt_in 3 rfl _).trans (A_eq m hO c 3))⟩) (run_main_quiescent m ρ hO)

theorem lt_of_signed (w : BitVec 32) (n : Nat) (hn : n < 2 ^ 31) (h0 : IntOp.cmpi .sge w 0#32 = 1#1) (h1 : IntOp.cmpi .slt w (BitVec.ofNat 32 n) = 1#1) : w.toNat < n := by
  have a0 : (0 : Int) ≤ w.toInt := (ofBool_decide_eq_one_iff _).1 ((cmpi_sge_eq _ _).symm.trans h0)
  have a1 := (ofBool_decide_eq_one_iff _).1 ((cmpi_slt_eq _ _).symm.trans h1)
  have e : (BitVec.ofNat 32 n).toInt = n := by rw [BitVec.toInt_eq_toNat_cond, BitVec.toNat_ofNat, Nat.mod_eq_of_lt (by omega), if_pos (by omega)]
  rw [e] at a1
  rw [BitVec.toInt_eq_toNat_cond] at a0 a1
  split at a0 <;> split at a1 <;> omega

theorem le_of_signed (w : BitVec 32) (n : Nat) (hn : n < 2 ^ 31) (h0 : IntOp.cmpi .sge w 0#32 = 1#1) (h1 : IntOp.cmpi .sle w (BitVec.ofNat 32 n) = 1#1) : w.toNat ≤ n := by
  have a0 : (0 : Int) ≤ w.toInt := (ofBool_decide_eq_one_iff _).1 ((cmpi_sge_eq _ _).symm.trans h0)
  have a1 := (ofBool_decide_eq_one_iff _).1 ((cmpi_sle_eq _ _).symm.trans h1)
  have e : (BitVec.ofNat 32 n).toInt = n := by rw [BitVec.toInt_eq_toNat_cond, BitVec.toNat_ofNat, Nat.mod_eq_of_lt (by omega), if_pos (by omega)]
  rw [e] at a1
  rw [BitVec.toInt_eq_toNat_cond] at a0 a1
  split at a0 <;> split at a1 <;> omega

/-- The precondition's function at one entry. -/
theorem routed_apply (x0 : IVec S32 32) (x1 x2 x3 x4 : IVec S65x1x256 32) (a : Fin 65) (k : Fin 32) (d : Fin 256) :
    @Cert.Pre_routed.fn Cert.Pre_routed.Gen.facts Ideal _ x0 x1 x2 x3 x4 (ix3 a k d)
      = IntOp.andi (IntOp.andi (IntOp.andi (IntOp.andi (IntOp.cmpi .sge (x1 (ix3 a 0 d)) 0#32) (IntOp.cmpi .slt (x1 (ix3 a 0 d)) 32#32))
          (IntOp.cmpi .sge (x2 (ix3 a 0 d)) 0#32)) (IntOp.cmpi .slt (x2 (ix3 a 0 d)) 32#32))
        (IntOp.andi (IntOp.cmpi .sge (x0 (ix1 k)) 0#32) (IntOp.cmpi .sle (x0 (ix1 k)) 33280#32)) := by
  pointwise [Cert.Pre_routed.fn, Cert.Pre_routed.fn_part1]

/-- The precondition, read at one entry. -/
theorem routed_at (h : Cert.Pre_Kernel11Ideal_routed (hPre_routed := Cert.Pre_routed.Gen.facts) m) (c : Dev nD) (a : Fin 65) (b : Fin 1) (d : Fin 256) (k : Fin 32) :
    (xa m c main_arg1 (ix3 a b d)).toNat < 32 ∧ (xa m c main_arg2 (ix3 a b d)).toNat < 32 ∧ (cn m c (ix1 k)).toNat ≤ 33280 := by
  have andi_one (a b : BitVec 1) : IntOp.andi a b = 1#1 ↔ a = 1#1 ∧ b = 1#1 := by revert a b; decide
  obtain rfl : b = 0 := Subsingleton.elim _ _
  have pre := (routed_apply _ _ _ _ _ a k d).symm.trans (congrFun (h c) (ix3 a k d))
  simp only [constantI, andi_one] at pre
  obtain ⟨⟨⟨⟨h1, h2⟩, h3⟩, h4⟩, h5, h6⟩ := pre
  exact ⟨lt_of_signed _ 32 (by decide) h1 h2, lt_of_signed _ 32 (by decide) h3 h4, le_of_signed _ 33280 (by decide) h5 h6⟩

theorem counts_of_pre (h : Cert.Pre_Kernel11Ideal_routed (hPre_routed := Cert.Pre_routed.Gen.facts) m) (c : Dev nD) (i : S32.Idx) : (cn m c i).toNat ≤ 33280 :=
  (eq_ix1 i) ▸ (routed_at m h c 0 0 0 (i 0)).2.2

theorem named_of_pre (h : Cert.Pre_Kernel11Ideal_routed (hPre_routed := Cert.Pre_routed.Gen.facts) m) (c : Dev nD) (y : S65x1x256.Idx) :
    (xa m c main_arg1 y).toNat < 32 ∧ (xa m c main_arg2 y).toNat < 32 :=
  have e := routed_at m h c (y 0) (y 1) (y 2) 0
  (eq_ix3 y) ▸ ⟨e.1, e.2.1⟩

end Cert.Kernel11Ideal.Hand

namespace Cert.Proof

open Idealize.ShloMosaic Idealize.SL.Sem

/-- The call runs and leaves its arguments unchanged. -/
theorem frame_Kernel11 : Cert.quiescent_Kernel11 (hKernel11 := Cert.Kernel11.Gen.facts) :=
  fun m ρ _ => Cert.Kernel11.Gen.frame m ρ trivial

/-- So does its idealization. -/
theorem frame_Kernel11Ideal : Cert.quiescent_Kernel11Ideal (hKernel11Ideal := Cert.Kernel11Ideal.Gen.facts) :=
  fun m ρ _ => Cert.Kernel11Ideal.Gen.frame m ρ trivial

/-- The same, said of the arguments the value claim is about. -/
theorem frame_Kernel11Ideal_routed : Cert.quiescent_Kernel11Ideal_pre_routed (hKernel11Ideal := Cert.Kernel11Ideal.Gen.facts) (hPre_routed := Cert.Pre_routed.Gen.facts) :=
  fun m ρ _ => frame_Kernel11Ideal m ρ trivial

/-- So does the reference, of any arguments; it declares no semaphore. -/
theorem frame_Reference11Ideal : Cert.quiescent_Reference11Ideal (hReference11Ideal := Cert.Reference11Ideal.Gen.facts) := fun m ρ _ =>
  (θ_run Cert.Reference11Ideal.defs _ _).mono
    (fun r h => ⟨fun c => (h c).2.2.2, Idealize.ShloMosaic.sem_eq_zero_of_no_sems (by decide) r.2⟩)
    (Cert.Reference11Ideal.Value.run (F := Ideal) m ρ)

/-- The same, said of the arguments the value claim is about. -/
theorem frame_Reference11Ideal_routed : Cert.quiescent_Reference11Ideal_pre_routed
    (hReference11Ideal := Cert.Reference11Ideal.Gen.facts) (hPre_routed := Cert.Pre_routed.Gen.facts) :=
  fun m ρ _ => frame_Reference11Ideal m ρ trivial

/-- Both sides' results are `Segments.dest`, twice, and `Segments.table` of the arguments. -/
theorem algebraic_Kernel11 : Cert.algebraic_Kernel11Ideal_Reference11Ideal_pre_routed
    (hKernel11Ideal := Cert.Kernel11Ideal.Gen.facts) (hReference11Ideal := Cert.Reference11Ideal.Gen.facts) (hPre_routed := Cert.Pre_routed.Gen.facts) := by
  intro m ρ m' ρ' hpre hagree
  refine ⟨fun c => Cert.Kernel11Ideal.Hand.res0 m c, fun c => Cert.Kernel11Ideal.Hand.res1 m c, fun c => Cert.Kernel11Ideal.Hand.res2 m c, ?_, ?_⟩
  · exact (θ_run Cert.Kernel11Ideal.defs _ _).mono
      (fun r h c => ⟨(h c).1.trans (Cert.Kernel11Ideal.Hand.final4 m trivial c), (h c).2.1.trans (Cert.Kernel11Ideal.Hand.final5 m trivial c),
        (h c).2.2.1.trans (Cert.Kernel11Ideal.Hand.final6 m trivial c), (h c).2.2.2⟩) (Cert.Kernel11Ideal.Hand.run_blocks m ρ trivial)
  · refine (θ_run Cert.Reference11Ideal.defs _ _).mono (fun r h c => ?_) (Cert.Reference11Ideal.Value.run (F := Ideal) m' ρ')
    obtain ⟨h0, h1, h2, h3, h4⟩ := hagree c
    have hc := Cert.Kernel11Ideal.Hand.counts_of_pre m hpre c
    have he := Cert.Kernel11Ideal.Hand.named_of_pre m hpre c
    refine ⟨(h c).1.trans ?_, (h c).2.1.trans ?_, (h c).2.2.1.trans ?_, (h c).2.2.2⟩
    · refine (Cert.Reference11Ideal.Read.val_main_v14_eq (F := Ideal) _ _ _).trans ?_
      rw [h0, h1, h3]
      exact Cert.Reference11Ideal.Layer.result0 _ _ _ hc fun y => (he y).1
    · refine (Cert.Reference11Ideal.Read.val_main_v22_eq (F := Ideal) _ _ _).trans ?_
      rw [h0, h2, h4]
      exact Cert.Reference11Ideal.Layer.result1 _ _ _ hc fun y => (he y).2
    · refine (Cert.Reference11Ideal.Read.val_main_v49_eq (F := Ideal) m' c).trans ?_
      rw [h0]
      exact Cert.Reference11Ideal.Layer.result2 _ hc

end Cert.Proof
end
end
-- ==== Proof.lean ====
module

public import proofs.«01_k».proof.Defs
public import proofs.«01_k».proof.Proof.Gen.ReferenceIdeal.Run
public import proofs.«01_k».proof.Proof.Gen.ReferenceIdeal.Read
public import proofs.«01_k».proof.Proof.Gen.ReferenceIdeal
public import proofs.«01_k».proof.Proof.Gen.KernelIdeal.Value
public import proofs.«01_k».proof.Proof.Gen.Kernel.Frame
public import proofs.«01_k».proof.Proof.Gen.KernelIdeal.Frame
public import proofs.«01_k».proof.Proof.Gen.Reference2Ideal.Run
public import proofs.«01_k».proof.Proof.Gen.Reference2Ideal.Read
public import proofs.«01_k».proof.Proof.Gen.Reference2Ideal
public import proofs.«01_k».proof.Proof.Gen.Kernel2Ideal.Value
public import proofs.«01_k».proof.Proof.Gen.Kernel2.Frame
public import proofs.«01_k».proof.Proof.Gen.Kernel2Ideal.Frame
public import proofs.«01_k».proof.Proof.Gen.Reference3Ideal.Run
public import proofs.«01_k».proof.Proof.Gen.Reference3Ideal.Read
public import proofs.«01_k».proof.Proof.Gen.Reference3Ideal
public import proofs.«01_k».proof.Proof.Gen.Kernel3Ideal.Value
public import proofs.«01_k».proof.Proof.Gen.Kernel3.Frame
public import proofs.«01_k».proof.Proof.Gen.Kernel3Ideal.Frame
public import proofs.«01_k».proof.Proof.Gen.Reference4Ideal.Run
public import proofs.«01_k».proof.Proof.Gen.Reference4Ideal.Read
public import proofs.«01_k».proof.Proof.Gen.Reference4Ideal
public import proofs.«01_k».proof.Proof.Gen.Kernel4.Skeleton
public import proofs.«01_k».proof.Proof.Gen.Kernel4Ideal.Skeleton
public import proofs.«01_k».proof.Proof.Gen.Kernel4.Launch
public import proofs.«01_k».proof.Proof.Gen.Kernel4Ideal.Launch
public import proofs.«01_k».proof.Proof.Gen.Reference5Ideal.Run
public import proofs.«01_k».proof.Proof.Gen.Reference5Ideal.Read
public import proofs.«01_k».proof.Proof.Gen.Reference5Ideal
public import proofs.«01_k».proof.Proof.Gen.Kernel5Ideal.Value
public import proofs.«01_k».proof.Proof.Gen.Kernel5.Frame
public import proofs.«01_k».proof.Proof.Gen.Kernel5Ideal.Frame
public import proofs.«01_k».proof.Proof.Gen.Reference6Ideal.Run
public import proofs.«01_k».proof.Proof.Gen.Reference6Ideal.Read
public import proofs.«01_k».proof.Proof.Gen.Reference6Ideal
public import proofs.«01_k».proof.Proof.Gen.Kernel6Ideal.Value
public import proofs.«01_k».proof.Proof.Gen.Kernel6.Frame
public import proofs.«01_k».proof.Proof.Gen.Kernel6Ideal.Frame
public import proofs.«01_k».proof.Proof.Gen.Reference7Ideal.Run
public import proofs.«01_k».proof.Proof.Gen.Reference7Ideal.Read
public import proofs.«01_k».proof.Proof.Gen.Reference7Ideal
public import proofs.«01_k».proof.Proof.Gen.Kernel7.Skeleton
public import proofs.«01_k».proof.Proof.Gen.Kernel7Ideal.Skeleton
public import proofs.«01_k».proof.Proof.Gen.Kernel7.Launch
public import proofs.«01_k».proof.Proof.Gen.Kernel7Ideal.Launch
public import proofs.«01_k».proof.Proof.Gen.Reference8Ideal.Run
public import proofs.«01_k».proof.Proof.Gen.Reference8Ideal.Read
public import proofs.«01_k».proof.Proof.Gen.Reference8Ideal
public import proofs.«01_k».proof.Proof.Gen.Kernel8.Skeleton
public import proofs.«01_k».proof.Proof.Gen.Kernel8Ideal.Skeleton
public import proofs.«01_k».proof.Proof.Gen.Kernel8.Launch
public import proofs.«01_k».proof.Proof.Gen.Kernel8Ideal.Launch
public import proofs.«01_k».proof.Proof.Gen.Reference9Ideal.Run
public import proofs.«01_k».proof.Proof.Gen.Reference9Ideal.Read
public import proofs.«01_k».proof.Proof.Gen.Reference9Ideal
public import proofs.«01_k».proof.Proof.Gen.Kernel9Ideal.Value
public import proofs.«01_k».proof.Proof.Gen.Kernel9.Frame
public import proofs.«01_k».proof.Proof.Gen.Kernel9Ideal.Frame
public import proofs.«01_k».proof.Proof.Gen.Reference10Ideal.Run
public import proofs.«01_k».proof.Proof.Gen.Reference10Ideal.Read
public import proofs.«01_k».proof.Proof.Gen.Reference10Ideal
public import proofs.«01_k».proof.Proof.Gen.Kernel10Ideal.Value
public import proofs.«01_k».proof.Proof.Gen.Kernel10.Frame
public import proofs.«01_k».proof.Proof.Gen.Kernel10Ideal.Frame
public import proofs.«01_k».proof.Proof.Gen.Reference11Ideal.Run
public import proofs.«01_k».proof.Proof.Gen.Reference11Ideal.Read
public import proofs.«01_k».proof.Proof.Gen.Reference11Ideal
public import proofs.«01_k».proof.Proof.Gen.Kernel11.Skeleton
public import proofs.«01_k».proof.Proof.Gen.Kernel11Ideal.Skeleton
public import proofs.«01_k».proof.Proof.Gen.Kernel11.Launch
public import proofs.«01_k».proof.Proof.Gen.Kernel11Ideal.Launch
public import proofs.«01_k».proof.Proof.Gen.Pre_expert_numbers
public import proofs.«01_k».proof.Proof.Gen.Pre_routed
public import proofs.«01_k».proof.Proof.Gen.Kernel11.Frame
public import proofs.«01_k».proof.Proof.Gen.Kernel11Ideal.Frame
public import proofs.«01_k».proof.Proof.ChunkClaims
public import proofs.«01_k».proof.Proof.LruOut
public import proofs.«01_k».proof.Proof.MlOut
public import proofs.«01_k».proof.Proof.Experts
public import proofs.«01_k».proof.Proof.LruProj
public import proofs.«01_k».proof.Proof.MlProj
public import proofs.«01_k».proof.Proof.FnOut
public import proofs.«01_k».proof.Proof.FnProj
public import proofs.«01_k».proof.Proof.AdaTable
public import proofs.«01_k».proof.Proof.Prep
public import proofs.«01_k».proof.Proof.FinalizeClaims

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Pre_expert_numbers.Gen.facts, Cert.Pre_routed.Gen.facts,
  frame_Kernel, frame_KernelIdeal, frame_ReferenceIdeal,
  frame_Kernel2, frame_Kernel2Ideal, frame_Reference2Ideal,
  frame_Kernel3, frame_Kernel3Ideal, frame_Reference3Ideal,
  frame_Kernel4, frame_Kernel4Ideal, frame_Reference4Ideal, frame_Reference4Ideal_named,
  frame_Kernel5, frame_Kernel5Ideal, frame_Reference5Ideal,
  frame_Kernel6, frame_Kernel6Ideal, frame_Reference6Ideal,
  frame_Kernel7, frame_Kernel7Ideal, frame_Reference7Ideal,
  frame_Kernel8, frame_Kernel8Ideal, frame_Reference8Ideal,
  frame_Kernel9, frame_Kernel9Ideal, frame_Reference9Ideal,
  frame_Kernel10, frame_Kernel10Ideal, frame_Reference10Ideal,
  frame_Kernel11, frame_Kernel11Ideal, frame_Kernel11Ideal_routed, frame_Reference11Ideal, frame_Reference11Ideal_routed,
  trivial, algebraic_Kernel,
  trivial, algebraic_Kernel2,
  trivial, algebraic_Kernel3,
  trivial, algebraic_Kernel4,
  trivial, algebraic_Kernel5,
  trivial, algebraic_Kernel6,
  trivial, algebraic_Kernel7,
  trivial, algebraic_Kernel8,
  trivial, algebraic_Kernel9,
  trivial, algebraic_Kernel10,
  trivial, algebraic_Kernel11⟩

end Cert.Proof

end
